-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S4360x2x128 Cert.KernelIdeal.S4360x1x128
  ∧ IdealRules.bf16_pair.PackStatement Cert.KernelIdeal.S128x128
  ∧ IdealRules.bf16_pair.Statement Cert.KernelIdeal.S128x2x128 Cert.KernelIdeal.S128x1x128
  ∧ IdealRules.bf16_pair.Statement Cert.KernelIdeal.S16x2x128 Cert.KernelIdeal.S16x1x128
  ∧ IdealRules.bf16_pair.Statement Cert.KernelIdeal.S32x128 Cert.KernelIdeal.S16x128

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v118)) (v1 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_v117) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_ok : Cert.Pre_scales_ok.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ preserves_Kernel_KernelIdeal
    ∧ algebraic_KernelIdeal_ReferenceIdeal_pre_scales_ok (hKernelIdeal := hKernelIdeal) (hReferenceIdeal := hReferenceIdeal) (hPre_scales_ok := hPre_scales_ok)
-- ==== Pre_scales_ok.lean ====
abbrev S24x8192x192 : Shape := ⟨3, ![24, 8192, 192]⟩
abbrev S_ : Shape := ⟨0, ![]⟩
abbrev S7x7x192 : Shape := ⟨3, ![7, 7, 192]⟩

class Facts : Prop where

variable [Facts]

def fn {F : FTy → Type} [FloatOps F] (main_arg0 : IVec S24x8192x192 8) (main_arg1 : FVec F S_ .f32) (main_arg2 : IVec S7x7x192 16) (main_arg3 : IVec S24x8192x192 8) (main_arg4 : FVec F S_ .f32) : IVec S_ 1 :=
  let main_cst : FVec F S_ .f32 := constant S_ .f32 0x00000000#32
  let main_v0 : IVec S_ 1 := cmpf .oge main_arg1 main_cst
  let main_cst_0 : FVec F S_ .f32 := constant S_ .f32 0x7F800000#32
  let main_v1 : IVec S_ 1 := cmpf .olt main_arg1 main_cst_0
  let main_v2 : IVec S_ 1 := andi main_v0 main_v1
  let main_cst_1 : FVec F S_ .f32 := constant S_ .f32 0x00000000#32
  let main_v3 : IVec S_ 1 := cmpf .oge main_arg4 main_cst_1
  let main_v4 : IVec S_ 1 := andi main_v2 main_v3
  let main_cst_2 : FVec F S_ .f32 := constant S_ .f32 0x7F800000#32
  let main_v5 : IVec S_ 1 := cmpf .olt main_arg4 main_cst_2
  let main_v6 : IVec S_ 1 := andi main_v4 main_v5
  main_v6
-- ==== Kernel.lean ====
abbrev S24x8192x192 : Shape := ⟨3, ![24, 8192, 192]⟩
abbrev S_ : Shape := ⟨0, ![]⟩
abbrev S7x7x192 : Shape := ⟨3, ![7, 7, 192]⟩
abbrev S8 : Shape := ⟨1, ![8]⟩
abbrev S24x192x8192 : Shape := ⟨3, ![24, 192, 8192]⟩
abbrev S8x8x192 : Shape := ⟨3, ![8, 8, 192]⟩
abbrev S8x1 : Shape := ⟨2, ![8, 1]⟩
abbrev S8x8x192x1 : Shape := ⟨4, ![8, 8, 192, 1]⟩
abbrev S8x8x192x2 : Shape := ⟨4, ![8, 8, 192, 2]⟩
abbrev S1x8x192 : Shape := ⟨3, ![1, 8, 192]⟩
abbrev S8x192 : Shape := ⟨2, ![8, 192]⟩
abbrev S56x192 : Shape := ⟨2, ![56, 192]⟩
abbrev S5x192 : Shape := ⟨2, ![5, 192]⟩
abbrev S3x192 : Shape := ⟨2, ![3, 192]⟩
abbrev S128x192 : Shape := ⟨2, ![128, 192]⟩
abbrev S1x128x192 : Shape := ⟨3, ![1, 128, 192]⟩
abbrev S8x128x192 : Shape := ⟨3, ![8, 128, 192]⟩
abbrev S192x8x128 : Shape := ⟨3, ![192, 8, 128]⟩
abbrev S1 : Shape := ⟨1, ![1]⟩
abbrev S2 : Shape := ⟨1, ![2]⟩
abbrev S192x128 : Shape := ⟨2, ![192, 128]⟩
abbrev S4x32x8192 : Shape := ⟨3, ![4, 32, 8192]⟩
abbrev S32x8x128 : Shape := ⟨3, ![32, 8, 128]⟩
abbrev S32x128 : Shape := ⟨2, ![32, 128]⟩
abbrev S2216x128 : Shape := ⟨2, ![2216, 128]⟩
abbrev S8192x128 : Shape := ⟨2, ![8192, 128]⟩
abbrev S4360x128 : Shape := ⟨2, ![4360, 128]⟩
abbrev S2048x128 : Shape := ⟨2, ![2048, 128]⟩
abbrev S8x128 : Shape := ⟨2, ![8, 128]⟩
abbrev S2x128 : Shape := ⟨2, ![2, 128]⟩
abbrev S1x1x128 : Shape := ⟨3, ![1, 1, 128]⟩
abbrev S1x128 : Shape := ⟨2, ![1, 128]⟩
abbrev S64x128 : Shape := ⟨2, ![64, 128]⟩
abbrev S1x32x128 : Shape := ⟨3, ![1, 32, 128]⟩
abbrev S64x256 : Shape := ⟨2, ![64, 256]⟩
abbrev S256x256 : Shape := ⟨2, ![256, 256]⟩
abbrev S256x128 : Shape := ⟨2, ![256, 128]⟩
abbrev S128x256 : Shape := ⟨2, ![128, 256]⟩
abbrev S128x128 : Shape := ⟨2, ![128, 128]⟩
abbrev S16x128 : Shape := ⟨2, ![16, 128]⟩
abbrev S192x49 : Shape := ⟨2, ![192, 49]⟩
abbrev S49x192 : Shape := ⟨2, ![49, 192]⟩

abbrev nBuf : Space → Nat
  | .hbm => 141
  | .vmem => 15
  | .smem => 1
  | _ => 0

abbrev hbmTy0_0 (i : Nat) : BufTy := match i % 128 with
  | 0 => ⟨S24x8192x192, .i8⟩
  | 1 => ⟨S_, .f32⟩
  | 2 => ⟨S7x7x192, .i16⟩
  | 3 => ⟨S24x8192x192, .i8⟩
  | 4 => ⟨S_, .f32⟩
  | 5 => ⟨S8, .i32⟩
  | 6 => ⟨S8, .i32⟩
  | 7 => ⟨S24x192x8192, .i8⟩
  | 8 => ⟨S24x192x8192, .i8⟩
  | 9 => ⟨S_, .i32⟩
  | 10 => ⟨S_, .i16⟩
  | 11 => ⟨S8x8x192, .i16⟩
  | 12 => ⟨S_, .i32⟩
  | 13 => ⟨S8, .i32⟩
  | 14 => ⟨S8, .i1⟩
  | 15 => ⟨S_, .i32⟩
  | 16 => ⟨S8, .i32⟩
  | 17 => ⟨S8, .i32⟩
  | 18 => ⟨S8, .i32⟩
  | 19 => ⟨S8x1, .i32⟩
  | 20 => ⟨S8x8x192, .i16⟩
  | 21 => ⟨S_, .i32⟩
  | 22 => ⟨S8, .i32⟩
  | 23 => ⟨S8, .i1⟩
  | 24 => ⟨S_, .i32⟩
  | 25 => ⟨S8, .i32⟩
  | 26 => ⟨S8, .i32⟩
  | 27 => ⟨S8, .i32⟩
  | 28 => ⟨S8x1, .i32⟩
  | 29 => ⟨S8x8x192, .i16⟩
  | 30 => ⟨S8x8x192x1, .i16⟩
  | 31 => ⟨S8x8x192x1, .i16⟩
  | 32 => ⟨S8x8x192x2, .i16⟩
  | 33 => ⟨S8x8x192, .i32⟩
  | 34 => ⟨S1x8x192, .i32⟩
  | 35 => ⟨S8x192, .i32⟩
  | 36 => ⟨S1x8x192, .i32⟩
  | 37 => ⟨S8x192, .i32⟩
  | 38 => ⟨S_, .i32⟩
  | 39 => ⟨S56x192, .i32⟩
  | 40 => ⟨S5x192, .i32⟩
  | 41 => ⟨S3x192, .i32⟩
  | 42 => ⟨S5x192, .i32⟩
  | 43 => ⟨S3x192, .i32⟩
  | 44 => ⟨S128x192, .i32⟩
  | 45 => ⟨S1x8x192, .i32⟩
  | 46 => ⟨S8x192, .i32⟩
  | 47 => ⟨S1x8x192, .i32⟩
  | 48 => ⟨S8x192, .i32⟩
  | 49 => ⟨S_, .i32⟩
  | 50 => ⟨S56x192, .i32⟩
  | 51 => ⟨S5x192, .i32⟩
  | 52 => ⟨S3x192, .i32⟩
  | 53 => ⟨S5x192, .i32⟩
  | 54 => ⟨S3x192, .i32⟩
  | 55 => ⟨S128x192, .i32⟩
  | 56 => ⟨S1x8x192, .i32⟩
  | 57 => ⟨S8x192, .i32⟩
  | 58 => ⟨S1x8x192, .i32⟩
  | 59 => ⟨S8x192, .i32⟩
  | 60 => ⟨S_, .i32⟩
  | 61 => ⟨S56x192, .i32⟩
  | 62 => ⟨S5x192, .i32⟩
  | 63 => ⟨S3x192, .i32⟩
  | 64 => ⟨S5x192, .i32⟩
  | 65 => ⟨S3x192, .i32⟩
  | 66 => ⟨S128x192, .i32⟩
  | 67 => ⟨S1x8x192, .i32⟩
  | 68 => ⟨S8x192, .i32⟩
  | 69 => ⟨S1x8x192, .i32⟩
  | 70 => ⟨S8x192, .i32⟩
  | 71 => ⟨S_, .i32⟩
  | 72 => ⟨S56x192, .i32⟩
  | 73 => ⟨S5x192, .i32⟩
  | 74 => ⟨S3x192, .i32⟩
  | 75 => ⟨S5x192, .i32⟩
  | 76 => ⟨S3x192, .i32⟩
  | 77 => ⟨S128x192, .i32⟩
  | 78 => ⟨S1x8x192, .i32⟩
  | 79 => ⟨S8x192, .i32⟩
  | 80 => ⟨S1x8x192, .i32⟩
  | 81 => ⟨S8x192, .i32⟩
  | 82 => ⟨S_, .i32⟩
  | 83 => ⟨S56x192, .i32⟩
  | 84 => ⟨S5x192, .i32⟩
  | 85 => ⟨S3x192, .i32⟩
  | 86 => ⟨S5x192, .i32⟩
  | 87 => ⟨S3x192, .i32⟩
  | 88 => ⟨S128x192, .i32⟩
  | 89 => ⟨S1x8x192, .i32⟩
  | 90 => ⟨S8x192, .i32⟩
  | 91 => ⟨S1x8x192, .i32⟩
  | 92 => ⟨S8x192, .i32⟩
  | 93 => ⟨S_, .i32⟩
  | 94 => ⟨S56x192, .i32⟩
  | 95 => ⟨S5x192, .i32⟩
  | 96 => ⟨S3x192, .i32⟩
  | 97 => ⟨S5x192, .i32⟩
  | 98 => ⟨S3x192, .i32⟩
  | 99 => ⟨S128x192, .i32⟩
  | 100 => ⟨S1x8x192, .i32⟩
  | 101 => ⟨S8x192, .i32⟩
  | 102 => ⟨S1x8x192, .i32⟩
  | 103 => ⟨S8x192, .i32⟩
  | 104 => ⟨S_, .i32⟩
  | 105 => ⟨S56x192, .i32⟩
  | 106 => ⟨S5x192, .i32⟩
  | 107 => ⟨S3x192, .i32⟩
  | 108 => ⟨S5x192, .i32⟩
  | 109 => ⟨S3x192, .i32⟩
  | 110 => ⟨S128x192, .i32⟩
  | 111 => ⟨S1x8x192, .i32⟩
  | 112 => ⟨S8x192, .i32⟩
  | 113 => ⟨S1x8x192, .i32⟩
  | 114 => ⟨S8x192, .i32⟩
  | 115 => ⟨S_, .i32⟩
  | 116 => ⟨S56x192, .i32⟩
  | 117 => ⟨S5x192, .i32⟩
  | 118 => ⟨S3x192, .i32⟩
  | 119 => ⟨S5x192, .i32⟩
  | 120 => ⟨S3x192, .i32⟩
  | 121 => ⟨S128x192, .i32⟩
  | 122 => ⟨S1x128x192, .i32⟩
  | 123 => ⟨S1x128x192, .i32⟩
  | 124 => ⟨S1x128x192, .i32⟩
  | 125 => ⟨S1x128x192, .i32⟩
  | 126 => ⟨S1x128x192, .i32⟩
  | 127 => ⟨S1x128x192, .i32⟩
  | _ => ⟨S24x8192x192, .i8⟩

abbrev hbmTy0_1 (i : Nat) : BufTy := match i % 128 with
  | 0 => ⟨S1x128x192, .i32⟩
  | 1 => ⟨S1x128x192, .i32⟩
  | 2 => ⟨S8x128x192, .i32⟩
  | 3 => ⟨S192x8x128, .i32⟩
  | 4 => ⟨S1, .f32⟩
  | 5 => ⟨S1, .f32⟩
  | 6 => ⟨S2, .f32⟩
  | 7 => ⟨S24x192x8192, .bf16⟩
  | 8 => ⟨S192x128, .f32⟩
  | 9 => ⟨S192x49, .f32⟩
  | 10 => ⟨S49x192, .f32⟩
  | 11 => ⟨S7x7x192, .f32⟩
  | 12 => ⟨S24x8192x192, .bf16⟩
  | _ => ⟨S24x8192x192, .i8⟩

abbrev hbmTy (i : Nat) : BufTy := match i / 128 with
  | 0 => hbmTy0_0 i
  | 1 => hbmTy0_1 i
  | _ => ⟨S24x8192x192, .i8⟩

abbrev bufTy : (tb : Table) → Fin (tcTables nBuf tb) → BufTy
  | .hbm, ⟨i, _⟩ => hbmTy i
  | .local _ .vmem, ⟨0, _⟩ => ⟨S4x32x8192, .i8⟩
  | .local _ .vmem, ⟨1, _⟩ => ⟨S4x32x8192, .i8⟩
  | .local _ .vmem, ⟨2, _⟩ => ⟨S4x32x8192, .i8⟩
  | .local _ .vmem, ⟨3, _⟩ => ⟨S4x32x8192, .i8⟩
  | .local _ .vmem, ⟨4, _⟩ => ⟨S32x8x128, .i32⟩
  | .local _ .vmem, ⟨5, _⟩ => ⟨S32x8x128, .i32⟩
  | .local _ .vmem, ⟨6, _⟩ => ⟨S4x32x8192, .bf16⟩
  | .local _ .vmem, ⟨7, _⟩ => ⟨S4x32x8192, .bf16⟩
  | .local _ .vmem, ⟨8, _⟩ => ⟨S32x128, .f32⟩
  | .local _ .vmem, ⟨9, _⟩ => ⟨S32x128, .f32⟩
  | .local _ .vmem, ⟨10, _⟩ => ⟨S2216x128, .i32⟩
  | .local _ .vmem, ⟨11, _⟩ => ⟨S2216x128, .i32⟩
  | .local _ .vmem, ⟨12, _⟩ => ⟨S8192x128, .i32⟩
  | .local _ .vmem, ⟨13, _⟩ => ⟨S4360x128, .i32⟩
  | .local _ .vmem, ⟨14, _⟩ => ⟨S2048x128, .f32⟩
  | .local _ .smem, ⟨0, _⟩ => ⟨S2, .f32⟩
  | _, _ => ⟨S24x8192x192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_call0_v0 : Ref sig .tc := ⟨.hbm, 10, rfl⟩
abbrev main_v2 : Ref sig .tc := ⟨.hbm, 11, rfl⟩
abbrev main_c_2 : Ref sig .tc := ⟨.hbm, 12, rfl⟩
abbrev main_v3 : Ref sig .tc := ⟨.hbm, 13, rfl⟩
abbrev main_v4 : Ref sig .tc := ⟨.hbm, 14, rfl⟩
abbrev main_c_3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_c_11 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_c_12 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_c_13 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114_0 : Ref sig .tc := ⟨.hbm, 135, rfl⟩
abbrev main_v114_1 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨2, ![6, 6], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

@[reducible] def k0_t1_loop : Scf.Loop 32 :=
  let c0_i32_80 : BitVec 32 := 0#32
  let c32_i32_81 : BitVec 32 := 32#32
  let v219 : BitVec 32 := Scalar.addi c0_i32_80 c32_i32_81
  let c1_i32_82 : BitVec 32 := 1#32
  ⟨c0_i32_80, v219, c1_i32_82⟩
def k0_off1 (k0_t1 : Fin k0_t1_loop.trips) : Fin 2 → Nat :=
  let c0_i32_80 : BitVec 32 := 0#32
  let c1_i32_82 : BitVec 32 := 1#32
  let arg13 : BitVec 32 := Scf.iv c0_i32_80 c1_i32_82 k0_t1
  let c69_i32 : BitVec 32 := 69#32
  let v220 : BitVec 32 := Scalar.muli arg13 c69_i32
  let v221 : Index := Scalar.indexCast v220
  let c0 : Index := 0#32
  ![v221.toNat, 0]
def k0_off2 (k0_t1 : Fin k0_t1_loop.trips) : Fin 2 → Nat :=
  let c0_i32_80 : BitVec 32 := 0#32
  let c1_i32_82 : BitVec 32 := 1#32
  let arg13 : BitVec 32 := Scf.iv c0_i32_80 c1_i32_82 k0_t1
  let c69_i32_84 : BitVec 32 := 69#32
  let v225 : BitVec 32 := Scalar.muli arg13 c69_i32_84
  let c2_i32_85 : BitVec 32 := 2#32
  let v226 : BitVec 32 := Scalar.addi v225 c2_i32_85
  let c64_i32_86 : BitVec 32 := 64#32
  let v227 : BitVec 32 := Scalar.addi v226 c64_i32_86
  let v228 : Index := Scalar.indexCast v227
  let c0_87 : Index := 0#32
  ![v228.toNat, 0]
def k0_off3 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v232 : Index := Scalar.indexCast arg13
  let c0_88 : Index := 0#32
  let c0_89 : Index := 0#32
  ![v232.toNat, 0, 0]
def k0_off4 (k0_t1 : Fin k0_t1_loop.trips) (c0_i32_92 : BitVec 32) (c0_i32_93 : BitVec 32) : Fin 2 → Nat :=
  let c0_i32_80 : BitVec 32 := 0#32
  let c1_i32_82 : BitVec 32 := 1#32
  let arg13 : BitVec 32 := Scf.iv c0_i32_80 c1_i32_82 k0_t1
  let c256_i32 : BitVec 32 := 256#32
  let v240 : BitVec 32 := Scalar.muli arg13 c256_i32
  let v241 : BitVec 32 := Scalar.addi v240 c0_i32_92
  let v242 : BitVec 32 := Scalar.addi v241 c0_i32_93
  let v243 : Index := Scalar.indexCast v242
  let c0_94 : Index := 0#32
  ![v243.toNat, 0]
def k0_off5 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v247 : Index := Scalar.indexCast arg13
  let c1_95 : Index := 1#32
  let c0_96 : Index := 0#32
  ![v247.toNat, 1, 0]
def k0_off6 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v262 : Index := Scalar.indexCast arg13
  let c2 : Index := 2#32
  let c0_103 : Index := 0#32
  ![v262.toNat, 2, 0]
def k0_off7 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v277 : Index := Scalar.indexCast arg13
  let c3 : Index := 3#32
  let c0_109 : Index := 0#32
  ![v277.toNat, 3, 0]
def k0_off8 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v292 : Index := Scalar.indexCast arg13
  let c4 : Index := 4#32
  let c0_115 : Index := 0#32
  ![v292.toNat, 4, 0]
def k0_off9 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v307 : Index := Scalar.indexCast arg13
  let c5 : Index := 5#32
  let c0_122 : Index := 0#32
  ![v307.toNat, 5, 0]
def k0_off10 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v322 : Index := Scalar.indexCast arg13
  let c6 : Index := 6#32
  let c0_129 : Index := 0#32
  ![v322.toNat, 6, 0]
def k0_off11 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v337 : Index := Scalar.indexCast arg13
  let c7 : Index := 7#32
  let c0_136 : Index := 0#32
  ![v337.toNat, 7, 0]
def k0_off12 (k0_t1 : Fin k0_t1_loop.trips) : Fin 2 → Nat :=
  let c0_i32_80 : BitVec 32 := 0#32
  let c1_i32_82 : BitVec 32 := 1#32
  let arg13 : BitVec 32 := Scf.iv c0_i32_80 c1_i32_82 k0_t1
  let c64_i32_143 : BitVec 32 := 64#32
  let v353 : BitVec 32 := Scalar.muli arg13 c64_i32_143
  let v354 : Index := Scalar.indexCast v353
  let c0_144 : Index := 0#32
  ![v354.toNat, 0]
@[reducible] def k0_t2_loop : Scf.Loop 32 :=
  let c0_i32_1 : BitVec 32 := 0#32
  let c64_i32 : BitVec 32 := 64#32
  let v6 : BitVec 32 := Scalar.addi c0_i32_1 c64_i32
  let c1_i32 : BitVec 32 := 1#32
  ⟨c0_i32_1, v6, c1_i32⟩
def k0_mult1 (k0_t2 : Fin k0_t2_loop.trips) : BitVec 32 :=
  let c0_i32_1 : BitVec 32 := 0#32
  let c1_i32 : BitVec 32 := 1#32
  let arg13 : BitVec 32 := Scf.iv c0_i32_1 c1_i32 k0_t2
  let c128_i32 : BitVec 32 := 128#32
  let v192 : BitVec 32 := Scalar.muli arg13 c128_i32
  v192
def k0_off13 (k0_t2 : Fin k0_t2_loop.trips) : Fin 3 → Nat :=
  let c0 : Index := 0#32
  let c0_73 : Index := 0#32
  let c0_i32_1 : BitVec 32 := 0#32
  let c1_i32 : BitVec 32 := 1#32
  let arg13 : BitVec 32 := Scf.iv c0_i32_1 c1_i32 k0_t2
  let c128_i32 : BitVec 32 := 128#32
  let v192 : BitVec 32 := Scalar.muli arg13 c128_i32
  let v193 : BitVec 32 := v192
  let v194 : Index := Scalar.indexCast v193
  ![0, 0, v194.toNat]
def k0_off14 (k0_t2 : Fin k0_t2_loop.trips) : Fin 3 → Nat :=
  let c1_74 : Index := 1#32
  let c0_75 : Index := 0#32
  let c0_i32_1 : BitVec 32 := 0#32
  let c1_i32 : BitVec 32 := 1#32
  let arg13 : BitVec 32 := Scf.iv c0_i32_1 c1_i32 k0_t2
  let c128_i32 : BitVec 32 := 128#32
  let v192 : BitVec 32 := Scalar.muli arg13 c128_i32
  let v193 : BitVec 32 := v192
  let v198 : Index := Scalar.indexCast v193
  ![1, 0, v198.toNat]
def k0_off15 (k0_t2 : Fin k0_t2_loop.trips) : Fin 3 → Nat :=
  let c2 : Index := 2#32
  let c0_76 : Index := 0#32
  let c0_i32_1 : BitVec 32 := 0#32
  let c1_i32 : BitVec 32 := 1#32
  let arg13 : BitVec 32 := Scf.iv c0_i32_1 c1_i32 k0_t2
  let c128_i32 : BitVec 32 := 128#32
  let v192 : BitVec 32 := Scalar.muli arg13 c128_i32
  let v193 : BitVec 32 := v192
  let v202 : Index := Scalar.indexCast v193
  ![2, 0, v202.toNat]
def k0_off16 (k0_t2 : Fin k0_t2_loop.trips) : Fin 3 → Nat :=
  let c3 : Index := 3#32
  let c0_77 : Index := 0#32
  let c0_i32_1 : BitVec 32 := 0#32
  let c1_i32 : BitVec 32 := 1#32
  let arg13 : BitVec 32 := Scf.iv c0_i32_1 c1_i32 k0_t2
  let c128_i32 : BitVec 32 := 128#32
  let v192 : BitVec 32 := Scalar.muli arg13 c128_i32
  let v193 : BitVec 32 := v192
  let v206 : Index := Scalar.indexCast v193
  ![3, 0, v206.toNat]
def k0_off17 (k0_t2 : Fin k0_t2_loop.trips) (c2_i32 : BitVec 32) : Fin 2 → Nat :=
  let c0_i32_1 : BitVec 32 := 0#32
  let c1_i32 : BitVec 32 := 1#32
  let arg13 : BitVec 32 := Scf.iv c0_i32_1 c1_i32 k0_t2
  let v246 : BitVec 32 := Scalar.addi c2_i32 arg13
  let v247 : Index := Scalar.indexCast v246
  let c0_88 : Index := 0#32
  ![v247.toNat, 0]
@[reducible] def k0_t3_loop : Scf.Loop 32 :=
  let c0_i32_3 : BitVec 32 := 0#32
  let c64_i32_4 : BitVec 32 := 64#32
  let v7 : BitVec 32 := Scalar.addi c0_i32_3 c64_i32_4
  let c1_i32_5 : BitVec 32 := 1#32
  ⟨c0_i32_3, v7, c1_i32_5⟩
def k0_mult2 (k0_t3 : Fin k0_t3_loop.trips) : BitVec 32 :=
  let c0_i32_3 : BitVec 32 := 0#32
  let c1_i32_5 : BitVec 32 := 1#32
  let arg13 : BitVec 32 := Scf.iv c0_i32_3 c1_i32_5 k0_t3
  let c128_i32 : BitVec 32 := 128#32
  let v192 : BitVec 32 := Scalar.muli arg13 c128_i32
  v192
def k0_off18 (k0_t3 : Fin k0_t3_loop.trips) : Fin 3 → Nat :=
  let c0 : Index := 0#32
  let c0_73 : Index := 0#32
  let c0_i32_3 : BitVec 32 := 0#32
  let c1_i32_5 : BitVec 32 := 1#32
  let arg13 : BitVec 32 := Scf.iv c0_i32_3 c1_i32_5 k0_t3
  let c128_i32 : BitVec 32 := 128#32
  let v192 : BitVec 32 := Scalar.muli arg13 c128_i32
  let v193 : BitVec 32 := v192
  let v194 : Index := Scalar.indexCast v193
  ![0, 0, v194.toNat]
def k0_off19 (k0_t3 : Fin k0_t3_loop.trips) : Fin 3 → Nat :=
  let c1_74 : Index := 1#32
  let c0_75 : Index := 0#32
  let c0_i32_3 : BitVec 32 := 0#32
  let c1_i32_5 : BitVec 32 := 1#32
  let arg13 : BitVec 32 := Scf.iv c0_i32_3 c1_i32_5 k0_t3
  let c128_i32 : BitVec 32 := 128#32
  let v192 : BitVec 32 := Scalar.muli arg13 c128_i32
  let v193 : BitVec 32 := v192
  let v198 : Index := Scalar.indexCast v193
  ![1, 0, v198.toNat]
def k0_off20 (k0_t3 : Fin k0_t3_loop.trips) : Fin 3 → Nat :=
  let c2 : Index := 2#32
  let c0_76 : Index := 0#32
  let c0_i32_3 : BitVec 32 := 0#32
  let c1_i32_5 : BitVec 32 := 1#32
  let arg13 : BitVec 32 := Scf.iv c0_i32_3 c1_i32_5 k0_t3
  let c128_i32 : BitVec 32 := 128#32
  let v192 : BitVec 32 := Scalar.muli arg13 c128_i32
  let v193 : BitVec 32 := v192
  let v202 : Index := Scalar.indexCast v193
  ![2, 0, v202.toNat]
def k0_off21 (k0_t3 : Fin k0_t3_loop.trips) : Fin 3 → Nat :=
  let c3 : Index := 3#32
  let c0_77 : Index := 0#32
  let c0_i32_3 : BitVec 32 := 0#32
  let c1_i32_5 : BitVec 32 := 1#32
  let arg13 : BitVec 32 := Scf.iv c0_i32_3 c1_i32_5 k0_t3
  let c128_i32 : BitVec 32 := 128#32
  let v192 : BitVec 32 := Scalar.muli arg13 c128_i32
  let v193 : BitVec 32 := v192
  let v206 : Index := Scalar.indexCast v193
  ![3, 0, v206.toNat]
def k0_off22 (k0_t3 : Fin k0_t3_loop.trips) (c2_i32 : BitVec 32) : Fin 2 → Nat :=
  let c0_i32_3 : BitVec 32 := 0#32
  let c1_i32_5 : BitVec 32 := 1#32
  let arg13 : BitVec 32 := Scf.iv c0_i32_3 c1_i32_5 k0_t3
  let v246 : BitVec 32 := Scalar.addi c2_i32 arg13
  let v247 : Index := Scalar.indexCast v246
  let c0_88 : Index := 0#32
  ![v247.toNat, 0]
@[reducible] def k0_t4_loop : Scf.Loop 32 :=
  let c0_i32_64 : BitVec 32 := 0#32
  let c16_i32_65 : BitVec 32 := 16#32
  let v187 : BitVec 32 := Scalar.addi c0_i32_64 c16_i32_65
  let c1_i32_66 : BitVec 32 := 1#32
  ⟨c0_i32_64, v187, c1_i32_66⟩
def k0_off23 (k0_t4 : Fin k0_t4_loop.trips) (c_m2_i32 : BitVec 32) : Fin 2 → Nat :=
  let c2_i32 : BitVec 32 := 2#32
  let c0_i32_64 : BitVec 32 := 0#32
  let c1_i32_66 : BitVec 32 := 1#32
  let arg13 : BitVec 32 := Scf.iv c0_i32_64 c1_i32_66 k0_t4
  let v192 : BitVec 32 := Scalar.muli c2_i32 arg13
  let c69_i32 : BitVec 32 := 69#32
  let v193 : BitVec 32 := Scalar.muli v192 c69_i32
  let c2_i32_73 : BitVec 32 := 2#32
  let v194 : BitVec 32 := Scalar.addi v193 c2_i32_73
  let v195 : BitVec 32 := Scalar.addi v194 c_m2_i32
  let v196 : Index := Scalar.indexCast v195
  let c0 : Index := 0#32
  ![v196.toNat, 0]
def k0_off23_at (r : Fin 5) : BitVec 32 :=
  if r.val < 2 then
    if r.val < 1 then
      4294967294#32
    else
      4294967295#32
  else
    if r.val < 3 then
      0#32
    else
      if r.val < 4 then
        1#32
      else
        2#32
def k0_off24 (k0_t4 : Fin k0_t4_loop.trips) : Fin 2 → Nat :=
  let c2_i32 : BitVec 32 := 2#32
  let c0_i32_64 : BitVec 32 := 0#32
  let c1_i32_66 : BitVec 32 := 1#32
  let arg13 : BitVec 32 := Scf.iv c0_i32_64 c1_i32_66 k0_t4
  let v192 : BitVec 32 := Scalar.muli c2_i32 arg13
  let c69_i32 : BitVec 32 := 69#32
  let v193 : BitVec 32 := Scalar.muli v192 c69_i32
  let c2_i32_73 : BitVec 32 := 2#32
  let v194 : BitVec 32 := Scalar.addi v193 c2_i32_73
  let v215 : Index := Scalar.indexCast v194
  let c0_81 : Index := 0#32
  ![v215.toNat, 0]
def k0_off25 (k0_t4 : Fin k0_t4_loop.trips) (c0_i32_82 : BitVec 32) : Fin 2 → Nat :=
  let c2_i32 : BitVec 32 := 2#32
  let c0_i32_64 : BitVec 32 := 0#32
  let c1_i32_66 : BitVec 32 := 1#32
  let arg13 : BitVec 32 := Scf.iv c0_i32_64 c1_i32_66 k0_t4
  let v192 : BitVec 32 := Scalar.muli c2_i32 arg13
  let c256_i32 : BitVec 32 := 256#32
  let v218 : BitVec 32 := Scalar.muli v192 c256_i32
  let v219 : BitVec 32 := Scalar.addi v218 c0_i32_82
  let v220 : Index := Scalar.indexCast v219
  let c0_83 : Index := 0#32
  ![v220.toNat, 0]
def k0_off26 (k0_t4 : Fin k0_t4_loop.trips) (c0_i32_96 : BitVec 32) : Fin 2 → Nat :=
  let c2_i32 : BitVec 32 := 2#32
  let c0_i32_64 : BitVec 32 := 0#32
  let c1_i32_66 : BitVec 32 := 1#32
  let arg13 : BitVec 32 := Scf.iv c0_i32_64 c1_i32_66 k0_t4
  let v192 : BitVec 32 := Scalar.muli c2_i32 arg13
  let c64_i32_95 : BitVec 32 := 64#32
  let v262 : BitVec 32 := Scalar.muli v192 c64_i32_95
  let v263 : BitVec 32 := Scalar.addi v262 c0_i32_96
  let v264 : Index := Scalar.indexCast v263
  let c0_97 : Index := 0#32
  ![v264.toNat, 0]
def k0_off27 (k0_t4 : Fin k0_t4_loop.trips) (c_m2_i32_138 : BitVec 32) : Fin 2 → Nat :=
  let c2_i32_134 : BitVec 32 := 2#32
  let c0_i32_64 : BitVec 32 := 0#32
  let c1_i32_66 : BitVec 32 := 1#32
  let arg13 : BitVec 32 := Scf.iv c0_i32_64 c1_i32_66 k0_t4
  let v453 : BitVec 32 := Scalar.muli c2_i32_134 arg13
  let c1_i32_135 : BitVec 32 := 1#32
  let v454 : BitVec 32 := Scalar.addi v453 c1_i32_135
  let c69_i32_136 : BitVec 32 := 69#32
  let v455 : BitVec 32 := Scalar.muli v454 c69_i32_136
  let c2_i32_137 : BitVec 32 := 2#32
  let v456 : BitVec 32 := Scalar.addi v455 c2_i32_137
  let v457 : BitVec 32 := Scalar.addi v456 c_m2_i32_138
  let v458 : Index := Scalar.indexCast v457
  let c0_139 : Index := 0#32
  ![v458.toNat, 0]
def k0_off27_at (r : Fin 5) : BitVec 32 :=
  if r.val < 2 then
    if r.val < 1 then
      4294967294#32
    else
      4294967295#32
  else
    if r.val < 3 then
      0#32
    else
      if r.val < 4 then
        1#32
      else
        2#32
def k0_off28 (k0_t4 : Fin k0_t4_loop.trips) : Fin 2 → Nat :=
  let c2_i32_134 : BitVec 32 := 2#32
  let c0_i32_64 : BitVec 32 := 0#32
  let c1_i32_66 : BitVec 32 := 1#32
  let arg13 : BitVec 32 := Scf.iv c0_i32_64 c1_i32_66 k0_t4
  let v453 : BitVec 32 := Scalar.muli c2_i32_134 arg13
  let c1_i32_135 : BitVec 32 := 1#32
  let v454 : BitVec 32 := Scalar.addi v453 c1_i32_135
  let c69_i32_136 : BitVec 32 := 69#32
  let v455 : BitVec 32 := Scalar.muli v454 c69_i32_136
  let c2_i32_137 : BitVec 32 := 2#32
  let v456 : BitVec 32 := Scalar.addi v455 c2_i32_137
  let v477 : Index := Scalar.indexCast v456
  let c0_148 : Index := 0#32
  ![v477.toNat, 0]
def k0_off29 (k0_t4 : Fin k0_t4_loop.trips) (c0_i32_150 : BitVec 32) : Fin 2 → Nat :=
  let c2_i32_134 : BitVec 32 := 2#32
  let c0_i32_64 : BitVec 32 := 0#32
  let c1_i32_66 : BitVec 32 := 1#32
  let arg13 : BitVec 32 := Scf.iv c0_i32_64 c1_i32_66 k0_t4
  let v453 : BitVec 32 := Scalar.muli c2_i32_134 arg13
  let c1_i32_135 : BitVec 32 := 1#32
  let v454 : BitVec 32 := Scalar.addi v453 c1_i32_135
  let c256_i32_149 : BitVec 32 := 256#32
  let v480 : BitVec 32 := Scalar.muli v454 c256_i32_149
  let v481 : BitVec 32 := Scalar.addi v480 c0_i32_150
  let v482 : Index := Scalar.indexCast v481
  let c0_151 : Index := 0#32
  ![v482.toNat, 0]
def k0_off30 (k0_t4 : Fin k0_t4_loop.trips) (c0_i32_167 : BitVec 32) : Fin 2 → Nat :=
  let c2_i32_134 : BitVec 32 := 2#32
  let c0_i32_64 : BitVec 32 := 0#32
  let c1_i32_66 : BitVec 32 := 1#32
  let arg13 : BitVec 32 := Scf.iv c0_i32_64 c1_i32_66 k0_t4
  let v453 : BitVec 32 := Scalar.muli c2_i32_134 arg13
  let c1_i32_135 : BitVec 32 := 1#32
  let v454 : BitVec 32 := Scalar.addi v453 c1_i32_135
  let c64_i32_166 : BitVec 32 := 64#32
  let v524 : BitVec 32 := Scalar.muli v454 c64_i32_166
  let v525 : BitVec 32 := Scalar.addi v524 c0_i32_167
  let v526 : Index := Scalar.indexCast v525
  let c0_168 : Index := 0#32
  ![v526.toNat, 0]
def k0_off31 (k0_t4 : Fin k0_t4_loop.trips) (c0_i32_205 : BitVec 32) : Fin 2 → Nat :=
  let c0_i32_64 : BitVec 32 := 0#32
  let c1_i32_66 : BitVec 32 := 1#32
  let arg13 : BitVec 32 := Scf.iv c0_i32_64 c1_i32_66 k0_t4
  let v720 : BitVec 32 := Scalar.addi c0_i32_205 arg13
  let v721 : Index := Scalar.indexCast v720
  let c0_206 : Index := 0#32
  ![v721.toNat, 0]
@[reducible] def k0_t5_loop : Scf.Loop 32 :=
  let c0_i32_68 : BitVec 32 := 0#32
  let c64_i32_69 : BitVec 32 := 64#32
  let v188 : BitVec 32 := Scalar.addi c0_i32_68 c64_i32_69
  let c1_i32_70 : BitVec 32 := 1#32
  ⟨c0_i32_68, v188, c1_i32_70⟩
def k0_mult3 (k0_t5 : Fin k0_t5_loop.trips) : BitVec 32 :=
  let c0_i32_68 : BitVec 32 := 0#32
  let c1_i32_70 : BitVec 32 := 1#32
  let arg13 : BitVec 32 := Scf.iv c0_i32_68 c1_i32_70 k0_t5
  let c128_i32 : BitVec 32 := 128#32
  let v192 : BitVec 32 := Scalar.muli arg13 c128_i32
  v192
def k0_off32 (k0_t5 : Fin k0_t5_loop.trips) (c0_i32_73 : BitVec 32) : Fin 2 → Nat :=
  let c4_i32 : BitVec 32 := 4#32
  let c0_i32_68 : BitVec 32 := 0#32
  let c1_i32_70 : BitVec 32 := 1#32
  let arg13 : BitVec 32 := Scf.iv c0_i32_68 c1_i32_70 k0_t5
  let v194 : BitVec 32 := Scalar.muli c4_i32 arg13
  let v195 : BitVec 32 := Scalar.addi v194 c0_i32_73
  let c17_i32 : BitVec 32 := 17#32
  let v196 : BitVec 32 := Scalar.muli v195 c17_i32
  let v197 : Index := Scalar.indexCast v196
  let c0 : Index := 0#32
  ![v197.toNat, 0]
def k0_off33 (k0_t5 : Fin k0_t5_loop.trips) : Fin 3 → Nat :=
  let c0_74 : Index := 0#32
  let c0_75 : Index := 0#32
  let c0_i32_68 : BitVec 32 := 0#32
  let c1_i32_70 : BitVec 32 := 1#32
  let arg13 : BitVec 32 := Scf.iv c0_i32_68 c1_i32_70 k0_t5
  let c128_i32 : BitVec 32 := 128#32
  let v192 : BitVec 32 := Scalar.muli arg13 c128_i32
  let v193 : BitVec 32 := v192
  let v200 : Index := Scalar.indexCast v193
  ![0, 0, v200.toNat]
def k0_off34 (k0_t5 : Fin k0_t5_loop.trips) : Fin 3 → Nat :=
  let c1_80 : Index := 1#32
  let c0_81 : Index := 0#32
  let c0_i32_68 : BitVec 32 := 0#32
  let c1_i32_70 : BitVec 32 := 1#32
  let arg13 : BitVec 32 := Scf.iv c0_i32_68 c1_i32_70 k0_t5
  let c128_i32 : BitVec 32 := 128#32
  let v192 : BitVec 32 := Scalar.muli arg13 c128_i32
  let v193 : BitVec 32 := v192
  let v210 : Index := Scalar.indexCast v193
  ![1, 0, v210.toNat]
def k0_off35 (k0_t5 : Fin k0_t5_loop.trips) : Fin 3 → Nat :=
  let c2 : Index := 2#32
  let c0_85 : Index := 0#32
  let c0_i32_68 : BitVec 32 := 0#32
  let c1_i32_70 : BitVec 32 := 1#32
  let arg13 : BitVec 32 := Scf.iv c0_i32_68 c1_i32_70 k0_t5
  let c128_i32 : BitVec 32 := 128#32
  let v192 : BitVec 32 := Scalar.muli arg13 c128_i32
  let v193 : BitVec 32 := v192
  let v220 : Index := Scalar.indexCast v193
  ![2, 0, v220.toNat]
def k0_off36 (k0_t5 : Fin k0_t5_loop.trips) : Fin 3 → Nat :=
  let c3 : Index := 3#32
  let c0_90 : Index := 0#32
  let c0_i32_68 : BitVec 32 := 0#32
  let c1_i32_70 : BitVec 32 := 1#32
  let arg13 : BitVec 32 := Scf.iv c0_i32_68 c1_i32_70 k0_t5
  let c128_i32 : BitVec 32 := 128#32
  let v192 : BitVec 32 := Scalar.muli arg13 c128_i32
  let v193 : BitVec 32 := v192
  let v230 : Index := Scalar.indexCast v193
  ![3, 0, v230.toNat]
def k0_cond2 (i : grid0.Coords) : BitVec 1 :=
  let arg1 : BitVec 32 := BitVec.ofNat 32 (i 1).val
  let c5_i32 : BitVec 32 := 5#32
  let v189 : BitVec 1 := Scalar.cmpi .eq arg1 c5_i32
  let v190 : BitVec 32 := Scalar.extui v189
  let c0_i32_72 : BitVec 32 := 0#32
  let v191 : BitVec 1 := Scalar.cmpi .ne v190 c0_i32_72
  v191

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4x32x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x32x8192 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x32x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
abbrev S24x8192x192 : Shape := ⟨3, ![24, 8192, 192]⟩
abbrev S_ : Shape := ⟨0, ![]⟩
abbrev S7x7x192 : Shape := ⟨3, ![7, 7, 192]⟩
abbrev S8 : Shape := ⟨1, ![8]⟩
abbrev S24x192x8192 : Shape := ⟨3, ![24, 192, 8192]⟩
abbrev S8x8x192 : Shape := ⟨3, ![8, 8, 192]⟩
abbrev S8x1 : Shape := ⟨2, ![8, 1]⟩
abbrev S8x8x192x1 : Shape := ⟨4, ![8, 8, 192, 1]⟩
abbrev S8x8x192x2 : Shape := ⟨4, ![8, 8, 192, 2]⟩
abbrev S1x8x192 : Shape := ⟨3, ![1, 8, 192]⟩
abbrev S8x192 : Shape := ⟨2, ![8, 192]⟩
abbrev S56x192 : Shape := ⟨2, ![56, 192]⟩
abbrev S5x192 : Shape := ⟨2, ![5, 192]⟩
abbrev S3x192 : Shape := ⟨2, ![3, 192]⟩
abbrev S128x192 : Shape := ⟨2, ![128, 192]⟩
abbrev S1x128x192 : Shape := ⟨3, ![1, 128, 192]⟩
abbrev S8x128x192 : Shape := ⟨3, ![8, 128, 192]⟩
abbrev S192x8x128 : Shape := ⟨3, ![192, 8, 128]⟩
abbrev S1 : Shape := ⟨1, ![1]⟩
abbrev S2 : Shape := ⟨1, ![2]⟩
abbrev S192x128 : Shape := ⟨2, ![192, 128]⟩
abbrev S4x32x8192 : Shape := ⟨3, ![4, 32, 8192]⟩
abbrev S32x8x128 : Shape := ⟨3, ![32, 8, 128]⟩
abbrev S32x128 : Shape := ⟨2, ![32, 128]⟩
abbrev S2216x128 : Shape := ⟨2, ![2216, 128]⟩
abbrev S8192x128 : Shape := ⟨2, ![8192, 128]⟩
abbrev S4360x128 : Shape := ⟨2, ![4360, 128]⟩
abbrev S4360x2x128 : Shape := ⟨3, ![4360, 2, 128]⟩
abbrev S4360x1x128 : Shape := ⟨3, ![4360, 1, 128]⟩
abbrev S2048x128 : Shape := ⟨2, ![2048, 128]⟩
abbrev S8x128 : Shape := ⟨2, ![8, 128]⟩
abbrev S2x128 : Shape := ⟨2, ![2, 128]⟩
abbrev S1x1x128 : Shape := ⟨3, ![1, 1, 128]⟩
abbrev S1x128 : Shape := ⟨2, ![1, 128]⟩
abbrev S64x128 : Shape := ⟨2, ![64, 128]⟩
abbrev S1x32x128 : Shape := ⟨3, ![1, 32, 128]⟩
abbrev S64x256 : Shape := ⟨2, ![64, 256]⟩
abbrev S256x256 : Shape := ⟨2, ![256, 256]⟩
abbrev S256x128 : Shape := ⟨2, ![256, 128]⟩
abbrev S128x256 : Shape := ⟨2, ![128, 256]⟩
abbrev S128x128 : Shape := ⟨2, ![128, 128]⟩
abbrev S128x2x128 : Shape := ⟨3, ![128, 2, 128]⟩
abbrev S128x1x128 : Shape := ⟨3, ![128, 1, 128]⟩
abbrev S16x128 : Shape := ⟨2, ![16, 128]⟩
abbrev S16x2x128 : Shape := ⟨3, ![16, 2, 128]⟩
abbrev S16x1x128 : Shape := ⟨3, ![16, 1, 128]⟩
abbrev S192x49 : Shape := ⟨2, ![192, 49]⟩
abbrev S49x192 : Shape := ⟨2, ![49, 192]⟩

abbrev nBuf : Space → Nat
  | .hbm => 141
  | .vmem => 15
  | .smem => 1
  | _ => 0

abbrev hbmTy0_0 (i : Nat) : BufTy := match i % 128 with
  | 0 => ⟨S24x8192x192, .i8⟩
  | 1 => ⟨S_, .f32⟩
  | 2 => ⟨S7x7x192, .i16⟩
  | 3 => ⟨S24x8192x192, .i8⟩
  | 4 => ⟨S_, .f32⟩
  | 5 => ⟨S8, .i32⟩
  | 6 => ⟨S8, .i32⟩
  | 7 => ⟨S24x192x8192, .i8⟩
  | 8 => ⟨S24x192x8192, .i8⟩
  | 9 => ⟨S_, .i32⟩
  | 10 => ⟨S_, .i16⟩
  | 11 => ⟨S8x8x192, .i16⟩
  | 12 => ⟨S_, .i32⟩
  | 13 => ⟨S8, .i32⟩
  | 14 => ⟨S8, .i1⟩
  | 15 => ⟨S_, .i32⟩
  | 16 => ⟨S8, .i32⟩
  | 17 => ⟨S8, .i32⟩
  | 18 => ⟨S8, .i32⟩
  | 19 => ⟨S8x1, .i32⟩
  | 20 => ⟨S8x8x192, .i16⟩
  | 21 => ⟨S_, .i32⟩
  | 22 => ⟨S8, .i32⟩
  | 23 => ⟨S8, .i1⟩
  | 24 => ⟨S_, .i32⟩
  | 25 => ⟨S8, .i32⟩
  | 26 => ⟨S8, .i32⟩
  | 27 => ⟨S8, .i32⟩
  | 28 => ⟨S8x1, .i32⟩
  | 29 => ⟨S8x8x192, .i16⟩
  | 30 => ⟨S8x8x192x1, .i16⟩
  | 31 => ⟨S8x8x192x1, .i16⟩
  | 32 => ⟨S8x8x192x2, .i16⟩
  | 33 => ⟨S8x8x192, .i32⟩
  | 34 => ⟨S1x8x192, .i32⟩
  | 35 => ⟨S8x192, .i32⟩
  | 36 => ⟨S1x8x192, .i32⟩
  | 37 => ⟨S8x192, .i32⟩
  | 38 => ⟨S_, .i32⟩
  | 39 => ⟨S56x192, .i32⟩
  | 40 => ⟨S5x192, .i32⟩
  | 41 => ⟨S3x192, .i32⟩
  | 42 => ⟨S5x192, .i32⟩
  | 43 => ⟨S3x192, .i32⟩
  | 44 => ⟨S128x192, .i32⟩
  | 45 => ⟨S1x8x192, .i32⟩
  | 46 => ⟨S8x192, .i32⟩
  | 47 => ⟨S1x8x192, .i32⟩
  | 48 => ⟨S8x192, .i32⟩
  | 49 => ⟨S_, .i32⟩
  | 50 => ⟨S56x192, .i32⟩
  | 51 => ⟨S5x192, .i32⟩
  | 52 => ⟨S3x192, .i32⟩
  | 53 => ⟨S5x192, .i32⟩
  | 54 => ⟨S3x192, .i32⟩
  | 55 => ⟨S128x192, .i32⟩
  | 56 => ⟨S1x8x192, .i32⟩
  | 57 => ⟨S8x192, .i32⟩
  | 58 => ⟨S1x8x192, .i32⟩
  | 59 => ⟨S8x192, .i32⟩
  | 60 => ⟨S_, .i32⟩
  | 61 => ⟨S56x192, .i32⟩
  | 62 => ⟨S5x192, .i32⟩
  | 63 => ⟨S3x192, .i32⟩
  | 64 => ⟨S5x192, .i32⟩
  | 65 => ⟨S3x192, .i32⟩
  | 66 => ⟨S128x192, .i32⟩
  | 67 => ⟨S1x8x192, .i32⟩
  | 68 => ⟨S8x192, .i32⟩
  | 69 => ⟨S1x8x192, .i32⟩
  | 70 => ⟨S8x192, .i32⟩
  | 71 => ⟨S_, .i32⟩
  | 72 => ⟨S56x192, .i32⟩
  | 73 => ⟨S5x192, .i32⟩
  | 74 => ⟨S3x192, .i32⟩
  | 75 => ⟨S5x192, .i32⟩
  | 76 => ⟨S3x192, .i32⟩
  | 77 => ⟨S128x192, .i32⟩
  | 78 => ⟨S1x8x192, .i32⟩
  | 79 => ⟨S8x192, .i32⟩
  | 80 => ⟨S1x8x192, .i32⟩
  | 81 => ⟨S8x192, .i32⟩
  | 82 => ⟨S_, .i32⟩
  | 83 => ⟨S56x192, .i32⟩
  | 84 => ⟨S5x192, .i32⟩
  | 85 => ⟨S3x192, .i32⟩
  | 86 => ⟨S5x192, .i32⟩
  | 87 => ⟨S3x192, .i32⟩
  | 88 => ⟨S128x192, .i32⟩
  | 89 => ⟨S1x8x192, .i32⟩
  | 90 => ⟨S8x192, .i32⟩
  | 91 => ⟨S1x8x192, .i32⟩
  | 92 => ⟨S8x192, .i32⟩
  | 93 => ⟨S_, .i32⟩
  | 94 => ⟨S56x192, .i32⟩
  | 95 => ⟨S5x192, .i32⟩
  | 96 => ⟨S3x192, .i32⟩
  | 97 => ⟨S5x192, .i32⟩
  | 98 => ⟨S3x192, .i32⟩
  | 99 => ⟨S128x192, .i32⟩
  | 100 => ⟨S1x8x192, .i32⟩
  | 101 => ⟨S8x192, .i32⟩
  | 102 => ⟨S1x8x192, .i32⟩
  | 103 => ⟨S8x192, .i32⟩
  | 104 => ⟨S_, .i32⟩
  | 105 => ⟨S56x192, .i32⟩
  | 106 => ⟨S5x192, .i32⟩
  | 107 => ⟨S3x192, .i32⟩
  | 108 => ⟨S5x192, .i32⟩
  | 109 => ⟨S3x192, .i32⟩
  | 110 => ⟨S128x192, .i32⟩
  | 111 => ⟨S1x8x192, .i32⟩
  | 112 => ⟨S8x192, .i32⟩
  | 113 => ⟨S1x8x192, .i32⟩
  | 114 => ⟨S8x192, .i32⟩
  | 115 => ⟨S_, .i32⟩
  | 116 => ⟨S56x192, .i32⟩
  | 117 => ⟨S5x192, .i32⟩
  | 118 => ⟨S3x192, .i32⟩
  | 119 => ⟨S5x192, .i32⟩
  | 120 => ⟨S3x192, .i32⟩
  | 121 => ⟨S128x192, .i32⟩
  | 122 => ⟨S1x128x192, .i32⟩
  | 123 => ⟨S1x128x192, .i32⟩
  | 124 => ⟨S1x128x192, .i32⟩
  | 125 => ⟨S1x128x192, .i32⟩
  | 126 => ⟨S1x128x192, .i32⟩
  | 127 => ⟨S1x128x192, .i32⟩
  | _ => ⟨S24x8192x192, .i8⟩

abbrev hbmTy0_1 (i : Nat) : BufTy := match i % 128 with
  | 0 => ⟨S1x128x192, .i32⟩
  | 1 => ⟨S1x128x192, .i32⟩
  | 2 => ⟨S8x128x192, .i32⟩
  | 3 => ⟨S192x8x128, .i32⟩
  | 4 => ⟨S1, .f32⟩
  | 5 => ⟨S1, .f32⟩
  | 6 => ⟨S2, .f32⟩
  | 7 => ⟨S24x192x8192, .bf16⟩
  | 8 => ⟨S192x128, .f32⟩
  | 9 => ⟨S192x49, .f32⟩
  | 10 => ⟨S49x192, .f32⟩
  | 11 => ⟨S7x7x192, .f32⟩
  | 12 => ⟨S24x8192x192, .bf16⟩
  | _ => ⟨S24x8192x192, .i8⟩

abbrev hbmTy (i : Nat) : BufTy := match i / 128 with
  | 0 => hbmTy0_0 i
  | 1 => hbmTy0_1 i
  | _ => ⟨S24x8192x192, .i8⟩

abbrev bufTy : (tb : Table) → Fin (tcTables nBuf tb) → BufTy
  | .hbm, ⟨i, _⟩ => hbmTy i
  | .local _ .vmem, ⟨0, _⟩ => ⟨S4x32x8192, .i8⟩
  | .local _ .vmem, ⟨1, _⟩ => ⟨S4x32x8192, .i8⟩
  | .local _ .vmem, ⟨2, _⟩ => ⟨S4x32x8192, .i8⟩
  | .local _ .vmem, ⟨3, _⟩ => ⟨S4x32x8192, .i8⟩
  | .local _ .vmem, ⟨4, _⟩ => ⟨S32x8x128, .i32⟩
  | .local _ .vmem, ⟨5, _⟩ => ⟨S32x8x128, .i32⟩
  | .local _ .vmem, ⟨6, _⟩ => ⟨S4x32x8192, .bf16⟩
  | .local _ .vmem, ⟨7, _⟩ => ⟨S4x32x8192, .bf16⟩
  | .local _ .vmem, ⟨8, _⟩ => ⟨S32x128, .f32⟩
  | .local _ .vmem, ⟨9, _⟩ => ⟨S32x128, .f32⟩
  | .local _ .vmem, ⟨10, _⟩ => ⟨S2216x128, .i32⟩
  | .local _ .vmem, ⟨11, _⟩ => ⟨S2216x128, .i32⟩
  | .local _ .vmem, ⟨12, _⟩ => ⟨S8192x128, .i32⟩
  | .local _ .vmem, ⟨13, _⟩ => ⟨S4360x2x128, .bf16⟩
  | .local _ .vmem, ⟨14, _⟩ => ⟨S2048x128, .f32⟩
  | .local _ .smem, ⟨0, _⟩ => ⟨S2, .f32⟩
  | _, _ => ⟨S24x8192x192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_call0_v0 : Ref sig .tc := ⟨.hbm, 10, rfl⟩
abbrev main_v2 : Ref sig .tc := ⟨.hbm, 11, rfl⟩
abbrev main_c_2 : Ref sig .tc := ⟨.hbm, 12, rfl⟩
abbrev main_v3 : Ref sig .tc := ⟨.hbm, 13, rfl⟩
abbrev main_v4 : Ref sig .tc := ⟨.hbm, 14, rfl⟩
abbrev main_c_3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_c_11 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_c_12 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_c_13 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114_0 : Ref sig .tc := ⟨.hbm, 135, rfl⟩
abbrev main_v114_1 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![6, 6], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

@[reducible] def k0_t1_loop : Scf.Loop 32 :=
  let c0_i32_80 : BitVec 32 := 0#32
  let c32_i32_81 : BitVec 32 := 32#32
  let v219 : BitVec 32 := Scalar.addi c0_i32_80 c32_i32_81
  let c1_i32_82 : BitVec 32 := 1#32
  ⟨c0_i32_80, v219, c1_i32_82⟩
def k0_off1 (k0_t1 : Fin k0_t1_loop.trips) : Fin 2 → Nat :=
  let c0_i32_80 : BitVec 32 := 0#32
  let c1_i32_82 : BitVec 32 := 1#32
  let arg13 : BitVec 32 := Scf.iv c0_i32_80 c1_i32_82 k0_t1
  let c69_i32 : BitVec 32 := 69#32
  let v220 : BitVec 32 := Scalar.muli arg13 c69_i32
  let v221 : Index := Scalar.indexCast v220
  let c0 : Index := 0#32
  ![v221.toNat, 0]
def k0_off2 (k0_t1 : Fin k0_t1_loop.trips) : Fin 2 → Nat :=
  let c0_i32_80 : BitVec 32 := 0#32
  let c1_i32_82 : BitVec 32 := 1#32
  let arg13 : BitVec 32 := Scf.iv c0_i32_80 c1_i32_82 k0_t1
  let c69_i32_84 : BitVec 32 := 69#32
  let v225 : BitVec 32 := Scalar.muli arg13 c69_i32_84
  let c2_i32_85 : BitVec 32 := 2#32
  let v226 : BitVec 32 := Scalar.addi v225 c2_i32_85
  let c64_i32_86 : BitVec 32 := 64#32
  let v227 : BitVec 32 := Scalar.addi v226 c64_i32_86
  let v228 : Index := Scalar.indexCast v227
  let c0_87 : Index := 0#32
  ![v228.toNat, 0]
def k0_off3 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v232 : Index := Scalar.indexCast arg13
  let c0_88 : Index := 0#32
  let c0_89 : Index := 0#32
  ![v232.toNat, 0, 0]
def k0_off4 (k0_t1 : Fin k0_t1_loop.trips) (c0_i32_92 : BitVec 32) (c0_i32_93 : BitVec 32) : Fin 2 → Nat :=
  let c0_i32_80 : BitVec 32 := 0#32
  let c1_i32_82 : BitVec 32 := 1#32
  let arg13 : BitVec 32 := Scf.iv c0_i32_80 c1_i32_82 k0_t1
  let c256_i32 : BitVec 32 := 256#32
  let v240 : BitVec 32 := Scalar.muli arg13 c256_i32
  let v241 : BitVec 32 := Scalar.addi v240 c0_i32_92
  let v242 : BitVec 32 := Scalar.addi v241 c0_i32_93
  let v243 : Index := Scalar.indexCast v242
  let c0_94 : Index := 0#32
  ![v243.toNat, 0]
def k0_off5 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v247 : Index := Scalar.indexCast arg13
  let c1_95 : Index := 1#32
  let c0_96 : Index := 0#32
  ![v247.toNat, 1, 0]
def k0_off6 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v262 : Index := Scalar.indexCast arg13
  let c2 : Index := 2#32
  let c0_103 : Index := 0#32
  ![v262.toNat, 2, 0]
def k0_off7 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v277 : Index := Scalar.indexCast arg13
  let c3 : Index := 3#32
  let c0_109 : Index := 0#32
  ![v277.toNat, 3, 0]
def k0_off8 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v292 : Index := Scalar.indexCast arg13
  let c4 : Index := 4#32
  let c0_115 : Index := 0#32
  ![v292.toNat, 4, 0]
def k0_off9 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v307 : Index := Scalar.indexCast arg13
  let c5 : Index := 5#32
  let c0_122 : Index := 0#32
  ![v307.toNat, 5, 0]
def k0_off10 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v322 : Index := Scalar.indexCast arg13
  let c6 : Index := 6#32
  let c0_129 : Index := 0#32
  ![v322.toNat, 6, 0]
def k0_off11 (k0_t1 : Fin k0_t1_loop.trips) : Fin 3 → Nat :=
  let c0_i32_80 : BitVec 32 := 0#32
  let c1_i32_82 : BitVec 32 := 1#32
  let arg13 : BitVec 32 := Scf.iv c0_i32_80 c1_i32_82 k0_t1
  let v337 : Index := Scalar.indexCast arg13
  let c7 : Index := 7#32
  let c0_136 : Index := 0#32
  ![v337.toNat, 7, 0]
def k0_off12 (k0_t1 : Fin k0_t1_loop.trips) : Fin 2 → Nat :=
  let c0_i32_80 : BitVec 32 := 0#32
  let c1_i32_82 : BitVec 32 := 1#32
  let arg13 : BitVec 32 := Scf.iv c0_i32_80 c1_i32_82 k0_t1
  let c64_i32_143 : BitVec 32 := 64#32
  let v353 : BitVec 32 := Scalar.muli arg13 c64_i32_143
  let v354 : Index := Scalar.indexCast v353
  let c0_144 : Index := 0#32
  ![v354.toNat, 0]
@[reducible] def k0_t2_loop : Scf.Loop 32 :=
  let c0_i32_1 : BitVec 32 := 0#32
  let c64_i32 : BitVec 32 := 64#32
  let v6 : BitVec 32 := Scalar.addi c0_i32_1 c64_i32
  let c1_i32 : BitVec 32 := 1#32
  ⟨c0_i32_1, v6, c1_i32⟩
def k0_mult1 (k0_t2 : Fin k0_t2_loop.trips) : BitVec 32 :=
  let c0_i32_1 : BitVec 32 := 0#32
  let c1_i32 : BitVec 32 := 1#32
  let arg13 : BitVec 32 := Scf.iv c0_i32_1 c1_i32 k0_t2
  let c128_i32 : BitVec 32 := 128#32
  let v192 : BitVec 32 := Scalar.muli arg13 c128_i32
  v192
def k0_off13 (k0_t2 : Fin k0_t2_loop.trips) : Fin 3 → Nat :=
  let c0 : Index := 0#32
  let c0_73 : Index := 0#32
  let c0_i32_1 : BitVec 32 := 0#32
  let c1_i32 : BitVec 32 := 1#32
  let arg13 : BitVec 32 := Scf.iv c0_i32_1 c1_i32 k0_t2
  let c128_i32 : BitVec 32 := 128#32
  let v192 : BitVec 32 := Scalar.muli arg13 c128_i32
  let v193 : BitVec 32 := v192
  let v194 : Index := Scalar.indexCast v193
  ![0, 0, v194.toNat]
def k0_off14 (k0_t2 : Fin k0_t2_loop.trips) : Fin 3 → Nat :=
  let c1_74 : Index := 1#32
  let c0_75 : Index := 0#32
  let c0_i32_1 : BitVec 32 := 0#32
  let c1_i32 : BitVec 32 := 1#32
  let arg13 : BitVec 32 := Scf.iv c0_i32_1 c1_i32 k0_t2
  let c128_i32 : BitVec 32 := 128#32
  let v192 : BitVec 32 := Scalar.muli arg13 c128_i32
  let v193 : BitVec 32 := v192
  let v198 : Index := Scalar.indexCast v193
  ![1, 0, v198.toNat]
def k0_off15 (k0_t2 : Fin k0_t2_loop.trips) : Fin 3 → Nat :=
  let c2 : Index := 2#32
  let c0_76 : Index := 0#32
  let c0_i32_1 : BitVec 32 := 0#32
  let c1_i32 : BitVec 32 := 1#32
  let arg13 : BitVec 32 := Scf.iv c0_i32_1 c1_i32 k0_t2
  let c128_i32 : BitVec 32 := 128#32
  let v192 : BitVec 32 := Scalar.muli arg13 c128_i32
  let v193 : BitVec 32 := v192
  let v202 : Index := Scalar.indexCast v193
  ![2, 0, v202.toNat]
def k0_off16 (k0_t2 : Fin k0_t2_loop.trips) : Fin 3 → Nat :=
  let c3 : Index := 3#32
  let c0_77 : Index := 0#32
  let c0_i32_1 : BitVec 32 := 0#32
  let c1_i32 : BitVec 32 := 1#32
  let arg13 : BitVec 32 := Scf.iv c0_i32_1 c1_i32 k0_t2
  let c128_i32 : BitVec 32 := 128#32
  let v192 : BitVec 32 := Scalar.muli arg13 c128_i32
  let v193 : BitVec 32 := v192
  let v206 : Index := Scalar.indexCast v193
  ![3, 0, v206.toNat]
def k0_off17 (k0_t2 : Fin k0_t2_loop.trips) (c2_i32 : BitVec 32) : Fin 2 → Nat :=
  let c0_i32_1 : BitVec 32 := 0#32
  let c1_i32 : BitVec 32 := 1#32
  let arg13 : BitVec 32 := Scf.iv c0_i32_1 c1_i32 k0_t2
  let v246 : BitVec 32 := Scalar.addi c2_i32 arg13
  let v247 : Index := Scalar.indexCast v246
  let c0_88 : Index := 0#32
  ![v247.toNat, 0]
@[reducible] def k0_t3_loop : Scf.Loop 32 :=
  let c0_i32_3 : BitVec 32 := 0#32
  let c64_i32_4 : BitVec 32 := 64#32
  let v7 : BitVec 32 := Scalar.addi c0_i32_3 c64_i32_4
  let c1_i32_5 : BitVec 32 := 1#32
  ⟨c0_i32_3, v7, c1_i32_5⟩
def k0_mult2 (k0_t3 : Fin k0_t3_loop.trips) : BitVec 32 :=
  let c0_i32_3 : BitVec 32 := 0#32
  let c1_i32_5 : BitVec 32 := 1#32
  let arg13 : BitVec 32 := Scf.iv c0_i32_3 c1_i32_5 k0_t3
  let c128_i32 : BitVec 32 := 128#32
  let v192 : BitVec 32 := Scalar.muli arg13 c128_i32
  v192
def k0_off18 (k0_t3 : Fin k0_t3_loop.trips) : Fin 3 → Nat :=
  let c0 : Index := 0#32
  let c0_73 : Index := 0#32
  let c0_i32_3 : BitVec 32 := 0#32
  let c1_i32_5 : BitVec 32 := 1#32
  let arg13 : BitVec 32 := Scf.iv c0_i32_3 c1_i32_5 k0_t3
  let c128_i32 : BitVec 32 := 128#32
  let v192 : BitVec 32 := Scalar.muli arg13 c128_i32
  let v193 : BitVec 32 := v192
  let v194 : Index := Scalar.indexCast v193
  ![0, 0, v194.toNat]
def k0_off19 (k0_t3 : Fin k0_t3_loop.trips) : Fin 3 → Nat :=
  let c1_74 : Index := 1#32
  let c0_75 : Index := 0#32
  let c0_i32_3 : BitVec 32 := 0#32
  let c1_i32_5 : BitVec 32 := 1#32
  let arg13 : BitVec 32 := Scf.iv c0_i32_3 c1_i32_5 k0_t3
  let c128_i32 : BitVec 32 := 128#32
  let v192 : BitVec 32 := Scalar.muli arg13 c128_i32
  let v193 : BitVec 32 := v192
  let v198 : Index := Scalar.indexCast v193
  ![1, 0, v198.toNat]
def k0_off20 (k0_t3 : Fin k0_t3_loop.trips) : Fin 3 → Nat :=
  let c2 : Index := 2#32
  let c0_76 : Index := 0#32
  let c0_i32_3 : BitVec 32 := 0#32
  let c1_i32_5 : BitVec 32 := 1#32
  let arg13 : BitVec 32 := Scf.iv c0_i32_3 c1_i32_5 k0_t3
  let c128_i32 : BitVec 32 := 128#32
  let v192 : BitVec 32 := Scalar.muli arg13 c128_i32
  let v193 : BitVec 32 := v192
  let v202 : Index := Scalar.indexCast v193
  ![2, 0, v202.toNat]
def k0_off21 (k0_t3 : Fin k0_t3_loop.trips) : Fin 3 → Nat :=
  let c3 : Index := 3#32
  let c0_77 : Index := 0#32
  let c0_i32_3 : BitVec 32 := 0#32
  let c1_i32_5 : BitVec 32 := 1#32
  let arg13 : BitVec 32 := Scf.iv c0_i32_3 c1_i32_5 k0_t3
  let c128_i32 : BitVec 32 := 128#32
  let v192 : BitVec 32 := Scalar.muli arg13 c128_i32
  let v193 : BitVec 32 := v192
  let v206 : Index := Scalar.indexCast v193
  ![3, 0, v206.toNat]
def k0_off22 (k0_t3 : Fin k0_t3_loop.trips) (c2_i32 : BitVec 32) : Fin 2 → Nat :=
  let c0_i32_3 : BitVec 32 := 0#32
  let c1_i32_5 : BitVec 32 := 1#32
  let arg13 : BitVec 32 := Scf.iv c0_i32_3 c1_i32_5 k0_t3
  let v246 : BitVec 32 := Scalar.addi c2_i32 arg13
  let v247 : Index := Scalar.indexCast v246
  let c0_88 : Index := 0#32
  ![v247.toNat, 0]
@[reducible] def k0_t4_loop : Scf.Loop 32 :=
  let c0_i32_64 : BitVec 32 := 0#32
  let c16_i32_65 : BitVec 32 := 16#32
  let v187 : BitVec 32 := Scalar.addi c0_i32_64 c16_i32_65
  let c1_i32_66 : BitVec 32 := 1#32
  ⟨c0_i32_64, v187, c1_i32_66⟩
def k0_off23 (k0_t4 : Fin k0_t4_loop.trips) (c_m2_i32 : BitVec 32) : Fin 2 → Nat :=
  let c2_i32 : BitVec 32 := 2#32
  let c0_i32_64 : BitVec 32 := 0#32
  let c1_i32_66 : BitVec 32 := 1#32
  let arg13 : BitVec 32 := Scf.iv c0_i32_64 c1_i32_66 k0_t4
  let v192 : BitVec 32 := Scalar.muli c2_i32 arg13
  let c69_i32 : BitVec 32 := 69#32
  let v193 : BitVec 32 := Scalar.muli v192 c69_i32
  let c2_i32_73 : BitVec 32 := 2#32
  let v194 : BitVec 32 := Scalar.addi v193 c2_i32_73
  let v195 : BitVec 32 := Scalar.addi v194 c_m2_i32
  let v196 : Index := Scalar.indexCast v195
  let c0 : Index := 0#32
  ![v196.toNat, 0]
def k0_off23_at (r : Fin 5) : BitVec 32 :=
  if r.val < 2 then
    if r.val < 1 then
      4294967294#32
    else
      4294967295#32
  else
    if r.val < 3 then
      0#32
    else
      if r.val < 4 then
        1#32
      else
        2#32
def k0_off24 (k0_t4 : Fin k0_t4_loop.trips) : Fin 2 → Nat :=
  let c2_i32 : BitVec 32 := 2#32
  let c0_i32_64 : BitVec 32 := 0#32
  let c1_i32_66 : BitVec 32 := 1#32
  let arg13 : BitVec 32 := Scf.iv c0_i32_64 c1_i32_66 k0_t4
  let v192 : BitVec 32 := Scalar.muli c2_i32 arg13
  let c69_i32 : BitVec 32 := 69#32
  let v193 : BitVec 32 := Scalar.muli v192 c69_i32
  let c2_i32_73 : BitVec 32 := 2#32
  let v194 : BitVec 32 := Scalar.addi v193 c2_i32_73
  let v215 : Index := Scalar.indexCast v194
  let c0_81 : Index := 0#32
  ![v215.toNat, 0]
def k0_off25 (k0_t4 : Fin k0_t4_loop.trips) (c0_i32_82 : BitVec 32) : Fin 2 → Nat :=
  let c2_i32 : BitVec 32 := 2#32
  let c0_i32_64 : BitVec 32 := 0#32
  let c1_i32_66 : BitVec 32 := 1#32
  let arg13 : BitVec 32 := Scf.iv c0_i32_64 c1_i32_66 k0_t4
  let v192 : BitVec 32 := Scalar.muli c2_i32 arg13
  let c256_i32 : BitVec 32 := 256#32
  let v218 : BitVec 32 := Scalar.muli v192 c256_i32
  let v219 : BitVec 32 := Scalar.addi v218 c0_i32_82
  let v220 : Index := Scalar.indexCast v219
  let c0_83 : Index := 0#32
  ![v220.toNat, 0]
def k0_off26 (k0_t4 : Fin k0_t4_loop.trips) (c0_i32_96 : BitVec 32) : Fin 2 → Nat :=
  let c2_i32 : BitVec 32 := 2#32
  let c0_i32_64 : BitVec 32 := 0#32
  let c1_i32_66 : BitVec 32 := 1#32
  let arg13 : BitVec 32 := Scf.iv c0_i32_64 c1_i32_66 k0_t4
  let v192 : BitVec 32 := Scalar.muli c2_i32 arg13
  let c64_i32_95 : BitVec 32 := 64#32
  let v262 : BitVec 32 := Scalar.muli v192 c64_i32_95
  let v263 : BitVec 32 := Scalar.addi v262 c0_i32_96
  let v264 : Index := Scalar.indexCast v263
  let c0_97 : Index := 0#32
  ![v264.toNat, 0]
def k0_off27 (k0_t4 : Fin k0_t4_loop.trips) (c_m2_i32_138 : BitVec 32) : Fin 2 → Nat :=
  let c2_i32_134 : BitVec 32 := 2#32
  let c0_i32_64 : BitVec 32 := 0#32
  let c1_i32_66 : BitVec 32 := 1#32
  let arg13 : BitVec 32 := Scf.iv c0_i32_64 c1_i32_66 k0_t4
  let v453 : BitVec 32 := Scalar.muli c2_i32_134 arg13
  let c1_i32_135 : BitVec 32 := 1#32
  let v454 : BitVec 32 := Scalar.addi v453 c1_i32_135
  let c69_i32_136 : BitVec 32 := 69#32
  let v455 : BitVec 32 := Scalar.muli v454 c69_i32_136
  let c2_i32_137 : BitVec 32 := 2#32
  let v456 : BitVec 32 := Scalar.addi v455 c2_i32_137
  let v457 : BitVec 32 := Scalar.addi v456 c_m2_i32_138
  let v458 : Index := Scalar.indexCast v457
  let c0_139 : Index := 0#32
  ![v458.toNat, 0]
def k0_off27_at (r : Fin 5) : BitVec 32 :=
  if r.val < 2 then
    if r.val < 1 then
      4294967294#32
    else
      4294967295#32
  else
    if r.val < 3 then
      0#32
    else
      if r.val < 4 then
        1#32
      else
        2#32
def k0_off28 (k0_t4 : Fin k0_t4_loop.trips) : Fin 2 → Nat :=
  let c2_i32_134 : BitVec 32 := 2#32
  let c0_i32_64 : BitVec 32 := 0#32
  let c1_i32_66 : BitVec 32 := 1#32
  let arg13 : BitVec 32 := Scf.iv c0_i32_64 c1_i32_66 k0_t4
  let v453 : BitVec 32 := Scalar.muli c2_i32_134 arg13
  let c1_i32_135 : BitVec 32 := 1#32
  let v454 : BitVec 32 := Scalar.addi v453 c1_i32_135
  let c69_i32_136 : BitVec 32 := 69#32
  let v455 : BitVec 32 := Scalar.muli v454 c69_i32_136
  let c2_i32_137 : BitVec 32 := 2#32
  let v456 : BitVec 32 := Scalar.addi v455 c2_i32_137
  let v477 : Index := Scalar.indexCast v456
  let c0_148 : Index := 0#32
  ![v477.toNat, 0]
def k0_off29 (k0_t4 : Fin k0_t4_loop.trips) (c0_i32_150 : BitVec 32) : Fin 2 → Nat :=
  let c2_i32_134 : BitVec 32 := 2#32
  let c0_i32_64 : BitVec 32 := 0#32
  let c1_i32_66 : BitVec 32 := 1#32
  let arg13 : BitVec 32 := Scf.iv c0_i32_64 c1_i32_66 k0_t4
  let v453 : BitVec 32 := Scalar.muli c2_i32_134 arg13
  let c1_i32_135 : BitVec 32 := 1#32
  let v454 : BitVec 32 := Scalar.addi v453 c1_i32_135
  let c256_i32_149 : BitVec 32 := 256#32
  let v480 : BitVec 32 := Scalar.muli v454 c256_i32_149
  let v481 : BitVec 32 := Scalar.addi v480 c0_i32_150
  let v482 : Index := Scalar.indexCast v481
  let c0_151 : Index := 0#32
  ![v482.toNat, 0]
def k0_off30 (k0_t4 : Fin k0_t4_loop.trips) (c0_i32_167 : BitVec 32) : Fin 2 → Nat :=
  let c2_i32_134 : BitVec 32 := 2#32
  let c0_i32_64 : BitVec 32 := 0#32
  let c1_i32_66 : BitVec 32 := 1#32
  let arg13 : BitVec 32 := Scf.iv c0_i32_64 c1_i32_66 k0_t4
  let v453 : BitVec 32 := Scalar.muli c2_i32_134 arg13
  let c1_i32_135 : BitVec 32 := 1#32
  let v454 : BitVec 32 := Scalar.addi v453 c1_i32_135
  let c64_i32_166 : BitVec 32 := 64#32
  let v524 : BitVec 32 := Scalar.muli v454 c64_i32_166
  let v525 : BitVec 32 := Scalar.addi v524 c0_i32_167
  let v526 : Index := Scalar.indexCast v525
  let c0_168 : Index := 0#32
  ![v526.toNat, 0]
def k0_off31 (k0_t4 : Fin k0_t4_loop.trips) (c0_i32_205 : BitVec 32) : Fin 3 → Nat :=
  let c0_i32_64 : BitVec 32 := 0#32
  let c1_i32_66 : BitVec 32 := 1#32
  let arg13 : BitVec 32 := Scf.iv c0_i32_64 c1_i32_66 k0_t4
  let v720 : BitVec 32 := Scalar.addi c0_i32_205 arg13
  let v721 : Index := Scalar.indexCast v720
  let c0_206 : Index := 0#32
  ![v721.toNat, 0, 0]
@[reducible] def k0_t5_loop : Scf.Loop 32 :=
  let c0_i32_68 : BitVec 32 := 0#32
  let c64_i32_69 : BitVec 32 := 64#32
  let v188 : BitVec 32 := Scalar.addi c0_i32_68 c64_i32_69
  let c1_i32_70 : BitVec 32 := 1#32
  ⟨c0_i32_68, v188, c1_i32_70⟩
def k0_mult3 (k0_t5 : Fin k0_t5_loop.trips) : BitVec 32 :=
  let c0_i32_68 : BitVec 32 := 0#32
  let c1_i32_70 : BitVec 32 := 1#32
  let arg13 : BitVec 32 := Scf.iv c0_i32_68 c1_i32_70 k0_t5
  let c128_i32 : BitVec 32 := 128#32
  let v192 : BitVec 32 := Scalar.muli arg13 c128_i32
  v192
def k0_off32 (k0_t5 : Fin k0_t5_loop.trips) (c0_i32_73 : BitVec 32) : Fin 3 → Nat :=
  let c4_i32 : BitVec 32 := 4#32
  let c0_i32_68 : BitVec 32 := 0#32
  let c1_i32_70 : BitVec 32 := 1#32
  let arg13 : BitVec 32 := Scf.iv c0_i32_68 c1_i32_70 k0_t5
  let v194 : BitVec 32 := Scalar.muli c4_i32 arg13
  let v195 : BitVec 32 := Scalar.addi v194 c0_i32_73
  let c17_i32 : BitVec 32 := 17#32
  let v196 : BitVec 32 := Scalar.muli v195 c17_i32
  let v197 : Index := Scalar.indexCast v196
  let c0 : Index := 0#32
  ![v197.toNat, 0, 0]
def k0_off33 (k0_t5 : Fin k0_t5_loop.trips) : Fin 3 → Nat :=
  let c0_74 : Index := 0#32
  let c0_75 : Index := 0#32
  let c0_i32_68 : BitVec 32 := 0#32
  let c1_i32_70 : BitVec 32 := 1#32
  let arg13 : BitVec 32 := Scf.iv c0_i32_68 c1_i32_70 k0_t5
  let c128_i32 : BitVec 32 := 128#32
  let v192 : BitVec 32 := Scalar.muli arg13 c128_i32
  let v193 : BitVec 32 := v192
  let v200 : Index := Scalar.indexCast v193
  ![0, 0, v200.toNat]
def k0_off34 (k0_t5 : Fin k0_t5_loop.trips) : Fin 3 → Nat :=
  let c1_80 : Index := 1#32
  let c0_81 : Index := 0#32
  let c0_i32_68 : BitVec 32 := 0#32
  let c1_i32_70 : BitVec 32 := 1#32
  let arg13 : BitVec 32 := Scf.iv c0_i32_68 c1_i32_70 k0_t5
  let c128_i32 : BitVec 32 := 128#32
  let v192 : BitVec 32 := Scalar.muli arg13 c128_i32
  let v193 : BitVec 32 := v192
  let v210 : Index := Scalar.indexCast v193
  ![1, 0, v210.toNat]
def k0_off35 (k0_t5 : Fin k0_t5_loop.trips) : Fin 3 → Nat :=
  let c2 : Index := 2#32
  let c0_85 : Index := 0#32
  let c0_i32_68 : BitVec 32 := 0#32
  let c1_i32_70 : BitVec 32 := 1#32
  let arg13 : BitVec 32 := Scf.iv c0_i32_68 c1_i32_70 k0_t5
  let c128_i32 : BitVec 32 := 128#32
  let v192 : BitVec 32 := Scalar.muli arg13 c128_i32
  let v193 : BitVec 32 := v192
  let v220 : Index := Scalar.indexCast v193
  ![2, 0, v220.toNat]
def k0_off36 (k0_t5 : Fin k0_t5_loop.trips) : Fin 3 → Nat :=
  let c3 : Index := 3#32
  let c0_90 : Index := 0#32
  let c0_i32_68 : BitVec 32 := 0#32
  let c1_i32_70 : BitVec 32 := 1#32
  let arg13 : BitVec 32 := Scf.iv c0_i32_68 c1_i32_70 k0_t5
  let c128_i32 : BitVec 32 := 128#32
  let v192 : BitVec 32 := Scalar.muli arg13 c128_i32
  let v193 : BitVec 32 := v192
  let v230 : Index := Scalar.indexCast v193
  ![3, 0, v230.toNat]
def k0_cond2 (i : grid0.Coords) : BitVec 1 :=
  let arg1 : BitVec 32 := BitVec.ofNat 32 (i 1).val
  let c5_i32 : BitVec 32 := 5#32
  let v189 : BitVec 1 := Scalar.cmpi .eq arg1 c5_i32
  let v190 : BitVec 32 := Scalar.extui v189
  let c0_i32_72 : BitVec 32 := 0#32
  let v191 : BitVec 1 := Scalar.cmpi .ne v190 c0_i32_72
  v191

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4x32x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x32x8192 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x32x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S24x8192x192 : Shape := ⟨3, ![24, 8192, 192]⟩
abbrev S_ : Shape := ⟨0, ![]⟩
abbrev S7x7x192 : Shape := ⟨3, ![7, 7, 192]⟩
abbrev S24x128x64x192 : Shape := ⟨4, ![24, 128, 64, 192]⟩
abbrev S24x134x70x192 : Shape := ⟨4, ![24, 134, 70, 192]⟩
abbrev S128 : Shape := ⟨1, ![128]⟩
abbrev S128x1 : Shape := ⟨2, ![128, 1]⟩
abbrev S7 : Shape := ⟨1, ![7]⟩
abbrev S1x7 : Shape := ⟨2, ![1, 7]⟩
abbrev S128x7 : Shape := ⟨2, ![128, 7]⟩
abbrev S64 : Shape := ⟨1, ![64]⟩
abbrev S64x1 : Shape := ⟨2, ![64, 1]⟩
abbrev S64x7 : Shape := ⟨2, ![64, 7]⟩
abbrev S128x7x1 : Shape := ⟨3, ![128, 7, 1]⟩
abbrev S24x128x7x70x192 : Shape := ⟨5, ![24, 128, 7, 70, 192]⟩
abbrev S64x7x1 : Shape := ⟨3, ![64, 7, 1]⟩
abbrev S24x128x7x64x7x192 : Shape := ⟨6, ![24, 128, 7, 64, 7, 192]⟩
abbrev S1x1x7x1x7x192 : Shape := ⟨6, ![1, 1, 7, 1, 7, 192]⟩
abbrev S24x128x1x64x1x192 : Shape := ⟨6, ![24, 128, 1, 64, 1, 192]⟩

abbrev nBuf : Space → Nat
  | .hbm => 167
  | .vmem => 0
  | .smem => 0
  | _ => 0

abbrev hbmTy0_0 (i : Nat) : BufTy := match i % 128 with
  | 0 => ⟨S24x8192x192, .i8⟩
  | 1 => ⟨S_, .f32⟩
  | 2 => ⟨S7x7x192, .i16⟩
  | 3 => ⟨S24x8192x192, .i8⟩
  | 4 => ⟨S_, .f32⟩
  | 5 => ⟨S24x8192x192, .i32⟩
  | 6 => ⟨S_, .i32⟩
  | 7 => ⟨S24x8192x192, .i32⟩
  | 8 => ⟨S24x8192x192, .i32⟩
  | 9 => ⟨S_, .i32⟩
  | 10 => ⟨S24x8192x192, .i32⟩
  | 11 => ⟨S24x8192x192, .i32⟩
  | 12 => ⟨S_, .i32⟩
  | 13 => ⟨S24x8192x192, .i32⟩
  | 14 => ⟨S24x8192x192, .i32⟩
  | 15 => ⟨S_, .i32⟩
  | 16 => ⟨S24x8192x192, .i32⟩
  | 17 => ⟨S24x8192x192, .i32⟩
  | 18 => ⟨S_, .i32⟩
  | 19 => ⟨S24x8192x192, .i32⟩
  | 20 => ⟨S24x8192x192, .i32⟩
  | 21 => ⟨S_, .i32⟩
  | 22 => ⟨S24x8192x192, .i32⟩
  | 23 => ⟨S24x8192x192, .i1⟩
  | 24 => ⟨S_, .i32⟩
  | 25 => ⟨S24x8192x192, .i32⟩
  | 26 => ⟨S24x8192x192, .i32⟩
  | 27 => ⟨S_, .i32⟩
  | 28 => ⟨S_, .i32⟩
  | 29 => ⟨S24x8192x192, .i32⟩
  | 30 => ⟨S24x8192x192, .i32⟩
  | 31 => ⟨S_, .i32⟩
  | 32 => ⟨S24x8192x192, .i32⟩
  | 33 => ⟨S24x8192x192, .i32⟩
  | 34 => ⟨S24x8192x192, .i32⟩
  | 35 => ⟨S_, .i32⟩
  | 36 => ⟨S24x8192x192, .i32⟩
  | 37 => ⟨S24x8192x192, .i32⟩
  | 38 => ⟨S24x8192x192, .i32⟩
  | 39 => ⟨S24x8192x192, .f32⟩
  | 40 => ⟨S_, .f32⟩
  | 41 => ⟨S24x8192x192, .f32⟩
  | 42 => ⟨S24x8192x192, .f32⟩
  | 43 => ⟨S_, .i32⟩
  | 44 => ⟨S24x8192x192, .i32⟩
  | 45 => ⟨S24x8192x192, .i1⟩
  | 46 => ⟨S24x8192x192, .f32⟩
  | 47 => ⟨S24x8192x192, .f32⟩
  | 48 => ⟨S_, .i32⟩
  | 49 => ⟨S24x8192x192, .i32⟩
  | 50 => ⟨S24x8192x192, .i1⟩
  | 51 => ⟨S24x8192x192, .f32⟩
  | 52 => ⟨S24x8192x192, .f32⟩
  | 53 => ⟨S24x8192x192, .f32⟩
  | 54 => ⟨S24x8192x192, .f32⟩
  | 55 => ⟨S24x128x64x192, .f32⟩
  | 56 => ⟨S24x8192x192, .i32⟩
  | 57 => ⟨S_, .i32⟩
  | 58 => ⟨S24x8192x192, .i32⟩
  | 59 => ⟨S24x8192x192, .i32⟩
  | 60 => ⟨S_, .i32⟩
  | 61 => ⟨S24x8192x192, .i32⟩
  | 62 => ⟨S24x8192x192, .i32⟩
  | 63 => ⟨S_, .i32⟩
  | 64 => ⟨S24x8192x192, .i32⟩
  | 65 => ⟨S24x8192x192, .i32⟩
  | 66 => ⟨S_, .i32⟩
  | 67 => ⟨S24x8192x192, .i32⟩
  | 68 => ⟨S24x8192x192, .i32⟩
  | 69 => ⟨S_, .i32⟩
  | 70 => ⟨S24x8192x192, .i32⟩
  | 71 => ⟨S24x8192x192, .i32⟩
  | 72 => ⟨S_, .i32⟩
  | 73 => ⟨S24x8192x192, .i32⟩
  | 74 => ⟨S24x8192x192, .i32⟩
  | 75 => ⟨S_, .i32⟩
  | 76 => ⟨S24x8192x192, .i32⟩
  | 77 => ⟨S24x8192x192, .i1⟩
  | 78 => ⟨S_, .i32⟩
  | 79 => ⟨S24x8192x192, .i32⟩
  | 80 => ⟨S24x8192x192, .i32⟩
  | 81 => ⟨S_, .i32⟩
  | 82 => ⟨S24x8192x192, .i32⟩
  | 83 => ⟨S24x8192x192, .i32⟩
  | 84 => ⟨S_, .i32⟩
  | 85 => ⟨S24x8192x192, .i32⟩
  | 86 => ⟨S24x8192x192, .i32⟩
  | 87 => ⟨S24x8192x192, .i32⟩
  | 88 => ⟨S_, .i32⟩
  | 89 => ⟨S_, .i32⟩
  | 90 => ⟨S24x8192x192, .i32⟩
  | 91 => ⟨S24x8192x192, .i32⟩
  | 92 => ⟨S24x8192x192, .i32⟩
  | 93 => ⟨S24x8192x192, .f32⟩
  | 94 => ⟨S_, .f32⟩
  | 95 => ⟨S24x8192x192, .f32⟩
  | 96 => ⟨S24x8192x192, .f32⟩
  | 97 => ⟨S_, .i32⟩
  | 98 => ⟨S24x8192x192, .i32⟩
  | 99 => ⟨S24x8192x192, .i1⟩
  | 100 => ⟨S24x8192x192, .f32⟩
  | 101 => ⟨S24x8192x192, .f32⟩
  | 102 => ⟨S_, .i32⟩
  | 103 => ⟨S24x8192x192, .i32⟩
  | 104 => ⟨S24x8192x192, .i1⟩
  | 105 => ⟨S24x8192x192, .f32⟩
  | 106 => ⟨S24x8192x192, .f32⟩
  | 107 => ⟨S24x8192x192, .f32⟩
  | 108 => ⟨S24x8192x192, .f32⟩
  | 109 => ⟨S24x128x64x192, .f32⟩
  | 110 => ⟨S7x7x192, .bf16⟩
  | 111 => ⟨S7x7x192, .f32⟩
  | 112 => ⟨S7x7x192, .f32⟩
  | 113 => ⟨S_, .i32⟩
  | 114 => ⟨S_, .f32⟩
  | 115 => ⟨S24x134x70x192, .f32⟩
  | 116 => ⟨S128, .i32⟩
  | 117 => ⟨S128x1, .i32⟩
  | 118 => ⟨S7, .i32⟩
  | 119 => ⟨S1x7, .i32⟩
  | 120 => ⟨S128x7, .i32⟩
  | 121 => ⟨S128x7, .i32⟩
  | 122 => ⟨S128x7, .i32⟩
  | 123 => ⟨S64, .i32⟩
  | 124 => ⟨S64x1, .i32⟩
  | 125 => ⟨S7, .i32⟩
  | 126 => ⟨S1x7, .i32⟩
  | 127 => ⟨S64x7, .i32⟩
  | _ => ⟨S24x8192x192, .i8⟩

abbrev hbmTy0_1 (i : Nat) : BufTy := match i % 128 with
  | 0 => ⟨S64x7, .i32⟩
  | 1 => ⟨S64x7, .i32⟩
  | 2 => ⟨S128x7x1, .i32⟩
  | 3 => ⟨S24x128x7x70x192, .f32⟩
  | 4 => ⟨S64x7x1, .i32⟩
  | 5 => ⟨S24x128x7x64x7x192, .f32⟩
  | 6 => ⟨S1x1x7x1x7x192, .f32⟩
  | 7 => ⟨S24x128x7x64x7x192, .f32⟩
  | 8 => ⟨S24x128x7x64x7x192, .f32⟩
  | 9 => ⟨S_, .f32⟩
  | 10 => ⟨S24x128x64x192, .f32⟩
  | 11 => ⟨S_, .i32⟩
  | 12 => ⟨S_, .f32⟩
  | 13 => ⟨S24x134x70x192, .f32⟩
  | 14 => ⟨S128, .i32⟩
  | 15 => ⟨S128x1, .i32⟩
  | 16 => ⟨S7, .i32⟩
  | 17 => ⟨S1x7, .i32⟩
  | 18 => ⟨S128x7, .i32⟩
  | 19 => ⟨S128x7, .i32⟩
  | 20 => ⟨S128x7, .i32⟩
  | 21 => ⟨S64, .i32⟩
  | 22 => ⟨S64x1, .i32⟩
  | 23 => ⟨S7, .i32⟩
  | 24 => ⟨S1x7, .i32⟩
  | 25 => ⟨S64x7, .i32⟩
  | 26 => ⟨S64x7, .i32⟩
  | 27 => ⟨S64x7, .i32⟩
  | 28 => ⟨S128x7x1, .i32⟩
  | 29 => ⟨S24x128x7x70x192, .f32⟩
  | 30 => ⟨S64x7x1, .i32⟩
  | 31 => ⟨S24x128x7x64x7x192, .f32⟩
  | 32 => ⟨S24x128x1x64x1x192, .f32⟩
  | 33 => ⟨S24x128x7x64x7x192, .f32⟩
  | 34 => ⟨S24x128x7x64x7x192, .f32⟩
  | 35 => ⟨S_, .f32⟩
  | 36 => ⟨S7x7x192, .f32⟩
  | 37 => ⟨S24x8192x192, .f32⟩
  | 38 => ⟨S24x8192x192, .bf16⟩
  | _ => ⟨S24x8192x192, .i8⟩

abbrev hbmTy (i : Nat) : BufTy := match i / 128 with
  | 0 => hbmTy0_0 i
  | 1 => hbmTy0_1 i
  | _ => ⟨S24x8192x192, .i8⟩

abbrev bufTy : (tb : Table) → Fin (tcTables nBuf tb) → BufTy
  | .hbm, ⟨i, _⟩ => hbmTy i
  | _, _ => ⟨S24x8192x192, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_c_4 : Ref sig .tc := ⟨.hbm, 21, rfl⟩
abbrev main_v11 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_v14 : Ref sig .tc := ⟨.hbm, 26, rfl⟩
abbrev main_c_6 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c_7 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_8 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_c_9 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_11 : Ref sig .tc := ⟨.hbm, 57, rfl⟩
abbrev main_v37 : Ref sig .tc := ⟨.hbm, 58, rfl⟩
abbrev main_v38 : Ref sig .tc := ⟨.hbm, 59, rfl⟩
abbrev main_c_12 : Ref sig .tc := ⟨.hbm, 60, rfl⟩
abbrev main_v39 : Ref sig .tc := ⟨.hbm, 61, rfl⟩
abbrev main_v40 : Ref sig .tc := ⟨.hbm, 62, rfl⟩
abbrev main_c_13 : Ref sig .tc := ⟨.hbm, 63, rfl⟩
abbrev main_v41 : Ref sig .tc := ⟨.hbm, 64, rfl⟩
abbrev main_v42 : Ref sig .tc := ⟨.hbm, 65, rfl⟩
abbrev main_c_14 : Ref sig .tc := ⟨.hbm, 66, rfl⟩
abbrev main_v43 : Ref sig .tc := ⟨.hbm, 67, rfl⟩
abbrev main_v44 : Ref sig .tc := ⟨.hbm, 68, rfl⟩
abbrev main_c_15 : Ref sig .tc := ⟨.hbm, 69, rfl⟩
abbrev main_v45 : Ref sig .tc := ⟨.hbm, 70, rfl⟩
abbrev main_v46 : Ref sig .tc := ⟨.hbm, 71, rfl⟩
abbrev main_c_16 : Ref sig .tc := ⟨.hbm, 72, rfl⟩
abbrev main_v47 : Ref sig .tc := ⟨.hbm, 73, rfl⟩
abbrev main_v48 : Ref sig .tc := ⟨.hbm, 74, rfl⟩
abbrev main_c_17 : Ref sig .tc := ⟨.hbm, 75, rfl⟩
abbrev main_v49 : Ref sig .tc := ⟨.hbm, 76, rfl⟩
abbrev main_v50 : Ref sig .tc := ⟨.hbm, 77, rfl⟩
abbrev main_c_18 : Ref sig .tc := ⟨.hbm, 78, rfl⟩
abbrev main_v51 : Ref sig .tc := ⟨.hbm, 79, rfl⟩
abbrev main_v52 : Ref sig .tc := ⟨.hbm, 80, rfl⟩
abbrev main_c_19 : Ref sig .tc := ⟨.hbm, 81, rfl⟩
abbrev main_v53 : Ref sig .tc := ⟨.hbm, 82, rfl⟩
abbrev main_v54 : Ref sig .tc := ⟨.hbm, 83, rfl⟩
abbrev main_c_20 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_21 : Ref sig .tc := ⟨.hbm, 88, rfl⟩
abbrev main_call3_v0 : Ref sig .tc := ⟨.hbm, 89, rfl⟩
abbrev main_call3_v1 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_22 : Ref sig .tc := ⟨.hbm, 94, rfl⟩
abbrev main_v61 : Ref sig .tc := ⟨.hbm, 95, rfl⟩
abbrev main_v62 : Ref sig .tc := ⟨.hbm, 96, rfl⟩
abbrev main_c_23 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_24 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_25 : Ref sig .tc := ⟨.hbm, 113, rfl⟩
abbrev main_call6_v0 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call7_v0 : Ref sig .tc := ⟨.hbm, 130, rfl⟩
abbrev main_v92 : Ref sig .tc := ⟨.hbm, 131, rfl⟩
abbrev main_call8_v0 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_26 : Ref sig .tc := ⟨.hbm, 137, rfl⟩
abbrev main_v97 : Ref sig .tc := ⟨.hbm, 138, rfl⟩
abbrev main_c_27 : Ref sig .tc := ⟨.hbm, 139, rfl⟩
abbrev main_call9_v0 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_call10_v0 : Ref sig .tc := ⟨.hbm, 156, rfl⟩
abbrev main_v113 : Ref sig .tc := ⟨.hbm, 157, rfl⟩
abbrev main_call11_v0 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_28 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩

abbrev nD : Nat := 1
abbrev τ : Topo := Topo.v7x

variable {F : FTy → Type} [FloatOps F]
-- ==== Proof.KernelFrame.lean ====
/-
  The frame of the kernel program: the body is run once at symbolic operands (inputs, outputs and scratch at any
  contents), the three loops whose stores are strided by an invariant that keeps each buffer at some contents; the
  two outputs are forgotten, so that nothing is said of what the body leaves in them.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [BitOps F] [∀ e, Nonempty (Elt F e)]

abbrev UU (nD : Nat) (τ : Topo) : Type := UR sig nD τ

local notation "𝕄" => MT nD τ sig Unit (Elt F) ℕ (UR sig nD τ) ℕ

variable (m : (ℓ : Loc nD τ sig) → Buf (Elt F) ℓ) (ρ : Dev nD → PrngReg)

/-- A memref's elements held at `f`. -/
abbrev hd (c : Dev nD) {sp : Space} {S : Shape} {e : EltTy} (M : Memref sig .tc sp S e) (f : BufTy.Contents (Elt F) M.view.ty) : sProp 𝕄 :=
  M.view.loc (c : Thread nD τ) ↦[M.view.set]{fullShare} f

set_option warn.classDefReducibility false

section Loops

variable (c : Dev nD) (i : grid0.Coords)
variable (arg2 : Memref sig .tc .smem S2 .f32) (harg2 : arg2.IsWhole) (arg3 : Memref sig .tc .vmem S4x32x8192 .i8) (harg3 : arg3.IsWhole) (arg4 : Memref sig .tc .vmem S4x32x8192 .i8) (harg4 : arg4.IsWhole) (arg5 : Memref sig .tc .vmem S32x8x128 .i32) (harg5 : arg5.IsWhole) (arg6 : Memref sig .tc .vmem S4x32x8192 .bf16) (harg6 : arg6.IsWhole) (arg7 : Memref sig .tc .vmem S32x128 .f32) (harg7 : arg7.IsWhole) (arg8 : Memref sig .tc .vmem S2216x128 .i32) (harg8 : arg8.IsWhole) (arg9 : Memref sig .tc .vmem S2216x128 .i32) (harg9 : arg9.IsWhole) (arg10 : Memref sig .tc .vmem S8192x128 .i32) (harg10 : arg10.IsWhole) (arg11 : Memref sig .tc .vmem S4360x128 .i32) (harg11 : arg11.IsWhole) (arg12 : Memref sig .tc .vmem S2048x128 .f32) (harg12 : arg12.IsWhole)

/-- The dy ingest loop: dy read, the word scratch at some contents. -/
@[sl_loop] def loopInv_k0_t2 (X4 : BufTy.Contents (Elt F) arg4.view.ty) : Gen.LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 where
  inv k _ := iprop(hd (F := F) c arg4 X4 ∗ (∃ f, hd (F := F) c arg8 f))
  step k acc := by
    unfold k0_t2_body
    iintro ⟨H4, ⟨%f8, H8⟩⟩
    have hk : k.val < 64 := k.isLt
    sl_exec
    sl_step
    isplitl [H4]; · iexact H4
    iexists _; iexact H8

/-- The x ingest loop. -/
@[sl_loop] def loopInv_k0_t3 (X4 : BufTy.Contents (Elt F) arg3.view.ty) : Gen.LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 where
  inv k _ := iprop(hd (F := F) c arg3 X4 ∗ (∃ f, hd (F := F) c arg9 f))
  step k acc := by
    unfold k0_t3_body
    iintro ⟨H4, ⟨%f8, H8⟩⟩
    have hk : k.val < 64 := k.isLt
    sl_exec
    sl_step
    isplitl [H4]; · iexact H4
    iexists _; iexact H8

/-- The loop over channel pairs. -/
@[sl_loop] def loopInv_k0_t4 (v0 : Elt F .f32) (v1 : IVec S8x128 32) (v2 : IVec S8x128 32) (v10 : IVec S64x128 1) (v32 : IVec S8x128 1) (v54 : IVec S8x128 1) (v76 : IVec S8x128 1) (v98 : IVec S8x128 1) (v120 : IVec S8x128 1) (v142 : IVec S8x128 1) (v164 : IVec S8x128 1) (c64_i32_57 : BitVec 32) (c0_i32_58 : BitVec 32) :
    Gen.LoopInvTy_k0_t4 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 v0 v1 v2 v10 v32 v54 v76 v98 v120 v142 v164 c64_i32_57 c0_i32_58 where
  inv k _ := iprop((∃ f, hd (F := F) c arg8 f) ∗ (∃ f, hd (F := F) c arg9 f) ∗ (∃ f, hd (F := F) c arg10 f) ∗ (∃ f, hd (F := F) c arg11 f) ∗ (∃ f, hd (F := F) c arg12 f))
  step k acc := by
    unfold k0_t4_body
    iintro ⟨⟨%f8, H8⟩, ⟨%f9, H9⟩, ⟨%f10, H10⟩, ⟨%f11, H11⟩, ⟨%f12, H12⟩⟩
    have hk : k.val < 16 := k.isLt
    sl_exec
    sl_step
    isplitl [H8]; · iexists _; iexact H8
    isplitl [H9]; · iexists _; iexact H9
    isplitl [H10]; · iexists _; iexact H10
    isplitl [H11]; · iexists _; iexact H11
    iexists _; iexact H12

end Loops

/-! ## The body, run once -/

/-- The body's triple: every buffer at some contents before and after, the two inputs' and the scale's and filter's
    buffers as they were. -/
theorem kernelRun (c : Dev nD) (i : grid0.Coords) (arg2 : Memref sig .tc .smem S2 .f32) (harg2 : arg2.IsWhole) (arg3 : Memref sig .tc .vmem S4x32x8192 .i8) (harg3 : arg3.IsWhole) (arg4 : Memref sig .tc .vmem S4x32x8192 .i8) (harg4 : arg4.IsWhole) (arg5 : Memref sig .tc .vmem S32x8x128 .i32) (harg5 : arg5.IsWhole) (arg6 : Memref sig .tc .vmem S4x32x8192 .bf16) (harg6 : arg6.IsWhole) (arg7 : Memref sig .tc .vmem S32x128 .f32) (harg7 : arg7.IsWhole) (arg8 : Memref sig .tc .vmem S2216x128 .i32) (harg8 : arg8.IsWhole) (arg9 : Memref sig .tc .vmem S2216x128 .i32) (harg9 : arg9.IsWhole) (arg10 : Memref sig .tc .vmem S8192x128 .i32) (harg10 : arg10.IsWhole) (arg11 : Memref sig .tc .vmem S4360x128 .i32) (harg11 : arg11.IsWhole) (arg12 : Memref sig .tc .vmem S2048x128 .f32) (harg12 : arg12.IsWhole)
    (x2 : S2.Idx → Elt F .f32) (x3 x4 : S4x32x8192.Idx → Elt F .i8) (x5 : S32x8x128.Idx → Elt F .i32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ d, owns (c : Thread nD τ) arg12 fullShare d)
        ∗ (iprop(owns (c : Thread nD τ) arg2 fullShare x2 ∗ owns (c : Thread nD τ) arg3 fullShare x3 ∗ owns (c : Thread nD τ) arg4 fullShare x4
        ∗ owns (c : Thread nD τ) arg5 fullShare x5
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ d, owns (c : Thread nD τ) arg12 fullShare d)) -∗ K ⟨⟩))
      ⊢ wp frame (wpE (defs₀ (F := F)) Variants.none c none) Set.univ (cc0__body (F := F) i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  by_cases hc1 : k0_cond1 i = 1#1 <;> by_cases hc2 : k0_cond2 i = 1#1
  all_goals
    sl_exec
    sl_step
    iapply Hk
    isplitl [H2]; · iexists _; isplitr; swap; · iexact H2
                    ipureintro; exact h2
    isplitl [H3]; · iexists _; isplitr; swap; · iexact H3
                    ipureintro; exact h3
    isplitl [H4]; · iexists _; isplitr; swap; · iexact H4
                    ipureintro; exact h4
    isplitl [H5]; · iexists _; isplitr; swap; · iexact H5
                    ipureintro; exact h5
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    isplitl [H9]; · iexists _, _; isplitr; swap; · iexact H9
                    ipureintro; rfl
    isplitl [H10]; · iexists _, _; isplitr; swap; · iexact H10
                     ipureintro; rfl
    isplitl [H11]; · iexists _, _; isplitr; swap; · iexact H11
                     ipureintro; rfl
    iexists _, _; isplitr; swap; · iexact H12
    ipureintro; rfl

/-! ## The proof data -/

/-- The two outputs are forgotten. -/
def forgets0 : Fin 6 → Bool := fun | 0 => false | 1 => false | 2 => false | 3 => false | 4 => true | 5 => true | ⟨_ + 6, h⟩ => absurd h (Nat.not_lt.2 (Nat.le_add_left _ _))

/-- The proof data on core `c`: the arrays as the region finds them, the inputs' blocks left in place, the outputs unnamed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
    | 5 => Pipeline.Dat.unnamed (cfg := cfg0) 5 t
    | ⟨_ + 6, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d

/-- The invariant, conjunct by conjunct. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare d)
    ∗ (∃ d, owns (c : Thread nD τ) (win0_5.stage (cfg0.slots t 5)) fullShare d))
def bodyPost (c : Dev nD) (t : Fin cfg0.N) : sProp 𝕄 :=
  iprop((dats m 0 c).Φ t.succ ∗ (dats m 0 c).owesAt () t.succ
    ∗ (owns (c : Thread nD τ) (win0_0.stage (cfg0.slots t 0)) fullShare (iblk m c 0 t))
    ∗ (owns (c : Thread nD τ) (win0_1.stage (cfg0.slots t 1)) fullShare (iblk m c 1 t))
    ∗ (owns (c : Thread nD τ) (win0_2.stage (cfg0.slots t 2)) fullShare (iblk m c 2 t))
    ∗ (owns (c : Thread nD τ) (win0_3.stage (cfg0.slots t 3)) fullShare (iblk m c 3 t))
    ∗ (∃ d, owns (c : Thread nD τ) (win0_4.stage (cfg0.slots t 4)) fullShare d)
    ∗ (∃ d, owns (c : Thread nD τ) (win0_5.stage (cfg0.slots t 5)) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [before0, before1, before2, before3]
  iintro ⟨⟨⟨S0, S1, S2, S3, S4⟩, Hg⟩, HO, ⟨%_, H0⟩, ⟨%_, H1⟩, ⟨%_, H2⟩, ⟨%_, H3⟩, H4, H5⟩
  iapply (kernelRun c _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  isplitl [S4]; · iexact S4
  iintro ⟨H0, H1, H2, H3, H4, H5, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [HO]; · iexact HO
  isplitl [H0]; · iexact H0
  isplitl [H1]; · iexact H1
  isplitl [H2]; · iexact H2
  isplitl [H3]; · iexact H3
  isplitl [H4]; · iexact H4
  iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 2000000 in
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-- The buffers that the host lines after the region write. -/
def T0 : Finset (Ref sig .tc) := {main_v115, main_v116, main_v117, main_v118}

theorem sfx_writes : ∀ ops ∈ ([hostOps1] : List (List (HloOp τ sig (Elt F)))), ∀ op ∈ ops, ∀ b : Ref sig .tc,
    Proc.devRef .tc b ∈ op.writes → b ∈ T0 := by
  intro ops h op hop b hb
  simp only [List.mem_singleton] at h; subst h
  simp only [hostOps1, List.mem_cons, List.not_mem_nil, or_false] at hop
  rcases hop with rfl | rfl | rfl | rfl <;>
  simp only [StableHlo.unary_writes, StableHlo.reshape_writes, Finset.mem_singleton] at hb
  · have h2 : b = main_v115 := by by_contra hne; exact StableHlo.devRef_ne_of_ne hne hb
    subst h2; decide
  · have h2 : b = main_v116 := by by_contra hne; exact StableHlo.devRef_ne_of_ne hne hb
    subst h2; decide
  · have h2 : b = main_v117 := by by_contra hne; exact StableHlo.devRef_ne_of_ne hne hb
    subst h2; decide
  · have h2 : b = main_v118 := by by_contra hne; exact StableHlo.devRef_ne_of_ne hne hb
    subst h2; decide

set_option backward.isDefEq.respectTransparency.types false in
/-- From any memory with zero counters every execution of @main terminates, with the counters at zero, and leaves every
    buffer that is no window's array and that no later host line writes as the region found it, the input arrays too. -/
theorem run_main :
    θ_run defs (onTc (τ := τ) (main (F := F))) (s₀ m ρ)
      (fun r => Pipeline.RDat.FramePostR (cfgs 0) (fun c => (dats m 0 c).toRForget forgets0) T0 (fun c b => V0 m c (Proc.devRef .tc b)) r
        ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The frame: the arguments end unchanged and the counters read zero. -/
theorem frame_quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Finset.mem_sdiff.2 ⟨Pipeline.mem_restRefs_of main_arg0 (by decide) (by decide), by decide⟩)).trans (V_main_arg0 m c),
     ((h.1 c).2 main_arg1 (Finset.mem_sdiff.2 ⟨Pipeline.mem_restRefs_of main_arg1 (by decide) (by decide), by decide⟩)).trans (V_main_arg1 m c),
     ((h.1 c).2 main_arg2 (Finset.mem_sdiff.2 ⟨Pipeline.mem_restRefs_of main_arg2 (by decide) (by decide), by decide⟩)).trans (V_main_arg2 m c),
     ((h.1 c).2 main_arg3 (Finset.mem_sdiff.2 ⟨Pipeline.mem_restRefs_of main_arg3 (by decide) (by decide), by decide⟩)).trans (V_main_arg3 m c),
     ((h.1 c).2 main_arg4 (Finset.mem_sdiff.2 ⟨Pipeline.mem_restRefs_of main_arg4 (by decide) (by decide), by decide⟩)).trans (V_main_arg4 m c)⟩, h.2⟩) (run_main m ρ)

end Cert.Kernel.Hand

end
-- ==== Proof.Words.lean ====
/-
  Words: the 4 × 4 byte transpose of four 32-bit words, and the places that strided stores of the two word scratches
  write.
-/
module

public import proofs.«01_k».proof.Proof.Gen.KernelIdeal.Frame
public import Idealize.ShloMosaic.Lib.WritesUnit
public import Idealize.ShloMosaic.Lib.BitcastFour
public import Idealize.ShloMosaic.Lib.ValueIdxCoords
public import Idealize.ShloMosaic.Lib.Tactic

@[expose] public section

set_option maxRecDepth 16384

namespace Cert.KernelIdeal.Val

open Cert.KernelIdeal Cert.KernelIdeal.Gen
open Idealize.ShloMosaic Idealize.ShloMosaic.ValueIdx

/-- Byte `q` of a word. -/
def byt (w : BitVec 32) (q : ℕ) : BitVec 8 := w.extractLsb' (8 * q) 8

theorem byt_getLsbD (w : BitVec 32) (q i : ℕ) (hi : i < 8) : (byt w q).getLsbD i = w.getLsbD (8 * q + i) := by
  simp [byt, BitVec.getLsbD_extractLsb', hi]

/-- The first exchange of a pair: the words `a` and `b` swap their odd and even bytes. -/
def sw8a (a b : BitVec 32) : BitVec 32 := a ^^^ ((((a >>> 8) ^^^ b) &&& 16711935#32) <<< 8)
def sw8b (a b : BitVec 32) : BitVec 32 := b ^^^ (((a >>> 8) ^^^ b) &&& 16711935#32)
/-- The second exchange: halves. -/
def sw16a (a b : BitVec 32) : BitVec 32 := a ^^^ ((((a >>> 16) ^^^ b) &&& 65535#32) <<< 16)
def sw16b (a b : BitVec 32) : BitVec 32 := b ^^^ (((a >>> 16) ^^^ b) &&& 65535#32)

theorem xor_self_mid (x y : Bool) : (x ^^ (y ^^ x)) = y := by cases x <;> cases y <;> rfl
theorem xor_self_mid' (x y : Bool) : (x ^^ (x ^^ y)) = y := by cases x <;> cases y <;> rfl

theorem tr0 (a b c d : BitVec 32) (q : Fin 4) : byt (sw16a (sw8a a b) (sw8a c d)) q.val = byt (![a, b, c, d] q) 0 := by
  fin_cases q <;> (ext i hi; interval_cases i <;> simp [byt, sw16a, sw8a, BitVec.getLsbD_extractLsb', xor_self_mid, xor_self_mid'])

theorem tr1 (a b c d : BitVec 32) (q : Fin 4) : byt (sw16a (sw8b a b) (sw8b c d)) q.val = byt (![a, b, c, d] q) 1 := by
  fin_cases q <;> (ext i hi; interval_cases i <;> simp [byt, sw16a, sw8b, BitVec.getLsbD_extractLsb', xor_self_mid, xor_self_mid'])

theorem tr2 (a b c d : BitVec 32) (q : Fin 4) : byt (sw16b (sw8a a b) (sw8a c d)) q.val = byt (![a, b, c, d] q) 2 := by
  fin_cases q <;> (ext i hi; interval_cases i <;> simp [byt, sw16b, sw8a, BitVec.getLsbD_extractLsb', xor_self_mid, xor_self_mid'])

theorem tr3 (a b c d : BitVec 32) (q : Fin 4) : byt (sw16b (sw8b a b) (sw8b c d)) q.val = byt (![a, b, c, d] q) 3 := by
  fin_cases q <;> (ext i hi; interval_cases i <;> simp [byt, sw16b, sw8b, BitVec.getLsbD_extractLsb', xor_self_mid, xor_self_mid'])

/-- Byte `q` of a word of four rows of bytes. -/
theorem byt_bitcast {R r n : Nat} (x : (⟨2, ![R, n]⟩ : Shape).Idx → BitVec 8)
    (h : (⟨2, ![R, n]⟩ : Shape).Bitcasts 8 ⟨2, ![r, n]⟩ 32) (a : Fin r) (l : Fin n) (q : Nat) (hq : q < 4) (p : Fin R)
    (hp : p.val = 4 * a.val + q) :
    byt (bitcast ⟨2, ![r, n]⟩ 32 x h (ix2 a l)) q = x (ix2 p l) := by
  apply BitVec.eq_of_getLsbD_eq
  intro i hi
  rw [byt_getLsbD _ _ _ hi, bitcast_8_32_getLsbD_ix2 x h a l _ (by omega) p (by omega)]
  congr 1; omega

section Strided

variable {κ : Kind} {sp : Space} {e : EltTy} {Val : EltTy → Type}

/-- A strided store of eight rows, read at one of them. -/
theorem read_str_hit (v : View sig κ sp S2216x128 e) (f : v.ty.Contents Val) (off : Fin 2 → ℕ) (o : ℕ)
    (ho : off = ![o, 0]) (inb) (sp') (w : S8x128.Idx → Val e) (L : List (View.Piece Val S2216x128 e)) (row : Fin 2216) (l : Fin 128)
    (s : Fin 8) (h : row.val = o + 276 * s.val) :
    v.read Val (v.writes Val f (⟨({ off := off, size := S8x128.size, stride := ![276, 1], inb := inb, stride_pos := sp' } : Rect S2216x128), w⟩ :: L)) (ix2 row l)
      = w (ix2 s l) := by
  subst ho
  refine View.read_writes_cons_hit_of_coords v f ({ off := ![o, 0], size := S8x128.size, stride := ![276, 1], inb := inb, stride_pos := sp' } : Rect S2216x128) w L (ix2 s l) (ix2 row l) ?_
  intro a
  match a with
  | ⟨0, _⟩ => exact h
  | ⟨1, _⟩ => show l.val = 0 + 1 * l.val; omega

theorem read_str_miss (v : View sig κ sp S2216x128 e) (f : v.ty.Contents Val) (off : Fin 2 → ℕ) (o : ℕ)
    (ho : off = ![o, 0]) (inb) (sp') (w : S8x128.Idx → Val e) (L : List (View.Piece Val S2216x128 e)) (row : Fin 2216) (l : Fin 128)
    (h : ∀ s, s < 8 → row.val ≠ o + 276 * s) :
    v.read Val (v.writes Val f (⟨({ off := off, size := S8x128.size, stride := ![276, 1], inb := inb, stride_pos := sp' } : Rect S2216x128), w⟩ :: L)) (ix2 row l)
      = v.read Val (v.writes Val f L) (ix2 row l) := by
  subst ho
  refine View.read_writes_cons_miss v f _ L _ ?_
  rw [LoadRect.mem_set]
  intro hm
  obtain ⟨s, hs, e⟩ := hm (⟨0, by decide⟩ : Fin 2)
  exact h s hs e

/-- A store of whole rows `[o, o + W)`, read at one of them. -/
theorem rd_hit {R n W : ℕ} (v : View sig κ sp ⟨2, ![R, n]⟩ e) (f : v.ty.Contents Val) (off : Fin 2 → ℕ) (o : ℕ) (ho : off = ![o, 0])
    (inb : ∀ a : Fin 2, off a + (![W, n] : Fin 2 → ℕ) a ≤ (![R, n] : Fin 2 → ℕ) a) (w : (⟨2, ![W, n]⟩ : Shape).Idx → Val e)
    (L : List (View.Piece Val ⟨2, ![R, n]⟩ e)) (row : Fin R) (l : Fin n) (s : Fin W) (h : row.val = o + s.val) :
    v.read Val (v.writes Val f (⟨Rect.unit (s := ⟨2, ![R, n]⟩) off ![W, n] inb, w⟩ :: L)) (ix2 row l) = w (ix2 s l) :=
  View.read_writes_cons_rows_of_mem v f inb w L (ix2 row l) (ix2 s l) ho h rfl

theorem rd_miss {R n : ℕ} (W : ℕ) (v : View sig κ sp ⟨2, ![R, n]⟩ e) (f : v.ty.Contents Val) (off : Fin 2 → ℕ) (o : ℕ) (ho : off = ![o, 0])
    (inb : ∀ a : Fin 2, off a + (![W, n] : Fin 2 → ℕ) a ≤ (![R, n] : Fin 2 → ℕ) a) (w : (⟨2, ![W, n]⟩ : Shape).Idx → Val e)
    (L : List (View.Piece Val ⟨2, ![R, n]⟩ e)) (row : Fin R) (l : Fin n) (h : row.val < o ∨ o + W ≤ row.val) :
    v.read Val (v.writes Val f (⟨Rect.unit (s := ⟨2, ![R, n]⟩) off ![W, n] inb, w⟩ :: L)) (ix2 row l)
      = v.read Val (v.writes Val f L) (ix2 row l) :=
  View.read_writes_cons_rows_of_not_mem v f inb w L (ix2 row l) ho (W := W) rfl h

end Strided

end Cert.KernelIdeal.Val

end
-- ==== Proof.Ingest.lean ====
/-
  The ingest loops: trip `j` turns the four images' columns `128 j … 128 j + 127` of one operand into words, one word per
  channel and column, byte `q` of it image `q`.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import proofs.«01_k».proof.Proof.Words
public import Idealize.ShloMosaic.Lib.ValueLayout
public import Idealize.ShloMosaic.Lib.Pipeline.Value
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds
open Idealize.ShloMosaic.ValueIdx

variable {F : FTy → Type} [FloatOps F] [∀ e, Nonempty (Elt F e)]

local notation "𝕄" => MT nD τ sig Unit (Elt F) ℕ (UR sig nD τ) ℕ

/-- A memref's elements held at `f`. -/
abbrev hd (c : Dev nD) {sp : Space} {S : Shape} {e : EltTy} (M : Memref sig .tc sp S e) (f : BufTy.Contents (Elt F) M.view.ty) : sProp 𝕄 :=
  M.view.loc (c : Thread nD τ) ↦[M.view.set]{fullShare} f

set_option warn.classDefReducibility false

/-- What the first `k` trips have left: the words of columns below `128 k`. -/
def IngP (X : S4x32x8192.Idx → BitVec 8) (k : ℕ) (g : S2216x128.Idx → BitVec 32) : Prop :=
  ∀ (c : Fin 32) (j : Fin 64) (l : Fin 128) (q : Fin 4), j.val < k →
    byt (g (ix2 (⟨c.val * 69 + 2 + j.val, by omega⟩ : Fin 2216) l)) q.val
      = X (ix3 q c (⟨128 * j.val + l.val, by omega⟩ : Fin 8192))

/-- The two rows above and the two rows below every channel's image are zero. -/
def HaloP (g : S2216x128.Idx → BitVec 32) : Prop :=
  ∀ (c : Fin 32) (r : Fin 68) (l : Fin 128), r.val < 2 ∨ 66 ≤ r.val →
    g (ix2 (⟨c.val * 69 + r.val, by omega⟩ : Fin 2216) l) = 0#32

/-- The halo rows of the first `k` channels are zero. -/
def HaloK (k : ℕ) (g : S2216x128.Idx → BitVec 32) : Prop :=
  ∀ (c : Fin 32) (r : Fin 68) (l : Fin 128), c.val < k → (r.val < 2 ∨ 66 ≤ r.val) →
    g (ix2 (⟨c.val * 69 + r.val, by omega⟩ : Fin 2216) l) = 0#32

theorem haloP_of {g : S2216x128.Idx → BitVec 32} (h : HaloK 32 g) : HaloP g := fun c r l hr => h c r l c.isLt hr

theorem haloK_of {g : S2216x128.Idx → BitVec 32} (h : HaloP g) : HaloK 32 g := fun c r l _ hr => h c r l hr

theorem IngP_zero (X : S4x32x8192.Idx → BitVec 8) (g : S2216x128.Idx → BitVec 32) : IngP X 0 g := fun c j l q h => absurd h (Nat.not_lt_zero _)

theorem HaloK_zero (g : S2216x128.Idx → BitVec 32) : HaloK 0 g := fun c r l h => absurd h (Nat.not_lt_zero _)

/-- Nothing before the first trip, `P` after. -/
def UpTo (k : ℕ) (P : Prop) : Prop :=
  match k with
  | 0 => True
  | _ + 1 => P

theorem UpTo.get {k : ℕ} {P : Prop} (h : UpTo k P) (h0 : k = 0 → P) : P := by
  cases k with
  | zero => exact h0 rfl
  | succ k => exact h

theorem IngP_get {X : S4x32x8192.Idx → BitVec 8} {k : ℕ} {g : S2216x128.Idx → BitVec 32} (h : UpTo k (IngP X k g)) : IngP X k g :=
  h.get fun e => e ▸ IngP_zero X g

theorem HaloK_get {k : ℕ} {g : S2216x128.Idx → BitVec 32} (h : UpTo k (HaloK k g)) : HaloK k g :=
  h.get fun e => e ▸ HaloK_zero g

section Step

variable {κ : Kind} {sp : Space} {Val : EltTy → Type}

theorem ing_step (v : View sig κ sp S2216x128 .i32) (f : v.ty.Contents (Elt F)) (X : S4x32x8192.Idx → BitVec 8) (k : ℕ) (hk : k < 64)
    (o0 o1 o2 o3 : Fin 2 → ℕ) (h0 : o0 = ![2 + k, 0]) (h1 : o1 = ![71 + k, 0]) (h2 : o2 = ![140 + k, 0]) (h3 : o3 = ![209 + k, 0])
    (i0 i1 i2 i3) (s0 s1 s2 s3) (w0 w1 w2 w3 : S8x128.Idx → BitVec 32)
    (e0 : ∀ (s : Fin 8) (l : Fin 128) (q : Fin 4), byt (w0 (ix2 s l)) q.val = X (ix3 q (⟨4 * s.val + 0, by omega⟩ : Fin 32) (⟨128 * k + l.val, by omega⟩ : Fin 8192)))
    (e1 : ∀ (s : Fin 8) (l : Fin 128) (q : Fin 4), byt (w1 (ix2 s l)) q.val = X (ix3 q (⟨4 * s.val + 1, by omega⟩ : Fin 32) (⟨128 * k + l.val, by omega⟩ : Fin 8192)))
    (e2 : ∀ (s : Fin 8) (l : Fin 128) (q : Fin 4), byt (w2 (ix2 s l)) q.val = X (ix3 q (⟨4 * s.val + 2, by omega⟩ : Fin 32) (⟨128 * k + l.val, by omega⟩ : Fin 8192)))
    (e3 : ∀ (s : Fin 8) (l : Fin 128) (q : Fin 4), byt (w3 (ix2 s l)) q.val = X (ix3 q (⟨4 * s.val + 3, by omega⟩ : Fin 32) (⟨128 * k + l.val, by omega⟩ : Fin 8192)))
    (hf : IngP X k (v.read (Elt F) f)) :
    IngP X (k + 1) (v.read (Elt F) (v.writes (Elt F) f
      [⟨({ off := o3, size := S8x128.size, stride := ![276, 1], inb := i3, stride_pos := s3 } : Rect S2216x128), w3⟩,
       ⟨({ off := o2, size := S8x128.size, stride := ![276, 1], inb := i2, stride_pos := s2 } : Rect S2216x128), w2⟩,
       ⟨({ off := o1, size := S8x128.size, stride := ![276, 1], inb := i1, stride_pos := s1 } : Rect S2216x128), w1⟩,
       ⟨({ off := o0, size := S8x128.size, stride := ![276, 1], inb := i0, stride_pos := s0 } : Rect S2216x128), w0⟩])) := by
  intro c j l q hj
  have hc := c.isLt
  have hjj := j.isLt
  rcases Nat.lt_or_ge j.val k with hlt | hge
  · rw [read_str_miss v f o3 _ h3 _ _ _ _ _ _ (by intro s hs; dsimp only; omega), read_str_miss v f o2 _ h2 _ _ _ _ _ _ (by intro s hs; dsimp only; omega),
      read_str_miss v f o1 _ h1 _ _ _ _ _ _ (by intro s hs; dsimp only; omega), read_str_miss v f o0 _ h0 _ _ _ _ _ _ (by intro s hs; dsimp only; omega)]
    exact hf c j l q hlt
  · have ejk : j.val = k := by omega
    have h4 : c.val % 4 = 0 ∨ c.val % 4 = 1 ∨ c.val % 4 = 2 ∨ c.val % 4 = 3 := by omega
    have hq4 : c.val / 4 < 8 := by omega
    rcases h4 with h | h | h | h
    · rw [read_str_miss v f o3 _ h3 _ _ _ _ _ _ (by intro s hs; dsimp only; omega), read_str_miss v f o2 _ h2 _ _ _ _ _ _ (by intro s hs; dsimp only; omega),
        read_str_miss v f o1 _ h1 _ _ _ _ _ _ (by intro s hs; dsimp only; omega),
        read_str_hit v f o0 _ h0 _ _ _ _ _ _ ⟨c.val / 4, hq4⟩ (by dsimp only; omega), e0]
      congr 1; congr 1
      · exact Fin.ext (by dsimp only; omega)
      · exact Fin.ext (by dsimp only; omega)
    · rw [read_str_miss v f o3 _ h3 _ _ _ _ _ _ (by intro s hs; dsimp only; omega), read_str_miss v f o2 _ h2 _ _ _ _ _ _ (by intro s hs; dsimp only; omega),
        read_str_hit v f o1 _ h1 _ _ _ _ _ _ ⟨c.val / 4, hq4⟩ (by dsimp only; omega), e1]
      congr 1; congr 1
      · exact Fin.ext (by dsimp only; omega)
      · exact Fin.ext (by dsimp only; omega)
    · rw [read_str_miss v f o3 _ h3 _ _ _ _ _ _ (by intro s hs; dsimp only; omega),
        read_str_hit v f o2 _ h2 _ _ _ _ _ _ ⟨c.val / 4, hq4⟩ (by dsimp only; omega), e2]
      congr 1; congr 1
      · exact Fin.ext (by dsimp only; omega)
      · exact Fin.ext (by dsimp only; omega)
    · rw [read_str_hit v f o3 _ h3 _ _ _ _ _ _ ⟨c.val / 4, hq4⟩ (by dsimp only; omega), e3]
      congr 1; congr 1
      · exact Fin.ext (by dsimp only; omega)
      · exact Fin.ext (by dsimp only; omega)

theorem halo_step (v : View sig κ sp S2216x128 .i32) (f : v.ty.Contents (Elt F)) (k : ℕ) (hk : k < 64)
    (o0 o1 o2 o3 : Fin 2 → ℕ) (h0 : o0 = ![2 + k, 0]) (h1 : o1 = ![71 + k, 0]) (h2 : o2 = ![140 + k, 0]) (h3 : o3 = ![209 + k, 0])
    (i0 i1 i2 i3) (s0 s1 s2 s3) (w0 w1 w2 w3 : S8x128.Idx → BitVec 32)
    (hf : HaloP (v.read (Elt F) f)) :
    HaloP (v.read (Elt F) (v.writes (Elt F) f
      [⟨({ off := o3, size := S8x128.size, stride := ![276, 1], inb := i3, stride_pos := s3 } : Rect S2216x128), w3⟩,
       ⟨({ off := o2, size := S8x128.size, stride := ![276, 1], inb := i2, stride_pos := s2 } : Rect S2216x128), w2⟩,
       ⟨({ off := o1, size := S8x128.size, stride := ![276, 1], inb := i1, stride_pos := s1 } : Rect S2216x128), w1⟩,
       ⟨({ off := o0, size := S8x128.size, stride := ![276, 1], inb := i0, stride_pos := s0 } : Rect S2216x128), w0⟩])) := by
  intro c r l hr
  have hc := c.isLt
  have hrr := r.isLt
  rw [read_str_miss v f o3 _ h3 _ _ _ _ _ _ (by intro s hs; dsimp only; omega), read_str_miss v f o2 _ h2 _ _ _ _ _ _ (by intro s hs; dsimp only; omega),
      read_str_miss v f o1 _ h1 _ _ _ _ _ _ (by intro s hs; dsimp only; omega), read_str_miss v f o0 _ h0 _ _ _ _ _ _ (by intro s hs; dsimp only; omega)]
  exact hf c r l hr

end Step

/-- Four rows of codes of one image as words. -/
def wrd (x : S1x32x128.Idx → BitVec 8) : IVec S8x128 32 :=
  bitcast S8x128 32 (shapeCast S32x128 x shapeCasts_S1x32x128_S32x128) bitcasts_S32x128_w8_S8x128_w32

theorem byt_wrd (x : S1x32x128.Idx → BitVec 8) (s : Fin 8) (l : Fin 128) (k : ℕ) (hk : k < 4) :
    byt (wrd x (ix2 s l)) k = x (ix3 (0 : Fin 1) (⟨4 * s.val + k, by omega⟩ : Fin 32) l) := by
  unfold wrd
  refine (byt_bitcast (R := 32) (r := 8) (n := 128) _ bitcasts_S32x128_w8_S8x128_w32 s l k hk ⟨4 * s.val + k, by omega⟩ rfl).trans ?_
  exact shapeCast_1ab_ab_apply (a := 32) (b := 128) x shapeCasts_S1x32x128_S32x128 _ _

theorem byt_load1 {sp : Space} (arg4 : Memref sig .tc sp S4x32x8192 .i8) (X : BufTy.Contents (Elt F) arg4.view.ty) (k : ℕ) (hk : k < 64)
    (q : Fin 4) (o : Fin 3 → ℕ) (h : o = ![q.val, 0, 128 * k]) (i0) (b : ℕ) (hb : b < 4) (s : Fin 8) (l : Fin 128) :
    byt (wrd (View.readAt (Elt F) arg4.view (Rect.unit (s := S4x32x8192) o S1x32x128.size i0).toLoadRect X) (ix2 s l)) b
      = arg4.view.read (Elt F) X (ix3 q (⟨4 * s.val + b, by omega⟩ : Fin 32) (⟨128 * k + l.val, by omega⟩ : Fin 8192)) := by
  subst h
  rw [byt_wrd _ s l b hb, View.readAt_apply]
  refine congrArg (arg4.view.read (Elt F) X) ?_
  funext a
  match a with
  | ⟨0, _⟩ => exact Fin.ext (by show q.val + 1 * 0 = q.val; omega)
  | ⟨1, _⟩ => exact Fin.ext (by show 0 + 1 * (4 * s.val + b) = 4 * s.val + b; omega)
  | ⟨2, _⟩ => exact Fin.ext (by show 128 * k + 1 * l.val = 128 * k + l.val; omega)

theorem byt_vec4 (A B C D : BitVec 32) (b : ℕ) (T : Fin 4 → BitVec 8) (hA : byt A b = T 0) (hB : byt B b = T 1) (hC : byt C b = T 2)
    (hD : byt D b = T 3) (q : Fin 4) : byt (![A, B, C, D] q) b = T q := by
  fin_cases q
  · exact hA
  · exact hB
  · exact hC
  · exact hD

/-- Images `q = 0 … 3` of a block at columns from `128 k`: what the loads of a trip hold. -/
theorem byt_loads {sp : Space} (arg4 : Memref sig .tc sp S4x32x8192 .i8) (X : BufTy.Contents (Elt F) arg4.view.ty) (k : ℕ) (hk : k < 64)
    (o0 o1 o2 o3 : Fin 3 → ℕ) (h0 : o0 = ![0, 0, 128 * k]) (h1 : o1 = ![1, 0, 128 * k]) (h2 : o2 = ![2, 0, 128 * k]) (h3 : o3 = ![3, 0, 128 * k])
    (i0 i1 i2 i3) (b : ℕ) (hb : b < 4) (s : Fin 8) (l : Fin 128) (q : Fin 4) :
    byt (![wrd (View.readAt (Elt F) arg4.view (Rect.unit (s := S4x32x8192) o0 S1x32x128.size i0).toLoadRect X) (ix2 s l),
           wrd (View.readAt (Elt F) arg4.view (Rect.unit (s := S4x32x8192) o1 S1x32x128.size i1).toLoadRect X) (ix2 s l),
           wrd (View.readAt (Elt F) arg4.view (Rect.unit (s := S4x32x8192) o2 S1x32x128.size i2).toLoadRect X) (ix2 s l),
           wrd (View.readAt (Elt F) arg4.view (Rect.unit (s := S4x32x8192) o3 S1x32x128.size i3).toLoadRect X) (ix2 s l)] q) b
      = arg4.view.read (Elt F) X (ix3 q (⟨4 * s.val + b, by omega⟩ : Fin 32) (⟨128 * k + l.val, by omega⟩ : Fin 8192)) := by
  exact byt_vec4 _ _ _ _ b (fun q => arg4.view.read (Elt F) X (ix3 q (⟨4 * s.val + b, by omega⟩ : Fin 32) (⟨128 * k + l.val, by omega⟩ : Fin 8192)))
    (byt_load1 (F := F) arg4 X k hk 0 o0 h0 i0 b hb s l) (byt_load1 (F := F) arg4 X k hk 1 o1 h1 i1 b hb s l)
    (byt_load1 (F := F) arg4 X k hk 2 o2 h2 i2 b hb s l) (byt_load1 (F := F) arg4 X k hk 3 o3 h3 i3 b hb s l) q

theorem k0_pay307_apply (x y : IVec S8x128 32) (j : S8x128.Idx) : k0_pay307 x y 16#32 j = x j ^^^ (y j <<< 16) := by
  unfold k0_pay307; rw [shapeCast_self]; rfl
theorem k0_pay308_apply (x y : IVec S8x128 32) (j : S8x128.Idx) : k0_pay308 x y j = sw16a (x j) (y j) := by
  unfold k0_pay308; rw [shapeCast_self]; rfl
theorem k0_pay309_apply (x y : IVec S8x128 32) (j : S8x128.Idx) : k0_pay309 x y j = x j ^^^ y j := by
  unfold k0_pay309; rw [shapeCast_self]; rfl
theorem k0_pay310_apply (x y : IVec S8x128 32) (j : S8x128.Idx) : k0_pay310 x y j = sw16b (x j) (y j) := by
  unfold k0_pay310; rw [shapeCast_self]; rfl

theorem k0_pay312_apply (x y : IVec S8x128 32) (j : S8x128.Idx) : k0_pay312 x y 16#32 j = x j ^^^ (y j <<< 16) := by
  unfold k0_pay312; rw [shapeCast_self]; rfl
theorem k0_pay313_apply (x y : IVec S8x128 32) (j : S8x128.Idx) : k0_pay313 x y j = sw16a (x j) (y j) := by
  unfold k0_pay313; rw [shapeCast_self]; rfl
theorem k0_pay314_apply (x y : IVec S8x128 32) (j : S8x128.Idx) : k0_pay314 x y j = x j ^^^ y j := by
  unfold k0_pay314; rw [shapeCast_self]; rfl
theorem k0_pay315_apply (x y : IVec S8x128 32) (j : S8x128.Idx) : k0_pay315 x y j = sw16b (x j) (y j) := by
  unfold k0_pay315; rw [shapeCast_self]; rfl

section Loops

variable (c : Dev nD) (i : grid0.Coords)
variable (arg2 : Memref sig .tc .smem S2 .f32) (harg2 : arg2.IsWhole) (arg3 : Memref sig .tc .vmem S4x32x8192 .i8) (harg3 : arg3.IsWhole) (arg4 : Memref sig .tc .vmem S4x32x8192 .i8) (harg4 : arg4.IsWhole) (arg5 : Memref sig .tc .vmem S32x8x128 .i32) (harg5 : arg5.IsWhole) (arg6 : Memref sig .tc .vmem S4x32x8192 .bf16) (harg6 : arg6.IsWhole) (arg7 : Memref sig .tc .vmem S32x128 .f32) (harg7 : arg7.IsWhole) (arg8 : Memref sig .tc .vmem S2216x128 .i32) (harg8 : arg8.IsWhole) (arg9 : Memref sig .tc .vmem S2216x128 .i32) (harg9 : arg9.IsWhole) (arg10 : Memref sig .tc .vmem S8192x128 .i32) (harg10 : arg10.IsWhole) (arg11 : Memref sig .tc .vmem S4360x2x128 .bf16) (harg11 : arg11.IsWhole) (arg12 : Memref sig .tc .vmem S2048x128 .f32) (harg12 : arg12.IsWhole)

/-- The dy ingest loop: dy read, its scratch holding the words of the columns done, the halo rows as they were. -/
@[sl_loop] def loopInv_k0_t2 (X4 : BufTy.Contents (Elt F) arg4.view.ty) : Gen.LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 where
  inv k _ := iprop(hd (F := F) c arg4 X4 ∗ (∃ f, hd (F := F) c arg8 f ∗ ⌜UpTo k (IngP (arg4.view.read (Elt F) X4) k (arg8.view.read (Elt F) f))⌝ ∗ ⌜HaloK 32 (arg8.view.read (Elt F) f)⌝))
  step k acc := by
    unfold k0_t2_body
    iintro ⟨H4, ⟨%f8, H8, %h8, %h8k⟩⟩
    replace h8 := IngP_get h8
    have h8h := haloP_of h8k
    have hk : k.val < 64 := k.isLt
    sl_exec
    sl_step
    isplitl [H4]; · iexact H4
    iexists _; isplitl [H8]; · iexact H8
    isplitl []
    rotate_left
    · ipureintro
      exact haloK_of (halo_step (F := F) arg8.view f8 k.val hk _ _ _ _
      ((k0_off17_eq k 0).trans (by simp [Nat.add_comm])) ((k0_off17_eq k 1).trans (by simp; omega)) ((k0_off17_eq k 2).trans (by simp; omega)) ((k0_off17_eq k 3).trans (by simp; omega))
      _ _ _ _ _ _ _ _ _ _ _ _ h8h)
    ipureintro
    show IngP _ (k.val + 1) _
    refine ing_step (F := F) arg8.view f8 (arg4.view.read (Elt F) X4) k.val hk _ _ _ _
      ((k0_off17_eq k 0).trans (by simp [Nat.add_comm])) ((k0_off17_eq k 1).trans (by simp; omega)) ((k0_off17_eq k 2).trans (by simp; omega)) ((k0_off17_eq k 3).trans (by simp; omega))
      _ _ _ _ _ _ _ _ _ _ _ _ ?_ ?_ ?_ ?_ h8
    · intro s l q
      refine (congrArg (byt · q.val) (k0_pay307_apply _ _ (ix2 s l))).trans ?_
      refine (tr0 _ _ _ _ q).trans ?_
      exact byt_loads (F := F) arg4 X4 k.val hk _ _ _ _ (k0_off13_eq k) (k0_off14_eq k) (k0_off15_eq k) (k0_off16_eq k) _ _ _ _ 0 (by omega) s l q
    · intro s l q
      refine (congrArg (byt · q.val) (k0_pay308_apply _ _ (ix2 s l))).trans ?_
      refine (tr1 _ _ _ _ q).trans ?_
      exact byt_loads (F := F) arg4 X4 k.val hk _ _ _ _ (k0_off13_eq k) (k0_off14_eq k) (k0_off15_eq k) (k0_off16_eq k) _ _ _ _ 1 (by omega) s l q
    · intro s l q
      refine (congrArg (byt · q.val) (k0_pay309_apply _ _ (ix2 s l))).trans ?_
      refine (tr2 _ _ _ _ q).trans ?_
      exact byt_loads (F := F) arg4 X4 k.val hk _ _ _ _ (k0_off13_eq k) (k0_off14_eq k) (k0_off15_eq k) (k0_off16_eq k) _ _ _ _ 2 (by omega) s l q
    · intro s l q
      refine (congrArg (byt · q.val) (k0_pay310_apply _ _ (ix2 s l))).trans ?_
      refine (tr3 _ _ _ _ q).trans ?_
      exact byt_loads (F := F) arg4 X4 k.val hk _ _ _ _ (k0_off13_eq k) (k0_off14_eq k) (k0_off15_eq k) (k0_off16_eq k) _ _ _ _ 3 (by omega) s l q

/-- The x ingest loop: x read, its scratch holding the words of the columns done, the halo rows as they were. -/
@[sl_loop] def loopInv_k0_t3 (X4 : BufTy.Contents (Elt F) arg3.view.ty) : Gen.LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 where
  inv k _ := iprop(hd (F := F) c arg3 X4 ∗ (∃ f, hd (F := F) c arg9 f ∗ ⌜UpTo k (IngP (arg3.view.read (Elt F) X4) k (arg9.view.read (Elt F) f))⌝))
  step k acc := by
    unfold k0_t3_body
    iintro ⟨H4, ⟨%f8, H8, %h8⟩⟩
    replace h8 := IngP_get h8
    have hk : k.val < 64 := k.isLt
    sl_exec
    sl_step
    isplitl [H4]; · iexact H4
    iexists _; isplitl [H8]; · iexact H8
    ipureintro
    show IngP _ (k.val + 1) _
    refine ing_step (F := F) arg9.view f8 (arg3.view.read (Elt F) X4) k.val hk _ _ _ _
      ((k0_off22_eq k 0).trans (by simp [Nat.add_comm])) ((k0_off22_eq k 1).trans (by simp; omega)) ((k0_off22_eq k 2).trans (by simp; omega)) ((k0_off22_eq k 3).trans (by simp; omega))
      _ _ _ _ _ _ _ _ _ _ _ _ ?_ ?_ ?_ ?_ h8
    · intro s l q
      refine (congrArg (byt · q.val) (k0_pay312_apply _ _ (ix2 s l))).trans ?_
      refine (tr0 _ _ _ _ q).trans ?_
      exact byt_loads (F := F) arg3 X4 k.val hk _ _ _ _ (k0_off18_eq k) (k0_off19_eq k) (k0_off20_eq k) (k0_off21_eq k) _ _ _ _ 0 (by omega) s l q
    · intro s l q
      refine (congrArg (byt · q.val) (k0_pay313_apply _ _ (ix2 s l))).trans ?_
      refine (tr1 _ _ _ _ q).trans ?_
      exact byt_loads (F := F) arg3 X4 k.val hk _ _ _ _ (k0_off18_eq k) (k0_off19_eq k) (k0_off20_eq k) (k0_off21_eq k) _ _ _ _ 1 (by omega) s l q
    · intro s l q
      refine (congrArg (byt · q.val) (k0_pay314_apply _ _ (ix2 s l))).trans ?_
      refine (tr2 _ _ _ _ q).trans ?_
      exact byt_loads (F := F) arg3 X4 k.val hk _ _ _ _ (k0_off18_eq k) (k0_off19_eq k) (k0_off20_eq k) (k0_off21_eq k) _ _ _ _ 2 (by omega) s l q
    · intro s l q
      refine (congrArg (byt · q.val) (k0_pay315_apply _ _ (ix2 s l))).trans ?_
      refine (tr3 _ _ _ _ q).trans ?_
      exact byt_loads (F := F) arg3 X4 k.val hk _ _ _ _ (k0_off18_eq k) (k0_off19_eq k) (k0_off20_eq k) (k0_off21_eq k) _ _ _ _ 3 (by omega) s l q

end Loops

end Cert.KernelIdeal.Val

end
-- ==== Proof.Init.lean ====
/-
  The first grid point of a channel group: the halo rows of the dy scratch zeroed, the banded filter words spread over
  the diagonals of the filter scratch, the accumulator zeroed.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import proofs.«01_k».proof.Proof.Ingest
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds
open Idealize.ShloMosaic.ValueIdx

variable {F : FTy → Type} [FloatOps F] [∀ e, Nonempty (Elt F e)]

local notation "𝕄" => MT nD τ sig Unit (Elt F) ℕ (UR sig nD τ) ℕ

set_option warn.classDefReducibility false

/-- Lane `l` of diagonal row `s` lies on the band. -/
def bandB (s : Fin 32) (l : Fin 128) : Prop := 2 * s.val ≤ l.val % 64 + 3 ∧ l.val % 64 ≤ 2 * s.val + 4

instance (s : Fin 32) (l : Fin 128) : Decidable (bandB s l) := by unfold bandB; infer_instance

/-- The lane that the rotation of row `s` brings to lane `l`. -/
def rotL (s : Fin 32) (l : Fin 128) : Fin 128 := ⟨(l.val + 128 - (2 * s.val) % 128) % 128, Nat.mod_lt _ (by omega)⟩

/-- The filter scratch's word: row `s` of tap pair `p` of channel `c`. -/
def tval (X : S32x8x128.Idx → BitVec 32) (c : Fin 32) (p : Fin 8) (s : Fin 32) (l : Fin 128) : BitVec 32 :=
  if bandB s l then X (ix3 c p (rotL s l)) else 0#32

def TP (X : S32x8x128.Idx → BitVec 32) (k : ℕ) (g : S8192x128.Idx → BitVec 32) : Prop :=
  ∀ (c : Fin 32) (p : Fin 8) (s : Fin 32) (l : Fin 128), c.val < k →
    g (ix2 (⟨c.val * 256 + (p.val % 4) * 64 + (p.val / 4) * 32 + s.val, by omega⟩ : Fin 8192) l) = tval X c p s l

def ZeroK (k : ℕ) (g : S2048x128.Idx → F .f32) : Prop :=
  ∀ (r : Fin 2048) (l : Fin 128), r.val < 64 * k → g (ix2 r l) = Scalar.ofBits .f32 0x00000000#32

theorem TP_zero (X : S32x8x128.Idx → BitVec 32) (g : S8192x128.Idx → BitVec 32) : TP X 0 g := fun c p s l h => absurd h (Nat.not_lt_zero _)

theorem ZeroK_zero (g : S2048x128.Idx → F .f32) : ZeroK 0 g := fun r l h => absurd h (by omega)

theorem TP_get {X : S32x8x128.Idx → BitVec 32} {k : ℕ} {g : S8192x128.Idx → BitVec 32} (h : UpTo k (TP X k g)) : TP X k g := h.get fun e => e ▸ TP_zero X g

theorem ZeroK_get {k : ℕ} {g : S2048x128.Idx → F .f32} (h : UpTo k (ZeroK k g)) : ZeroK k g := h.get fun e => e ▸ ZeroK_zero g

theorem band_mask : ∀ (s : Fin 32) (l : Fin 128), k0_pay302 (ix2 s l) = if bandB s l then 1#1 else 0#1 := by decide +kernel

section Step

variable {κ : Kind} {sp : Space}

theorem halo_init (v : View sig κ sp S2216x128 .i32) (f : v.ty.Contents (Elt F)) (k : ℕ) (hk : k < 32)
    (o0 o1 : Fin 2 → ℕ) (h0 : o0 = ![69 * k, 0]) (h1 : o1 = ![69 * k + 66, 0]) (i0 i1) (w0 w1 : S2x128.Idx → BitVec 32)
    (e0 : ∀ j, w0 j = 0#32) (e1 : ∀ j, w1 j = 0#32) (hf : HaloK k (v.read (Elt F) f)) :
    HaloK (k + 1) (v.read (Elt F) (v.writes (Elt F) f
      [⟨Rect.unit (s := S2216x128) o1 S2x128.size i1, w1⟩, ⟨Rect.unit (s := S2216x128) o0 S2x128.size i0, w0⟩])) := by
  intro c r l hc hr
  rcases Nat.lt_or_ge c.val k with hlt | hge
  · refine (rd_miss 2 v f _ _ h1 _ _ _ _ _ (by dsimp only; omega)).trans ?_
    refine (rd_miss 2 v f _ _ h0 _ _ _ _ _ (by dsimp only; omega)).trans ?_
    exact hf c r l hlt hr
  · rcases hr with hr | hr
    · refine (rd_miss 2 v f _ _ h1 _ _ _ _ _ (by dsimp only; omega)).trans ?_
      exact (rd_hit v f _ _ h0 _ _ _ _ _ (⟨r.val, hr⟩ : Fin 2) (by dsimp only; omega)).trans (e0 _)
    · exact (rd_hit v f _ _ h1 _ _ _ _ _ (⟨r.val - 66, by omega⟩ : Fin 2) (by dsimp only; omega)).trans (e1 _)

theorem zero_init (v : View sig κ sp S2048x128 .f32) (f : v.ty.Contents (Elt F)) (k : ℕ) (hk : k < 32)
    (o0 : Fin 2 → ℕ) (h0 : o0 = ![64 * k, 0]) (i0) (w0 : S64x128.Idx → F .f32)
    (e0 : ∀ j, w0 j = Scalar.ofBits .f32 0x00000000#32) (hf : ZeroK k (v.read (Elt F) f)) :
    ZeroK (k + 1) (v.read (Elt F) (v.writes (Elt F) f [⟨Rect.unit (s := S2048x128) o0 S64x128.size i0, w0⟩])) := by
  intro r l hr
  rcases Nat.lt_or_ge r.val (64 * k) with hlt | hge
  · refine (rd_miss 64 v f _ _ h0 _ _ _ _ _ (by omega)).trans ?_
    exact hf r l hlt
  · exact (rd_hit v f _ _ h0 _ _ _ _ _ (⟨r.val - 64 * k, by omega⟩ : Fin 64) (by dsimp only; omega)).trans (e0 _)

theorem t_init (v : View sig κ sp S8192x128 .i32) (f : v.ty.Contents (Elt F)) (X : S32x8x128.Idx → BitVec 32) (k : Fin 32)
    (o0 : Fin 2 → ℕ) (h0 : o0 = ![256 * k.val + 64 * 0 + 32 * 0, 0]) (i0) (w0 : S32x128.Idx → BitVec 32) (e0 : ∀ s l, w0 (ix2 s l) = tval X k 0 s l)
    (o1 : Fin 2 → ℕ) (h1 : o1 = ![256 * k.val + 64 * 1 + 32 * 0, 0]) (i1) (w1 : S32x128.Idx → BitVec 32) (e1 : ∀ s l, w1 (ix2 s l) = tval X k 1 s l)
    (o2 : Fin 2 → ℕ) (h2 : o2 = ![256 * k.val + 64 * 2 + 32 * 0, 0]) (i2) (w2 : S32x128.Idx → BitVec 32) (e2 : ∀ s l, w2 (ix2 s l) = tval X k 2 s l)
    (o3 : Fin 2 → ℕ) (h3 : o3 = ![256 * k.val + 64 * 3 + 32 * 0, 0]) (i3) (w3 : S32x128.Idx → BitVec 32) (e3 : ∀ s l, w3 (ix2 s l) = tval X k 3 s l)
    (o4 : Fin 2 → ℕ) (h4 : o4 = ![256 * k.val + 64 * 0 + 32 * 1, 0]) (i4) (w4 : S32x128.Idx → BitVec 32) (e4 : ∀ s l, w4 (ix2 s l) = tval X k 4 s l)
    (o5 : Fin 2 → ℕ) (h5 : o5 = ![256 * k.val + 64 * 1 + 32 * 1, 0]) (i5) (w5 : S32x128.Idx → BitVec 32) (e5 : ∀ s l, w5 (ix2 s l) = tval X k 5 s l)
    (o6 : Fin 2 → ℕ) (h6 : o6 = ![256 * k.val + 64 * 2 + 32 * 1, 0]) (i6) (w6 : S32x128.Idx → BitVec 32) (e6 : ∀ s l, w6 (ix2 s l) = tval X k 6 s l)
    (o7 : Fin 2 → ℕ) (h7 : o7 = ![256 * k.val + 64 * 3 + 32 * 1, 0]) (i7) (w7 : S32x128.Idx → BitVec 32) (e7 : ∀ s l, w7 (ix2 s l) = tval X k 7 s l)
    (hf : TP X k.val (v.read (Elt F) f)) :
    TP X (k.val + 1) (v.read (Elt F) (v.writes (Elt F) f
      [⟨Rect.unit (s := S8192x128) o7 S32x128.size i7, w7⟩,
       ⟨Rect.unit (s := S8192x128) o6 S32x128.size i6, w6⟩,
       ⟨Rect.unit (s := S8192x128) o5 S32x128.size i5, w5⟩,
       ⟨Rect.unit (s := S8192x128) o4 S32x128.size i4, w4⟩,
       ⟨Rect.unit (s := S8192x128) o3 S32x128.size i3, w3⟩,
       ⟨Rect.unit (s := S8192x128) o2 S32x128.size i2, w2⟩,
       ⟨Rect.unit (s := S8192x128) o1 S32x128.size i1, w1⟩,
       ⟨Rect.unit (s := S8192x128) o0 S32x128.size i0, w0⟩]) ) := by
  intro c p s l hc
  have hk := k.isLt
  have hs := s.isLt
  rcases Nat.lt_or_ge c.val k.val with hlt | hge
  · refine (rd_miss 32 v f _ _ h7 _ _ _ _ _ (by dsimp only; omega)).trans ?_
    refine (rd_miss 32 v f _ _ h6 _ _ _ _ _ (by dsimp only; omega)).trans ?_
    refine (rd_miss 32 v f _ _ h5 _ _ _ _ _ (by dsimp only; omega)).trans ?_
    refine (rd_miss 32 v f _ _ h4 _ _ _ _ _ (by dsimp only; omega)).trans ?_
    refine (rd_miss 32 v f _ _ h3 _ _ _ _ _ (by dsimp only; omega)).trans ?_
    refine (rd_miss 32 v f _ _ h2 _ _ _ _ _ (by dsimp only; omega)).trans ?_
    refine (rd_miss 32 v f _ _ h1 _ _ _ _ _ (by dsimp only; omega)).trans ?_
    refine (rd_miss 32 v f _ _ h0 _ _ _ _ _ (by dsimp only; omega)).trans ?_
    exact hf c p s l hlt
  · have e : c = k := Fin.ext (by omega)
    subst e
    match p with
    | ⟨0, _⟩ =>
      refine (rd_miss 32 v f _ _ h7 _ _ _ _ _ (by dsimp only; omega)).trans ?_
      refine (rd_miss 32 v f _ _ h6 _ _ _ _ _ (by dsimp only; omega)).trans ?_
      refine (rd_miss 32 v f _ _ h5 _ _ _ _ _ (by dsimp only; omega)).trans ?_
      refine (rd_miss 32 v f _ _ h4 _ _ _ _ _ (by dsimp only; omega)).trans ?_
      refine (rd_miss 32 v f _ _ h3 _ _ _ _ _ (by dsimp only; omega)).trans ?_
      refine (rd_miss 32 v f _ _ h2 _ _ _ _ _ (by dsimp only; omega)).trans ?_
      refine (rd_miss 32 v f _ _ h1 _ _ _ _ _ (by dsimp only; omega)).trans ?_
      exact (rd_hit v f _ _ h0 _ _ _ _ _ s (by dsimp only; omega)).trans (e0 s l)
    | ⟨1, _⟩ =>
      refine (rd_miss 32 v f _ _ h7 _ _ _ _ _ (by dsimp only; omega)).trans ?_
      refine (rd_miss 32 v f _ _ h6 _ _ _ _ _ (by dsimp only; omega)).trans ?_
      refine (rd_miss 32 v f _ _ h5 _ _ _ _ _ (by dsimp only; omega)).trans ?_
      refine (rd_miss 32 v f _ _ h4 _ _ _ _ _ (by dsimp only; omega)).trans ?_
      refine (rd_miss 32 v f _ _ h3 _ _ _ _ _ (by dsimp only; omega)).trans ?_
      refine (rd_miss 32 v f _ _ h2 _ _ _ _ _ (by dsimp only; omega)).trans ?_
      exact (rd_hit v f _ _ h1 _ _ _ _ _ s (by dsimp only; omega)).trans (e1 s l)
    | ⟨2, _⟩ =>
      refine (rd_miss 32 v f _ _ h7 _ _ _ _ _ (by dsimp only; omega)).trans ?_
      refine (rd_miss 32 v f _ _ h6 _ _ _ _ _ (by dsimp only; omega)).trans ?_
      refine (rd_miss 32 v f _ _ h5 _ _ _ _ _ (by dsimp only; omega)).trans ?_
      refine (rd_miss 32 v f _ _ h4 _ _ _ _ _ (by dsimp only; omega)).trans ?_
      refine (rd_miss 32 v f _ _ h3 _ _ _ _ _ (by dsimp only; omega)).trans ?_
      exact (rd_hit v f _ _ h2 _ _ _ _ _ s (by dsimp only; omega)).trans (e2 s l)
    | ⟨3, _⟩ =>
      refine (rd_miss 32 v f _ _ h7 _ _ _ _ _ (by dsimp only; omega)).trans ?_
      refine (rd_miss 32 v f _ _ h6 _ _ _ _ _ (by dsimp only; omega)).trans ?_
      refine (rd_miss 32 v f _ _ h5 _ _ _ _ _ (by dsimp only; omega)).trans ?_
      refine (rd_miss 32 v f _ _ h4 _ _ _ _ _ (by dsimp only; omega)).trans ?_
      exact (rd_hit v f _ _ h3 _ _ _ _ _ s (by dsimp only; omega)).trans (e3 s l)
    | ⟨4, _⟩ =>
      refine (rd_miss 32 v f _ _ h7 _ _ _ _ _ (by dsimp only; omega)).trans ?_
      refine (rd_miss 32 v f _ _ h6 _ _ _ _ _ (by dsimp only; omega)).trans ?_
      refine (rd_miss 32 v f _ _ h5 _ _ _ _ _ (by dsimp only; omega)).trans ?_
      exact (rd_hit v f _ _ h4 _ _ _ _ _ s (by dsimp only; omega)).trans (e4 s l)
    | ⟨5, _⟩ =>
      refine (rd_miss 32 v f _ _ h7 _ _ _ _ _ (by dsimp only; omega)).trans ?_
      refine (rd_miss 32 v f _ _ h6 _ _ _ _ _ (by dsimp only; omega)).trans ?_
      exact (rd_hit v f _ _ h5 _ _ _ _ _ s (by dsimp only; omega)).trans (e5 s l)
    | ⟨6, _⟩ =>
      refine (rd_miss 32 v f _ _ h7 _ _ _ _ _ (by dsimp only; omega)).trans ?_
      exact (rd_hit v f _ _ h6 _ _ _ _ _ s (by dsimp only; omega)).trans (e6 s l)
    | ⟨7, _⟩ =>

      exact (rd_hit v f _ _ h7 _ _ _ _ _ s (by dsimp only; omega)).trans (e7 s l)

end Step

/-- One filter row, spread: broadcast, rotated by twice the row, kept on the band. -/
theorem spread_apply (x : S1x1x128.Idx → BitVec 32) (s : Fin 32) (l : Fin 128) :
    select k0_pay302 (dynamicRotate 1 0#32 (some (2, 0)) (broadcastTo S32x128 (shapeCast S1x128 (shapeCast S1x128 x shapeCasts_S1x1x128_S1x128) shapeCasts_S1x128_S1x128) broadcasts_S1x128_S32x128) rotates_S32x128_d1s2a0)
      (broadcast S32x128 0#32) (ix2 s l) = if bandB s l then x (ix3 (0 : Fin 1) (0 : Fin 1) (rotL s l)) else 0#32 := by
  rw [select_apply, band_mask, shapeCast_self]
  by_cases hb : bandB s l
  · rw [if_pos hb, if_pos hb, select_one]
    refine Eq.trans ?_ (shapeCast_1ab_ab_apply (a := 1) (b := 128) x shapeCasts_S1x1x128_S1x128 0 (rotL s l))
    unfold dynamicRotate
    dsimp only
    refine (broadcastTo_apply _ _ _ (ix2 (0 : Fin 1) (rotL s l)) ?_)
    intro a
    match a with
    | ⟨0, _⟩ => rfl
    | ⟨1, _⟩ =>
      simp [rotL, ix2]
  · rw [if_neg hb, if_neg hb, select_zero]; rfl

theorem spread_load {sp : Space} (arg5 : Memref sig .tc sp S32x8x128 .i32) (X : BufTy.Contents (Elt F) arg5.view.ty) (k : Fin 32) (p : Fin 8)
    (o : Fin 3 → ℕ) (h : o = ![k.val, p.val, 0]) (i0) (s : Fin 32) (l : Fin 128) :
    (if bandB s l then (View.readAt (Elt F) arg5.view (Rect.unit (s := S32x8x128) o S1x1x128.size i0).toLoadRect X) (ix3 (0 : Fin 1) (0 : Fin 1) (rotL s l)) else 0#32)
      = tval (arg5.view.read (Elt F) X) k p s l := by
  subst h
  unfold tval
  by_cases hb : bandB s l
  · rw [if_pos hb, if_pos hb, View.readAt_apply]
    refine congrArg (arg5.view.read (Elt F) X) ?_
    funext a
    match a with
    | ⟨0, _⟩ => exact Fin.ext (by show k.val + 1 * 0 = k.val; omega)
    | ⟨1, _⟩ => exact Fin.ext (by show p.val + 1 * 0 = p.val; omega)
    | ⟨2, _⟩ => exact Fin.ext (by show 0 + 1 * (rotL s l).val = (rotL s l).val; omega)
  · rw [if_neg hb, if_neg hb]

theorem pay7_apply (x : S1x1x128.Idx → BitVec 32) (s : Fin 32) (l : Fin 128) :
    k0_pay7 (F := F) k0_pay302 x (ix2 s l) = if bandB s l then x (ix3 (0 : Fin 1) (0 : Fin 1) (rotL s l)) else 0#32 := by
  unfold k0_pay7; rw [shapeCast_self]; exact spread_apply x s l

variable (c : Dev nD) (i : grid0.Coords)
variable (arg2 : Memref sig .tc .smem S2 .f32) (harg2 : arg2.IsWhole) (arg3 : Memref sig .tc .vmem S4x32x8192 .i8) (harg3 : arg3.IsWhole) (arg4 : Memref sig .tc .vmem S4x32x8192 .i8) (harg4 : arg4.IsWhole) (arg5 : Memref sig .tc .vmem S32x8x128 .i32) (harg5 : arg5.IsWhole) (arg6 : Memref sig .tc .vmem S4x32x8192 .bf16) (harg6 : arg6.IsWhole) (arg7 : Memref sig .tc .vmem S32x128 .f32) (harg7 : arg7.IsWhole) (arg8 : Memref sig .tc .vmem S2216x128 .i32) (harg8 : arg8.IsWhole) (arg9 : Memref sig .tc .vmem S2216x128 .i32) (harg9 : arg9.IsWhole) (arg10 : Memref sig .tc .vmem S8192x128 .i32) (harg10 : arg10.IsWhole) (arg11 : Memref sig .tc .vmem S4360x2x128 .bf16) (harg11 : arg11.IsWhole) (arg12 : Memref sig .tc .vmem S2048x128 .f32) (harg12 : arg12.IsWhole)

@[sl_loop] def loopInv_k0_t1v (k0_h1 : k0_cond1 i = 1#1) (X5 : BufTy.Contents (Elt F) arg5.view.ty) :
    Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 k0_h1 where
  inv k _ := iprop(hd (F := F) c arg5 X5 ∗ (∃ f, hd (F := F) c arg8 f ∗ ⌜UpTo k (HaloK k (arg8.view.read (Elt F) f))⌝)
    ∗ (∃ f, hd (F := F) c arg10 f ∗ ⌜UpTo k (TP (arg5.view.read (Elt F) X5) k (arg10.view.read (Elt F) f))⌝)
    ∗ (∃ f, hd (F := F) c arg12 f ∗ ⌜UpTo k (ZeroK (F := F) k (arg12.view.read (Elt F) f))⌝))
  step k acc := by
    unfold k0_t1_body
    iintro ⟨H5, ⟨%f8, H8, %h8⟩, ⟨%f10, H10, %h10⟩, ⟨%f12, H12, %h12⟩⟩
    replace h8 := HaloK_get h8
    replace h10 := TP_get h10
    replace h12 := ZeroK_get h12
    have hk : k.val < 32 := k.isLt
    sl_exec
    sl_step
    isplitl [H5]; · iexact H5
    isplitl [H8]
    · iexists _; isplitl [H8]; · iexact H8
      ipureintro
      show HaloK (k.val + 1) _
      refine halo_init (F := F) arg8.view f8 k.val hk _ _ (k0_off1_eq k) (k0_off2_eq k) _ _ _ _ ?_ ?_ h8
      · intro j; rw [shapeCast_self]; rfl
      · intro j; rw [shapeCast_self]; rfl
    isplitl [H10]
    · iexists _; isplitl [H10]; · iexact H10
      ipureintro
      show TP _ (k.val + 1) _
      refine t_init (F := F) arg10.view f10 (arg5.view.read (Elt F) X5) ⟨k.val, hk⟩
        _ (k0_off4_eq k 0 0) _ _ ?_
        _ (k0_off4_eq k 1 0) _ _ ?_
        _ (k0_off4_eq k 2 0) _ _ ?_
        _ (k0_off4_eq k 3 0) _ _ ?_
        _ (k0_off4_eq k 0 1) _ _ ?_
        _ (k0_off4_eq k 1 1) _ _ ?_
        _ (k0_off4_eq k 2 1) _ _ ?_
        _ (k0_off4_eq k 3 1) _ _ ?_
        h10
      · intro s l
        refine Eq.trans ?_ (spread_load (F := F) arg5 X5 ⟨k.val, hk⟩ 0 _ (k0_off3_eq k) (k0_off3_inb i k k0_h1) s l)
        exact pay7_apply (F := F) _ s l
      · intro s l
        refine Eq.trans ?_ (spread_load (F := F) arg5 X5 ⟨k.val, hk⟩ 1 _ (k0_off5_eq k) (k0_off5_inb i k k0_h1) s l)
        exact pay7_apply (F := F) _ s l
      · intro s l
        refine Eq.trans ?_ (spread_load (F := F) arg5 X5 ⟨k.val, hk⟩ 2 _ (k0_off6_eq k) (k0_off6_inb i k k0_h1) s l)
        exact pay7_apply (F := F) _ s l
      · intro s l
        refine Eq.trans ?_ (spread_load (F := F) arg5 X5 ⟨k.val, hk⟩ 3 _ (k0_off7_eq k) (k0_off7_inb i k k0_h1) s l)
        exact pay7_apply (F := F) _ s l
      · intro s l
        refine Eq.trans ?_ (spread_load (F := F) arg5 X5 ⟨k.val, hk⟩ 4 _ (k0_off8_eq k) (k0_off8_inb i k k0_h1) s l)
        exact pay7_apply (F := F) _ s l
      · intro s l
        refine Eq.trans ?_ (spread_load (F := F) arg5 X5 ⟨k.val, hk⟩ 5 _ (k0_off9_eq k) (k0_off9_inb i k k0_h1) s l)
        exact pay7_apply (F := F) _ s l
      · intro s l
        refine Eq.trans ?_ (spread_load (F := F) arg5 X5 ⟨k.val, hk⟩ 6 _ (k0_off10_eq k) (k0_off10_inb i k k0_h1) s l)
        exact pay7_apply (F := F) _ s l
      · intro s l
        refine Eq.trans ?_ (spread_load (F := F) arg5 X5 ⟨k.val, hk⟩ 7 _ (k0_off11_eq k) (k0_off11_inb i k k0_h1) s l)
        exact pay7_apply (F := F) _ s l
    iexists _; isplitl [H12]; · iexact H12
    ipureintro
    show ZeroK (k.val + 1) _
    refine zero_init (F := F) arg12.view f12 k.val hk _ (k0_off12_eq k) _ _ ?_ h12
    intro j; unfold k0_pay305; rw [shapeCast_self]; rfl

end Cert.KernelIdeal.Val

end
-- ==== Proof.Rows.lean ====
/-
  Rows of two half words interleaved and parted, read at an index.
-/
module

public import proofs.«01_k».proof.Proof.Gen.KernelIdeal.Frame
public import Idealize.ShloMosaic.Lib.ValueIdxCore
public import Idealize.ShloMosaic.Lib.ValueLayout
import Idealize.ShloMosaic.Lib.Pipeline.Value
import Idealize.ShloMosaic.Lib.Pointwise.ShapeOpsCore

@[expose] public section

namespace Cert.KernelIdeal.Val

open Cert.KernelIdeal Cert.KernelIdeal.Gen
open Idealize.ShloMosaic

theorem il_apply {α : Type} (lo hi : S128x128.Idx → α) (h1 h2 h3) (s : Fin 128) (a : Fin 2) (l : Fin 128) :
    interleaveRows S128x2x128 (shapeCast S128x1x128 lo h1) (shapeCast S128x1x128 hi h2) h3 (ValueIdx.ix3 s a l)
      = if a.val = 0 then lo (ValueIdx.ix2 s l) else hi (ValueIdx.ix2 s l) := by
  rw [interleaveRows_apply]
  match a with
  | ⟨0, _⟩ =>
    refine (if_pos rfl).trans ?_
    rw [if_pos rfl]
    exact shapeCast_apply lo h1 _ (ValueIdx.ix2 s l) (by rw [Shape.rowMajor_val_three, Shape.rowMajor_val_two]; show s.val * 128 + l.val = (s.val * 1 + 0 / 2) * 128 + l.val; omega)
  | ⟨1, _⟩ =>
    refine (if_neg (by show ¬ 1 % 2 = 0; decide)).trans ?_
    rw [if_neg (by show ¬ (1 : ℕ) = 0; decide)]
    exact shapeCast_apply hi h2 _ (ValueIdx.ix2 s l) (by rw [Shape.rowMajor_val_three, Shape.rowMajor_val_two]; show s.val * 128 + l.val = (s.val * 1 + 1 / 2) * 128 + l.val; omega)

/-- Rows parted by parity and interleaved again, as sixteen pairs of rows. -/
theorem pair_apply {α : Type} (x : S16x2x128.Idx → α) (h1 h2 h3 h4 h5 h6) (u : Fin 1) (cc : Fin 32) (l : Fin 128) :
    shapeCast S1x32x128 (interleaveRows S32x128 (shapeCast S16x128 (rowsOfParity 0 S16x1x128 x h1) h2) (shapeCast S16x128 (rowsOfParity 1 S16x1x128 x h3) h4) h5) h6
      (ValueIdx.ix3 u cc l) = x (ValueIdx.ix3 (⟨cc.val / 2, by omega⟩ : Fin 16) (⟨cc.val % 2, by omega⟩ : Fin 2) l) := by
  refine (shapeCast_apply _ h6 _ (ValueIdx.ix2 cc l) (by
    have hu : u.val = 0 := by omega
    rw [Shape.rowMajor_val_three, Shape.rowMajor_val_two]; show cc.val * 128 + l.val = (u.val * 32 + cc.val) * 128 + l.val; omega)).trans ?_
  rw [interleaveRows_apply]
  by_cases e : cc.val % 2 = 0
  · refine (if_pos e).trans ?_
    refine (shapeCast_apply _ h2 _ (ValueIdx.ix3 (⟨cc.val / 2, by omega⟩ : Fin 16) (0 : Fin 1) l) (by
      rw [Shape.rowMajor_val_three, Shape.rowMajor_val_two]; show (cc.val / 2 * 1 + 0) * 128 + l.val = cc.val / 2 * 128 + l.val; omega)).trans ?_
    rw [rowsOfParity_apply]
    refine congrArg x (funext fun a => Fin.ext ?_)
    match a with
    | ⟨0, _⟩ => rfl
    | ⟨1, _⟩ => exact e.symm
    | ⟨2, _⟩ => rfl
  · refine (if_neg e).trans ?_
    refine (shapeCast_apply _ h4 _ (ValueIdx.ix3 (⟨cc.val / 2, by omega⟩ : Fin 16) (0 : Fin 1) l) (by
      rw [Shape.rowMajor_val_three, Shape.rowMajor_val_two]; show (cc.val / 2 * 1 + 0) * 128 + l.val = cc.val / 2 * 128 + l.val; omega)).trans ?_
    rw [rowsOfParity_apply]
    refine congrArg x (funext fun a => Fin.ext ?_)
    match a with
    | ⟨0, _⟩ => rfl
    | ⟨1, _⟩ => show 1 = cc.val % 2; omega
    | ⟨2, _⟩ => rfl

end Cert.KernelIdeal.Val
-- ==== Proof.Pairs.lean ====
/-
  The loop over channel pairs: what a trip writes to the scratch of transposed results and to the accumulator, as
  functions of the blocks of words that it loads.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import proofs.«01_k».proof.Proof.Ingest
public import proofs.«01_k».proof.Proof.Rows
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds
open Idealize.ShloMosaic.ValueIdx

variable {F : FTy → Type} [FloatOps F] [∀ e, Nonempty (Elt F e)]

local notation "𝕄" => MT nD τ sig Unit (Elt F) ℕ (UR sig nD τ) ℕ

set_option warn.classDefReducibility false

/-- Sixty-four rows of channel `c`'s part of a scratch of words, from its row `o` on. -/
def blk (X : S2216x128.Idx → BitVec 32) (c : Fin 32) (o : Fin 5) : S64x128.Idx → BitVec 32 :=
  fun j => X (ix2 (⟨c.val * 69 + o.val + (j 0).val, by have := (j 0).isLt; simp at this; omega⟩ : Fin 2216) (j 1))

/-- Sixty-four rows of channel `c`'s part of the filter scratch: block `q` of its four. -/
def tblk (X : S8192x128.Idx → BitVec 32) (c : Fin 32) (q : Fin 4) : S64x128.Idx → BitVec 32 :=
  fun j => X (ix2 (⟨c.val * 256 + 64 * q.val + (j 0).val, by have := (j 0).isLt; simp at this; omega⟩ : Fin 8192) (j 1))

/-- The windows of the first two tap rows' halves. -/
def chanDA (X : S2216x128.Idx → BitVec 32) (c : Fin 32) : FVec F S256x256 .fp8e5m2 := k0_pay37 (blk X c 1) (blk X c 2)
/-- The windows of the other two. -/
def chanDB (v10 : IVec S64x128 1) (X : S2216x128.Idx → BitVec 32) (c : Fin 32) : FVec F S256x256 .fp8e5m2 :=
  k0_pay38 v10 (blk X c 0) (blk X c 3) (blk X c 4)
/-- The channel's own pixels. -/
def chanX (X : S2216x128.Idx → BitVec 32) (c : Fin 32) : FVec F S256x128 .fp8e4m3 := k0_pay39 (blk X c 2)
/-- The channel's results, transposed. -/
def chanY (v0 : Elt F .f32) (v10 : IVec S64x128 1) (X8 : S2216x128.Idx → BitVec 32) (X10 : S8192x128.Idx → BitVec 32) (c : Fin 32) :
    FVec F S128x256 .f32 :=
  k0_pay40 v0 (chanDA X8 c) (chanDB v10 X8 c) (tblk X10 c 0) (tblk X10 c 1) (tblk X10 c 2) (tblk X10 c 3)
/-- The correlations of the channel's pixels with the two halves of the windows. -/
def chanG (v10 : IVec S64x128 1) (X8 X9 : S2216x128.Idx → BitVec 32) (c : Fin 32) (q : Fin 2) : FVec F S128x256 .f32 :=
  if q.val = 0 then k0_pay41 (chanDA X8 c) (chanX X9 c) else k0_pay42 (chanDB v10 X8 c) (chanX X9 c)

/-- A result's element, narrowed. -/
def tb16 (Y : FVec F S128x256 .f32) (j : S128x256.Idx) : F .bf16 := (truncf .bf16 Y : FVec F S128x256 .bf16) j

/-- The diagonal band of a correlation, gathered over its eight row groups. -/
def diagP (M : Fin 8 → IVec S8x128 1) (g : FVec F S128x256 .f32) (r k : Fin 2) (s : Fin 8) (l : Fin 128) : F .f32 :=
  Scalar.select (M 7 (ix2 s l)) (g (ix2 (⟨64 * r.val + 56 + s.val, by omega⟩ : Fin 128) (⟨128 * k.val + l.val, by omega⟩ : Fin 256))) (Scalar.select (M 6 (ix2 s l)) (g (ix2 (⟨64 * r.val + 48 + s.val, by omega⟩ : Fin 128) (⟨128 * k.val + l.val, by omega⟩ : Fin 256))) (Scalar.select (M 5 (ix2 s l)) (g (ix2 (⟨64 * r.val + 40 + s.val, by omega⟩ : Fin 128) (⟨128 * k.val + l.val, by omega⟩ : Fin 256))) (Scalar.select (M 4 (ix2 s l)) (g (ix2 (⟨64 * r.val + 32 + s.val, by omega⟩ : Fin 128) (⟨128 * k.val + l.val, by omega⟩ : Fin 256))) (Scalar.select (M 3 (ix2 s l)) (g (ix2 (⟨64 * r.val + 24 + s.val, by omega⟩ : Fin 128) (⟨128 * k.val + l.val, by omega⟩ : Fin 256))) (Scalar.select (M 2 (ix2 s l)) (g (ix2 (⟨64 * r.val + 16 + s.val, by omega⟩ : Fin 128) (⟨128 * k.val + l.val, by omega⟩ : Fin 256))) (Scalar.select (M 1 (ix2 s l)) (g (ix2 (⟨64 * r.val + 8 + s.val, by omega⟩ : Fin 128) (⟨128 * k.val + l.val, by omega⟩ : Fin 256))) (Scalar.select (M 0 (ix2 s l)) (g (ix2 (⟨64 * r.val + 0 + s.val, by omega⟩ : Fin 128) (⟨128 * k.val + l.val, by omega⟩ : Fin 256))) (Scalar.ofBits .f32 0x00000000#32))))))))

/-- What channel `c`'s trip adds at row `8 p + s` of its part of the accumulator. -/
def chanT (M : Fin 8 → IVec S8x128 1) (v10 : IVec S64x128 1) (X8 X9 : S2216x128.Idx → BitVec 32) (c : Fin 32) (p : Fin 8) (s : Fin 8)
    (l : Fin 128) : F .f32 :=
  diagP M (chanG v10 X8 X9 c ⟨p.val % 4 / 2, by omega⟩) ⟨p.val / 4, by omega⟩ ⟨p.val % 2, by omega⟩ s l

theorem chanT_a (M : Fin 8 → IVec S8x128 1) (v10 : IVec S64x128 1) (X8 X9 : S2216x128.Idx → BitVec 32) (c c' : Fin 32) (p : Fin 8) (r k : Fin 2) (s : Fin 8)
    (l : Fin 128) (hc : c'.val = c.val) (hp : p.val = 4 * r.val + k.val) :
    diagP (F := F) M (k0_pay41 (k0_pay37 (blk X8 c 1) (blk X8 c 2)) (k0_pay39 (blk X9 c 2))) r k s l = chanT M v10 X8 X9 c' p s l := by
  obtain rfl : c' = c := Fin.ext hc
  have hr := r.isLt
  have hk := k.isLt
  unfold chanT chanG
  rw [if_pos (by show p.val % 4 / 2 = 0; omega)]
  congr 1
  · exact Fin.ext (by show r.val = p.val / 4; omega)
  · exact Fin.ext (by show k.val = p.val % 2; omega)

theorem chanT_b (M : Fin 8 → IVec S8x128 1) (v10 : IVec S64x128 1) (X8 X9 : S2216x128.Idx → BitVec 32) (c c' : Fin 32) (p : Fin 8) (r k : Fin 2) (s : Fin 8)
    (l : Fin 128) (hc : c'.val = c.val) (hp : p.val = 4 * r.val + 2 + k.val) :
    diagP (F := F) M (k0_pay42 (k0_pay38 v10 (blk X8 c 0) (blk X8 c 3) (blk X8 c 4)) (k0_pay39 (blk X9 c 2))) r k s l = chanT M v10 X8 X9 c' p s l := by
  obtain rfl : c' = c := Fin.ext hc
  have hr := r.isLt
  have hk := k.isLt
  unfold chanT chanG
  rw [if_neg (by show ¬ p.val % 4 / 2 = 0; omega)]
  congr 1
  · exact Fin.ext (by show r.val = p.val / 4; omega)
  · exact Fin.ext (by show k.val = p.val % 2; omega)

/-- The accumulator after the first `k` pairs. -/
def AccP (M : Fin 8 → IVec S8x128 1) (v10 : IVec S64x128 1) (X8 X9 : S2216x128.Idx → BitVec 32) (A : S2048x128.Idx → F .f32) (k : ℕ)
    (g : S2048x128.Idx → F .f32) : Prop :=
  ∀ (c : Fin 32) (p : Fin 8) (s : Fin 8) (l : Fin 128),
    g (ix2 (⟨c.val * 64 + p.val * 8 + s.val, by omega⟩ : Fin 2048) l)
      = if c.val < 2 * k then FloatOps.addf (A (ix2 (⟨c.val * 64 + p.val * 8 + s.val, by omega⟩ : Fin 2048) l)) (chanT M v10 X8 X9 c p s l)
        else A (ix2 (⟨c.val * 64 + p.val * 8 + s.val, by omega⟩ : Fin 2048) l)

/-- The same as a function, the accumulator at the loop's entry being `A` itself. -/
def accK (M : Fin 8 → IVec S8x128 1) (v10 : IVec S64x128 1) (X8 X9 : S2216x128.Idx → BitVec 32) (A : S2048x128.Idx → F .f32) (k : ℕ) :
    S2048x128.Idx → F .f32 :=
  match k with
  | 0 => A
  | k + 1 => fun j =>
    if (j 0).val / 64 < 2 * (k + 1) then FloatOps.addf (A j) (chanT M v10 X8 X9 ⟨(j 0).val / 64, by have : (j 0).val < 2048 := (j 0).isLt; omega⟩
      ⟨(j 0).val % 64 / 8, by omega⟩ ⟨(j 0).val % 8, by omega⟩ (j 1)) else A j

theorem accK_toP {M : Fin 8 → IVec S8x128 1} {v10 : IVec S64x128 1} {X8 X9 : S2216x128.Idx → BitVec 32} {A : S2048x128.Idx → F .f32} {k : ℕ}
    {g : S2048x128.Idx → F .f32} (h : g = accK M v10 X8 X9 A k) : AccP M v10 X8 X9 A k g := by
  subst h
  cases k with
  | zero =>
    intro c p s l
    rw [if_neg (by omega)]
    rfl
  | succ k =>
    intro c p s l
    have e1 : (⟨(c.val * 64 + p.val * 8 + s.val) / 64, by omega⟩ : Fin 32) = c := Fin.ext (by show (c.val * 64 + p.val * 8 + s.val) / 64 = c.val; omega)
    have e2 : (⟨(c.val * 64 + p.val * 8 + s.val) % 64 / 8, by omega⟩ : Fin 8) = p := Fin.ext (by show (c.val * 64 + p.val * 8 + s.val) % 64 / 8 = p.val; omega)
    have e3 : (⟨(c.val * 64 + p.val * 8 + s.val) % 8, by omega⟩ : Fin 8) = s := Fin.ext (by show (c.val * 64 + p.val * 8 + s.val) % 8 = s.val; omega)
    show (if (c.val * 64 + p.val * 8 + s.val) / 64 < 2 * (k + 1) then FloatOps.addf (A _) (chanT M v10 X8 X9 ⟨(c.val * 64 + p.val * 8 + s.val) / 64, by omega⟩
      ⟨(c.val * 64 + p.val * 8 + s.val) % 64 / 8, by omega⟩ ⟨(c.val * 64 + p.val * 8 + s.val) % 8, by omega⟩ l) else A _) = _
    rw [e1, e2, e3]
    by_cases hc : c.val < 2 * (k + 1)
    · rw [if_pos (by omega), if_pos hc]
    · rw [if_neg (by omega), if_neg hc]

theorem accK_ofP {M : Fin 8 → IVec S8x128 1} {v10 : IVec S64x128 1} {X8 X9 : S2216x128.Idx → BitVec 32} {A : S2048x128.Idx → F .f32} {k : ℕ}
    {g : S2048x128.Idx → F .f32} (h : AccP M v10 X8 X9 A (k + 1) g) : g = accK M v10 X8 X9 A (k + 1) := by
  funext j
  obtain ⟨a, l, rfl⟩ : ∃ (s : Fin 2048) (l : Fin 128), j = ix2 s l := ⟨_, _, ValueIdx.eq_ix2 j⟩
  have ha := a.isLt
  have e : a = (⟨a.val / 64 * 64 + a.val % 64 / 8 * 8 + a.val % 8, by omega⟩ : Fin 2048) := Fin.ext (by show a.val = a.val / 64 * 64 + a.val % 64 / 8 * 8 + a.val % 8; omega)
  have hp := h ⟨a.val / 64, by omega⟩ ⟨a.val % 64 / 8, by omega⟩ ⟨a.val % 8, by omega⟩ l
  refine (congrArg (fun r' => g (ix2 r' l)) e).trans (hp.trans ?_)
  show _ = (if a.val / 64 < 2 * (k + 1) then FloatOps.addf (A (ix2 a l)) (chanT M v10 X8 X9 ⟨a.val / 64, by omega⟩
      ⟨a.val % 64 / 8, by omega⟩ ⟨a.val % 8, by omega⟩ l) else A (ix2 a l))
  exact congrArg (fun r' => if a.val / 64 < 2 * (k + 1) then FloatOps.addf (A (ix2 r' l)) (chanT M v10 X8 X9 ⟨a.val / 64, by omega⟩
      ⟨a.val % 64 / 8, by omega⟩ ⟨a.val % 8, by omega⟩ l) else A (ix2 r' l)) e.symm

/-- The scratch of transposed results after the first `k` pairs. -/
def ZP (v0 : Elt F .f32) (v10 : IVec S64x128 1) (X8 : S2216x128.Idx → BitVec 32) (X10 : S8192x128.Idx → BitVec 32) (k : ℕ)
    (g : S4360x2x128.Idx → F .bf16) : Prop :=
  ∀ (π : Fin 16) (h : Fin 2) (s : Fin 128) (half : Fin 2) (l : Fin 128), π.val < k →
    g (ix3 (⟨h.val * 2176 + 17 * s.val + π.val, by omega⟩ : Fin 4360) half l)
      = tb16 (chanY v0 v10 X8 X10 ⟨2 * π.val + half.val, by omega⟩) (ix2 l (⟨128 * h.val + s.val, by omega⟩ : Fin 256))

theorem ZP_zero (v0 : Elt F .f32) (v10 : IVec S64x128 1) (X8 : S2216x128.Idx → BitVec 32) (X10 : S8192x128.Idx → BitVec 32)
    (g : S4360x2x128.Idx → F .bf16) : ZP v0 v10 X8 X10 0 g := fun π h s half l hp => absurd hp (Nat.not_lt_zero _)

theorem ZP_get {v0 : Elt F .f32} {v10 : IVec S64x128 1} {X8 : S2216x128.Idx → BitVec 32} {X10 : S8192x128.Idx → BitVec 32} {k : ℕ}
    {g : S4360x2x128.Idx → F .bf16} (h : UpTo k (ZP v0 v10 X8 X10 k g)) : ZP v0 v10 X8 X10 k g := h.get fun e => e ▸ ZP_zero v0 v10 X8 X10 g

section Loads
variable {κ : Kind} {sp : Space}

theorem exi2 {a b : ℕ} (j : (⟨2, ![a, b]⟩ : Shape).Idx) : ∃ (s : Fin a) (l : Fin b), j = ix2 s l := ⟨_, _, ValueIdx.eq_ix2 j⟩

theorem inbOf {R n W : ℕ} {off : Fin 2 → ℕ} {b : ℕ} (ho : off = ![b, 0]) (hb : b + W ≤ R) :
    ∀ a : Fin 2, off a + (![W, n] : Fin 2 → ℕ) a ≤ (![R, n] : Fin 2 → ℕ) a := by
  subst ho
  intro a
  match a with
  | ⟨0, _⟩ => exact hb
  | ⟨1, _⟩ => show 0 + n ≤ n; omega

theorem ld_apply {R n W : ℕ} {Val : EltTy → Type} {e : EltTy} (v : View sig κ sp ⟨2, ![R, n]⟩ e) (f : v.ty.Contents Val) (off : Fin 2 → ℕ) (b : ℕ)
    (ho : off = ![b, 0]) (inb) (s : Fin W) (l : Fin n) (hr : b + s.val < R) :
    View.readAt Val v (Rect.unit (s := ⟨2, ![R, n]⟩) off ![W, n] inb).toLoadRect f (ix2 s l) = v.read Val f (ix2 ⟨b + s.val, hr⟩ l) := by
  subst ho
  rw [View.readAt_apply]
  refine congrArg _ (funext fun a => Fin.ext ?_)
  match a with
  | ⟨0, _⟩ => show b + 1 * s.val = b + s.val; omega
  | ⟨1, _⟩ => show 0 + 1 * l.val = l.val; omega

theorem ld_blk (v : View sig κ sp S2216x128 .i32) (f : v.ty.Contents (Elt F)) (off : Fin 2 → ℕ) (b : ℕ) (ho : off = ![b, 0]) (c : Fin 32) (o : Fin 5)
    (hb : b = c.val * 69 + o.val) :
    View.readAt (Elt F) v (Rect.unit (s := S2216x128) off S64x128.size (inbOf (R := 2216) (n := 128) (W := 64) (b := b) ho (by omega))).toLoadRect f
      = blk (v.read (Elt F) f) c o := by
  funext j
  obtain ⟨s, l, rfl⟩ := exi2 j
  refine (ld_apply (R := 2216) (n := 128) (W := 64) v f off b ho _ s l (by omega)).trans ?_
  subst hb
  rfl

theorem ld_tblk (v : View sig κ sp S8192x128 .i32) (f : v.ty.Contents (Elt F)) (off : Fin 2 → ℕ) (b : ℕ) (ho : off = ![b, 0]) (c : Fin 32) (q : Fin 4)
    (hb : b = c.val * 256 + 64 * q.val) :
    View.readAt (Elt F) v (Rect.unit (s := S8192x128) off S64x128.size (inbOf (R := 8192) (n := 128) (W := 64) (b := b) ho (by omega))).toLoadRect f
      = tblk (v.read (Elt F) f) c q := by
  funext j
  obtain ⟨s, l, rfl⟩ := exi2 j
  refine (ld_apply (R := 8192) (n := 128) (W := 64) v f off b ho _ s l (by omega)).trans ?_
  subst hb
  rfl

variable {Val : EltTy → Type} {e : EltTy}

theorem z_hit (v : View sig κ sp S4360x2x128 e) (f : v.ty.Contents Val) (off : Fin 3 → ℕ) (o : ℕ)
    (ho : off = ![o, 0, 0]) (inb) (sp') (w : S128x2x128.Idx → Val e) (L : List (View.Piece Val S4360x2x128 e)) (row : Fin 4360) (a : Fin 2) (l : Fin 128)
    (s : Fin 128) (h : row.val = o + 17 * s.val) :
    v.read Val (v.writes Val f (⟨({ off := off, size := S128x2x128.size, stride := ![17, 1, 1], inb := inb, stride_pos := sp' } : Rect S4360x2x128), w⟩ :: L)) (ix3 row a l)
      = w (ix3 s a l) := by
  subst ho
  refine View.read_writes_cons_hit_of_coords v f ({ off := ![o, 0, 0], size := S128x2x128.size, stride := ![17, 1, 1], inb := inb, stride_pos := sp' } : Rect S4360x2x128) w L (ix3 s a l) (ix3 row a l) ?_
  intro b
  match b with
  | ⟨0, _⟩ => exact h
  | ⟨1, _⟩ => show a.val = 0 + 1 * a.val; omega
  | ⟨2, _⟩ => show l.val = 0 + 1 * l.val; omega

theorem z_miss (v : View sig κ sp S4360x2x128 e) (f : v.ty.Contents Val) (off : Fin 3 → ℕ) (o : ℕ)
    (ho : off = ![o, 0, 0]) (inb) (sp') (w : S128x2x128.Idx → Val e) (L : List (View.Piece Val S4360x2x128 e)) (row : Fin 4360) (a : Fin 2) (l : Fin 128)
    (h : ∀ s, s < 128 → row.val ≠ o + 17 * s) :
    v.read Val (v.writes Val f (⟨({ off := off, size := S128x2x128.size, stride := ![17, 1, 1], inb := inb, stride_pos := sp' } : Rect S4360x2x128), w⟩ :: L)) (ix3 row a l)
      = v.read Val (v.writes Val f L) (ix3 row a l) := by
  subst ho
  refine View.read_writes_cons_miss v f _ L _ ?_
  rw [LoadRect.mem_set]
  intro hm
  obtain ⟨s, hs, e⟩ := hm (⟨0, by decide⟩ : Fin 3)
  exact h s hs e
end Loads

theorem tr_slice_apply (Y : FVec F S128x256 .f32) (c0 : ℕ) (h1) (h2) (s l : Fin 128) (hc : c0 + s.val < 256) :
    (truncf .bf16 (transpose S128x128 [1, 0] (extractStridedSlice S128x128 ![0, c0] Y h1) h2) : FVec F S128x128 .bf16) (ix2 s l) = tb16 Y (ix2 l ⟨c0 + s.val, hc⟩) := by
  have h : transpose S128x128 [1, 0] (extractStridedSlice S128x128 ![0, c0] Y h1) h2 (ix2 s l) = Y (ix2 l ⟨c0 + s.val, hc⟩) := by
    refine (transpose_ix2_apply _ h2 s l).trans ?_
    refine extractStridedSlice_apply _ Y h1 _ _ ?_
    intro a
    match a with
    | ⟨0, _⟩ => exact (Nat.zero_add _).symm
    | ⟨1, _⟩ => rfl
  unfold tb16 truncf
  exact congrArg _ h

/-- A payload of the scratch of transposed results. -/
theorem z_payload (Y Y' Y0 Y1 : FVec F S128x256 .f32) (e0 : Y0 = Y) (e1 : Y1 = Y') (c0 : ℕ) (h1 h2 h3 h4 h5 h6 h7) (s : Fin 128) (a : Fin 2) (l : Fin 128) (hc : c0 + s.val < 256) :
    interleaveRows S128x2x128 (shapeCast S128x1x128 (truncf .bf16 (transpose S128x128 [1, 0] (extractStridedSlice S128x128 ![0, c0] Y0 h1) h2)) h3)
      (shapeCast S128x1x128 (truncf .bf16 (transpose S128x128 [1, 0] (extractStridedSlice S128x128 ![0, c0] Y1 h4) h5)) h6) h7 (ix3 s a l)
      = if a.val = 0 then tb16 Y (ix2 l ⟨c0 + s.val, hc⟩) else tb16 Y' (ix2 l ⟨c0 + s.val, hc⟩) := by
  subst e0 e1
  rw [il_apply, tr_slice_apply _ _ _ _ _ _ hc, tr_slice_apply _ _ _ _ _ _ hc]

theorem sl_apply (g : FVec F S128x256 .f32) (r0 c0 : ℕ) (h) (s : Fin 8) (l : Fin 128) (hr : r0 + s.val < 128) (hc : c0 + l.val < 256) :
    extractStridedSlice S8x128 ![r0, c0] g h (ix2 s l) = g (ix2 ⟨r0 + s.val, hr⟩ ⟨c0 + l.val, hc⟩) := by
  refine extractStridedSlice_apply _ g h _ _ ?_
  intro a
  match a with
  | ⟨0, _⟩ => rfl
  | ⟨1, _⟩ => rfl

/-- A payload of the accumulator. -/
theorem diag_payload (M : Fin 8 → IVec S8x128 1) (G g : FVec F S128x256 .f32) (e : g = G) (r k : Fin 2) (o0 o1 o2 o3 o4 o5 o6 o7 c0 : ℕ)
    (ho : o0 = 64 * r.val + 0 ∧ o1 = 64 * r.val + 8 ∧ o2 = 64 * r.val + 16 ∧ o3 = 64 * r.val + 24 ∧ o4 = 64 * r.val + 32 ∧ o5 = 64 * r.val + 40 ∧ o6 = 64 * r.val + 48 ∧ o7 = 64 * r.val + 56 ∧ c0 = 128 * k.val)
    (m0 m1 m2 m3 m4 m5 m6 m7 : IVec S8x128 1) (hM : M = ![m0, m1, m2, m3, m4, m5, m6, m7]) (old : Vec F S8x128 .f32)
    (h0 h1 h2 h3 h4 h5 h6 h7 hs) (s : Fin 8) (l : Fin 128) :
    shapeCast S8x128 (addf (φ := .f32) old
      (select m7 (extractStridedSlice S8x128 ![o7, c0] g h7) (select m6 (extractStridedSlice S8x128 ![o6, c0] g h6) (select m5 (extractStridedSlice S8x128 ![o5, c0] g h5) (select m4 (extractStridedSlice S8x128 ![o4, c0] g h4) (select m3 (extractStridedSlice S8x128 ![o3, c0] g h3) (select m2 (extractStridedSlice S8x128 ![o2, c0] g h2) (select m1 (extractStridedSlice S8x128 ![o1, c0] g h1) (select m0 (extractStridedSlice S8x128 ![o0, c0] g h0) (broadcast S8x128 (Scalar.ofBits .f32 0x00000000#32))))))))))) hs (ix2 s l)
      = FloatOps.addf (old (ix2 s l)) (diagP M G r k s l) := by
  subst e hM
  obtain ⟨rfl, rfl, rfl, rfl, rfl, rfl, rfl, rfl, rfl⟩ := ho
  rw [shapeCast_self]
  show FloatOps.addf _ _ = FloatOps.addf _ _
  refine congrArg (FloatOps.addf (old (ix2 s l))) ?_
  unfold diagP
  simp only [select_apply]
  rw [sl_apply g (64 * r.val + 56) (128 * k.val) h7 s l (by omega) (by omega)]
  rw [sl_apply g (64 * r.val + 48) (128 * k.val) h6 s l (by omega) (by omega)]
  rw [sl_apply g (64 * r.val + 40) (128 * k.val) h5 s l (by omega) (by omega)]
  rw [sl_apply g (64 * r.val + 32) (128 * k.val) h4 s l (by omega) (by omega)]
  rw [sl_apply g (64 * r.val + 24) (128 * k.val) h3 s l (by omega) (by omega)]
  rw [sl_apply g (64 * r.val + 16) (128 * k.val) h2 s l (by omega) (by omega)]
  rw [sl_apply g (64 * r.val + 8) (128 * k.val) h1 s l (by omega) (by omega)]
  rw [sl_apply g (64 * r.val + 0) (128 * k.val) h0 s l (by omega) (by omega)]
  rfl

section Acc
variable {κ : Kind} {sp : Space}

/-- The accumulator when `n` of a trip's sixteen stores are done. -/
def AccN (k : ℕ) (R : S2048x128.Idx → F .f32) (T : Fin 16 → Fin 8 → Fin 128 → F .f32) (n : ℕ) (g : S2048x128.Idx → F .f32) : Prop :=
  (∀ (p : Fin 16) (s : Fin 8) (l : Fin 128) (row : Fin 2048), p.val < n → row.val = 128 * k + 8 * p.val + s.val →
    g (ix2 row l) = FloatOps.addf (R (ix2 row l)) (T p s l))
  ∧ ∀ (row : Fin 2048) (l : Fin 128), (row.val < 128 * k ∨ 128 * k + 8 * n ≤ row.val) → g (ix2 row l) = R (ix2 row l)

theorem accN_step (k : ℕ) (hk : k < 16) (T : Fin 16 → Fin 8 → Fin 128 → F .f32) (v : View sig κ sp S2048x128 .f32) (f : v.ty.Contents (Elt F))
    (L : List (View.Piece (Elt F) S2048x128 .f32)) (n : Fin 16) (h : AccN k (v.read (Elt F) f) T n.val (v.read (Elt F) (v.writes (Elt F) f L)))
    (off : Fin 2 → ℕ) (ho : off = ![128 * k + 8 * n.val, 0]) (inb) (w : S8x128.Idx → F .f32)
    (hw : ∀ s l, w (ix2 s l) = FloatOps.addf (View.readAt (Elt F) v (Rect.unit (s := S2048x128) off S8x128.size inb).toLoadRect f (ix2 s l)) (T n s l)) :
    AccN k (v.read (Elt F) f) T (n.val + 1) (v.read (Elt F) (v.writes (Elt F) f (⟨Rect.unit (s := S2048x128) off S8x128.size inb, w⟩ :: L))) := by
  have hn := n.isLt
  constructor
  · intro p s l row hp hrow
    have hs := s.isLt
    by_cases e : p.val = n.val
    · obtain rfl : p = n := Fin.ext e
      refine (rd_hit v f off _ ho inb w L row l s hrow).trans ((hw s l).trans ?_)
      refine congrArg (fun t => FloatOps.addf t (T p s l)) ?_
      refine (ld_apply (R := 2048) (n := 128) (W := 8) v f off _ ho inb s l (by omega)).trans ?_
      exact congrArg (fun q => v.read (Elt F) f (ix2 q l)) (Fin.ext hrow.symm)
    · exact (rd_miss 8 v f off _ ho inb w L row l (by omega)).trans (h.1 p s l row (by omega) hrow)
  · intro row l hrow
    exact (rd_miss 8 v f off _ ho inb w L row l (by omega)).trans (h.2 row l (by omega))

theorem acc_step (M : Fin 8 → IVec S8x128 1) (v10 : IVec S64x128 1) (X8 X9 : S2216x128.Idx → BitVec 32) (A R g : S2048x128.Idx → F .f32) (k : ℕ) (hk : k < 16)
    (h : AccP M v10 X8 X9 A k R)
    (hn : AccN k R (fun p s l => chanT M v10 X8 X9 ⟨2 * k + p.val / 8, by omega⟩ ⟨p.val % 8, by omega⟩ s l) 16 g) :
    AccP M v10 X8 X9 A (k + 1) g := by
  intro c p s l
  have hc := c.isLt
  have hp := p.isLt
  have hs := s.isLt
  by_cases hlo : c.val < 2 * k ∨ 2 * k + 2 ≤ c.val
  · refine (hn.2 _ l (by show c.val * 64 + p.val * 8 + s.val < _ ∨ _ ≤ c.val * 64 + p.val * 8 + s.val; omega)).trans ((h c p s l).trans ?_)
    by_cases hh : c.val < 2 * k
    · rw [if_pos hh, if_pos (by omega)]
    · rw [if_neg hh, if_neg (by omega)]
  · refine (hn.1 ⟨(c.val - 2 * k) * 8 + p.val, by omega⟩ s l _ (by show (c.val - 2 * k) * 8 + p.val < 16; omega)
      (by show c.val * 64 + p.val * 8 + s.val = 128 * k + 8 * ((c.val - 2 * k) * 8 + p.val) + s.val; omega)).trans ?_
    rw [if_pos (by omega), h c p s l, if_neg (by omega)]
    have e1 : (⟨2 * k + ((c.val - 2 * k) * 8 + p.val) / 8, by omega⟩ : Fin 32) = c := Fin.ext (by show 2 * k + ((c.val - 2 * k) * 8 + p.val) / 8 = c.val; omega)
    have e2 : (⟨((c.val - 2 * k) * 8 + p.val) % 8, by omega⟩ : Fin 8) = p := Fin.ext (by show ((c.val - 2 * k) * 8 + p.val) % 8 = p.val; omega)
    show FloatOps.addf _ (chanT M v10 X8 X9 ⟨2 * k + ((c.val - 2 * k) * 8 + p.val) / 8, _⟩ ⟨((c.val - 2 * k) * 8 + p.val) % 8, _⟩ s l) = _
    rw [e1, e2]
end Acc

section Z
variable {κ : Kind} {sp : Space}
/-- A trip's two stores of transposed results carry their invariant on. -/
theorem z_step (v0 : Elt F .f32) (v10 : IVec S64x128 1) (X8 : S2216x128.Idx → BitVec 32) (X10 : S8192x128.Idx → BitVec 32) (k : ℕ) (hk : k < 16)
    (v : View sig κ sp S4360x2x128 .bf16) (f : v.ty.Contents (Elt F)) (h : ZP v0 v10 X8 X10 k (v.read (Elt F) f))
    (off0 off1 : Fin 3 → ℕ) (ho0 : off0 = ![k, 0, 0]) (ho1 : off1 = ![2176 + k, 0, 0]) (inb0 inb1 sp0 sp1) (w0 w1 : S128x2x128.Idx → F .bf16)
    (hw0 : ∀ s a l, w0 (ix3 s a l) = if a.val = 0 then tb16 (chanY v0 v10 X8 X10 ⟨2 * k, by omega⟩) (ix2 l (⟨0 + s.val, by omega⟩ : Fin 256))
        else tb16 (chanY v0 v10 X8 X10 ⟨2 * k + 1, by omega⟩) (ix2 l (⟨0 + s.val, by omega⟩ : Fin 256)))
    (hw1 : ∀ s a l, w1 (ix3 s a l) = if a.val = 0 then tb16 (chanY v0 v10 X8 X10 ⟨2 * k, by omega⟩) (ix2 l (⟨128 + s.val, by omega⟩ : Fin 256))
        else tb16 (chanY v0 v10 X8 X10 ⟨2 * k + 1, by omega⟩) (ix2 l (⟨128 + s.val, by omega⟩ : Fin 256))) :
    ZP v0 v10 X8 X10 (k + 1) (v.read (Elt F) (v.writes (Elt F) f
      [⟨({ off := off1, size := S128x2x128.size, stride := ![17, 1, 1], inb := inb1, stride_pos := sp1 } : Rect S4360x2x128), w1⟩,
       ⟨({ off := off0, size := S128x2x128.size, stride := ![17, 1, 1], inb := inb0, stride_pos := sp0 } : Rect S4360x2x128), w0⟩])) := by
  intro π hh s a l hπ
  have hp := π.isLt
  have hs := s.isLt
  by_cases hlt : π.val < k
  · refine (z_miss v f off1 _ ho1 inb1 sp1 w1 _ _ a l ?_).trans ?_
    · intro s' hs'
      show ¬ (hh.val * 2176 + 17 * s.val + π.val = 2176 + k + 17 * s')
      have := hh.isLt
      omega
    refine (z_miss v f off0 _ ho0 inb0 sp0 w0 _ _ a l ?_).trans (h π hh s a l hlt)
    intro s' hs'
    show ¬ (hh.val * 2176 + 17 * s.val + π.val = k + 17 * s')
    have := hh.isLt
    omega
  obtain rfl : π = ⟨k, hk⟩ := Fin.ext (by show π.val = k; omega)
  match hh, a with
  | ⟨1, _⟩, ⟨0, _⟩ =>
    refine (z_hit v f off1 _ ho1 inb1 sp1 w1 _ ⟨1 * 2176 + 17 * s.val + k, by omega⟩ _ l s (by show 1 * 2176 + 17 * s.val + k = 2176 + k + 17 * s.val; omega)).trans ?_
    rw [hw1]; exact if_pos rfl
  | ⟨1, _⟩, ⟨1, _⟩ =>
    refine (z_hit v f off1 _ ho1 inb1 sp1 w1 _ ⟨1 * 2176 + 17 * s.val + k, by omega⟩ _ l s (by show 1 * 2176 + 17 * s.val + k = 2176 + k + 17 * s.val; omega)).trans ?_
    rw [hw1]; exact if_neg (by show ¬ (1 : ℕ) = 0; decide)
  | ⟨0, _⟩, ⟨0, _⟩ =>
    refine (z_miss v f off1 _ ho1 inb1 sp1 w1 _ ⟨0 * 2176 + 17 * s.val + k, by omega⟩ _ l (by intro s' hs'; show ¬ (0 * 2176 + 17 * s.val + k = 2176 + k + 17 * s'); omega)).trans ?_
    refine (z_hit v f off0 _ ho0 inb0 sp0 w0 _ ⟨0 * 2176 + 17 * s.val + k, by omega⟩ _ l s (by show 0 * 2176 + 17 * s.val + k = k + 17 * s.val; omega)).trans ?_
    rw [hw0]; exact if_pos rfl
  | ⟨0, _⟩, ⟨1, _⟩ =>
    refine (z_miss v f off1 _ ho1 inb1 sp1 w1 _ ⟨0 * 2176 + 17 * s.val + k, by omega⟩ _ l (by intro s' hs'; show ¬ (0 * 2176 + 17 * s.val + k = 2176 + k + 17 * s'); omega)).trans ?_
    refine (z_hit v f off0 _ ho0 inb0 sp0 w0 _ ⟨0 * 2176 + 17 * s.val + k, by omega⟩ _ l s (by show 0 * 2176 + 17 * s.val + k = k + 17 * s.val; omega)).trans ?_
    rw [hw0]; exact if_neg (by show ¬ (1 : ℕ) = 0; decide)
end Z

theorem off23_m2 : ∀ k : Fin k0_t4_loop.trips, k0_off23 k 4294967294#32 = ![138 * k.val, 0] := by decide +kernel
theorem off23_m1 : ∀ k : Fin k0_t4_loop.trips, k0_off23 k 4294967295#32 = ![138 * k.val + 1, 0] := by decide +kernel
theorem off23_0 : ∀ k : Fin k0_t4_loop.trips, k0_off23 k 0#32 = ![138 * k.val + 2, 0] := by decide +kernel
theorem off23_1 : ∀ k : Fin k0_t4_loop.trips, k0_off23 k 1#32 = ![138 * k.val + 3, 0] := by decide +kernel
theorem off23_2 : ∀ k : Fin k0_t4_loop.trips, k0_off23 k 2#32 = ![138 * k.val + 4, 0] := by decide +kernel
theorem off27_m2 : ∀ k : Fin k0_t4_loop.trips, k0_off27 k 4294967294#32 = ![138 * k.val + 69, 0] := by decide +kernel
theorem off27_m1 : ∀ k : Fin k0_t4_loop.trips, k0_off27 k 4294967295#32 = ![138 * k.val + 70, 0] := by decide +kernel
theorem off27_0 : ∀ k : Fin k0_t4_loop.trips, k0_off27 k 0#32 = ![138 * k.val + 71, 0] := by decide +kernel
theorem off27_1 : ∀ k : Fin k0_t4_loop.trips, k0_off27 k 1#32 = ![138 * k.val + 72, 0] := by decide +kernel
theorem off27_2 : ∀ k : Fin k0_t4_loop.trips, k0_off27 k 2#32 = ![138 * k.val + 73, 0] := by decide +kernel

theorem y_congr (v0 : Elt F .f32) (v10 : IVec S64x128 1) {a1 b1 a2 b2 a0 b0 a3 b3 a4 b4 t0 u0 t1 u1 t2 u2 t3 u3 : S64x128.Idx → BitVec 32}
    (h1 : a1 = b1) (h2 : a2 = b2) (h0 : a0 = b0) (h3 : a3 = b3) (h4 : a4 = b4) (e0 : t0 = u0) (e1 : t1 = u1) (e2 : t2 = u2) (e3 : t3 = u3) :
    k0_pay40 (F := F) v0 (k0_pay37 a1 a2) (k0_pay38 v10 a0 a3 a4) t0 t1 t2 t3 = k0_pay40 v0 (k0_pay37 b1 b2) (k0_pay38 v10 b0 b3 b4) u0 u1 u2 u3 := by
  subst h1 h2 h0 h3 h4 e0 e1 e2 e3; rfl

theorem ga_congr {a1 b1 a2 b2 a0 b0 : S64x128.Idx → BitVec 32} (h1 : a1 = b1) (h2 : a2 = b2) (h0 : a0 = b0) :
    k0_pay41 (F := F) (k0_pay37 a1 a2) (k0_pay39 a0) = k0_pay41 (k0_pay37 b1 b2) (k0_pay39 b0) := by
  subst h1 h2 h0; rfl

theorem gb_congr (v10 : IVec S64x128 1) {a1 b1 a2 b2 a3 b3 a0 b0 : S64x128.Idx → BitVec 32} (h1 : a1 = b1) (h2 : a2 = b2) (h3 : a3 = b3) (h0 : a0 = b0) :
    k0_pay42 (F := F) (k0_pay38 v10 a1 a2 a3) (k0_pay39 a0) = k0_pay42 (k0_pay38 v10 b1 b2 b3) (k0_pay39 b0) := by
  subst h1 h2 h3 h0; rfl

variable (c : Dev nD) (i : grid0.Coords)
variable (arg2 : Memref sig .tc .smem S2 .f32) (harg2 : arg2.IsWhole) (arg3 : Memref sig .tc .vmem S4x32x8192 .i8) (harg3 : arg3.IsWhole) (arg4 : Memref sig .tc .vmem S4x32x8192 .i8) (harg4 : arg4.IsWhole) (arg5 : Memref sig .tc .vmem S32x8x128 .i32) (harg5 : arg5.IsWhole) (arg6 : Memref sig .tc .vmem S4x32x8192 .bf16) (harg6 : arg6.IsWhole) (arg7 : Memref sig .tc .vmem S32x128 .f32) (harg7 : arg7.IsWhole) (arg8 : Memref sig .tc .vmem S2216x128 .i32) (harg8 : arg8.IsWhole) (arg9 : Memref sig .tc .vmem S2216x128 .i32) (harg9 : arg9.IsWhole) (arg10 : Memref sig .tc .vmem S8192x128 .i32) (harg10 : arg10.IsWhole) (arg11 : Memref sig .tc .vmem S4360x2x128 .bf16) (harg11 : arg11.IsWhole) (arg12 : Memref sig .tc .vmem S2048x128 .f32) (harg12 : arg12.IsWhole)
set_option maxHeartbeats 4000000 in
@[sl_loop] def loopInv_k0_t4 (v0 : Elt F .f32) (v1 : IVec S8x128 32) (v2 : IVec S8x128 32) (v10 : IVec S64x128 1) (v32 : IVec S8x128 1) (v54 : IVec S8x128 1) (v76 : IVec S8x128 1) (v98 : IVec S8x128 1) (v120 : IVec S8x128 1) (v142 : IVec S8x128 1) (v164 : IVec S8x128 1) (c64_i32_57 : BitVec 32) (c0_i32_58 : BitVec 32)
   (X8 : BufTy.Contents (Elt F) arg8.view.ty) (X9 : BufTy.Contents (Elt F) arg9.view.ty) (X10 : BufTy.Contents (Elt F) arg10.view.ty) (A : S2048x128.Idx → F .f32) :
    Gen.LoopInvTy_k0_t4 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 v0 v1 v2 v10 v32 v54 v76 v98 v120 v142 v164 c64_i32_57 c0_i32_58 where
  inv k _ := iprop(hd (F := F) c arg8 X8 ∗ hd (F := F) c arg9 X9 ∗ hd (F := F) c arg10 X10
    ∗ (∃ f, hd (F := F) c arg11 f ∗ ⌜UpTo k (ZP v0 v10 (arg8.view.read (Elt F) X8) (arg10.view.read (Elt F) X10) k (arg11.view.read (Elt F) f))⌝)
    ∗ (∃ f, hd (F := F) c arg12 f ∗ ⌜arg12.view.read (Elt F) f = accK ![v32, v54, v76, v98, v120, v142, v164, k0_pay1 v1 v2 c64_i32_57 c0_i32_58] v10 (arg8.view.read (Elt F) X8) (arg9.view.read (Elt F) X9) A k⌝))
  step k acc := by
    unfold k0_t4_body
    iintro ⟨H8, H9, H10, ⟨%f11, H11, %h11⟩, ⟨%f12, H12, %h12i⟩⟩
    have h12 := accK_toP h12i
    replace h11 := ZP_get h11
    have hk : k.val < 16 := k.isLt
    sl_exec
    sl_step
    have ea0 := ld_blk (F := F) arg8.view X8 _ _ (off23_m2 k) ⟨2 * k.val, by omega⟩ 0 (by show 138 * k.val = 2 * k.val * 69 + 0; omega)
    have ea1 := ld_blk (F := F) arg8.view X8 _ _ (off23_m1 k) ⟨2 * k.val, by omega⟩ 1 (by show 138 * k.val + 1 = 2 * k.val * 69 + 1; omega)
    have ea2 := ld_blk (F := F) arg8.view X8 _ _ (off23_0 k) ⟨2 * k.val, by omega⟩ 2 (by show 138 * k.val + 2 = 2 * k.val * 69 + 2; omega)
    have ea3 := ld_blk (F := F) arg8.view X8 _ _ (off23_1 k) ⟨2 * k.val, by omega⟩ 3 (by show 138 * k.val + 3 = 2 * k.val * 69 + 3; omega)
    have ea4 := ld_blk (F := F) arg8.view X8 _ _ (off23_2 k) ⟨2 * k.val, by omega⟩ 4 (by show 138 * k.val + 4 = 2 * k.val * 69 + 4; omega)
    have ex := ld_blk (F := F) arg9.view X9 _ _ (k0_off24_eq k) ⟨2 * k.val, by omega⟩ 2 (by show 138 * k.val + 2 = 2 * k.val * 69 + 2; omega)
    have et0 := ld_tblk (F := F) arg10.view X10 _ _ (k0_off25_eq k 0) ⟨2 * k.val, by omega⟩ 0 (by show 512 * k.val + 64 * 0 = 2 * k.val * 256 + 64 * 0; omega)
    have et1 := ld_tblk (F := F) arg10.view X10 _ _ (k0_off25_eq k 1) ⟨2 * k.val, by omega⟩ 1 (by show 512 * k.val + 64 * 1 = 2 * k.val * 256 + 64 * 1; omega)
    have et2 := ld_tblk (F := F) arg10.view X10 _ _ (k0_off25_eq k 2) ⟨2 * k.val, by omega⟩ 2 (by show 512 * k.val + 64 * 2 = 2 * k.val * 256 + 64 * 2; omega)
    have et3 := ld_tblk (F := F) arg10.view X10 _ _ (k0_off25_eq k 3) ⟨2 * k.val, by omega⟩ 3 (by show 512 * k.val + 64 * 3 = 2 * k.val * 256 + 64 * 3; omega)
    have fa0 := ld_blk (F := F) arg8.view X8 _ _ (off27_m2 k) ⟨2 * k.val + 1, by omega⟩ 0 (by show 138 * k.val + 69 = (2 * k.val + 1) * 69 + 0; omega)
    have fa1 := ld_blk (F := F) arg8.view X8 _ _ (off27_m1 k) ⟨2 * k.val + 1, by omega⟩ 1 (by show 138 * k.val + 70 = (2 * k.val + 1) * 69 + 1; omega)
    have fa2 := ld_blk (F := F) arg8.view X8 _ _ (off27_0 k) ⟨2 * k.val + 1, by omega⟩ 2 (by show 138 * k.val + 71 = (2 * k.val + 1) * 69 + 2; omega)
    have fa3 := ld_blk (F := F) arg8.view X8 _ _ (off27_1 k) ⟨2 * k.val + 1, by omega⟩ 3 (by show 138 * k.val + 72 = (2 * k.val + 1) * 69 + 3; omega)
    have fa4 := ld_blk (F := F) arg8.view X8 _ _ (off27_2 k) ⟨2 * k.val + 1, by omega⟩ 4 (by show 138 * k.val + 73 = (2 * k.val + 1) * 69 + 4; omega)
    have fx := ld_blk (F := F) arg9.view X9 _ _ (k0_off28_eq k) ⟨2 * k.val + 1, by omega⟩ 2 (by show 138 * k.val + 71 = (2 * k.val + 1) * 69 + 2; omega)
    have ft0 := ld_tblk (F := F) arg10.view X10 _ _ (k0_off29_eq k 0) ⟨2 * k.val + 1, by omega⟩ 0 (by show 512 * k.val + 64 * 0 + 256 = (2 * k.val + 1) * 256 + 64 * 0; omega)
    have ft1 := ld_tblk (F := F) arg10.view X10 _ _ (k0_off29_eq k 1) ⟨2 * k.val + 1, by omega⟩ 1 (by show 512 * k.val + 64 * 1 + 256 = (2 * k.val + 1) * 256 + 64 * 1; omega)
    have ft2 := ld_tblk (F := F) arg10.view X10 _ _ (k0_off29_eq k 2) ⟨2 * k.val + 1, by omega⟩ 2 (by show 512 * k.val + 64 * 2 + 256 = (2 * k.val + 1) * 256 + 64 * 2; omega)
    have ft3 := ld_tblk (F := F) arg10.view X10 _ _ (k0_off29_eq k 3) ⟨2 * k.val + 1, by omega⟩ 3 (by show 512 * k.val + 64 * 3 + 256 = (2 * k.val + 1) * 256 + 64 * 3; omega)
    have hya := y_congr (F := F) v0 v10 ea1 ea2 ea0 ea3 ea4 et0 et1 et2 et3
    have hyb := y_congr (F := F) v0 v10 fa1 fa2 fa0 fa3 fa4 ft0 ft1 ft2 ft3
    have hga := ga_congr (F := F) ea1 ea2 ex
    have hgb := gb_congr (F := F) v10 ea0 ea3 ea4 ex
    have hha := ga_congr (F := F) fa1 fa2 fx
    have hhb := gb_congr (F := F) v10 fa0 fa3 fa4 fx
    clear ea0 ea1 ea2 ea3 ea4 ex et0 et1 et2 et3 fa0 fa1 fa2 fa3 fa4 fx ft0 ft1 ft2 ft3
    isplitl [H8]; · iexact H8
    isplitl [H9]; · iexact H9
    isplitl [H10]; · iexact H10
    isplitl [H11]
    · iexists _; isplitl [H11]; · iexact H11
      ipureintro
      show ZP _ _ _ _ (k.val + 1) _
      refine z_step v0 v10 _ _ k.val hk arg11.view f11 h11 _ _ ((k0_off31_eq k 0).trans (by simp)) (k0_off31_eq k 1) _ _ _ _ _ _ ?_ ?_
      · intro s a l
        exact z_payload _ _ _ _ hya hyb 0 slices_S128x256_o0_0_S128x128 transposes_S128x128_p1_0_S128x128 shapeCasts_S128x128_S128x1x128 slices_S128x256_o0_0_S128x128 transposes_S128x128_p1_0_S128x128 shapeCasts_S128x128_S128x1x128 bitcasts_S128x2x128_w16_S128x1x128_w32 s a l (by omega)
      · intro s a l
        exact z_payload _ _ _ _ hya hyb 128 slices_S128x256_o0_128_S128x128 transposes_S128x128_p1_0_S128x128 shapeCasts_S128x128_S128x1x128 slices_S128x256_o0_128_S128x128 transposes_S128x128_p1_0_S128x128 shapeCasts_S128x128_S128x1x128 bitcasts_S128x2x128_w16_S128x1x128_w32 s a l (by omega)
    iexists _; isplitl [H12]; · iexact H12
    ipureintro
    refine accK_ofP ?_
    refine acc_step _ v10 _ _ _ _ _ k.val hk h12 ?_
    refine accN_step k.val hk _ arg12.view f12 _ ⟨15, by decide⟩ ?_ _ ((k0_off30_eq k 7).trans (congrArg (fun n => ![n, 0]) (by show 128 * k.val + 8 * 7 + 64 = 128 * k.val + 8 * 15; omega))) _ _ ?_
    rotate_left
    · intro s l
      refine (diag_payload ![v32, v54, v76, v98, v120, v142, v164, k0_pay1 v1 v2 c64_i32_57 c0_i32_58] _ _ hhb ⟨1, by decide⟩ ⟨1, by decide⟩ 64 72 80 88 96 104 112 120 128 (by decide) v32 v54 v76 v98 v120 v142 v164 (k0_pay1 v1 v2 c64_i32_57 c0_i32_58) rfl _ slices_S128x256_o64_128_S8x128 slices_S128x256_o72_128_S8x128 slices_S128x256_o80_128_S8x128 slices_S128x256_o88_128_S8x128 slices_S128x256_o96_128_S8x128 slices_S128x256_o104_128_S8x128 slices_S128x256_o112_128_S8x128 slices_S128x256_o120_128_S8x128 shapeCasts_S8x128_S8x128 s l).trans (congrArg _ (chanT_b _ v10 _ _ _ _ _ _ _ s l (by show 2 * k.val + 15 / 8 = _; first | rfl | omega) rfl))
    refine accN_step k.val hk _ arg12.view f12 _ ⟨14, by decide⟩ ?_ _ ((k0_off30_eq k 6).trans (congrArg (fun n => ![n, 0]) (by show 128 * k.val + 8 * 6 + 64 = 128 * k.val + 8 * 14; omega))) _ _ ?_
    rotate_left
    · intro s l
      refine (diag_payload ![v32, v54, v76, v98, v120, v142, v164, k0_pay1 v1 v2 c64_i32_57 c0_i32_58] _ _ hhb ⟨1, by decide⟩ ⟨0, by decide⟩ 64 72 80 88 96 104 112 120 0 (by decide) v32 v54 v76 v98 v120 v142 v164 (k0_pay1 v1 v2 c64_i32_57 c0_i32_58) rfl _ slices_S128x256_o64_0_S8x128 slices_S128x256_o72_0_S8x128 slices_S128x256_o80_0_S8x128 slices_S128x256_o88_0_S8x128 slices_S128x256_o96_0_S8x128 slices_S128x256_o104_0_S8x128 slices_S128x256_o112_0_S8x128 slices_S128x256_o120_0_S8x128 shapeCasts_S8x128_S8x128 s l).trans (congrArg _ (chanT_b _ v10 _ _ _ _ _ _ _ s l (by show 2 * k.val + 14 / 8 = _; first | rfl | omega) rfl))
    refine accN_step k.val hk _ arg12.view f12 _ ⟨13, by decide⟩ ?_ _ ((k0_off30_eq k 5).trans (congrArg (fun n => ![n, 0]) (by show 128 * k.val + 8 * 5 + 64 = 128 * k.val + 8 * 13; omega))) _ _ ?_
    rotate_left
    · intro s l
      refine (diag_payload ![v32, v54, v76, v98, v120, v142, v164, k0_pay1 v1 v2 c64_i32_57 c0_i32_58] _ _ hha ⟨1, by decide⟩ ⟨1, by decide⟩ 64 72 80 88 96 104 112 120 128 (by decide) v32 v54 v76 v98 v120 v142 v164 (k0_pay1 v1 v2 c64_i32_57 c0_i32_58) rfl _ slices_S128x256_o64_128_S8x128 slices_S128x256_o72_128_S8x128 slices_S128x256_o80_128_S8x128 slices_S128x256_o88_128_S8x128 slices_S128x256_o96_128_S8x128 slices_S128x256_o104_128_S8x128 slices_S128x256_o112_128_S8x128 slices_S128x256_o120_128_S8x128 shapeCasts_S8x128_S8x128 s l).trans (congrArg _ (chanT_a _ v10 _ _ _ _ _ _ _ s l (by show 2 * k.val + 13 / 8 = _; first | rfl | omega) rfl))
    refine accN_step k.val hk _ arg12.view f12 _ ⟨12, by decide⟩ ?_ _ ((k0_off30_eq k 4).trans (congrArg (fun n => ![n, 0]) (by show 128 * k.val + 8 * 4 + 64 = 128 * k.val + 8 * 12; omega))) _ _ ?_
    rotate_left
    · intro s l
      refine (diag_payload ![v32, v54, v76, v98, v120, v142, v164, k0_pay1 v1 v2 c64_i32_57 c0_i32_58] _ _ hha ⟨1, by decide⟩ ⟨0, by decide⟩ 64 72 80 88 96 104 112 120 0 (by decide) v32 v54 v76 v98 v120 v142 v164 (k0_pay1 v1 v2 c64_i32_57 c0_i32_58) rfl _ slices_S128x256_o64_0_S8x128 slices_S128x256_o72_0_S8x128 slices_S128x256_o80_0_S8x128 slices_S128x256_o88_0_S8x128 slices_S128x256_o96_0_S8x128 slices_S128x256_o104_0_S8x128 slices_S128x256_o112_0_S8x128 slices_S128x256_o120_0_S8x128 shapeCasts_S8x128_S8x128 s l).trans (congrArg _ (chanT_a _ v10 _ _ _ _ _ _ _ s l (by show 2 * k.val + 12 / 8 = _; first | rfl | omega) rfl))
    refine accN_step k.val hk _ arg12.view f12 _ ⟨11, by decide⟩ ?_ _ ((k0_off30_eq k 3).trans (congrArg (fun n => ![n, 0]) (by show 128 * k.val + 8 * 3 + 64 = 128 * k.val + 8 * 11; omega))) _ _ ?_
    rotate_left
    · intro s l
      refine (diag_payload ![v32, v54, v76, v98, v120, v142, v164, k0_pay1 v1 v2 c64_i32_57 c0_i32_58] _ _ hhb ⟨0, by decide⟩ ⟨1, by decide⟩ 0 8 16 24 32 40 48 56 128 (by decide) v32 v54 v76 v98 v120 v142 v164 (k0_pay1 v1 v2 c64_i32_57 c0_i32_58) rfl _ slices_S128x256_o0_128_S8x128 slices_S128x256_o8_128_S8x128 slices_S128x256_o16_128_S8x128 slices_S128x256_o24_128_S8x128 slices_S128x256_o32_128_S8x128 slices_S128x256_o40_128_S8x128 slices_S128x256_o48_128_S8x128 slices_S128x256_o56_128_S8x128 shapeCasts_S8x128_S8x128 s l).trans (congrArg _ (chanT_b _ v10 _ _ _ _ _ _ _ s l (by show 2 * k.val + 11 / 8 = _; first | rfl | omega) rfl))
    refine accN_step k.val hk _ arg12.view f12 _ ⟨10, by decide⟩ ?_ _ ((k0_off30_eq k 2).trans (congrArg (fun n => ![n, 0]) (by show 128 * k.val + 8 * 2 + 64 = 128 * k.val + 8 * 10; omega))) _ _ ?_
    rotate_left
    · intro s l
      refine (diag_payload ![v32, v54, v76, v98, v120, v142, v164, k0_pay1 v1 v2 c64_i32_57 c0_i32_58] _ _ hhb ⟨0, by decide⟩ ⟨0, by decide⟩ 0 8 16 24 32 40 48 56 0 (by decide) v32 v54 v76 v98 v120 v142 v164 (k0_pay1 v1 v2 c64_i32_57 c0_i32_58) rfl _ slices_S128x256_o0_0_S8x128 slices_S128x256_o8_0_S8x128 slices_S128x256_o16_0_S8x128 slices_S128x256_o24_0_S8x128 slices_S128x256_o32_0_S8x128 slices_S128x256_o40_0_S8x128 slices_S128x256_o48_0_S8x128 slices_S128x256_o56_0_S8x128 shapeCasts_S8x128_S8x128 s l).trans (congrArg _ (chanT_b _ v10 _ _ _ _ _ _ _ s l (by show 2 * k.val + 10 / 8 = _; first | rfl | omega) rfl))
    refine accN_step k.val hk _ arg12.view f12 _ ⟨9, by decide⟩ ?_ _ ((k0_off30_eq k 1).trans (congrArg (fun n => ![n, 0]) (by show 128 * k.val + 8 * 1 + 64 = 128 * k.val + 8 * 9; omega))) _ _ ?_
    rotate_left
    · intro s l
      refine (diag_payload ![v32, v54, v76, v98, v120, v142, v164, k0_pay1 v1 v2 c64_i32_57 c0_i32_58] _ _ hha ⟨0, by decide⟩ ⟨1, by decide⟩ 0 8 16 24 32 40 48 56 128 (by decide) v32 v54 v76 v98 v120 v142 v164 (k0_pay1 v1 v2 c64_i32_57 c0_i32_58) rfl _ slices_S128x256_o0_128_S8x128 slices_S128x256_o8_128_S8x128 slices_S128x256_o16_128_S8x128 slices_S128x256_o24_128_S8x128 slices_S128x256_o32_128_S8x128 slices_S128x256_o40_128_S8x128 slices_S128x256_o48_128_S8x128 slices_S128x256_o56_128_S8x128 shapeCasts_S8x128_S8x128 s l).trans (congrArg _ (chanT_a _ v10 _ _ _ _ _ _ _ s l (by show 2 * k.val + 9 / 8 = _; first | rfl | omega) rfl))
    refine accN_step k.val hk _ arg12.view f12 _ ⟨8, by decide⟩ ?_ _ ((k0_off30_eq k 0).trans (congrArg (fun n => ![n, 0]) (by show 128 * k.val + 8 * 0 + 64 = 128 * k.val + 8 * 8; omega))) _ _ ?_
    rotate_left
    · intro s l
      refine (diag_payload ![v32, v54, v76, v98, v120, v142, v164, k0_pay1 v1 v2 c64_i32_57 c0_i32_58] _ _ hha ⟨0, by decide⟩ ⟨0, by decide⟩ 0 8 16 24 32 40 48 56 0 (by decide) v32 v54 v76 v98 v120 v142 v164 (k0_pay1 v1 v2 c64_i32_57 c0_i32_58) rfl _ slices_S128x256_o0_0_S8x128 slices_S128x256_o8_0_S8x128 slices_S128x256_o16_0_S8x128 slices_S128x256_o24_0_S8x128 slices_S128x256_o32_0_S8x128 slices_S128x256_o40_0_S8x128 slices_S128x256_o48_0_S8x128 slices_S128x256_o56_0_S8x128 shapeCasts_S8x128_S8x128 s l).trans (congrArg _ (chanT_a _ v10 _ _ _ _ _ _ _ s l (by show 2 * k.val + 8 / 8 = _; first | rfl | omega) rfl))
    refine accN_step k.val hk _ arg12.view f12 _ ⟨7, by decide⟩ ?_ _ (k0_off26_eq k 7) _ _ ?_
    rotate_left
    · intro s l
      refine (diag_payload ![v32, v54, v76, v98, v120, v142, v164, k0_pay1 v1 v2 c64_i32_57 c0_i32_58] _ _ hgb ⟨1, by decide⟩ ⟨1, by decide⟩ 64 72 80 88 96 104 112 120 128 (by decide) v32 v54 v76 v98 v120 v142 v164 (k0_pay1 v1 v2 c64_i32_57 c0_i32_58) rfl _ slices_S128x256_o64_128_S8x128 slices_S128x256_o72_128_S8x128 slices_S128x256_o80_128_S8x128 slices_S128x256_o88_128_S8x128 slices_S128x256_o96_128_S8x128 slices_S128x256_o104_128_S8x128 slices_S128x256_o112_128_S8x128 slices_S128x256_o120_128_S8x128 shapeCasts_S8x128_S8x128 s l).trans (congrArg _ (chanT_b _ v10 _ _ _ _ _ _ _ s l (by show 2 * k.val + 7 / 8 = _; first | rfl | omega) rfl))
    refine accN_step k.val hk _ arg12.view f12 _ ⟨6, by decide⟩ ?_ _ (k0_off26_eq k 6) _ _ ?_
    rotate_left
    · intro s l
      refine (diag_payload ![v32, v54, v76, v98, v120, v142, v164, k0_pay1 v1 v2 c64_i32_57 c0_i32_58] _ _ hgb ⟨1, by decide⟩ ⟨0, by decide⟩ 64 72 80 88 96 104 112 120 0 (by decide) v32 v54 v76 v98 v120 v142 v164 (k0_pay1 v1 v2 c64_i32_57 c0_i32_58) rfl _ slices_S128x256_o64_0_S8x128 slices_S128x256_o72_0_S8x128 slices_S128x256_o80_0_S8x128 slices_S128x256_o88_0_S8x128 slices_S128x256_o96_0_S8x128 slices_S128x256_o104_0_S8x128 slices_S128x256_o112_0_S8x128 slices_S128x256_o120_0_S8x128 shapeCasts_S8x128_S8x128 s l).trans (congrArg _ (chanT_b _ v10 _ _ _ _ _ _ _ s l (by show 2 * k.val + 6 / 8 = _; first | rfl | omega) rfl))
    refine accN_step k.val hk _ arg12.view f12 _ ⟨5, by decide⟩ ?_ _ (k0_off26_eq k 5) _ _ ?_
    rotate_left
    · intro s l
      refine (diag_payload ![v32, v54, v76, v98, v120, v142, v164, k0_pay1 v1 v2 c64_i32_57 c0_i32_58] _ _ hga ⟨1, by decide⟩ ⟨1, by decide⟩ 64 72 80 88 96 104 112 120 128 (by decide) v32 v54 v76 v98 v120 v142 v164 (k0_pay1 v1 v2 c64_i32_57 c0_i32_58) rfl _ slices_S128x256_o64_128_S8x128 slices_S128x256_o72_128_S8x128 slices_S128x256_o80_128_S8x128 slices_S128x256_o88_128_S8x128 slices_S128x256_o96_128_S8x128 slices_S128x256_o104_128_S8x128 slices_S128x256_o112_128_S8x128 slices_S128x256_o120_128_S8x128 shapeCasts_S8x128_S8x128 s l).trans (congrArg _ (chanT_a _ v10 _ _ _ _ _ _ _ s l (by show 2 * k.val + 5 / 8 = _; first | rfl | omega) rfl))
    refine accN_step k.val hk _ arg12.view f12 _ ⟨4, by decide⟩ ?_ _ (k0_off26_eq k 4) _ _ ?_
    rotate_left
    · intro s l
      refine (diag_payload ![v32, v54, v76, v98, v120, v142, v164, k0_pay1 v1 v2 c64_i32_57 c0_i32_58] _ _ hga ⟨1, by decide⟩ ⟨0, by decide⟩ 64 72 80 88 96 104 112 120 0 (by decide) v32 v54 v76 v98 v120 v142 v164 (k0_pay1 v1 v2 c64_i32_57 c0_i32_58) rfl _ slices_S128x256_o64_0_S8x128 slices_S128x256_o72_0_S8x128 slices_S128x256_o80_0_S8x128 slices_S128x256_o88_0_S8x128 slices_S128x256_o96_0_S8x128 slices_S128x256_o104_0_S8x128 slices_S128x256_o112_0_S8x128 slices_S128x256_o120_0_S8x128 shapeCasts_S8x128_S8x128 s l).trans (congrArg _ (chanT_a _ v10 _ _ _ _ _ _ _ s l (by show 2 * k.val + 4 / 8 = _; first | rfl | omega) rfl))
    refine accN_step k.val hk _ arg12.view f12 _ ⟨3, by decide⟩ ?_ _ (k0_off26_eq k 3) _ _ ?_
    rotate_left
    · intro s l
      refine (diag_payload ![v32, v54, v76, v98, v120, v142, v164, k0_pay1 v1 v2 c64_i32_57 c0_i32_58] _ _ hgb ⟨0, by decide⟩ ⟨1, by decide⟩ 0 8 16 24 32 40 48 56 128 (by decide) v32 v54 v76 v98 v120 v142 v164 (k0_pay1 v1 v2 c64_i32_57 c0_i32_58) rfl _ slices_S128x256_o0_128_S8x128 slices_S128x256_o8_128_S8x128 slices_S128x256_o16_128_S8x128 slices_S128x256_o24_128_S8x128 slices_S128x256_o32_128_S8x128 slices_S128x256_o40_128_S8x128 slices_S128x256_o48_128_S8x128 slices_S128x256_o56_128_S8x128 shapeCasts_S8x128_S8x128 s l).trans (congrArg _ (chanT_b _ v10 _ _ _ _ _ _ _ s l (by show 2 * k.val + 3 / 8 = _; first | rfl | omega) rfl))
    refine accN_step k.val hk _ arg12.view f12 _ ⟨2, by decide⟩ ?_ _ (k0_off26_eq k 2) _ _ ?_
    rotate_left
    · intro s l
      refine (diag_payload ![v32, v54, v76, v98, v120, v142, v164, k0_pay1 v1 v2 c64_i32_57 c0_i32_58] _ _ hgb ⟨0, by decide⟩ ⟨0, by decide⟩ 0 8 16 24 32 40 48 56 0 (by decide) v32 v54 v76 v98 v120 v142 v164 (k0_pay1 v1 v2 c64_i32_57 c0_i32_58) rfl _ slices_S128x256_o0_0_S8x128 slices_S128x256_o8_0_S8x128 slices_S128x256_o16_0_S8x128 slices_S128x256_o24_0_S8x128 slices_S128x256_o32_0_S8x128 slices_S128x256_o40_0_S8x128 slices_S128x256_o48_0_S8x128 slices_S128x256_o56_0_S8x128 shapeCasts_S8x128_S8x128 s l).trans (congrArg _ (chanT_b _ v10 _ _ _ _ _ _ _ s l (by show 2 * k.val + 2 / 8 = _; first | rfl | omega) rfl))
    refine accN_step k.val hk _ arg12.view f12 _ ⟨1, by decide⟩ ?_ _ (k0_off26_eq k 1) _ _ ?_
    rotate_left
    · intro s l
      refine (diag_payload ![v32, v54, v76, v98, v120, v142, v164, k0_pay1 v1 v2 c64_i32_57 c0_i32_58] _ _ hga ⟨0, by decide⟩ ⟨1, by decide⟩ 0 8 16 24 32 40 48 56 128 (by decide) v32 v54 v76 v98 v120 v142 v164 (k0_pay1 v1 v2 c64_i32_57 c0_i32_58) rfl _ slices_S128x256_o0_128_S8x128 slices_S128x256_o8_128_S8x128 slices_S128x256_o16_128_S8x128 slices_S128x256_o24_128_S8x128 slices_S128x256_o32_128_S8x128 slices_S128x256_o40_128_S8x128 slices_S128x256_o48_128_S8x128 slices_S128x256_o56_128_S8x128 shapeCasts_S8x128_S8x128 s l).trans (congrArg _ (chanT_a _ v10 _ _ _ _ _ _ _ s l (by show 2 * k.val + 1 / 8 = _; first | rfl | omega) rfl))
    refine accN_step k.val hk _ arg12.view f12 _ ⟨0, by decide⟩ ?_ _ (k0_off26_eq k 0) _ _ ?_
    rotate_left
    · intro s l
      refine (diag_payload ![v32, v54, v76, v98, v120, v142, v164, k0_pay1 v1 v2 c64_i32_57 c0_i32_58] _ _ hga ⟨0, by decide⟩ ⟨0, by decide⟩ 0 8 16 24 32 40 48 56 0 (by decide) v32 v54 v76 v98 v120 v142 v164 (k0_pay1 v1 v2 c64_i32_57 c0_i32_58) rfl _ slices_S128x256_o0_0_S8x128 slices_S128x256_o8_0_S8x128 slices_S128x256_o16_0_S8x128 slices_S128x256_o24_0_S8x128 slices_S128x256_o32_0_S8x128 slices_S128x256_o40_0_S8x128 slices_S128x256_o48_0_S8x128 slices_S128x256_o56_0_S8x128 shapeCasts_S8x128_S8x128 s l).trans (congrArg _ (chanT_a _ v10 _ _ _ _ _ _ _ s l (by show 2 * k.val + 0 / 8 = _; first | rfl | omega) rfl))
    exact ⟨fun p s l row hp => absurd hp (Nat.not_lt_zero _), fun row l _ => rfl⟩

end Cert.KernelIdeal.Val

end
-- ==== Proof.Egress.lean ====
/-
  The loop that writes the transposed results out: block `k` of every image's row of pixels, for all channels.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import proofs.«01_k».proof.Proof.Pairs
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds
open Idealize.ShloMosaic.ValueIdx

variable {F : FTy → Type} [FloatOps F] [∀ e, Nonempty (Elt F e)]

local notation "𝕄" => MT nD τ sig Unit (Elt F) ℕ (UR sig nD τ) ℕ

set_option warn.classDefReducibility false

/-- The result's window after the first `k` blocks. -/
def EP (Z : S4360x2x128.Idx → F .bf16) (k : ℕ) (g : S4x32x8192.Idx → F .bf16) : Prop :=
  ∀ (q : Fin 4) (cc : Fin 32) (j : Fin 64) (l : Fin 128), j.val < k →
    g (ix3 q cc (⟨128 * j.val + l.val, by omega⟩ : Fin 8192))
      = Z (ix3 (⟨68 * j.val + 17 * q.val + cc.val / 2, by omega⟩ : Fin 4360) (⟨cc.val % 2, by omega⟩ : Fin 2) l)

theorem EP_zero (Z : S4360x2x128.Idx → F .bf16) (g : S4x32x8192.Idx → F .bf16) : EP Z 0 g := fun q cc j l h => absurd h (Nat.not_lt_zero _)

theorem EP_get {Z : S4360x2x128.Idx → F .bf16} {k : ℕ} {g : S4x32x8192.Idx → F .bf16} (h : UpTo k (EP Z k g)) : EP Z k g := h.get fun e => e ▸ EP_zero Z g

section Win
variable {κ : Kind} {sp : Space} {Val : EltTy → Type} {e : EltTy}

theorem w_hit (v : View sig κ sp S4x32x8192 e) (f : v.ty.Contents Val) (off : Fin 3 → ℕ) (q o : ℕ) (ho : off = ![q, 0, o]) (inb)
    (w : S1x32x128.Idx → Val e) (L : List (View.Piece Val S4x32x8192 e)) (q' : Fin 4) (cc : Fin 32) (n : Fin 8192) (l : Fin 128)
    (hq : q'.val = q) (h : n.val = o + l.val) :
    v.read Val (v.writes Val f (⟨Rect.unit (s := S4x32x8192) off S1x32x128.size inb, w⟩ :: L)) (ix3 q' cc n) = w (ix3 0 cc l) := by
  subst ho
  refine View.read_writes_cons_hit_of_coords v f (Rect.unit (s := S4x32x8192) ![q, 0, o] S1x32x128.size inb) w L (ix3 0 cc l) (ix3 q' cc n) ?_
  intro b
  match b with
  | ⟨0, _⟩ => show q'.val = q + 1 * 0; omega
  | ⟨1, _⟩ => show cc.val = 0 + 1 * cc.val; omega
  | ⟨2, _⟩ => show n.val = o + 1 * l.val; omega

theorem w_miss (v : View sig κ sp S4x32x8192 e) (f : v.ty.Contents Val) (off : Fin 3 → ℕ) (q o : ℕ) (ho : off = ![q, 0, o]) (inb)
    (w : S1x32x128.Idx → Val e) (L : List (View.Piece Val S4x32x8192 e)) (q' : Fin 4) (cc : Fin 32) (n : Fin 8192)
    (h : q'.val ≠ q ∨ n.val < o ∨ o + 128 ≤ n.val) :
    v.read Val (v.writes Val f (⟨Rect.unit (s := S4x32x8192) off S1x32x128.size inb, w⟩ :: L)) (ix3 q' cc n) = v.read Val (v.writes Val f L) (ix3 q' cc n) := by
  subst ho
  refine View.read_writes_cons_miss v f _ L _ ?_
  rw [LoadRect.mem_set]
  intro hm
  obtain ⟨s, hs, e⟩ := hm (⟨0, by decide⟩ : Fin 3)
  obtain ⟨s', hs', e'⟩ := hm (⟨2, by decide⟩ : Fin 3)
  have e1 : q'.val = q + 1 * s := e
  have e2 : n.val = o + 1 * s' := e'
  have h1 : s < 1 := hs
  have h2 : s' < 128 := hs'
  omega

theorem zld_apply (v : View sig κ sp S4360x2x128 e) (f : v.ty.Contents Val) (off : Fin 3 → ℕ) (o : ℕ) (ho : off = ![o, 0, 0]) (inb)
    (p : Fin 16) (a : Fin 2) (l : Fin 128) (hr : o + p.val < 4360) :
    View.readAt Val v (Rect.unit (s := S4360x2x128) off S16x2x128.size inb).toLoadRect f (ix3 p a l) = v.read Val f (ix3 ⟨o + p.val, hr⟩ a l) := by
  subst ho
  rw [View.readAt_apply]
  refine congrArg _ (funext fun b => Fin.ext ?_)
  match b with
  | ⟨0, _⟩ => show o + 1 * p.val = o + p.val; omega
  | ⟨1, _⟩ => show 0 + 1 * a.val = a.val; omega
  | ⟨2, _⟩ => show 0 + 1 * l.val = l.val; omega

/-- What a trip's payload for image `q` holds. -/
theorem e_payload (v : View sig κ sp S4360x2x128 e) (f : v.ty.Contents Val) (off : Fin 3 → ℕ) (o : ℕ) (ho : off = ![o, 0, 0]) (ho' : o + 16 ≤ 4360) (inb)
    (h1 h2 h3 h4 h5 h6) (cc : Fin 32) (l : Fin 128) :
    shapeCast S1x32x128 (interleaveRows S32x128
        (shapeCast S16x128 (rowsOfParity 0 S16x1x128 (View.readAt Val v (Rect.unit (s := S4360x2x128) off S16x2x128.size inb).toLoadRect f) h1) h2)
        (shapeCast S16x128 (rowsOfParity 1 S16x1x128 (View.readAt Val v (Rect.unit (s := S4360x2x128) off S16x2x128.size inb).toLoadRect f) h3) h4) h5) h6
      (ix3 0 cc l) = v.read Val f (ix3 ⟨o + cc.val / 2, by omega⟩ ⟨cc.val % 2, by omega⟩ l) :=
  (pair_apply _ h1 h2 h3 h4 h5 h6 0 cc l).trans (zld_apply v f off o ho inb ⟨cc.val / 2, by omega⟩ ⟨cc.val % 2, by omega⟩ l (by show o + cc.val / 2 < 4360; omega))
end Win

theorem e_step {κ : Kind} {sp : Space} (Z : S4360x2x128.Idx → F .bf16) (k : ℕ) (hk : k < 64) (v : View sig κ sp S4x32x8192 .bf16) (f : v.ty.Contents (Elt F))
    (h : EP Z k (v.read (Elt F) f)) (off0 off1 off2 off3 : Fin 3 → ℕ)
    (ho0 : off0 = ![0, 0, 128 * k]) (ho1 : off1 = ![1, 0, 128 * k]) (ho2 : off2 = ![2, 0, 128 * k]) (ho3 : off3 = ![3, 0, 128 * k])
    (i0 i1 i2 i3) (w0 w1 w2 w3 : S1x32x128.Idx → F .bf16)
    (hw0 : ∀ cc l, w0 (ix3 0 cc l) = Z (ix3 (⟨68 * k + 17 * 0 + cc.val / 2, by omega⟩ : Fin 4360) (⟨cc.val % 2, by omega⟩ : Fin 2) l))
    (hw1 : ∀ cc l, w1 (ix3 0 cc l) = Z (ix3 (⟨68 * k + 17 * 1 + cc.val / 2, by omega⟩ : Fin 4360) (⟨cc.val % 2, by omega⟩ : Fin 2) l))
    (hw2 : ∀ cc l, w2 (ix3 0 cc l) = Z (ix3 (⟨68 * k + 17 * 2 + cc.val / 2, by omega⟩ : Fin 4360) (⟨cc.val % 2, by omega⟩ : Fin 2) l))
    (hw3 : ∀ cc l, w3 (ix3 0 cc l) = Z (ix3 (⟨68 * k + 17 * 3 + cc.val / 2, by omega⟩ : Fin 4360) (⟨cc.val % 2, by omega⟩ : Fin 2) l))
    : EP Z (k + 1) (v.read (Elt F) (v.writes (Elt F) f [⟨Rect.unit (s := S4x32x8192) off3 S1x32x128.size i3, w3⟩, ⟨Rect.unit (s := S4x32x8192) off2 S1x32x128.size i2, w2⟩, ⟨Rect.unit (s := S4x32x8192) off1 S1x32x128.size i1, w1⟩, ⟨Rect.unit (s := S4x32x8192) off0 S1x32x128.size i0, w0⟩])) := by
  intro q cc j l hj
  by_cases hlt : j.val < k
  · have hh : (128 * j.val + l.val < 128 * k ∨ 128 * k + 128 ≤ 128 * j.val + l.val) := by omega
    refine (w_miss v f off3 3 _ ho3 i3 w3 _ _ _ _ (Or.inr hh)).trans ?_
    refine (w_miss v f off2 2 _ ho2 i2 w2 _ _ _ _ (Or.inr hh)).trans ?_
    refine (w_miss v f off1 1 _ ho1 i1 w1 _ _ _ _ (Or.inr hh)).trans ?_
    refine (w_miss v f off0 0 _ ho0 i0 w0 _ _ _ _ (Or.inr hh)).trans ?_
    exact h q cc j l hlt
  obtain rfl : j = ⟨k, hk⟩ := Fin.ext (by show j.val = k; omega)
  match q with
  | ⟨0, hq⟩ =>
    refine Eq.trans (w_miss v f off3 3 _ ho3 i3 w3 _ ⟨0, hq⟩ cc ⟨128 * k + l.val, by omega⟩ (Or.inl (by show (0 : ℕ) ≠ 3; decide))) ?_
    refine Eq.trans (w_miss v f off2 2 _ ho2 i2 w2 _ ⟨0, hq⟩ cc ⟨128 * k + l.val, by omega⟩ (Or.inl (by show (0 : ℕ) ≠ 2; decide))) ?_
    refine Eq.trans (w_miss v f off1 1 _ ho1 i1 w1 _ ⟨0, hq⟩ cc ⟨128 * k + l.val, by omega⟩ (Or.inl (by show (0 : ℕ) ≠ 1; decide))) ?_
    exact Eq.trans (w_hit v f off0 0 _ ho0 i0 w0 _ ⟨0, hq⟩ cc ⟨128 * k + l.val, by omega⟩ l rfl rfl) (hw0 cc l)
  | ⟨1, hq⟩ =>
    refine Eq.trans (w_miss v f off3 3 _ ho3 i3 w3 _ ⟨1, hq⟩ cc ⟨128 * k + l.val, by omega⟩ (Or.inl (by show (1 : ℕ) ≠ 3; decide))) ?_
    refine Eq.trans (w_miss v f off2 2 _ ho2 i2 w2 _ ⟨1, hq⟩ cc ⟨128 * k + l.val, by omega⟩ (Or.inl (by show (1 : ℕ) ≠ 2; decide))) ?_
    exact Eq.trans (w_hit v f off1 1 _ ho1 i1 w1 _ ⟨1, hq⟩ cc ⟨128 * k + l.val, by omega⟩ l rfl rfl) (hw1 cc l)
  | ⟨2, hq⟩ =>
    refine Eq.trans (w_miss v f off3 3 _ ho3 i3 w3 _ ⟨2, hq⟩ cc ⟨128 * k + l.val, by omega⟩ (Or.inl (by show (2 : ℕ) ≠ 3; decide))) ?_
    exact Eq.trans (w_hit v f off2 2 _ ho2 i2 w2 _ ⟨2, hq⟩ cc ⟨128 * k + l.val, by omega⟩ l rfl rfl) (hw2 cc l)
  | ⟨3, hq⟩ =>
    exact Eq.trans (w_hit v f off3 3 _ ho3 i3 w3 _ ⟨3, hq⟩ cc ⟨128 * k + l.val, by omega⟩ l rfl rfl) (hw3 cc l)

set_option warn.classDefReducibility false
variable (c : Dev nD) (i : grid0.Coords)
variable (arg2 : Memref sig .tc .smem S2 .f32) (harg2 : arg2.IsWhole) (arg3 : Memref sig .tc .vmem S4x32x8192 .i8) (harg3 : arg3.IsWhole) (arg4 : Memref sig .tc .vmem S4x32x8192 .i8) (harg4 : arg4.IsWhole) (arg5 : Memref sig .tc .vmem S32x8x128 .i32) (harg5 : arg5.IsWhole) (arg6 : Memref sig .tc .vmem S4x32x8192 .bf16) (harg6 : arg6.IsWhole) (arg7 : Memref sig .tc .vmem S32x128 .f32) (harg7 : arg7.IsWhole) (arg8 : Memref sig .tc .vmem S2216x128 .i32) (harg8 : arg8.IsWhole) (arg9 : Memref sig .tc .vmem S2216x128 .i32) (harg9 : arg9.IsWhole) (arg10 : Memref sig .tc .vmem S8192x128 .i32) (harg10 : arg10.IsWhole) (arg11 : Memref sig .tc .vmem S4360x2x128 .bf16) (harg11 : arg11.IsWhole) (arg12 : Memref sig .tc .vmem S2048x128 .f32) (harg12 : arg12.IsWhole)
set_option maxHeartbeats 2000000 in
@[sl_loop] def loopInv_k0_t5v (X11 : BufTy.Contents (Elt F) arg11.view.ty) :
    Gen.LoopInvTy_k0_t5 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 where
  inv k _ := iprop(hd (F := F) c arg11 X11 ∗ (∃ f, hd (F := F) c arg6 f ∗ ⌜UpTo k (EP (arg11.view.read (Elt F) X11) k (arg6.view.read (Elt F) f))⌝))
  step k acc := by
    unfold k0_t5_body
    iintro ⟨H11, ⟨%f6, H6, %h6⟩⟩
    replace h6 := EP_get h6
    have hk : k.val < 64 := k.isLt
    sl_exec
    sl_step
    isplitl [H11]; · iexact H11
    iexists _; isplitl [H6]; · iexact H6
    ipureintro
    show EP _ (k.val + 1) _
    refine e_step _ k.val hk arg6.view f6 h6 _ _ _ _ (k0_off33_eq k) (k0_off34_eq k) (k0_off35_eq k) (k0_off36_eq k) _ _ _ _ _ _ _ _ ?_ ?_ ?_ ?_
    · intro cc l
      exact e_payload arg11.view X11 _ (68 * k.val + 17 * 0) (k0_off32_eq k 0) (by omega) _ bitcasts_S16x2x128_w16_S16x1x128_w32 shapeCasts_S16x1x128_S16x128 bitcasts_S16x2x128_w16_S16x1x128_w32 shapeCasts_S16x1x128_S16x128 bitcasts_S32x128_w16_S16x128_w32 shapeCasts_S32x128_S1x32x128 cc l
    · intro cc l
      exact e_payload arg11.view X11 _ (68 * k.val + 17 * 1) (k0_off32_eq k 1) (by omega) _ bitcasts_S16x2x128_w16_S16x1x128_w32 shapeCasts_S16x1x128_S16x128 bitcasts_S16x2x128_w16_S16x1x128_w32 shapeCasts_S16x1x128_S16x128 bitcasts_S32x128_w16_S16x128_w32 shapeCasts_S32x128_S1x32x128 cc l
    · intro cc l
      exact e_payload arg11.view X11 _ (68 * k.val + 17 * 2) (k0_off32_eq k 2) (by omega) _ bitcasts_S16x2x128_w16_S16x1x128_w32 shapeCasts_S16x1x128_S16x128 bitcasts_S16x2x128_w16_S16x1x128_w32 shapeCasts_S16x1x128_S16x128 bitcasts_S32x128_w16_S16x128_w32 shapeCasts_S32x128_S1x32x128 cc l
    · intro cc l
      exact e_payload arg11.view X11 _ (68 * k.val + 17 * 3) (k0_off32_eq k 3) (by omega) _ bitcasts_S16x2x128_w16_S16x1x128_w32 shapeCasts_S16x1x128_S16x128 bitcasts_S16x2x128_w16_S16x1x128_w32 shapeCasts_S16x1x128_S16x128 bitcasts_S32x128_w16_S16x128_w32 shapeCasts_S32x128_S1x32x128 cc l

end Cert.KernelIdeal.Val

end
-- ==== Proof.Final.lean ====
/-
  The last stage: the tap gradients gathered off the accumulator's diagonals, as a sum of sixty-four products with
  matrices of zeros and ones.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import proofs.«01_k».proof.Proof.Ingest
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds
open Idealize.ShloMosaic.ValueIdx

variable {F : FTy → Type} [FloatOps F] [∀ e, Nonempty (Elt F e)]

local notation "𝕄" => MT nD τ sig Unit (Elt F) ℕ (UR sig nD τ) ℕ

set_option warn.classDefReducibility false

/-- Remainders of the sign of the modulus, as the kernel computes them. -/
def pmod (x : IVec S128x128 32) (M : BitVec 32) : IVec S128x128 32 :=
  have w : BitVec 32 := Scalar.select (Scalar.cmpi .eq M 0#32) 1#32 M
  have r : IVec S128x128 32 := remsi x (broadcast S128x128 w)
  select (andi (xori (cmpi .slt r (broadcast S128x128 0#32)) (broadcastTo S128x128 (broadcast S128x128 (Scalar.cmpi .slt w 0#32)) broadcasts_S128x128_S128x128))
    (cmpi .ne r (broadcast S128x128 0#32))) (addi r (broadcast S128x128 w)) r

/-- Where a lane's product belongs: the tap's column, from the lane and the row group. -/
def tapJ (s : BitVec 32) : IVec S128x128 32 :=
  subi (broadcast S128x128 3#32) (subi (pmod (addi (subi (pmod (iota .tc S128x128 32 [0] iota_S128x128_d0_w32) 64#32) (broadcast S128x128 s)) (broadcast S128x128 3#32)) 8#32) (broadcast S128x128 3#32))

/-- The matrix of zeros and ones, as bits. -/
def selV (s i0 i1 : BitVec 32) : IVec S128x128 1 :=
  andi (cmpi .eq (addi (muli (select (cmpi .slt (iota .tc S128x128 32 [0] iota_S128x128_d0_w32) (broadcast S128x128 64#32)) (broadcast S128x128 i0) (broadcast S128x128 i1)) (broadcast S128x128 7#32)) (tapJ s)) (iota .tc S128x128 32 [1] iota_S128x128_d1_w32))
    (cmpi .sge (tapJ s) (broadcast S128x128 0#32))

def selM (s i0 i1 : BitVec 32) : FVec F S128x128 .f32 := sitofp .f32 (extui 32 (selV s i0 i1) natLt_1_32)

/-- One step of the sum. -/
def totS (T a : FVec F S32x128 .f32) (s i0 i1 : BitVec 32) : FVec F S32x128 .f32 :=
  addf T (matmul dot_S32x128_S128x128_S32x128_1_0_0_1_n_n (some .fp32) a (selM s i0 i1) (constant S32x128 .f32 0x00000000#32))

def tot0 : FVec F S32x128 .f32 := broadcast S32x128 (Scalar.ofBits .f32 0x00000000#32)
def totG0 (L : Fin 64 → FVec F S32x128 .f32) (t : FVec F S32x128 .f32) : FVec F S32x128 .f32 :=
  totS (totS (totS (totS (totS (totS (totS (totS t (L ⟨0, by decide⟩) 0#32 5#32 4#32) (L ⟨1, by decide⟩) 1#32 5#32 4#32) (L ⟨2, by decide⟩) 2#32 5#32 4#32) (L ⟨3, by decide⟩) 3#32 5#32 4#32) (L ⟨4, by decide⟩) 4#32 5#32 4#32) (L ⟨5, by decide⟩) 5#32 5#32 4#32) (L ⟨6, by decide⟩) 6#32 5#32 4#32) (L ⟨7, by decide⟩) 7#32 5#32 4#32
def totG1 (L : Fin 64 → FVec F S32x128 .f32) (t : FVec F S32x128 .f32) : FVec F S32x128 .f32 :=
  totS (totS (totS (totS (totS (totS (totS (totS t (L ⟨8, by decide⟩) 0#32 3#32 2#32) (L ⟨9, by decide⟩) 1#32 3#32 2#32) (L ⟨10, by decide⟩) 2#32 3#32 2#32) (L ⟨11, by decide⟩) 3#32 3#32 2#32) (L ⟨12, by decide⟩) 4#32 3#32 2#32) (L ⟨13, by decide⟩) 5#32 3#32 2#32) (L ⟨14, by decide⟩) 6#32 3#32 2#32) (L ⟨15, by decide⟩) 7#32 3#32 2#32
def totG2 (L : Fin 64 → FVec F S32x128 .f32) (t : FVec F S32x128 .f32) : FVec F S32x128 .f32 :=
  totS (totS (totS (totS (totS (totS (totS (totS t (L ⟨16, by decide⟩) 0#32 1#32 0#32) (L ⟨17, by decide⟩) 1#32 1#32 0#32) (L ⟨18, by decide⟩) 2#32 1#32 0#32) (L ⟨19, by decide⟩) 3#32 1#32 0#32) (L ⟨20, by decide⟩) 4#32 1#32 0#32) (L ⟨21, by decide⟩) 5#32 1#32 0#32) (L ⟨22, by decide⟩) 6#32 1#32 0#32) (L ⟨23, by decide⟩) 7#32 1#32 0#32
def totG3 (L : Fin 64 → FVec F S32x128 .f32) (t : FVec F S32x128 .f32) : FVec F S32x128 .f32 :=
  totS (totS (totS (totS (totS (totS (totS (totS t (L ⟨24, by decide⟩) 0#32 4294967196#32 6#32) (L ⟨25, by decide⟩) 1#32 4294967196#32 6#32) (L ⟨26, by decide⟩) 2#32 4294967196#32 6#32) (L ⟨27, by decide⟩) 3#32 4294967196#32 6#32) (L ⟨28, by decide⟩) 4#32 4294967196#32 6#32) (L ⟨29, by decide⟩) 5#32 4294967196#32 6#32) (L ⟨30, by decide⟩) 6#32 4294967196#32 6#32) (L ⟨31, by decide⟩) 7#32 4294967196#32 6#32
def totG4 (L : Fin 64 → FVec F S32x128 .f32) (t : FVec F S32x128 .f32) : FVec F S32x128 .f32 :=
  totS (totS (totS (totS (totS (totS (totS (totS t (L ⟨32, by decide⟩) 0#32 6#32 5#32) (L ⟨33, by decide⟩) 1#32 6#32 5#32) (L ⟨34, by decide⟩) 2#32 6#32 5#32) (L ⟨35, by decide⟩) 3#32 6#32 5#32) (L ⟨36, by decide⟩) 4#32 6#32 5#32) (L ⟨37, by decide⟩) 5#32 6#32 5#32) (L ⟨38, by decide⟩) 6#32 6#32 5#32) (L ⟨39, by decide⟩) 7#32 6#32 5#32
def totG5 (L : Fin 64 → FVec F S32x128 .f32) (t : FVec F S32x128 .f32) : FVec F S32x128 .f32 :=
  totS (totS (totS (totS (totS (totS (totS (totS t (L ⟨40, by decide⟩) 0#32 4#32 3#32) (L ⟨41, by decide⟩) 1#32 4#32 3#32) (L ⟨42, by decide⟩) 2#32 4#32 3#32) (L ⟨43, by decide⟩) 3#32 4#32 3#32) (L ⟨44, by decide⟩) 4#32 4#32 3#32) (L ⟨45, by decide⟩) 5#32 4#32 3#32) (L ⟨46, by decide⟩) 6#32 4#32 3#32) (L ⟨47, by decide⟩) 7#32 4#32 3#32
def totG6 (L : Fin 64 → FVec F S32x128 .f32) (t : FVec F S32x128 .f32) : FVec F S32x128 .f32 :=
  totS (totS (totS (totS (totS (totS (totS (totS t (L ⟨48, by decide⟩) 0#32 2#32 1#32) (L ⟨49, by decide⟩) 1#32 2#32 1#32) (L ⟨50, by decide⟩) 2#32 2#32 1#32) (L ⟨51, by decide⟩) 3#32 2#32 1#32) (L ⟨52, by decide⟩) 4#32 2#32 1#32) (L ⟨53, by decide⟩) 5#32 2#32 1#32) (L ⟨54, by decide⟩) 6#32 2#32 1#32) (L ⟨55, by decide⟩) 7#32 2#32 1#32
def totG7 (L : Fin 64 → FVec F S32x128 .f32) (t : FVec F S32x128 .f32) : FVec F S32x128 .f32 :=
  totS (totS (totS (totS (totS (totS (totS (totS t (L ⟨56, by decide⟩) 0#32 0#32 4294967196#32) (L ⟨57, by decide⟩) 1#32 0#32 4294967196#32) (L ⟨58, by decide⟩) 2#32 0#32 4294967196#32) (L ⟨59, by decide⟩) 3#32 0#32 4294967196#32) (L ⟨60, by decide⟩) 4#32 0#32 4294967196#32) (L ⟨61, by decide⟩) 5#32 0#32 4294967196#32) (L ⟨62, by decide⟩) 6#32 0#32 4294967196#32) (L ⟨63, by decide⟩) 7#32 0#32 4294967196#32

/-- The sum of all sixty-four. -/
def totAll (L : Fin 64 → FVec F S32x128 .f32) : FVec F S32x128 .f32 := totG7 L (totG6 L (totG5 L (totG4 L (totG3 L (totG2 L (totG1 L (totG0 L tot0)))))))

/-- The tap gradients, scaled. -/
def finL (L : Fin 64 → FVec F S32x128 .f32) (xs ds : F .f32) : FVec F S32x128 .f32 :=
  mulf (mulf (totAll L) (broadcast S32x128 xs)) (broadcast S32x128 ds)

/-- A row number in every lane; a column number in every lane. -/
abbrev lane0 : IVec S128x128 32 := iota .tc S128x128 32 [0] iota_S128x128_d0_w32
abbrev lane1 : IVec S128x128 32 := iota .tc S128x128 32 [1] iota_S128x128_d1_w32
/-- Step 0, as printed. -/
def st0 (t a : FVec F S32x128 .f32) : FVec F S32x128 .f32 := k0_pay86 t lane1 lane0 a (k0_pay83) (k0_pay84) (k0_pay85)
theorem st0_eq (t a : FVec F S32x128 .f32) : st0 t a = totS t a 0#32 5#32 4#32 := rfl
/-- Step 1, as printed. -/
def st1 (t a : FVec F S32x128 .f32) : FVec F S32x128 .f32 := k0_pay88 lane1 lane0 t a (k0_pay87 lane0)
theorem st1_eq (t a : FVec F S32x128 .f32) : st1 t a = totS t a 1#32 5#32 4#32 := rfl
/-- Step 2, as printed. -/
def st2 (t a : FVec F S32x128 .f32) : FVec F S32x128 .f32 := k0_pay92 lane1 t a (k0_pay90 (Scalar.select (Scalar.cmpi .eq 64#32 0#32) 1#32 64#32) (k0_pay89 lane0)) (k0_pay91 lane0)
theorem st2_eq (t a : FVec F S32x128 .f32) : st2 t a = totS t a 2#32 5#32 4#32 := rfl
/-- Step 3, as printed. -/
def st3 (t a : FVec F S32x128 .f32) : FVec F S32x128 .f32 := k0_pay96 lane1 lane0 t a (Scalar.select (Scalar.cmpi .eq 8#32 0#32) 1#32 8#32) (k0_pay93 lane0) (k0_pay94 lane0) (k0_pay95 lane0)
theorem st3_eq (t a : FVec F S32x128 .f32) : st3 t a = totS t a 3#32 5#32 4#32 := rfl
/-- Step 4, as printed. -/
def st4 (t a : FVec F S32x128 .f32) : FVec F S32x128 .f32 := k0_pay98 lane1 lane0 t a (k0_pay97 lane0)
theorem st4_eq (t a : FVec F S32x128 .f32) : st4 t a = totS t a 4#32 5#32 4#32 := rfl
/-- Step 5, as printed. -/
def st5 (t a : FVec F S32x128 .f32) : FVec F S32x128 .f32 := k0_pay101 lane1 t a (k0_pay99 lane0 (64#32) (Scalar.cmpi .eq 64#32 0#32) (1#32)) (k0_pay100 lane0)
theorem st5_eq (t a : FVec F S32x128 .f32) : st5 t a = totS t a 5#32 5#32 4#32 := rfl
/-- Step 6, as printed. -/
def st6 (t a : FVec F S32x128 .f32) : FVec F S32x128 .f32 := k0_pay105 lane1 lane0 t a (Scalar.select (Scalar.cmpi .eq 8#32 0#32) 1#32 8#32) (k0_pay102 lane0) (k0_pay103 lane0) (k0_pay104 lane0) (Scalar.cmpi .slt (Scalar.select (Scalar.cmpi .eq 8#32 0#32) 1#32 8#32) 0#32)
theorem st6_eq (t a : FVec F S32x128 .f32) : st6 t a = totS t a 6#32 5#32 4#32 := rfl
/-- Step 7, as printed. -/
def st7 (t a : FVec F S32x128 .f32) : FVec F S32x128 .f32 := k0_pay107 lane1 lane0 t a (k0_pay106 lane0)
theorem st7_eq (t a : FVec F S32x128 .f32) : st7 t a = totS t a 7#32 5#32 4#32 := rfl
/-- Step 8, as printed. -/
def st8 (t a : FVec F S32x128 .f32) : FVec F S32x128 .f32 := k0_pay110 lane1 t a (k0_pay108 lane0 (64#32)) (k0_pay109 lane0) (3#32) (2#32)
theorem st8_eq (t a : FVec F S32x128 .f32) : st8 t a = totS t a 0#32 3#32 2#32 := rfl
/-- Step 9, as printed. -/
def st9 (t a : FVec F S32x128 .f32) : FVec F S32x128 .f32 := k0_pay114 lane1 lane0 t a (Scalar.select (Scalar.cmpi .eq 8#32 0#32) 1#32 8#32) (k0_pay111 lane0) (k0_pay112 lane0) (k0_pay113)
theorem st9_eq (t a : FVec F S32x128 .f32) : st9 t a = totS t a 1#32 3#32 2#32 := rfl
/-- Step 10, as printed. -/
def st10 (t a : FVec F S32x128 .f32) : FVec F S32x128 .f32 := (k0_pay117 lane1 lane0 t a (Scalar.select (Scalar.cmpi .eq 64#32 0#32) 1#32 64#32) (k0_pay115 lane0) (k0_pay116 lane0))
theorem st10_eq (t a : FVec F S32x128 .f32) : st10 t a = totS t a 2#32 3#32 2#32 := rfl
/-- Step 11, as printed. -/
def st11 (t a : FVec F S32x128 .f32) : FVec F S32x128 .f32 := k0_pay120 lane1 lane0 t a (k0_pay118 lane0) (k0_pay119)
theorem st11_eq (t a : FVec F S32x128 .f32) : st11 t a = totS t a 3#32 3#32 2#32 := rfl
/-- Step 12, as printed. -/
def st12 (t a : FVec F S32x128 .f32) : FVec F S32x128 .f32 := k0_pay123 lane1 lane0 t a (Scalar.select (Scalar.cmpi .eq 8#32 0#32) 1#32 8#32) (k0_pay121 lane0) (k0_pay122)
theorem st12_eq (t a : FVec F S32x128 .f32) : st12 t a = totS t a 4#32 3#32 2#32 := rfl
/-- Step 13, as printed. -/
def st13 (t a : FVec F S32x128 .f32) : FVec F S32x128 .f32 := k0_pay129 t a (k0_pay128 (F := F) lane1 lane0 (Scalar.select (Scalar.cmpi .eq 64#32 0#32) 1#32 64#32) (k0_pay124 lane0) (k0_pay125 lane0) (k0_pay126 lane0) (k0_pay127)) (constant S32x128 .f32 0x00000000#32)
theorem st13_eq (t a : FVec F S32x128 .f32) : st13 t a = totS t a 5#32 3#32 2#32 := rfl
/-- Step 14, as printed. -/
def st14 (t a : FVec F S32x128 .f32) : FVec F S32x128 .f32 := k0_pay132 lane1 lane0 t a (k0_pay130 lane0) (k0_pay131)
theorem st14_eq (t a : FVec F S32x128 .f32) : st14 t a = totS t a 6#32 3#32 2#32 := rfl
/-- Step 15, as printed. -/
def st15 (t a : FVec F S32x128 .f32) : FVec F S32x128 .f32 := k0_pay135 lane1 lane0 t a (k0_pay133 lane0) (Scalar.select (Scalar.cmpi .eq 8#32 0#32) 1#32 8#32) (k0_pay134)
theorem st15_eq (t a : FVec F S32x128 .f32) : st15 t a = totS t a 7#32 3#32 2#32 := rfl
/-- Step 16, as printed. -/
def st16 (t a : FVec F S32x128 .f32) : FVec F S32x128 .f32 := k0_pay140 t a (k0_pay139 lane1 lane0 (Scalar.select (Scalar.cmpi .eq 64#32 0#32) 1#32 64#32) (k0_pay136 lane0) (k0_pay137 lane0) (k0_pay138 lane0))
theorem st16_eq (t a : FVec F S32x128 .f32) : st16 t a = totS t a 0#32 1#32 0#32 := rfl
/-- Step 17, as printed. -/
def st17 (t a : FVec F S32x128 .f32) : FVec F S32x128 .f32 := k0_pay143 lane1 lane0 t a (k0_pay141 lane0) (k0_pay142)
theorem st17_eq (t a : FVec F S32x128 .f32) : st17 t a = totS t a 1#32 1#32 0#32 := rfl
/-- Step 18, as printed. -/
def st18 (t a : FVec F S32x128 .f32) : FVec F S32x128 .f32 := k0_pay145 lane1 lane0 t a (k0_pay144 lane0) (8#32) (Scalar.cmpi .eq 8#32 0#32)
theorem st18_eq (t a : FVec F S32x128 .f32) : st18 t a = totS t a 2#32 1#32 0#32 := rfl
/-- Step 19, as printed. -/
def st19 (t a : FVec F S32x128 .f32) : FVec F S32x128 .f32 := k0_pay150 t a (k0_pay148 (Scalar.select (Scalar.cmpi .eq 64#32 0#32) 1#32 64#32) (k0_pay146 lane0) (k0_pay147 lane0)) (k0_pay149 lane1 lane0 (Scalar.select (Scalar.cmpi .eq 64#32 0#32) 1#32 64#32) (k0_pay146 lane0) (k0_pay147 lane0)) (0#32)
theorem st19_eq (t a : FVec F S32x128 .f32) : st19 t a = totS t a 3#32 1#32 0#32 := rfl
/-- Step 20, as printed. -/
def st20 (t a : FVec F S32x128 .f32) : FVec F S32x128 .f32 := k0_pay154 lane1 lane0 t a (k0_pay151 lane0) (k0_pay152 lane0) (k0_pay153 lane0)
theorem st20_eq (t a : FVec F S32x128 .f32) : st20 t a = totS t a 4#32 1#32 0#32 := rfl
/-- Step 21, as printed. -/
def st21 (t a : FVec F S32x128 .f32) : FVec F S32x128 .f32 := k0_pay156 lane1 lane0 t a (k0_pay155 lane0)
theorem st21_eq (t a : FVec F S32x128 .f32) : st21 t a = totS t a 5#32 1#32 0#32 := rfl
/-- Step 22, as printed. -/
def st22 (t a : FVec F S32x128 .f32) : FVec F S32x128 .f32 := k0_pay160 lane1 t a (k0_pay158 (Scalar.select (Scalar.cmpi .eq 64#32 0#32) 1#32 64#32) (k0_pay157 lane0)) (k0_pay159 lane0)
theorem st22_eq (t a : FVec F S32x128 .f32) : st22 t a = totS t a 6#32 1#32 0#32 := rfl
/-- Step 23, as printed. -/
def st23 (t a : FVec F S32x128 .f32) : FVec F S32x128 .f32 := k0_pay164 lane1 lane0 t a (Scalar.select (Scalar.cmpi .eq 8#32 0#32) 1#32 8#32) (k0_pay161 lane0) (k0_pay162 lane0) (k0_pay163 lane0)
theorem st23_eq (t a : FVec F S32x128 .f32) : st23 t a = totS t a 7#32 1#32 0#32 := rfl
/-- Step 24, as printed. -/
def st24 (t a : FVec F S32x128 .f32) : FVec F S32x128 .f32 := k0_pay166 lane1 lane0 t a (k0_pay165 lane0)
theorem st24_eq (t a : FVec F S32x128 .f32) : st24 t a = totS t a 0#32 4294967196#32 6#32 := rfl
/-- Step 25, as printed. -/
def st25 (t a : FVec F S32x128 .f32) : FVec F S32x128 .f32 := k0_pay169 lane1 t a (k0_pay167 lane0 (64#32) (Scalar.cmpi .eq 64#32 0#32) (1#32)) (k0_pay168 lane0)
theorem st25_eq (t a : FVec F S32x128 .f32) : st25 t a = totS t a 1#32 4294967196#32 6#32 := rfl
/-- Step 26, as printed. -/
def st26 (t a : FVec F S32x128 .f32) : FVec F S32x128 .f32 := k0_pay173 lane1 lane0 t a (Scalar.select (Scalar.cmpi .eq 8#32 0#32) 1#32 8#32) (k0_pay170 lane0) (k0_pay171 lane0) (k0_pay172 lane0) (Scalar.cmpi .slt (Scalar.select (Scalar.cmpi .eq 8#32 0#32) 1#32 8#32) 0#32)
theorem st26_eq (t a : FVec F S32x128 .f32) : st26 t a = totS t a 2#32 4294967196#32 6#32 := rfl
/-- Step 27, as printed. -/
def st27 (t a : FVec F S32x128 .f32) : FVec F S32x128 .f32 := k0_pay175 lane1 lane0 t a (k0_pay174 lane0)
theorem st27_eq (t a : FVec F S32x128 .f32) : st27 t a = totS t a 3#32 4294967196#32 6#32 := rfl
/-- Step 28, as printed. -/
def st28 (t a : FVec F S32x128 .f32) : FVec F S32x128 .f32 := k0_pay178 lane1 t a (k0_pay176 lane0 (64#32)) (k0_pay177 lane0) (4294967196#32) (6#32)
theorem st28_eq (t a : FVec F S32x128 .f32) : st28 t a = totS t a 4#32 4294967196#32 6#32 := rfl
/-- Step 29, as printed. -/
def st29 (t a : FVec F S32x128 .f32) : FVec F S32x128 .f32 := k0_pay182 lane1 lane0 t a (Scalar.select (Scalar.cmpi .eq 8#32 0#32) 1#32 8#32) (k0_pay179 lane0) (k0_pay180 lane0) (k0_pay181)
theorem st29_eq (t a : FVec F S32x128 .f32) : st29 t a = totS t a 5#32 4294967196#32 6#32 := rfl
/-- Step 30, as printed. -/
def st30 (t a : FVec F S32x128 .f32) : FVec F S32x128 .f32 := (k0_pay185 lane1 lane0 t a (Scalar.select (Scalar.cmpi .eq 64#32 0#32) 1#32 64#32) (k0_pay183 lane0) (k0_pay184 lane0))
theorem st30_eq (t a : FVec F S32x128 .f32) : st30 t a = totS t a 6#32 4294967196#32 6#32 := rfl
/-- Step 31, as printed. -/
def st31 (t a : FVec F S32x128 .f32) : FVec F S32x128 .f32 := k0_pay188 lane1 lane0 t a (k0_pay186 lane0) (k0_pay187)
theorem st31_eq (t a : FVec F S32x128 .f32) : st31 t a = totS t a 7#32 4294967196#32 6#32 := rfl
/-- Step 32, as printed. -/
def st32 (t a : FVec F S32x128 .f32) : FVec F S32x128 .f32 := k0_pay191 lane1 lane0 t a (Scalar.select (Scalar.cmpi .eq 8#32 0#32) 1#32 8#32) (k0_pay189 lane0) (k0_pay190)
theorem st32_eq (t a : FVec F S32x128 .f32) : st32 t a = totS t a 0#32 6#32 5#32 := rfl
/-- Step 33, as printed. -/
def st33 (t a : FVec F S32x128 .f32) : FVec F S32x128 .f32 := k0_pay197 t a (k0_pay196 (F := F) lane1 lane0 (Scalar.select (Scalar.cmpi .eq 64#32 0#32) 1#32 64#32) (k0_pay192 lane0) (k0_pay193 lane0) (k0_pay194 lane0) (k0_pay195)) (constant S32x128 .f32 0x00000000#32)
theorem st33_eq (t a : FVec F S32x128 .f32) : st33 t a = totS t a 1#32 6#32 5#32 := rfl
/-- Step 34, as printed. -/
def st34 (t a : FVec F S32x128 .f32) : FVec F S32x128 .f32 := k0_pay200 lane1 lane0 t a (k0_pay198 lane0) (k0_pay199)
theorem st34_eq (t a : FVec F S32x128 .f32) : st34 t a = totS t a 2#32 6#32 5#32 := rfl
/-- Step 35, as printed. -/
def st35 (t a : FVec F S32x128 .f32) : FVec F S32x128 .f32 := k0_pay203 lane1 lane0 t a (k0_pay201 lane0) (Scalar.select (Scalar.cmpi .eq 8#32 0#32) 1#32 8#32) (k0_pay202)
theorem st35_eq (t a : FVec F S32x128 .f32) : st35 t a = totS t a 3#32 6#32 5#32 := rfl
/-- Step 36, as printed. -/
def st36 (t a : FVec F S32x128 .f32) : FVec F S32x128 .f32 := k0_pay208 t a (k0_pay207 lane1 lane0 (Scalar.select (Scalar.cmpi .eq 64#32 0#32) 1#32 64#32) (k0_pay204 lane0) (k0_pay205 lane0) (k0_pay206 lane0))
theorem st36_eq (t a : FVec F S32x128 .f32) : st36 t a = totS t a 4#32 6#32 5#32 := rfl
/-- Step 37, as printed. -/
def st37 (t a : FVec F S32x128 .f32) : FVec F S32x128 .f32 := k0_pay211 lane1 lane0 t a (k0_pay209 lane0) (k0_pay210)
theorem st37_eq (t a : FVec F S32x128 .f32) : st37 t a = totS t a 5#32 6#32 5#32 := rfl
/-- Step 38, as printed. -/
def st38 (t a : FVec F S32x128 .f32) : FVec F S32x128 .f32 := k0_pay213 lane1 lane0 t a (k0_pay212 lane0) (8#32) (Scalar.cmpi .eq 8#32 0#32)
theorem st38_eq (t a : FVec F S32x128 .f32) : st38 t a = totS t a 6#32 6#32 5#32 := rfl
/-- Step 39, as printed. -/
def st39 (t a : FVec F S32x128 .f32) : FVec F S32x128 .f32 := k0_pay218 t a (k0_pay216 (Scalar.select (Scalar.cmpi .eq 64#32 0#32) 1#32 64#32) (k0_pay214 lane0) (k0_pay215 lane0)) (k0_pay217 lane1 lane0 (Scalar.select (Scalar.cmpi .eq 64#32 0#32) 1#32 64#32) (k0_pay214 lane0) (k0_pay215 lane0)) (0#32)
theorem st39_eq (t a : FVec F S32x128 .f32) : st39 t a = totS t a 7#32 6#32 5#32 := rfl
/-- Step 40, as printed. -/
def st40 (t a : FVec F S32x128 .f32) : FVec F S32x128 .f32 := k0_pay222 lane1 lane0 t a (k0_pay219 lane0) (k0_pay220 lane0) (k0_pay221 lane0)
theorem st40_eq (t a : FVec F S32x128 .f32) : st40 t a = totS t a 0#32 4#32 3#32 := rfl
/-- Step 41, as printed. -/
def st41 (t a : FVec F S32x128 .f32) : FVec F S32x128 .f32 := k0_pay224 lane1 lane0 t a (k0_pay223 lane0)
theorem st41_eq (t a : FVec F S32x128 .f32) : st41 t a = totS t a 1#32 4#32 3#32 := rfl
/-- Step 42, as printed. -/
def st42 (t a : FVec F S32x128 .f32) : FVec F S32x128 .f32 := k0_pay228 lane1 t a (k0_pay226 (Scalar.select (Scalar.cmpi .eq 64#32 0#32) 1#32 64#32) (k0_pay225 lane0)) (k0_pay227 lane0)
theorem st42_eq (t a : FVec F S32x128 .f32) : st42 t a = totS t a 2#32 4#32 3#32 := rfl
/-- Step 43, as printed. -/
def st43 (t a : FVec F S32x128 .f32) : FVec F S32x128 .f32 := k0_pay232 lane1 lane0 t a (Scalar.select (Scalar.cmpi .eq 8#32 0#32) 1#32 8#32) (k0_pay229 lane0) (k0_pay230 lane0) (k0_pay231 lane0)
theorem st43_eq (t a : FVec F S32x128 .f32) : st43 t a = totS t a 3#32 4#32 3#32 := rfl
/-- Step 44, as printed. -/
def st44 (t a : FVec F S32x128 .f32) : FVec F S32x128 .f32 := k0_pay234 lane1 lane0 t a (k0_pay233 lane0)
theorem st44_eq (t a : FVec F S32x128 .f32) : st44 t a = totS t a 4#32 4#32 3#32 := rfl
/-- Step 45, as printed. -/
def st45 (t a : FVec F S32x128 .f32) : FVec F S32x128 .f32 := k0_pay237 lane1 t a (k0_pay235 lane0 (64#32) (Scalar.cmpi .eq 64#32 0#32) (1#32)) (k0_pay236 lane0)
theorem st45_eq (t a : FVec F S32x128 .f32) : st45 t a = totS t a 5#32 4#32 3#32 := rfl
/-- Step 46, as printed. -/
def st46 (t a : FVec F S32x128 .f32) : FVec F S32x128 .f32 := k0_pay241 lane1 lane0 t a (Scalar.select (Scalar.cmpi .eq 8#32 0#32) 1#32 8#32) (k0_pay238 lane0) (k0_pay239 lane0) (k0_pay240 lane0) (Scalar.cmpi .slt (Scalar.select (Scalar.cmpi .eq 8#32 0#32) 1#32 8#32) 0#32)
theorem st46_eq (t a : FVec F S32x128 .f32) : st46 t a = totS t a 6#32 4#32 3#32 := rfl
/-- Step 47, as printed. -/
def st47 (t a : FVec F S32x128 .f32) : FVec F S32x128 .f32 := k0_pay243 lane1 lane0 t a (k0_pay242 lane0)
theorem st47_eq (t a : FVec F S32x128 .f32) : st47 t a = totS t a 7#32 4#32 3#32 := rfl
/-- Step 48, as printed. -/
def st48 (t a : FVec F S32x128 .f32) : FVec F S32x128 .f32 := k0_pay246 lane1 t a (k0_pay244 lane0 (64#32)) (k0_pay245 lane0) (2#32) (1#32)
theorem st48_eq (t a : FVec F S32x128 .f32) : st48 t a = totS t a 0#32 2#32 1#32 := rfl
/-- Step 49, as printed. -/
def st49 (t a : FVec F S32x128 .f32) : FVec F S32x128 .f32 := k0_pay250 lane1 lane0 t a (Scalar.select (Scalar.cmpi .eq 8#32 0#32) 1#32 8#32) (k0_pay247 lane0) (k0_pay248 lane0) (k0_pay249)
theorem st49_eq (t a : FVec F S32x128 .f32) : st49 t a = totS t a 1#32 2#32 1#32 := rfl
/-- Step 50, as printed. -/
def st50 (t a : FVec F S32x128 .f32) : FVec F S32x128 .f32 := (k0_pay253 lane1 lane0 t a (Scalar.select (Scalar.cmpi .eq 64#32 0#32) 1#32 64#32) (k0_pay251 lane0) (k0_pay252 lane0))
theorem st50_eq (t a : FVec F S32x128 .f32) : st50 t a = totS t a 2#32 2#32 1#32 := rfl
/-- Step 51, as printed. -/
def st51 (t a : FVec F S32x128 .f32) : FVec F S32x128 .f32 := k0_pay256 lane1 lane0 t a (k0_pay254 lane0) (k0_pay255)
theorem st51_eq (t a : FVec F S32x128 .f32) : st51 t a = totS t a 3#32 2#32 1#32 := rfl
/-- Step 52, as printed. -/
def st52 (t a : FVec F S32x128 .f32) : FVec F S32x128 .f32 := k0_pay259 lane1 lane0 t a (Scalar.select (Scalar.cmpi .eq 8#32 0#32) 1#32 8#32) (k0_pay257 lane0) (k0_pay258)
theorem st52_eq (t a : FVec F S32x128 .f32) : st52 t a = totS t a 4#32 2#32 1#32 := rfl
/-- Step 53, as printed. -/
def st53 (t a : FVec F S32x128 .f32) : FVec F S32x128 .f32 := k0_pay265 t a (k0_pay264 (F := F) lane1 lane0 (Scalar.select (Scalar.cmpi .eq 64#32 0#32) 1#32 64#32) (k0_pay260 lane0) (k0_pay261 lane0) (k0_pay262 lane0) (k0_pay263)) (constant S32x128 .f32 0x00000000#32)
theorem st53_eq (t a : FVec F S32x128 .f32) : st53 t a = totS t a 5#32 2#32 1#32 := rfl
/-- Step 54, as printed. -/
def st54 (t a : FVec F S32x128 .f32) : FVec F S32x128 .f32 := k0_pay268 lane1 lane0 t a (k0_pay266 lane0) (k0_pay267)
theorem st54_eq (t a : FVec F S32x128 .f32) : st54 t a = totS t a 6#32 2#32 1#32 := rfl
/-- Step 55, as printed. -/
def st55 (t a : FVec F S32x128 .f32) : FVec F S32x128 .f32 := k0_pay271 lane1 lane0 t a (k0_pay269 lane0) (Scalar.select (Scalar.cmpi .eq 8#32 0#32) 1#32 8#32) (k0_pay270)
theorem st55_eq (t a : FVec F S32x128 .f32) : st55 t a = totS t a 7#32 2#32 1#32 := rfl
/-- Step 56, as printed. -/
def st56 (t a : FVec F S32x128 .f32) : FVec F S32x128 .f32 := k0_pay276 t a (k0_pay275 lane1 lane0 (Scalar.select (Scalar.cmpi .eq 64#32 0#32) 1#32 64#32) (k0_pay272 lane0) (k0_pay273 lane0) (k0_pay274 lane0))
theorem st56_eq (t a : FVec F S32x128 .f32) : st56 t a = totS t a 0#32 0#32 4294967196#32 := rfl
/-- Step 57, as printed. -/
def st57 (t a : FVec F S32x128 .f32) : FVec F S32x128 .f32 := k0_pay279 lane1 lane0 t a (k0_pay277 lane0) (k0_pay278)
theorem st57_eq (t a : FVec F S32x128 .f32) : st57 t a = totS t a 1#32 0#32 4294967196#32 := rfl
/-- Step 58, as printed. -/
def st58 (t a : FVec F S32x128 .f32) : FVec F S32x128 .f32 := k0_pay281 lane1 lane0 t a (k0_pay280 lane0) (8#32) (Scalar.cmpi .eq 8#32 0#32)
theorem st58_eq (t a : FVec F S32x128 .f32) : st58 t a = totS t a 2#32 0#32 4294967196#32 := rfl
/-- Step 59, as printed. -/
def st59 (t a : FVec F S32x128 .f32) : FVec F S32x128 .f32 := k0_pay286 t a (k0_pay284 (Scalar.select (Scalar.cmpi .eq 64#32 0#32) 1#32 64#32) (k0_pay282 lane0) (k0_pay283 lane0)) (k0_pay285 lane1 lane0 (Scalar.select (Scalar.cmpi .eq 64#32 0#32) 1#32 64#32) (k0_pay282 lane0) (k0_pay283 lane0)) (0#32)
theorem st59_eq (t a : FVec F S32x128 .f32) : st59 t a = totS t a 3#32 0#32 4294967196#32 := rfl
/-- Step 60, as printed. -/
def st60 (t a : FVec F S32x128 .f32) : FVec F S32x128 .f32 := k0_pay290 lane1 lane0 t a (k0_pay287 lane0) (k0_pay288 lane0) (k0_pay289 lane0)
theorem st60_eq (t a : FVec F S32x128 .f32) : st60 t a = totS t a 4#32 0#32 4294967196#32 := rfl
/-- Step 61, as printed. -/
def st61 (t a : FVec F S32x128 .f32) : FVec F S32x128 .f32 := k0_pay292 lane1 lane0 t a (k0_pay291 lane0)
theorem st61_eq (t a : FVec F S32x128 .f32) : st61 t a = totS t a 5#32 0#32 4294967196#32 := rfl
/-- Step 62, as printed. -/
def st62 (t a : FVec F S32x128 .f32) : FVec F S32x128 .f32 := k0_pay296 lane1 t a (k0_pay294 (Scalar.select (Scalar.cmpi .eq 64#32 0#32) 1#32 64#32) (k0_pay293 lane0)) (k0_pay295 lane0)
theorem st62_eq (t a : FVec F S32x128 .f32) : st62 t a = totS t a 6#32 0#32 4294967196#32 := rfl
/-- Step 63, as printed. -/
def st63 (xs : F .f32) (t a : FVec F S32x128 .f32) : FVec F S32x128 .f32 := (k0_pay300 xs lane1 lane0 t a (Scalar.select (Scalar.cmpi .eq 8#32 0#32) 1#32 8#32) (k0_pay297 lane0) (k0_pay298 lane0) (k0_pay299 lane0))
theorem st63_eq (xs : F .f32) (t a : FVec F S32x128 .f32) : st63 xs t a = mulf (totS t a 7#32 0#32 4294967196#32) (broadcast S32x128 xs) := rfl
theorem stp0 {t T a A : FVec F S32x128 .f32} (e : t = T) (h : a = A) : st0 t a = totS T A 0#32 5#32 4#32 := by
  subst e h; exact st0_eq _ _
theorem stp1 {t T a A : FVec F S32x128 .f32} (e : t = T) (h : a = A) : st1 t a = totS T A 1#32 5#32 4#32 := by
  subst e h; exact st1_eq _ _
theorem stp2 {t T a A : FVec F S32x128 .f32} (e : t = T) (h : a = A) : st2 t a = totS T A 2#32 5#32 4#32 := by
  subst e h; exact st2_eq _ _
theorem stp3 {t T a A : FVec F S32x128 .f32} (e : t = T) (h : a = A) : st3 t a = totS T A 3#32 5#32 4#32 := by
  subst e h; exact st3_eq _ _
theorem stp4 {t T a A : FVec F S32x128 .f32} (e : t = T) (h : a = A) : st4 t a = totS T A 4#32 5#32 4#32 := by
  subst e h; exact st4_eq _ _
theorem stp5 {t T a A : FVec F S32x128 .f32} (e : t = T) (h : a = A) : st5 t a = totS T A 5#32 5#32 4#32 := by
  subst e h; exact st5_eq _ _
theorem stp6 {t T a A : FVec F S32x128 .f32} (e : t = T) (h : a = A) : st6 t a = totS T A 6#32 5#32 4#32 := by
  subst e h; exact st6_eq _ _
theorem stp7 {t T a A : FVec F S32x128 .f32} (e : t = T) (h : a = A) : st7 t a = totS T A 7#32 5#32 4#32 := by
  subst e h; exact st7_eq _ _
theorem stp8 {t T a A : FVec F S32x128 .f32} (e : t = T) (h : a = A) : st8 t a = totS T A 0#32 3#32 2#32 := by
  subst e h; exact st8_eq _ _
theorem stp9 {t T a A : FVec F S32x128 .f32} (e : t = T) (h : a = A) : st9 t a = totS T A 1#32 3#32 2#32 := by
  subst e h; exact st9_eq _ _
theorem stp10 {t T a A : FVec F S32x128 .f32} (e : t = T) (h : a = A) : st10 t a = totS T A 2#32 3#32 2#32 := by
  subst e h; exact st10_eq _ _
theorem stp11 {t T a A : FVec F S32x128 .f32} (e : t = T) (h : a = A) : st11 t a = totS T A 3#32 3#32 2#32 := by
  subst e h; exact st11_eq _ _
theorem stp12 {t T a A : FVec F S32x128 .f32} (e : t = T) (h : a = A) : st12 t a = totS T A 4#32 3#32 2#32 := by
  subst e h; exact st12_eq _ _
theorem stp13 {t T a A : FVec F S32x128 .f32} (e : t = T) (h : a = A) : st13 t a = totS T A 5#32 3#32 2#32 := by
  subst e h; exact st13_eq _ _
theorem stp14 {t T a A : FVec F S32x128 .f32} (e : t = T) (h : a = A) : st14 t a = totS T A 6#32 3#32 2#32 := by
  subst e h; exact st14_eq _ _
theorem stp15 {t T a A : FVec F S32x128 .f32} (e : t = T) (h : a = A) : st15 t a = totS T A 7#32 3#32 2#32 := by
  subst e h; exact st15_eq _ _
theorem stp16 {t T a A : FVec F S32x128 .f32} (e : t = T) (h : a = A) : st16 t a = totS T A 0#32 1#32 0#32 := by
  subst e h; exact st16_eq _ _
theorem stp17 {t T a A : FVec F S32x128 .f32} (e : t = T) (h : a = A) : st17 t a = totS T A 1#32 1#32 0#32 := by
  subst e h; exact st17_eq _ _
theorem stp18 {t T a A : FVec F S32x128 .f32} (e : t = T) (h : a = A) : st18 t a = totS T A 2#32 1#32 0#32 := by
  subst e h; exact st18_eq _ _
theorem stp19 {t T a A : FVec F S32x128 .f32} (e : t = T) (h : a = A) : st19 t a = totS T A 3#32 1#32 0#32 := by
  subst e h; exact st19_eq _ _
theorem stp20 {t T a A : FVec F S32x128 .f32} (e : t = T) (h : a = A) : st20 t a = totS T A 4#32 1#32 0#32 := by
  subst e h; exact st20_eq _ _
theorem stp21 {t T a A : FVec F S32x128 .f32} (e : t = T) (h : a = A) : st21 t a = totS T A 5#32 1#32 0#32 := by
  subst e h; exact st21_eq _ _
theorem stp22 {t T a A : FVec F S32x128 .f32} (e : t = T) (h : a = A) : st22 t a = totS T A 6#32 1#32 0#32 := by
  subst e h; exact st22_eq _ _
theorem stp23 {t T a A : FVec F S32x128 .f32} (e : t = T) (h : a = A) : st23 t a = totS T A 7#32 1#32 0#32 := by
  subst e h; exact st23_eq _ _
theorem stp24 {t T a A : FVec F S32x128 .f32} (e : t = T) (h : a = A) : st24 t a = totS T A 0#32 4294967196#32 6#32 := by
  subst e h; exact st24_eq _ _
theorem stp25 {t T a A : FVec F S32x128 .f32} (e : t = T) (h : a = A) : st25 t a = totS T A 1#32 4294967196#32 6#32 := by
  subst e h; exact st25_eq _ _
theorem stp26 {t T a A : FVec F S32x128 .f32} (e : t = T) (h : a = A) : st26 t a = totS T A 2#32 4294967196#32 6#32 := by
  subst e h; exact st26_eq _ _
theorem stp27 {t T a A : FVec F S32x128 .f32} (e : t = T) (h : a = A) : st27 t a = totS T A 3#32 4294967196#32 6#32 := by
  subst e h; exact st27_eq _ _
theorem stp28 {t T a A : FVec F S32x128 .f32} (e : t = T) (h : a = A) : st28 t a = totS T A 4#32 4294967196#32 6#32 := by
  subst e h; exact st28_eq _ _
theorem stp29 {t T a A : FVec F S32x128 .f32} (e : t = T) (h : a = A) : st29 t a = totS T A 5#32 4294967196#32 6#32 := by
  subst e h; exact st29_eq _ _
theorem stp30 {t T a A : FVec F S32x128 .f32} (e : t = T) (h : a = A) : st30 t a = totS T A 6#32 4294967196#32 6#32 := by
  subst e h; exact st30_eq _ _
theorem stp31 {t T a A : FVec F S32x128 .f32} (e : t = T) (h : a = A) : st31 t a = totS T A 7#32 4294967196#32 6#32 := by
  subst e h; exact st31_eq _ _
theorem stp32 {t T a A : FVec F S32x128 .f32} (e : t = T) (h : a = A) : st32 t a = totS T A 0#32 6#32 5#32 := by
  subst e h; exact st32_eq _ _
theorem stp33 {t T a A : FVec F S32x128 .f32} (e : t = T) (h : a = A) : st33 t a = totS T A 1#32 6#32 5#32 := by
  subst e h; exact st33_eq _ _
theorem stp34 {t T a A : FVec F S32x128 .f32} (e : t = T) (h : a = A) : st34 t a = totS T A 2#32 6#32 5#32 := by
  subst e h; exact st34_eq _ _
theorem stp35 {t T a A : FVec F S32x128 .f32} (e : t = T) (h : a = A) : st35 t a = totS T A 3#32 6#32 5#32 := by
  subst e h; exact st35_eq _ _
theorem stp36 {t T a A : FVec F S32x128 .f32} (e : t = T) (h : a = A) : st36 t a = totS T A 4#32 6#32 5#32 := by
  subst e h; exact st36_eq _ _
theorem stp37 {t T a A : FVec F S32x128 .f32} (e : t = T) (h : a = A) : st37 t a = totS T A 5#32 6#32 5#32 := by
  subst e h; exact st37_eq _ _
theorem stp38 {t T a A : FVec F S32x128 .f32} (e : t = T) (h : a = A) : st38 t a = totS T A 6#32 6#32 5#32 := by
  subst e h; exact st38_eq _ _
theorem stp39 {t T a A : FVec F S32x128 .f32} (e : t = T) (h : a = A) : st39 t a = totS T A 7#32 6#32 5#32 := by
  subst e h; exact st39_eq _ _
theorem stp40 {t T a A : FVec F S32x128 .f32} (e : t = T) (h : a = A) : st40 t a = totS T A 0#32 4#32 3#32 := by
  subst e h; exact st40_eq _ _
theorem stp41 {t T a A : FVec F S32x128 .f32} (e : t = T) (h : a = A) : st41 t a = totS T A 1#32 4#32 3#32 := by
  subst e h; exact st41_eq _ _
theorem stp42 {t T a A : FVec F S32x128 .f32} (e : t = T) (h : a = A) : st42 t a = totS T A 2#32 4#32 3#32 := by
  subst e h; exact st42_eq _ _
theorem stp43 {t T a A : FVec F S32x128 .f32} (e : t = T) (h : a = A) : st43 t a = totS T A 3#32 4#32 3#32 := by
  subst e h; exact st43_eq _ _
theorem stp44 {t T a A : FVec F S32x128 .f32} (e : t = T) (h : a = A) : st44 t a = totS T A 4#32 4#32 3#32 := by
  subst e h; exact st44_eq _ _
theorem stp45 {t T a A : FVec F S32x128 .f32} (e : t = T) (h : a = A) : st45 t a = totS T A 5#32 4#32 3#32 := by
  subst e h; exact st45_eq _ _
theorem stp46 {t T a A : FVec F S32x128 .f32} (e : t = T) (h : a = A) : st46 t a = totS T A 6#32 4#32 3#32 := by
  subst e h; exact st46_eq _ _
theorem stp47 {t T a A : FVec F S32x128 .f32} (e : t = T) (h : a = A) : st47 t a = totS T A 7#32 4#32 3#32 := by
  subst e h; exact st47_eq _ _
theorem stp48 {t T a A : FVec F S32x128 .f32} (e : t = T) (h : a = A) : st48 t a = totS T A 0#32 2#32 1#32 := by
  subst e h; exact st48_eq _ _
theorem stp49 {t T a A : FVec F S32x128 .f32} (e : t = T) (h : a = A) : st49 t a = totS T A 1#32 2#32 1#32 := by
  subst e h; exact st49_eq _ _
theorem stp50 {t T a A : FVec F S32x128 .f32} (e : t = T) (h : a = A) : st50 t a = totS T A 2#32 2#32 1#32 := by
  subst e h; exact st50_eq _ _
theorem stp51 {t T a A : FVec F S32x128 .f32} (e : t = T) (h : a = A) : st51 t a = totS T A 3#32 2#32 1#32 := by
  subst e h; exact st51_eq _ _
theorem stp52 {t T a A : FVec F S32x128 .f32} (e : t = T) (h : a = A) : st52 t a = totS T A 4#32 2#32 1#32 := by
  subst e h; exact st52_eq _ _
theorem stp53 {t T a A : FVec F S32x128 .f32} (e : t = T) (h : a = A) : st53 t a = totS T A 5#32 2#32 1#32 := by
  subst e h; exact st53_eq _ _
theorem stp54 {t T a A : FVec F S32x128 .f32} (e : t = T) (h : a = A) : st54 t a = totS T A 6#32 2#32 1#32 := by
  subst e h; exact st54_eq _ _
theorem stp55 {t T a A : FVec F S32x128 .f32} (e : t = T) (h : a = A) : st55 t a = totS T A 7#32 2#32 1#32 := by
  subst e h; exact st55_eq _ _
theorem stp56 {t T a A : FVec F S32x128 .f32} (e : t = T) (h : a = A) : st56 t a = totS T A 0#32 0#32 4294967196#32 := by
  subst e h; exact st56_eq _ _
theorem stp57 {t T a A : FVec F S32x128 .f32} (e : t = T) (h : a = A) : st57 t a = totS T A 1#32 0#32 4294967196#32 := by
  subst e h; exact st57_eq _ _
theorem stp58 {t T a A : FVec F S32x128 .f32} (e : t = T) (h : a = A) : st58 t a = totS T A 2#32 0#32 4294967196#32 := by
  subst e h; exact st58_eq _ _
theorem stp59 {t T a A : FVec F S32x128 .f32} (e : t = T) (h : a = A) : st59 t a = totS T A 3#32 0#32 4294967196#32 := by
  subst e h; exact st59_eq _ _
theorem stp60 {t T a A : FVec F S32x128 .f32} (e : t = T) (h : a = A) : st60 t a = totS T A 4#32 0#32 4294967196#32 := by
  subst e h; exact st60_eq _ _
theorem stp61 {t T a A : FVec F S32x128 .f32} (e : t = T) (h : a = A) : st61 t a = totS T A 5#32 0#32 4294967196#32 := by
  subst e h; exact st61_eq _ _
theorem stp62 {t T a A : FVec F S32x128 .f32} (e : t = T) (h : a = A) : st62 t a = totS T A 6#32 0#32 4294967196#32 := by
  subst e h; exact st62_eq _ _
theorem stp63 (xs : F .f32) {t T a A : FVec F S32x128 .f32} (e : t = T) (h : a = A) : st63 xs t a = mulf (totS T A 7#32 0#32 4294967196#32) (broadcast S32x128 xs) := by
  subst e h; exact st63_eq _ _ _
theorem fin_last {ds ds' : F .f32} {x X : FVec F S32x128 .f32} (h : ds = ds') (e : x = X) : k0_pay4 ds x = mulf X (broadcast S32x128 ds') := by
  subst h e; rfl
theorem fin_sc {xs xs' : F .f32} {x X : FVec F S32x128 .f32} (h : xs = xs') (e : x = mulf X (broadcast S32x128 xs)) : x = mulf X (broadcast S32x128 xs') := by
  subst h; exact e
theorem tot0_eq : (k0_pay82 (F := F)) = tot0 := rfl

/-- Every sixty-fourth row of the accumulator, from row `n` on. -/
def acol (A : S2048x128.Idx → F .f32) (n : Fin 64) : FVec F S32x128 .f32 :=
  fun j => A (ix2 (⟨n.val + 64 * (j 0).val, by have := (j 0).isLt; simp at this; omega⟩ : Fin 2048) (j 1))

theorem inbA (n : Fin 64) : ∀ a : Fin 2, S32x128.size a = 0 ∨ (![n.val, 0] : Fin 2 → ℕ) a + (![64, 1] : Fin 2 → ℕ) a * (S32x128.size a - 1) < S2048x128.size a := by
  intro a
  right
  match a with
  | ⟨0, _⟩ => show n.val + 64 * 31 < 2048; omega
  | ⟨1, _⟩ => show 0 + 1 * 127 < 128; omega

/-- The strided load of those rows. -/
abbrev arow (n : Fin 64) : LoadRect S2048x128 := ⟨![n.val, 0], S32x128.size, ![64, 1], inbA n⟩

theorem ld_arow {κ : Kind} {sp : Space} (v : View sig κ sp S2048x128 .f32) (f : v.ty.Contents (Elt F)) (n : Fin 64) :
    (View.readAt (Elt F) v (arow n) f : S32x128.Idx → F .f32) = acol (v.read (Elt F) f) n := by
  funext j
  rw [View.readAt_apply]
  unfold acol
  refine congrArg _ (funext fun a => Fin.ext ?_)
  match a with
  | ⟨0, _⟩ => rfl
  | ⟨1, _⟩ => show 0 + 1 * (j 1).val = (j 1).val; omega

end Cert.KernelIdeal.Val

end
-- ==== Proof.Canon.lean ====
/-
  What a point leaves, as functions of its blocks: the word images, the filter scratch, the two results and the
  accumulator.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import proofs.«01_k».proof.Proof.Init
public import proofs.«01_k».proof.Proof.Pairs
public import proofs.«01_k».proof.Proof.Egress
public import proofs.«01_k».proof.Proof.Final
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds
open Idealize.ShloMosaic.ValueIdx

variable {F : FTy → Type} [FloatOps F] [∀ e, Nonempty (Elt F e)]

local notation "𝕄" => MT nD τ sig Unit (Elt F) ℕ (UR sig nD τ) ℕ

set_option warn.classDefReducibility false

/-- The word of four bytes. -/
def word4 (b : Fin 4 → BitVec 8) : BitVec 32 := b 3 ++ b 2 ++ b 1 ++ b 0

theorem word_ext {v w : BitVec 32} (h : ∀ q : Fin 4, byt v q.val = byt w q.val) : v = w := by
  apply BitVec.eq_of_getLsbD_eq
  intro i hi
  have h1 := congrArg (fun b => b.getLsbD (i % 8)) (h ⟨i / 8, by omega⟩)
  simp only [byt_getLsbD _ _ _ (show i % 8 < 8 by omega)] at h1
  rwa [show 8 * (i / 8) + i % 8 = i by omega] at h1

theorem byt_word4 (b : Fin 4 → BitVec 8) (q : Fin 4) : byt (word4 b) q.val = b q := by
  apply BitVec.eq_of_getLsbD_eq
  intro i hi
  rw [byt_getLsbD _ _ _ hi]
  unfold word4
  simp only [BitVec.getLsbD_append]
  fin_cases q <;> interval_cases i <;> rfl

/-- A pixel of an image with two blank rows of words above and below. -/
def dpad (X : S4x32x8192.Idx → BitVec 8) (q : Fin 4) (c : Fin 32) (n : ℕ) : BitVec 8 :=
  if h : 256 ≤ n ∧ n < 8448 then X (ix3 q c (⟨n - 256, by omega⟩ : Fin 8192)) else 0#8

/-- The word image of a block. -/
def D8 (X : S4x32x8192.Idx → BitVec 8) : S2216x128.Idx → BitVec 32 := fun j =>
  word4 fun q => dpad X q ⟨min ((j 0).val / 69) 31, by omega⟩ (128 * ((j 0).val % 69) + (j 1).val)

theorem D8_byt (X : S4x32x8192.Idx → BitVec 8) (c : Fin 32) (r : ℕ) (hr : r < 69) (row : Fin 2216) (hrow : row.val = c.val * 69 + r) (l : Fin 128) (q : Fin 4) :
    byt (D8 X (ix2 row l)) q.val = dpad X q c (128 * r + l.val) := by
  unfold D8
  rw [byt_word4]
  congr 1
  · exact Fin.ext (by show min (row.val / 69) 31 = c.val; omega)
  · show 128 * (row.val % 69) + l.val = _; omega

theorem D8_of (X : S4x32x8192.Idx → BitVec 8) (g : S2216x128.Idx → BitVec 32) (h1 : IngP X 64 g) (h2 : HaloP g) (c : Fin 32) (r : ℕ) (hr : r < 68)
    (row : Fin 2216) (hrow : row.val = c.val * 69 + r) (l : Fin 128) : g (ix2 row l) = D8 X (ix2 row l) := by
  apply word_ext
  intro q
  rw [D8_byt X c r (by omega) row hrow l q]
  unfold dpad
  have hl := l.isLt
  by_cases hh : 2 ≤ r ∧ r < 66
  · rw [dif_pos (by omega)]
    have := h1 c ⟨r - 2, by omega⟩ l q (by show r - 2 < 64; omega)
    have e : row = ⟨c.val * 69 + 2 + (r - 2), by omega⟩ := Fin.ext (by show row.val = c.val * 69 + 2 + (r - 2); omega)
    refine (congrArg (fun r' => byt (g (ix2 r' l)) q.val) e).trans (this.trans (congrArg X ?_))
    congr 1
    exact Fin.ext (by show 128 * (r - 2) + l.val = 128 * r + l.val - 256; omega)
  · rw [dif_neg (by omega)]
    have := h2 c ⟨r, hr⟩ l (by show r < 2 ∨ 66 ≤ r; omega)
    have e : row = ⟨c.val * 69 + r, by omega⟩ := Fin.ext hrow
    refine (congrArg (fun r' => byt (g (ix2 r' l)) q.val) e).trans ((congrArg (fun w => byt w q.val) this).trans ?_)
    exact (by decide : ∀ q : Fin 4, byt 0#32 q.val = 0#8) q

theorem D8_of_inner (X : S4x32x8192.Idx → BitVec 8) (g : S2216x128.Idx → BitVec 32) (h1 : IngP X 64 g) (c : Fin 32) (r : ℕ) (h0 : 2 ≤ r) (hr : r < 66)
    (row : Fin 2216) (hrow : row.val = c.val * 69 + r) (l : Fin 128) : g (ix2 row l) = D8 X (ix2 row l) := by
  apply word_ext
  intro q
  rw [D8_byt X c r (by omega) row hrow l q]
  unfold dpad
  have hl := l.isLt
  rw [dif_pos (by omega)]
  have := h1 c ⟨r - 2, by omega⟩ l q (by show r - 2 < 64; omega)
  have e : row = ⟨c.val * 69 + 2 + (r - 2), by omega⟩ := Fin.ext (by show row.val = c.val * 69 + 2 + (r - 2); omega)
  refine (congrArg (fun r' => byt (g (ix2 r' l)) q.val) e).trans (this.trans (congrArg X ?_))
  congr 1
  exact Fin.ext (by show 128 * (r - 2) + l.val = 128 * r + l.val - 256; omega)

theorem blk_D8 (X : S4x32x8192.Idx → BitVec 8) (g : S2216x128.Idx → BitVec 32) (h1 : IngP X 64 g) (h2 : HaloP g) (c : Fin 32) (o : Fin 5) :
    blk g c o = blk (D8 X) c o := by
  funext j
  have hj : (j 0).val < 64 := (j 0).isLt
  exact D8_of X g h1 h2 c (o.val + (j 0).val) (by omega) _ (by show c.val * 69 + o.val + (j 0).val = _; omega) _

theorem blk_D8_inner (X : S4x32x8192.Idx → BitVec 8) (g : S2216x128.Idx → BitVec 32) (h1 : IngP X 64 g) (c : Fin 32) :
    blk g c 2 = blk (D8 X) c 2 := by
  funext j
  have hj : (j 0).val < 64 := (j 0).isLt
  exact D8_of_inner X g h1 c (2 + (j 0).val) (by omega) (by omega) _ (by show c.val * 69 + 2 + (j 0).val = _; omega) _

/-- The filter scratch. -/
def TC (X : S32x8x128.Idx → BitVec 32) : S8192x128.Idx → BitVec 32 := fun j =>
  tval X ⟨(j 0).val / 256, by have : (j 0).val < 8192 := (j 0).isLt; omega⟩ ⟨(j 0).val % 64 / 32 * 4 + (j 0).val % 256 / 64, by omega⟩
    ⟨(j 0).val % 32, by omega⟩ (j 1)

theorem TC_of (X : S32x8x128.Idx → BitVec 32) (g : S8192x128.Idx → BitVec 32) (h : TP X 32 g) : g = TC X := by
  funext j
  obtain ⟨a, l, rfl⟩ := exi2 j
  have ha := a.isLt
  have := h ⟨a.val / 256, by omega⟩ ⟨a.val % 64 / 32 * 4 + a.val % 256 / 64, by omega⟩ ⟨a.val % 32, by omega⟩ l (by show a.val / 256 < 32; omega)
  refine Eq.trans (congrArg g ?_) this
  congr 1
  refine Fin.ext ?_
  show a.val = a.val / 256 * 256 + (a.val % 64 / 32 * 4 + a.val % 256 / 64) % 4 * 64 + (a.val % 64 / 32 * 4 + a.val % 256 / 64) / 4 * 32 + a.val % 32
  omega

/-- The masks of the eight row groups. -/
def masks : Fin 8 → IVec S8x128 1 :=
  ![k0_pay317, k0_pay318 (iota .tc S8x128 32 [1] iota_S8x128_d1_w32) (iota .tc S8x128 32 [0] iota_S8x128_d0_w32) 64#32 0#32,
    k0_pay319 (iota .tc S8x128 32 [1] iota_S8x128_d1_w32) (iota .tc S8x128 32 [0] iota_S8x128_d0_w32),
    k0_pay320 (iota .tc S8x128 32 [1] iota_S8x128_d1_w32) (iota .tc S8x128 32 [0] iota_S8x128_d0_w32) 64#32 0#32,
    k0_pay321 (iota .tc S8x128 32 [1] iota_S8x128_d1_w32) (iota .tc S8x128 32 [0] iota_S8x128_d0_w32),
    k0_pay322 (iota .tc S8x128 32 [1] iota_S8x128_d1_w32) (iota .tc S8x128 32 [0] iota_S8x128_d0_w32) 64#32 0#32,
    k0_pay323 (iota .tc S8x128 32 [1] iota_S8x128_d1_w32) (iota .tc S8x128 32 [0] iota_S8x128_d0_w32),
    k0_pay1 (iota .tc S8x128 32 [1] iota_S8x128_d1_w32) (iota .tc S8x128 32 [0] iota_S8x128_d0_w32) 64#32 0#32]

/-- The accumulator after a point: what each channel adds. -/
def accNext (x3 x4 : S4x32x8192.Idx → BitVec 8) (A : S2048x128.Idx → F .f32) : S2048x128.Idx → F .f32 := fun j =>
  FloatOps.addf (A j) (chanT masks k0_pay316 (D8 x4) (D8 x3) ⟨(j 0).val / 64, by have : (j 0).val < 2048 := (j 0).isLt; omega⟩
    ⟨(j 0).val % 64 / 8, by omega⟩ ⟨(j 0).val % 8, by omega⟩ (j 1))

/-- The pixel gradients of a point. -/
def dxOut (v0 : Elt F .f32) (x4 : S4x32x8192.Idx → BitVec 8) (x5 : S32x8x128.Idx → BitVec 32) : S4x32x8192.Idx → F .bf16 := fun j =>
  tb16 (chanY v0 k0_pay316 (D8 x4) (TC x5) (j 1))
    (ix2 (⟨(j 2).val % 128, by omega⟩ : Fin 128) (⟨4 * ((j 2).val / 128) + (j 0).val, by have h0 : (j 0).val < 4 := (j 0).isLt; have h2 : (j 2).val < 8192 := (j 2).isLt; omega⟩ : Fin 256))

theorem chanT_D8 (x3 x4 : S4x32x8192.Idx → BitVec 8) (X8 X9 : S2216x128.Idx → BitVec 32) (M : Fin 8 → IVec S8x128 1) (v10 : IVec S64x128 1)
    (h1 : IngP x4 64 X8) (h2 : HaloP X8) (h3 : IngP x3 64 X9) (c : Fin 32) (p s : Fin 8) (l : Fin 128) :
    chanT (F := F) M v10 X8 X9 c p s l = chanT M v10 (D8 x4) (D8 x3) c p s l := by
  unfold chanT chanG chanDA chanDB chanX
  simp only [blk_D8 x4 X8 h1 h2, blk_D8_inner x3 X9 h3]

theorem acc_of (x3 x4 : S4x32x8192.Idx → BitVec 8) (A : S2048x128.Idx → F .f32) (X8 X9 : S2216x128.Idx → BitVec 32) (g : S2048x128.Idx → F .f32)
    (h1 : IngP x4 64 X8) (h2 : HaloP X8) (h3 : IngP x3 64 X9) (he : g = accK masks k0_pay316 X8 X9 A 16) : g = accNext x3 x4 A := by
  have h := accK_toP he
  funext j
  obtain ⟨a, l, rfl⟩ := exi2 j
  have ha := a.isLt
  have e : a = (⟨a.val / 64 * 64 + a.val % 64 / 8 * 8 + a.val % 8, by omega⟩ : Fin 2048) := Fin.ext (by show a.val = a.val / 64 * 64 + a.val % 64 / 8 * 8 + a.val % 8; omega)
  refine (congrArg (fun r' => g (ix2 r' l)) e).trans ((h ⟨a.val / 64, by omega⟩ ⟨a.val % 64 / 8, by omega⟩ ⟨a.val % 8, by omega⟩ l).trans ?_)
  rw [if_pos (by show a.val / 64 < 2 * 16; omega), chanT_D8 x3 x4 X8 X9 _ _ h1 h2 h3]
  unfold accNext
  exact congrArg (fun r' => FloatOps.addf (A (ix2 r' l)) _) e.symm

theorem dx_of (v0 : Elt F .f32) (x4 : S4x32x8192.Idx → BitVec 8) (x5 : S32x8x128.Idx → BitVec 32) (X8 : S2216x128.Idx → BitVec 32)
    (Z : S4360x2x128.Idx → F .bf16) (g : S4x32x8192.Idx → F .bf16) (h1 : IngP x4 64 X8) (h2 : HaloP X8)
    (hz : ZP v0 k0_pay316 X8 (TC x5) 16 Z) (he : EP Z 64 g) : g = dxOut v0 x4 x5 := by
  funext j
  obtain ⟨q, cc, n, rfl⟩ : ∃ (q : Fin 4) (cc : Fin 32) (n : Fin 8192), j = ix3 q cc n := ⟨_, _, _, ValueIdx.eq_ix3 j⟩
  have hn := n.isLt
  have hq := q.isLt
  have hc := cc.isLt
  have h := he q cc ⟨n.val / 128, by omega⟩ ⟨n.val % 128, by omega⟩ (by show n.val / 128 < 64; omega)
  have e : (⟨128 * (n.val / 128) + n.val % 128, by omega⟩ : Fin 8192) = n := Fin.ext (by show 128 * (n.val / 128) + n.val % 128 = n.val; omega)
  simp only [e] at h
  rw [h]
  have hZ := hz ⟨cc.val / 2, by omega⟩ ⟨(4 * (n.val / 128) + q.val) / 128, by omega⟩ ⟨(4 * (n.val / 128) + q.val) % 128, by omega⟩ ⟨cc.val % 2, by omega⟩
    ⟨n.val % 128, by omega⟩ (by show cc.val / 2 < 16; omega)
  refine Eq.trans (congrArg Z ?_) (hZ.trans ?_)
  · congr 1
    refine Fin.ext ?_
    show 68 * (n.val / 128) + 17 * q.val + cc.val / 2 = (4 * (n.val / 128) + q.val) / 128 * 2176 + 17 * ((4 * (n.val / 128) + q.val) % 128) + cc.val / 2
    omega
  · unfold dxOut
    have e1 : (⟨2 * (cc.val / 2) + cc.val % 2, by omega⟩ : Fin 32) = cc := Fin.ext (by show 2 * (cc.val / 2) + cc.val % 2 = cc.val; omega)
    have e2 : (⟨128 * ((4 * (n.val / 128) + q.val) / 128) + (4 * (n.val / 128) + q.val) % 128, by omega⟩ : Fin 256) = ⟨4 * (n.val / 128) + q.val, by omega⟩ :=
      Fin.ext (by show 128 * ((4 * (n.val / 128) + q.val) / 128) + (4 * (n.val / 128) + q.val) % 128 = 4 * (n.val / 128) + q.val; omega)
    simp only [e1, e2]
    unfold chanY chanDA chanDB
    simp only [blk_D8 x4 X8 h1 h2]
    try rfl

end Cert.KernelIdeal.Val

end
-- ==== Proof.Body.lean ====
/-
  The body, run once at symbolic blocks: what it leaves in the two outputs and in the scratch, by the functions of
  the module before.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import proofs.«01_k».proof.Proof.Canon
public import proofs.«01_k».proof.Proof.Init
public import proofs.«01_k».proof.Proof.Pairs
public import proofs.«01_k».proof.Proof.Egress
public import proofs.«01_k».proof.Proof.Final
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds
open Idealize.ShloMosaic.ValueIdx

variable {F : FTy → Type} [FloatOps F] [∀ e, Nonempty (Elt F e)]

local notation "𝕄" => MT nD τ sig Unit (Elt F) ℕ (UR sig nD τ) ℕ

set_option warn.classDefReducibility false

/-- The zero accumulator. -/
def acc0 : S2048x128.Idx → F .f32 := fun _ => Scalar.ofBits .f32 0x00000000#32

/-- The accumulator after the point. -/
def accAt (i : grid0.Coords) (x3 x4 : S4x32x8192.Idx → BitVec 8) (x12 : S2048x128.Idx → F .f32) : S2048x128.Idx → F .f32 :=
  accNext x3 x4 (if k0_cond1 i = 1#1 then acc0 else x12)

/-- The tap gradients' block after the point. -/
def dwAt (i : grid0.Coords) (x2 : S2.Idx → Elt F .f32) (x3 x4 : S4x32x8192.Idx → BitVec 8) (x7 : S32x128.Idx → F .f32) (x12 : S2048x128.Idx → F .f32) : S32x128.Idx → F .f32 :=
  if k0_cond2 i = 1#1 then finL (acol (accAt i x3 x4 x12)) (x2 (ix1 0)) (x2 (ix1 1)) else x7

theorem upTo_pos {k : ℕ} {P : Prop} (h : UpTo k P) (hk : 0 < k) : P := h.get fun e => absurd e (by omega)

theorem trips1 : Scf.trips k0_t1_loop.lb k0_t1_loop.ub k0_t1_loop.st = 32 := by decide
theorem trips2 : Scf.trips k0_t2_loop.lb k0_t2_loop.ub k0_t2_loop.st = 64 := by decide
theorem trips3 : Scf.trips k0_t3_loop.lb k0_t3_loop.ub k0_t3_loop.st = 64 := by decide
theorem trips4 : Scf.trips k0_t4_loop.lb k0_t4_loop.ub k0_t4_loop.st = 16 := by decide
theorem trips5 : Scf.trips k0_t5_loop.lb k0_t5_loop.ub k0_t5_loop.st = 64 := by decide

theorem zero_of (g : S2048x128.Idx → F .f32) (h : ZeroK 32 g) : g = acc0 := by
  funext j
  obtain ⟨a, l, rfl⟩ := exi2 j
  exact h a l (by have := a.isLt; omega)

/-- The scalar read of an element of the scales. -/
theorem scal {κ : Kind} {sp : Space} (v : View sig κ sp S2 .f32) (f : v.ty.Contents (Elt F)) (r : LoadRect S2) (x : r.shape.Idx) (j : S2.Idx)
    (h : ∀ a, (r.idx x a).val = (j a).val) : View.readAt (Elt F) v r f x = v.read (Elt F) f j :=
  congrArg (v.read (Elt F) f) (funext fun a => Fin.ext (h a))

theorem ZP_cast {v v' : F .f32} {v10 X8 X10 k g} (h : ZP v v10 X8 X10 k g) (e : v = v') : ZP v' v10 X8 X10 k g := e ▸ h

theorem rd_full {κ : Kind} {sp : Space} (v : View sig κ sp S32x128 .f32) (f : v.ty.Contents (Elt F)) (inb) (w : S32x128.Idx → F .f32) :
    v.read (Elt F) (v.writes (Elt F) f [⟨Rect.unit (s := S32x128) ![0, 0] S32x128.size inb, w⟩]) = w := by
  funext j
  obtain ⟨a, l, rfl⟩ := exi2 j
  exact rd_hit v f _ 0 rfl inb w [] a l a (by omega)

set_option maxHeartbeats 2000000 in
/-- The body's triple. -/
theorem kernelRun (c : Dev nD) (i : grid0.Coords) (arg2 : Memref sig .tc .smem S2 .f32) (harg2 : arg2.IsWhole) (arg3 : Memref sig .tc .vmem S4x32x8192 .i8) (harg3 : arg3.IsWhole) (arg4 : Memref sig .tc .vmem S4x32x8192 .i8) (harg4 : arg4.IsWhole) (arg5 : Memref sig .tc .vmem S32x8x128 .i32) (harg5 : arg5.IsWhole) (arg6 : Memref sig .tc .vmem S4x32x8192 .bf16) (harg6 : arg6.IsWhole) (arg7 : Memref sig .tc .vmem S32x128 .f32) (harg7 : arg7.IsWhole) (arg8 : Memref sig .tc .vmem S2216x128 .i32) (harg8 : arg8.IsWhole) (arg9 : Memref sig .tc .vmem S2216x128 .i32) (harg9 : arg9.IsWhole) (arg10 : Memref sig .tc .vmem S8192x128 .i32) (harg10 : arg10.IsWhole) (arg11 : Memref sig .tc .vmem S4360x2x128 .bf16) (harg11 : arg11.IsWhole) (arg12 : Memref sig .tc .vmem S2048x128 .f32) (harg12 : arg12.IsWhole)
    (x2 : S2.Idx → Elt F .f32) (x3 x4 : S4x32x8192.Idx → Elt F .i8) (x5 : S32x8x128.Idx → Elt F .i32) (x7 : S32x128.Idx → Elt F .f32)
    (x8 : S2216x128.Idx → Elt F .i32) (x10 : S8192x128.Idx → Elt F .i32) (x12 : S2048x128.Idx → Elt F .f32)
    (hin : k0_cond1 i ≠ 1#1 → HaloP x8 ∧ x10 = TC x5) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5
        ∗ (∃ d, owns (c : Thread nD τ) arg6 fullShare d) ∗ owns (c : Thread nD τ) arg7 fullShare x7
        ∗ owns (c : Thread nD τ) arg8 fullShare x8 ∗ (∃ d, owns (c : Thread nD τ) arg9 fullShare d)
        ∗ owns (c : Thread nD τ) arg10 fullShare x10 ∗ (∃ d, owns (c : Thread nD τ) arg11 fullShare d)
        ∗ owns (c : Thread nD τ) arg12 fullShare x12
        ∗ (iprop(owns (c : Thread nD τ) arg2 fullShare x2 ∗ owns (c : Thread nD τ) arg3 fullShare x3 ∗ owns (c : Thread nD τ) arg4 fullShare x4
        ∗ owns (c : Thread nD τ) arg5 fullShare x5
        ∗ owns (c : Thread nD τ) arg6 fullShare (dxOut (x2 (ix1 1)) x4 x5) ∗ owns (c : Thread nD τ) arg7 fullShare (dwAt i x2 x3 x4 x7 x12)
        ∗ (∃ d, owns (c : Thread nD τ) arg8 fullShare d ∗ ⌜HaloP d⌝) ∗ (∃ d, owns (c : Thread nD τ) arg9 fullShare d)
        ∗ owns (c : Thread nD τ) arg10 fullShare (TC x5) ∗ (∃ d, owns (c : Thread nD τ) arg11 fullShare d)
        ∗ owns (c : Thread nD τ) arg12 fullShare (accAt i x3 x4 x12)) -∗ K ⟨⟩))
      ⊢ wp frame (wpE (defs₀ (F := F)) Variants.none c none) Set.univ (cc0__body (F := F) i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f2, %h2, H2⟩, ⟨%f3, %h3, H3⟩, ⟨%f4, %h4, H4⟩, ⟨%f5, %h5, H5⟩, ⟨%d6, %f6, -, H6⟩, ⟨%f7, %h7, H7⟩, ⟨%f8, %h8, H8⟩, ⟨%d9, %f9, -, H9⟩, ⟨%f10, %h10, H10⟩, ⟨%d11, %f11, -, H11⟩, ⟨%f12, %h12, H12⟩, Hk⟩
  subst h2 h3 h4 h5 h7 h8 h10 h12
  have hhk : k0_cond1 i ≠ 1#1 → HaloK 32 (arg8.view.read (Elt F) f8) := fun h => haloK_of (hin h).1
  by_cases hc1 : k0_cond1 i = 1#1 <;> by_cases hc2 : k0_cond2 i = 1#1
  · try replace hhk := hhk hc1
    have htriv : True := trivial
    sl_exec
    sl_step
    rw [trips1] at hL4 hL6
    have ht := TC_of _ _ (upTo_pos hL4 (by omega))
    have hz0 := zero_of _ (upTo_pos hL6 (by omega))
    rw [trips2] at hL9
    rw [trips3] at hL13
    rw [trips4] at hL18 hL20
    rw [trips5] at hL23
    have hzp := upTo_pos hL18 (by omega)
    rw [ht] at hzp
    have e6 : arg6.view.read (Elt F) fL7 = dxOut (arg2.view.read (Elt F) f2 (ix1 1)) (arg4.view.read (Elt F) f4) (arg5.view.read (Elt F) f5) :=
      dx_of _ _ _ (arg8.view.read (Elt F) fL3) (arg11.view.read (Elt F) fL5) _ (upTo_pos hL9 (by omega)) (haloP_of hL10)
        (ZP_cast hzp (scal _ _ _ _ _ (fun a => by match a with | ⟨0, _⟩ => rfl))) (upTo_pos hL23 (by omega))
    have e12 : arg12.view.read (Elt F) fL6 = accAt i (arg3.view.read (Elt F) f3) (arg4.view.read (Elt F) f4) (arg12.view.read (Elt F) f12) := by
      unfold accAt
      rw [if_pos hc1, ← hz0]
      exact acc_of _ _ _ (arg8.view.read (Elt F) fL3) (arg9.view.read (Elt F) fL4) _ (upTo_pos hL9 (by omega)) (haloP_of hL10) (upTo_pos hL13 (by omega)) hL20
    iapply Hk
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rfl
    isplitl [H6]; · iexists _; isplitr; swap; · iexact H6
                    ipureintro; exact e6
    isplitl [H7]
    · iexists _; isplitr; swap; · iexact H7
      ipureintro
      unfold dwAt
      rw [if_pos hc2, ← e12]
      refine (rd_full arg7.view f7 _ _).trans ?_
      refine Eq.trans ?_ (show mulf (mulf (totAll (fun n => acol (arg12.view.read (Elt F) fL6) n)) (broadcast S32x128 (arg2.view.read (Elt F) f2 (ix1 0)))) (broadcast S32x128 (arg2.view.read (Elt F) f2 (ix1 1))) = finL (fun n => acol (arg12.view.read (Elt F) fL6) n) (arg2.view.read (Elt F) f2 (ix1 0)) (arg2.view.read (Elt F) f2 (ix1 1)) from rfl)
      unfold totAll totG7 totG6 totG5 totG4 totG3 totG2 totG1 totG0
      refine fin_last ?_ ?_
      · exact scal _ _ _ _ _ (fun a => by match a with | ⟨0, _⟩ => rfl)
      refine fin_sc ?_ (stp63 _ ?_ (ld_arow arg12.view fL6 ⟨63, by decide⟩))
      · exact scal _ _ _ _ _ (fun a => by match a with | ⟨0, _⟩ => rfl)
      refine stp62 ?_ (ld_arow arg12.view fL6 ⟨62, by decide⟩)
      refine stp61 ?_ (ld_arow arg12.view fL6 ⟨61, by decide⟩)
      refine stp60 ?_ (ld_arow arg12.view fL6 ⟨60, by decide⟩)
      refine stp59 ?_ (ld_arow arg12.view fL6 ⟨59, by decide⟩)
      refine stp58 ?_ (ld_arow arg12.view fL6 ⟨58, by decide⟩)
      refine stp57 ?_ (ld_arow arg12.view fL6 ⟨57, by decide⟩)
      refine stp56 ?_ (ld_arow arg12.view fL6 ⟨56, by decide⟩)
      refine stp55 ?_ (ld_arow arg12.view fL6 ⟨55, by decide⟩)
      refine stp54 ?_ (ld_arow arg12.view fL6 ⟨54, by decide⟩)
      refine stp53 ?_ (ld_arow arg12.view fL6 ⟨53, by decide⟩)
      refine stp52 ?_ (ld_arow arg12.view fL6 ⟨52, by decide⟩)
      refine stp51 ?_ (ld_arow arg12.view fL6 ⟨51, by decide⟩)
      refine stp50 ?_ (ld_arow arg12.view fL6 ⟨50, by decide⟩)
      refine stp49 ?_ (ld_arow arg12.view fL6 ⟨49, by decide⟩)
      refine stp48 ?_ (ld_arow arg12.view fL6 ⟨48, by decide⟩)
      refine stp47 ?_ (ld_arow arg12.view fL6 ⟨47, by decide⟩)
      refine stp46 ?_ (ld_arow arg12.view fL6 ⟨46, by decide⟩)
      refine stp45 ?_ (ld_arow arg12.view fL6 ⟨45, by decide⟩)
      refine stp44 ?_ (ld_arow arg12.view fL6 ⟨44, by decide⟩)
      refine stp43 ?_ (ld_arow arg12.view fL6 ⟨43, by decide⟩)
      refine stp42 ?_ (ld_arow arg12.view fL6 ⟨42, by decide⟩)
      refine stp41 ?_ (ld_arow arg12.view fL6 ⟨41, by decide⟩)
      refine stp40 ?_ (ld_arow arg12.view fL6 ⟨40, by decide⟩)
      refine stp39 ?_ (ld_arow arg12.view fL6 ⟨39, by decide⟩)
      refine stp38 ?_ (ld_arow arg12.view fL6 ⟨38, by decide⟩)
      refine stp37 ?_ (ld_arow arg12.view fL6 ⟨37, by decide⟩)
      refine stp36 ?_ (ld_arow arg12.view fL6 ⟨36, by decide⟩)
      refine stp35 ?_ (ld_arow arg12.view fL6 ⟨35, by decide⟩)
      refine stp34 ?_ (ld_arow arg12.view fL6 ⟨34, by decide⟩)
      refine stp33 ?_ (ld_arow arg12.view fL6 ⟨33, by decide⟩)
      refine stp32 ?_ (ld_arow arg12.view fL6 ⟨32, by decide⟩)
      refine stp31 ?_ (ld_arow arg12.view fL6 ⟨31, by decide⟩)
      refine stp30 ?_ (ld_arow arg12.view fL6 ⟨30, by decide⟩)
      refine stp29 ?_ (ld_arow arg12.view fL6 ⟨29, by decide⟩)
      refine stp28 ?_ (ld_arow arg12.view fL6 ⟨28, by decide⟩)
      refine stp27 ?_ (ld_arow arg12.view fL6 ⟨27, by decide⟩)
      refine stp26 ?_ (ld_arow arg12.view fL6 ⟨26, by decide⟩)
      refine stp25 ?_ (ld_arow arg12.view fL6 ⟨25, by decide⟩)
      refine stp24 ?_ (ld_arow arg12.view fL6 ⟨24, by decide⟩)
      refine stp23 ?_ (ld_arow arg12.view fL6 ⟨23, by decide⟩)
      refine stp22 ?_ (ld_arow arg12.view fL6 ⟨22, by decide⟩)
      refine stp21 ?_ (ld_arow arg12.view fL6 ⟨21, by decide⟩)
      refine stp20 ?_ (ld_arow arg12.view fL6 ⟨20, by decide⟩)
      refine stp19 ?_ (ld_arow arg12.view fL6 ⟨19, by decide⟩)
      refine stp18 ?_ (ld_arow arg12.view fL6 ⟨18, by decide⟩)
      refine stp17 ?_ (ld_arow arg12.view fL6 ⟨17, by decide⟩)
      refine stp16 ?_ (ld_arow arg12.view fL6 ⟨16, by decide⟩)
      refine stp15 ?_ (ld_arow arg12.view fL6 ⟨15, by decide⟩)
      refine stp14 ?_ (ld_arow arg12.view fL6 ⟨14, by decide⟩)
      refine stp13 ?_ (ld_arow arg12.view fL6 ⟨13, by decide⟩)
      refine stp12 ?_ (ld_arow arg12.view fL6 ⟨12, by decide⟩)
      refine stp11 ?_ (ld_arow arg12.view fL6 ⟨11, by decide⟩)
      refine stp10 ?_ (ld_arow arg12.view fL6 ⟨10, by decide⟩)
      refine stp9 ?_ (ld_arow arg12.view fL6 ⟨9, by decide⟩)
      refine stp8 ?_ (ld_arow arg12.view fL6 ⟨8, by decide⟩)
      refine stp7 ?_ (ld_arow arg12.view fL6 ⟨7, by decide⟩)
      refine stp6 ?_ (ld_arow arg12.view fL6 ⟨6, by decide⟩)
      refine stp5 ?_ (ld_arow arg12.view fL6 ⟨5, by decide⟩)
      refine stp4 ?_ (ld_arow arg12.view fL6 ⟨4, by decide⟩)
      refine stp3 ?_ (ld_arow arg12.view fL6 ⟨3, by decide⟩)
      refine stp2 ?_ (ld_arow arg12.view fL6 ⟨2, by decide⟩)
      refine stp1 ?_ (ld_arow arg12.view fL6 ⟨1, by decide⟩)
      refine stp0 ?_ (ld_arow arg12.view fL6 ⟨0, by decide⟩)
      exact tot0_eq
    isplitl [H8]
    · iexists _
      isplitl [H8]
      · iexists _; isplitr; swap; · iexact H8
        ipureintro; rfl
      ipureintro; exact haloP_of hL10
    isplitl [H9]; · iexists _, _; isplitr; swap; · iexact H9
                    ipureintro; rfl
    isplitl [H10]; · iexists _; isplitr; swap; · iexact H10
                     ipureintro; exact ht
    isplitl [H11]; · iexists _, _; isplitr; swap; · iexact H11
                     ipureintro; rfl
    iexists _; isplitr; swap; · iexact H12
    ipureintro; exact e12
  · try replace hhk := hhk hc1
    have htriv : True := trivial
    sl_exec
    sl_step
    rw [trips1] at hL4 hL6
    have ht := TC_of _ _ (upTo_pos hL4 (by omega))
    have hz0 := zero_of _ (upTo_pos hL6 (by omega))
    rw [trips2] at hL9
    rw [trips3] at hL13
    rw [trips4] at hL18 hL20
    rw [trips5] at hL23
    have hzp := upTo_pos hL18 (by omega)
    rw [ht] at hzp
    have e6 : arg6.view.read (Elt F) fL7 = dxOut (arg2.view.read (Elt F) f2 (ix1 1)) (arg4.view.read (Elt F) f4) (arg5.view.read (Elt F) f5) :=
      dx_of _ _ _ (arg8.view.read (Elt F) fL3) (arg11.view.read (Elt F) fL5) _ (upTo_pos hL9 (by omega)) (haloP_of hL10)
        (ZP_cast hzp (scal _ _ _ _ _ (fun a => by match a with | ⟨0, _⟩ => rfl))) (upTo_pos hL23 (by omega))
    have e12 : arg12.view.read (Elt F) fL6 = accAt i (arg3.view.read (Elt F) f3) (arg4.view.read (Elt F) f4) (arg12.view.read (Elt F) f12) := by
      unfold accAt
      rw [if_pos hc1, ← hz0]
      exact acc_of _ _ _ (arg8.view.read (Elt F) fL3) (arg9.view.read (Elt F) fL4) _ (upTo_pos hL9 (by omega)) (haloP_of hL10) (upTo_pos hL13 (by omega)) hL20
    iapply Hk
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rfl
    isplitl [H6]; · iexists _; isplitr; swap; · iexact H6
                    ipureintro; exact e6
    isplitl [H7]
    · iexists _; isplitr; swap; · iexact H7
      ipureintro
      unfold dwAt
      rw [if_neg hc2]
    isplitl [H8]
    · iexists _
      isplitl [H8]
      · iexists _; isplitr; swap; · iexact H8
        ipureintro; rfl
      ipureintro; exact haloP_of hL10
    isplitl [H9]; · iexists _, _; isplitr; swap; · iexact H9
                    ipureintro; rfl
    isplitl [H10]; · iexists _; isplitr; swap; · iexact H10
                     ipureintro; exact ht
    isplitl [H11]; · iexists _, _; isplitr; swap; · iexact H11
                     ipureintro; rfl
    iexists _; isplitr; swap; · iexact H12
    ipureintro; exact e12
  · try replace hhk := hhk hc1
    have htriv : True := trivial
    sl_exec
    sl_step
    have ht := (hin hc1).2
    rw [trips2] at hL2
    rw [trips3] at hL6
    rw [trips4] at hL11 hL13
    rw [trips5] at hL16
    have hzp := upTo_pos hL11 (by omega)
    rw [(hin hc1).2] at hzp
    have e6 : arg6.view.read (Elt F) fL4 = dxOut (arg2.view.read (Elt F) f2 (ix1 1)) (arg4.view.read (Elt F) f4) (arg5.view.read (Elt F) f5) :=
      dx_of _ _ _ (arg8.view.read (Elt F) fL0) (arg11.view.read (Elt F) fL2) _ (upTo_pos hL2 (by omega)) (haloP_of hL3)
        (ZP_cast hzp (scal _ _ _ _ _ (fun a => by match a with | ⟨0, _⟩ => rfl))) (upTo_pos hL16 (by omega))
    have e12 : arg12.view.read (Elt F) fL3 = accAt i (arg3.view.read (Elt F) f3) (arg4.view.read (Elt F) f4) (arg12.view.read (Elt F) f12) := by
      unfold accAt
      rw [if_neg hc1]
      exact acc_of _ _ _ (arg8.view.read (Elt F) fL0) (arg9.view.read (Elt F) fL1) _ (upTo_pos hL2 (by omega)) (haloP_of hL3) (upTo_pos hL6 (by omega)) hL13
    iapply Hk
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rfl
    isplitl [H6]; · iexists _; isplitr; swap; · iexact H6
                    ipureintro; exact e6
    isplitl [H7]
    · iexists _; isplitr; swap; · iexact H7
      ipureintro
      unfold dwAt
      rw [if_pos hc2, ← e12]
      refine (rd_full arg7.view f7 _ _).trans ?_
      refine Eq.trans ?_ (show mulf (mulf (totAll (fun n => acol (arg12.view.read (Elt F) fL3) n)) (broadcast S32x128 (arg2.view.read (Elt F) f2 (ix1 0)))) (broadcast S32x128 (arg2.view.read (Elt F) f2 (ix1 1))) = finL (fun n => acol (arg12.view.read (Elt F) fL3) n) (arg2.view.read (Elt F) f2 (ix1 0)) (arg2.view.read (Elt F) f2 (ix1 1)) from rfl)
      unfold totAll totG7 totG6 totG5 totG4 totG3 totG2 totG1 totG0
      refine fin_last ?_ ?_
      · exact scal _ _ _ _ _ (fun a => by match a with | ⟨0, _⟩ => rfl)
      refine fin_sc ?_ (stp63 _ ?_ (ld_arow arg12.view fL3 ⟨63, by decide⟩))
      · exact scal _ _ _ _ _ (fun a => by match a with | ⟨0, _⟩ => rfl)
      refine stp62 ?_ (ld_arow arg12.view fL3 ⟨62, by decide⟩)
      refine stp61 ?_ (ld_arow arg12.view fL3 ⟨61, by decide⟩)
      refine stp60 ?_ (ld_arow arg12.view fL3 ⟨60, by decide⟩)
      refine stp59 ?_ (ld_arow arg12.view fL3 ⟨59, by decide⟩)
      refine stp58 ?_ (ld_arow arg12.view fL3 ⟨58, by decide⟩)
      refine stp57 ?_ (ld_arow arg12.view fL3 ⟨57, by decide⟩)
      refine stp56 ?_ (ld_arow arg12.view fL3 ⟨56, by decide⟩)
      refine stp55 ?_ (ld_arow arg12.view fL3 ⟨55, by decide⟩)
      refine stp54 ?_ (ld_arow arg12.view fL3 ⟨54, by decide⟩)
      refine stp53 ?_ (ld_arow arg12.view fL3 ⟨53, by decide⟩)
      refine stp52 ?_ (ld_arow arg12.view fL3 ⟨52, by decide⟩)
      refine stp51 ?_ (ld_arow arg12.view fL3 ⟨51, by decide⟩)
      refine stp50 ?_ (ld_arow arg12.view fL3 ⟨50, by decide⟩)
      refine stp49 ?_ (ld_arow arg12.view fL3 ⟨49, by decide⟩)
      refine stp48 ?_ (ld_arow arg12.view fL3 ⟨48, by decide⟩)
      refine stp47 ?_ (ld_arow arg12.view fL3 ⟨47, by decide⟩)
      refine stp46 ?_ (ld_arow arg12.view fL3 ⟨46, by decide⟩)
      refine stp45 ?_ (ld_arow arg12.view fL3 ⟨45, by decide⟩)
      refine stp44 ?_ (ld_arow arg12.view fL3 ⟨44, by decide⟩)
      refine stp43 ?_ (ld_arow arg12.view fL3 ⟨43, by decide⟩)
      refine stp42 ?_ (ld_arow arg12.view fL3 ⟨42, by decide⟩)
      refine stp41 ?_ (ld_arow arg12.view fL3 ⟨41, by decide⟩)
      refine stp40 ?_ (ld_arow arg12.view fL3 ⟨40, by decide⟩)
      refine stp39 ?_ (ld_arow arg12.view fL3 ⟨39, by decide⟩)
      refine stp38 ?_ (ld_arow arg12.view fL3 ⟨38, by decide⟩)
      refine stp37 ?_ (ld_arow arg12.view fL3 ⟨37, by decide⟩)
      refine stp36 ?_ (ld_arow arg12.view fL3 ⟨36, by decide⟩)
      refine stp35 ?_ (ld_arow arg12.view fL3 ⟨35, by decide⟩)
      refine stp34 ?_ (ld_arow arg12.view fL3 ⟨34, by decide⟩)
      refine stp33 ?_ (ld_arow arg12.view fL3 ⟨33, by decide⟩)
      refine stp32 ?_ (ld_arow arg12.view fL3 ⟨32, by decide⟩)
      refine stp31 ?_ (ld_arow arg12.view fL3 ⟨31, by decide⟩)
      refine stp30 ?_ (ld_arow arg12.view fL3 ⟨30, by decide⟩)
      refine stp29 ?_ (ld_arow arg12.view fL3 ⟨29, by decide⟩)
      refine stp28 ?_ (ld_arow arg12.view fL3 ⟨28, by decide⟩)
      refine stp27 ?_ (ld_arow arg12.view fL3 ⟨27, by decide⟩)
      refine stp26 ?_ (ld_arow arg12.view fL3 ⟨26, by decide⟩)
      refine stp25 ?_ (ld_arow arg12.view fL3 ⟨25, by decide⟩)
      refine stp24 ?_ (ld_arow arg12.view fL3 ⟨24, by decide⟩)
      refine stp23 ?_ (ld_arow arg12.view fL3 ⟨23, by decide⟩)
      refine stp22 ?_ (ld_arow arg12.view fL3 ⟨22, by decide⟩)
      refine stp21 ?_ (ld_arow arg12.view fL3 ⟨21, by decide⟩)
      refine stp20 ?_ (ld_arow arg12.view fL3 ⟨20, by decide⟩)
      refine stp19 ?_ (ld_arow arg12.view fL3 ⟨19, by decide⟩)
      refine stp18 ?_ (ld_arow arg12.view fL3 ⟨18, by decide⟩)
      refine stp17 ?_ (ld_arow arg12.view fL3 ⟨17, by decide⟩)
      refine stp16 ?_ (ld_arow arg12.view fL3 ⟨16, by decide⟩)
      refine stp15 ?_ (ld_arow arg12.view fL3 ⟨15, by decide⟩)
      refine stp14 ?_ (ld_arow arg12.view fL3 ⟨14, by decide⟩)
      refine stp13 ?_ (ld_arow arg12.view fL3 ⟨13, by decide⟩)
      refine stp12 ?_ (ld_arow arg12.view fL3 ⟨12, by decide⟩)
      refine stp11 ?_ (ld_arow arg12.view fL3 ⟨11, by decide⟩)
      refine stp10 ?_ (ld_arow arg12.view fL3 ⟨10, by decide⟩)
      refine stp9 ?_ (ld_arow arg12.view fL3 ⟨9, by decide⟩)
      refine stp8 ?_ (ld_arow arg12.view fL3 ⟨8, by decide⟩)
      refine stp7 ?_ (ld_arow arg12.view fL3 ⟨7, by decide⟩)
      refine stp6 ?_ (ld_arow arg12.view fL3 ⟨6, by decide⟩)
      refine stp5 ?_ (ld_arow arg12.view fL3 ⟨5, by decide⟩)
      refine stp4 ?_ (ld_arow arg12.view fL3 ⟨4, by decide⟩)
      refine stp3 ?_ (ld_arow arg12.view fL3 ⟨3, by decide⟩)
      refine stp2 ?_ (ld_arow arg12.view fL3 ⟨2, by decide⟩)
      refine stp1 ?_ (ld_arow arg12.view fL3 ⟨1, by decide⟩)
      refine stp0 ?_ (ld_arow arg12.view fL3 ⟨0, by decide⟩)
      exact tot0_eq
    isplitl [H8]
    · iexists _
      isplitl [H8]
      · iexists _; isplitr; swap; · iexact H8
        ipureintro; rfl
      ipureintro; exact haloP_of hL3
    isplitl [H9]; · iexists _, _; isplitr; swap; · iexact H9
                    ipureintro; rfl
    isplitl [H10]; · iexists _; isplitr; swap; · iexact H10
                     ipureintro; exact ht
    isplitl [H11]; · iexists _, _; isplitr; swap; · iexact H11
                     ipureintro; rfl
    iexists _; isplitr; swap; · iexact H12
    ipureintro; exact e12
  · try replace hhk := hhk hc1
    have htriv : True := trivial
    sl_exec
    sl_step
    have ht := (hin hc1).2
    rw [trips2] at hL2
    rw [trips3] at hL6
    rw [trips4] at hL11 hL13
    rw [trips5] at hL16
    have hzp := upTo_pos hL11 (by omega)
    rw [(hin hc1).2] at hzp
    have e6 : arg6.view.read (Elt F) fL4 = dxOut (arg2.view.read (Elt F) f2 (ix1 1)) (arg4.view.read (Elt F) f4) (arg5.view.read (Elt F) f5) :=
      dx_of _ _ _ (arg8.view.read (Elt F) fL0) (arg11.view.read (Elt F) fL2) _ (upTo_pos hL2 (by omega)) (haloP_of hL3)
        (ZP_cast hzp (scal _ _ _ _ _ (fun a => by match a with | ⟨0, _⟩ => rfl))) (upTo_pos hL16 (by omega))
    have e12 : arg12.view.read (Elt F) fL3 = accAt i (arg3.view.read (Elt F) f3) (arg4.view.read (Elt F) f4) (arg12.view.read (Elt F) f12) := by
      unfold accAt
      rw [if_neg hc1]
      exact acc_of _ _ _ (arg8.view.read (Elt F) fL0) (arg9.view.read (Elt F) fL1) _ (upTo_pos hL2 (by omega)) (haloP_of hL3) (upTo_pos hL6 (by omega)) hL13
    iapply Hk
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rfl
    isplitl [H6]; · iexists _; isplitr; swap; · iexact H6
                    ipureintro; exact e6
    isplitl [H7]
    · iexists _; isplitr; swap; · iexact H7
      ipureintro
      unfold dwAt
      rw [if_neg hc2]
    isplitl [H8]
    · iexists _
      isplitl [H8]
      · iexists _; isplitr; swap; · iexact H8
        ipureintro; rfl
      ipureintro; exact haloP_of hL3
    isplitl [H9]; · iexists _, _; isplitr; swap; · iexact H9
                    ipureintro; rfl
    isplitl [H10]; · iexists _; isplitr; swap; · iexact H10
                     ipureintro; exact ht
    isplitl [H11]; · iexists _, _; isplitr; swap; · iexact H11
                     ipureintro; rfl
    iexists _; isplitr; swap; · iexact H12
    ipureintro; exact e12

end Cert.KernelIdeal.Val

end
-- ==== Proof.Run.lean ====
/-
  The launch with its values: what each point leaves in the two outputs' blocks, and the run that leaves the two arrays
  made of those blocks.
-/
module

public import proofs.«01_k».proof.Proof.Gen.KernelIdeal.Frame
public import proofs.«01_k».proof.Proof.Gen.KernelIdeal.Points
public import proofs.«01_k».proof.Proof.Body
public import Idealize.ShloMosaic.Lib.Pipeline.Frame
public import Idealize.ShloMosaic.Lib.Pipeline.ValueKit
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds
open Idealize.ShloMosaic.ValueIdx

variable {F : FTy → Type} [FloatOps F] [∀ e, Nonempty (Elt F e)]

local notation "𝕄" => MT nD τ sig Unit (Elt F) ℕ (UR sig nD τ) ℕ

set_option warn.classDefReducibility false

variable (m : (ℓ : Loc nD τ sig) → Buf (Elt F) ℓ) (ρ : Dev nD → PrngReg)

theorem cond1_iff : ∀ t : Fin cfg0.N, k0_cond1 (grid0.coords t) = 1#1 ↔ t.val % 6 = 0 :=
  (by decide +kernel : ∀ t : Fin grid0.N, k0_cond1 (grid0.coords t) = 1#1 ↔ t.val % 6 = 0)
theorem cond2_iff : ∀ t : Fin cfg0.N, k0_cond2 (grid0.coords t) = 1#1 ↔ t.val % 6 = 5 :=
  (by decide +kernel : ∀ t : Fin grid0.N, k0_cond2 (grid0.coords t) = 1#1 ↔ t.val % 6 = 5)
theorem idx0 : ∀ t : Fin cfg0.N, win0_0.index t = ![0] := (by decide +kernel : ∀ t : Fin grid0.N, win0_0.index t = ![0])
theorem idx1 : ∀ t : Fin cfg0.N, win0_1.index t = ![t.val % 6, t.val / 6, 0] := (by decide +kernel : ∀ t : Fin grid0.N, win0_1.index t = ![t.val % 6, t.val / 6, 0])
theorem idx2 : ∀ t : Fin cfg0.N, win0_2.index t = ![t.val % 6, t.val / 6, 0] := (by decide +kernel : ∀ t : Fin grid0.N, win0_2.index t = ![t.val % 6, t.val / 6, 0])
theorem idx3 : ∀ t : Fin cfg0.N, win0_3.index t = ![t.val / 6, 0, 0] := (by decide +kernel : ∀ t : Fin grid0.N, win0_3.index t = ![t.val / 6, 0, 0])
theorem idx4 : ∀ t : Fin cfg0.N, win0_4.index t = ![t.val % 6, t.val / 6, 0] := (by decide +kernel : ∀ t : Fin grid0.N, win0_4.index t = ![t.val % 6, t.val / 6, 0])
theorem idx5 : ∀ t : Fin cfg0.N, win0_5.index t = ![t.val / 6, 0] := (by decide +kernel : ∀ t : Fin grid0.N, win0_5.index t = ![t.val / 6, 0])

/-- The four input blocks at a point. -/
def xb0 (c : Dev nD) (t : Fin cfg0.N) : S2.Idx → F .f32 := iblk m c 0 t
def xb1 (c : Dev nD) (t : Fin cfg0.N) : S4x32x8192.Idx → Elt F .i8 := iblk m c 1 t
def xb2 (c : Dev nD) (t : Fin cfg0.N) : S4x32x8192.Idx → Elt F .i8 := iblk m c 2 t
def xb3 (c : Dev nD) (t : Fin cfg0.N) : S32x8x128.Idx → Elt F .i32 := iblk m c 3 t

/-- The filter's block stays while the channel group does. -/
theorem xb3_step (c : Dev nD) (n : ℕ) (h : n + 1 < cfg0.N) (h6 : (n + 1) % 6 ≠ 0) : xb3 m c ⟨n + 1, h⟩ = xb3 m c ⟨n, Nat.lt_of_succ_lt h⟩ := by
  have e : (n + 1) / 6 = n / 6 := by omega
  funext y
  unfold xb3 iblk
  refine congrArg (V m c (Pipeline.arrRef spec0 3)) ?_
  funext a
  apply Fin.ext
  blk_simp [idx3]
  match a with
  | ⟨0, _⟩ => exact congrArg (fun q => q * 32 + (y 0).val) e
  | ⟨1, _⟩ => rfl
  | ⟨2, _⟩ => rfl

/-- The accumulator before point `n`. -/
def accS (c : Dev nD) : ℕ → S2048x128.Idx → F .f32
  | 0 => acc0
  | n + 1 => if h : n < cfg0.N then accAt (grid0.coords ⟨n, h⟩) (xb1 m c ⟨n, h⟩) (xb2 m c ⟨n, h⟩) (accS c n) else acc0

theorem accS_succ (c : Dev nD) (t : Fin cfg0.N) : accS m c (t.val + 1) = accAt (grid0.coords t) (xb1 m c t) (xb2 m c t) (accS m c t.val) := by
  rw [accS]; exact dif_pos t.isLt

/-- What is known of the scratch before point `n`. -/
def HH (c : Dev nD) (n : ℕ) (d8 : S2216x128.Idx → Elt F .i32) (d10 : S8192x128.Idx → Elt F .i32) (d12 : S2048x128.Idx → F .f32) : Prop :=
  ∀ h : n < cfg0.N, n % 6 ≠ 0 → HaloP d8 ∧ d10 = TC (xb3 m c ⟨n, h⟩) ∧ d12 = accS m c n

/-- The invariant before point `n`. -/
def PhiS (c : Dev nD) (n : ℕ) (_ : n ≤ cfg0.N) : sProp 𝕄 :=
  iprop(iprop((∃ d8 d10 d12, iprop(owns (c : Thread nD τ) (Memref.whole cc0_scratch0) fullShare d8 ∗ owns (c : Thread nD τ) (Memref.whole cc0_scratch2) fullShare d10
        ∗ owns (c : Thread nD τ) (Memref.whole cc0_scratch4) fullShare d12 ∗ ⌜HH m c n d8 d10 d12⌝))
      ∗ (∃ d, owns (c : Thread nD τ) (Memref.whole cc0_scratch1) fullShare d) ∗ (∃ d, owns (c : Thread nD τ) (Memref.whole cc0_scratch3) fullShare d))
    ∗ (∃ r, prngReg c r))

/-- The proof data, exact. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => dxOut (xb0 m c t (ValueIdx.ix1 1)) (xb2 m c t) (xb3 m c t)
    | 5 => finL (acol (accS m c (t.val + 1))) (xb0 m c t (ValueIdx.ix1 0)) (xb0 m c t (ValueIdx.ix1 1))
    | ⟨_ + 6, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d

/-- The plain invariant, conjunct by conjunct. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d)) ∗ (∃ r, prngReg c r)) := by
  unfold Pipeline.ΦA; rw [scopedRest0_eq]; simp only [owns_whole]; try rfl

theorem phi_in (c : Dev nD) : (Pipeline.ΦA spec0 c : sProp 𝕄) ⊢ (dats m 0 c).Φ 0 := by
  rw [PhiA0_eq, show (dats m 0 c).Φ 0 = PhiS m c 0 (Nat.zero_le _) from rfl]
  unfold PhiS
  iintro ⟨⟨⟨%d0, S0⟩, S1, ⟨%d2, S2⟩, S3, ⟨%d4, S4⟩⟩, Hg⟩
  isplitl [S0 S1 S2 S3 S4]
  · isplitl [S0 S2 S4]
    · iexists d0, d2, d4
      isplitl [S0]; · iexact S0
      isplitl [S2]; · iexact S2
      isplitl [S4]; · iexact S4
      ipureintro; exact fun _ h => absurd rfl h
    isplitl [S1]; · iexact S1
    iexact S3
  iexact Hg

theorem phi_out (c : Dev nD) : (dats m 0 c).Φ (Fin.last cfg0.N) ⊢ (Pipeline.ΦA spec0 c : sProp 𝕄) := by
  rw [PhiA0_eq, show (dats m 0 c).Φ (Fin.last cfg0.N) = PhiS m c cfg0.N (le_refl _) from rfl]
  unfold PhiS
  iintro ⟨⟨⟨%d0, %d2, %d4, S0, S2, S4, -⟩, S1, S3⟩, Hg⟩
  isplitl [S0 S1 S2 S3 S4]
  · isplitl [S0]; · iexists _; iexact S0
    isplitl [S1]; · iexact S1
    isplitl [S2]; · iexists _; iexact S2
    isplitl [S3]; · iexact S3
    iexists _; iexact S4
  iexact Hg

def bodyPre (c : Dev nD) (t : Fin cfg0.N) : sProp 𝕄 :=
  iprop(PhiS m c t.val (Nat.le_of_lt t.isLt) ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))
def bodyPost (c : Dev nD) (t : Fin cfg0.N) : sProp 𝕄 :=
  iprop(PhiS m c (t.val + 1) t.isLt ∗ (dats m 0 c).owesAt () t.castSucc
    ∗ (owns (c : Thread nD τ) (win0_0.stage (cfg0.slots t 0)) fullShare (iblk m c 0 t))
    ∗ (owns (c : Thread nD τ) (win0_1.stage (cfg0.slots t 1)) fullShare (iblk m c 1 t))
    ∗ (owns (c : Thread nD τ) (win0_2.stage (cfg0.slots t 2)) fullShare (iblk m c 2 t))
    ∗ (owns (c : Thread nD τ) (win0_3.stage (cfg0.slots t 3)) fullShare (iblk m c 3 t))
    ∗ (owns (c : Thread nD τ) (win0_4.stage (cfg0.slots t 4)) fullShare (dxOut (xb0 m c t (ValueIdx.ix1 1)) (xb2 m c t) (xb3 m c t)))
    ∗ (∃ d, owns (c : Thread nD τ) (win0_5.stage (cfg0.slots t 5)) fullShare
        (if k0_cond2 (grid0.coords t) = 1#1 then finL (acol (accS m c (t.val + 1))) (xb0 m c t (ValueIdx.ix1 0)) (xb0 m c t (ValueIdx.ix1 1)) else (dats m 0 c).before 5 t d)))

theorem acc_next (c : Dev nD) (t : Fin cfg0.N) (d8 d10 d12) (hH : HH m c t.val d8 d10 d12) :
    accAt (grid0.coords t) (xb1 m c t) (xb2 m c t) d12 = accS m c (t.val + 1) := by
  rw [accS_succ]
  unfold accAt
  by_cases h : k0_cond1 (grid0.coords t) = 1#1
  · rw [if_pos h, if_pos h]
  · rw [if_neg h, if_neg h, (hH t.isLt (fun h6 => h ((cond1_iff t).2 h6))).2.2]

theorem hh_next (c : Dev nD) (t : Fin cfg0.N) (d8) (h8 : HaloP d8) : HH m c (t.val + 1) d8 (TC (xb3 m c t)) (accS m c (t.val + 1)) :=
  fun h h6 => ⟨h8, by rw [xb3_step m c t.val h h6], rfl⟩

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 PhiS
  simp only [before0, before1, before2, before3]
  iintro ⟨⟨⟨⟨%d8, %d10, %d12, S0, S2, S4, %hH⟩, S1, S3⟩, Hg⟩, HO, ⟨%_, H0⟩, ⟨%_, H1⟩, ⟨%_, H2⟩, ⟨%_, H3⟩, ⟨%d4, H4⟩, ⟨%d5, H5⟩⟩
  iapply (kernelRun c (grid0.coords t) _ _ _ _ _ _ _ _ _ _ _ _ _ _ _ _ _ _ _ _ _ _ (xb0 m c t) (xb1 m c t) (xb2 m c t) (xb3 m c t) ((dats m 0 c).before 5 t d5) d8 d10 d12
    (fun h => ⟨(hH t.isLt (fun h6 => h ((cond1_iff t).2 h6))).1, (hH t.isLt (fun h6 => h ((cond1_iff t).2 h6))).2.1⟩))
  isplitl [H0]; · iexact H0
  isplitl [H1]; · iexact H1
  isplitl [H2]; · iexact H2
  isplitl [H3]; · iexact H3
  isplitl [H4]; · iexists _; iexact H4
  isplitl [H5]; · iexact H5
  isplitl [S0]; · iexact S0
  isplitl [S1]; · iexact S1
  isplitl [S2]; · iexact S2
  isplitl [S3]; · iexact S3
  isplitl [S4]; · iexact S4
  iintro ⟨H0, H1, H2, H3, H4, H5, ⟨%e8, S0, %he8⟩, S1, S2, S3, S4⟩
  isplitl [S0 S1 S2 S3 S4 Hg]
  · isplitl [S0 S1 S2 S3 S4]
    · isplitl [S0 S2 S4]
      · iexists e8, (TC (xb3 m c t)), (accAt (grid0.coords t) (xb1 m c t) (xb2 m c t) d12)
        isplitl [S0]; · iexact S0
        isplitl [S2]; · iexact S2
        isplitl [S4]; · iexact S4
        ipureintro
        rw [acc_next m c t d8 d10 d12 hH]
        exact hh_next m c t e8 he8
      isplitl [S1]; · iexact S1
      iexact S3
    iexact Hg
  isplitl [HO]; · iexact HO
  isplitl [H0]; · iexact H0
  isplitl [H1]; · iexact H1
  isplitl [H2]; · iexact H2
  isplitl [H3]; · iexact H3
  isplitl [H4]; · iexact H4
  iexists d5
  rw [← acc_next m c t d8 d10 d12 hH]
  iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem idle5 (t : Fin cfg0.N) : idle0 5 (grid0.coords t) = !(k0_cond2 (grid0.coords t) == 1#1) := rfl

set_option maxHeartbeats 2000000 in
theorem body_obligation (c : Dev nD) :
    Pipeline.BodyObligationLoose (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, HO, H0, H1, H2, H3, H4, ⟨%d5, H5⟩⟩
  rw [show (dats m 0 c).Φ t.succ = PhiS m c (t.val + 1) t.isLt from rfl]
  isplitl [HP]; · iexact HP
  isplitl [HO]; · iexact HO
  isplitl [H0]; · iexact H0
  isplitl [H1]; · iexact H1
  isplitl [H2]; · iexact H2
  isplitl [H3]; · iexact H3
  isplitl [H4]; · iexact H4
  dsimp only
  by_cases h : k0_cond2 (grid0.coords t) = 1#1
  · rw [if_pos h, idle5, show (!(k0_cond2 (grid0.coords t) == 1#1)) = false by rw [h]; rfl]
    iexact H5
  · rw [if_neg h, idle5, show (!(k0_cond2 (grid0.coords t) == 1#1)) = true by simp [h],
      show (win0 5).flush t = false from by
        by_contra hf; exact h ((cond2_iff t).2 ((flush0_5 t).1 (by simpa using hf)))]
    iexists d5
    iexact H5

set_option backward.isDefEq.respectTransparency.types false in
/-- The run: the arrays end at what the blocks make of them. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)
    (Q' := _) (hQ' := fun _ h => h)

end Cert.KernelIdeal.Val

end
-- ==== Proof.HostV.lean ====
/-
  The kernel's host lines before the launch: the filter's words, the transposed codes and the two scales.
-/
module

public import proofs.«01_k».proof.Proof.Gen.KernelIdeal.Frame
public import proofs.«01_k».proof.Proof.Init
public import Idealize.ShloMosaic.Lib.Pipeline.ValueKit
public import Idealize.ShloMosaic.Lib.BitcastConvert
public import Idealize.ShloMosaic.Lib.Pointwise
public import Idealize.ShloMosaic.Lib.Claim
public import Idealize.ShloMosaic.Lib.Tactic
public import Idealize.ShloMosaic.Lib.Pipeline.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem

variable {F : FTy → Type} [FloatOps F] [∀ e, Nonempty (Elt F e)]

/-- The filter's codes with a row and a column of zeros after them. -/
def wpad (W : S7x7x192.Idx → BitVec 16) : S8x8x192.Idx → BitVec 16 :=
  pad S8x8x192 ![0, 0, 0] ![1, 1, 0] ![0, 0, 0] W (trunci 16 (constantI S_ 32 0#32) natLt_16_32) pads_S7x7x192_S8x8x192_010_010_000 h_S_
/-- A list of columns as the gather reads it. -/
def colIx (f : S8.Idx → BitVec 32) : S8x1.Idx → BitVec 32 :=
  broadcastInDim S8x1 ![0] bcast_S8_S8x1_0 (select (cmpi .slt f (broadcastInDim S8 ![] bcast_S_S8 (constantI S_ 32 0#32)))
    (addi f (broadcastInDim S8 ![] bcast_S_S8 (constantI S_ 32 8#32))) f)
/-- The columns in a list's order. -/
def wcol (W : S7x7x192.Idx → BitVec 16) (f : S8.Idx → BitVec 32) : S8x8x192.Idx → BitVec 16 :=
  Host.gather gather_S8x8x192_S8x1_S8x8x192_02_1_n_n_1_1_81192 (wpad W) (colIx f)
/-- The pairs of columns as words. -/
def words (W : S7x7x192.Idx → BitVec 16) : S8x8x192.Idx → BitVec 32 :=
  Host.bitcastConvertWiden S8x8x192 32 (concatenate S8x8x192x2 3
    [⟨S8x8x192x1, broadcastInDim S8x8x192x1 ![0, 1, 2] bcast_S8x8x192_S8x8x192x1_0_1_2 (wcol W fun i => lit0 (S8.rowMajor i))⟩,
     ⟨S8x8x192x1, broadcastInDim S8x8x192x1 ![0, 1, 2] bcast_S8x8x192_S8x8x192x1_0_1_2 (wcol W fun i => lit1 (S8.rowMajor i))⟩]
    concatenates_S8x8x192x1_S8x8x192x1_S8x8x192x2_d3) splits_S8x8x192_w32_S8x8x192x2_w16
/-- One row of the words. -/
def hrow (V : S8x8x192.Idx → BitVec 32) (o : Fin 3 → ℕ) (h : S8x8x192.Slices o S1x8x192) : S8x192.Idx → BitVec 32 :=
  shapeCast S8x192 (extractStridedSlice S1x8x192 o V h) shapeCasts_S1x8x192_S8x192
/-- Two rows of the words laid round 128 lanes. -/
def lane2 (a b : S8x192.Idx → BitVec 32) : S128x192.Idx → BitVec 32 :=
  concatenate S128x192 0 [⟨S5x192, extractStridedSlice S5x192 ![0, 0] a slices_S8x192_S5x192_0_0⟩,
    ⟨S56x192, broadcastInDim S56x192 ![] bcast_S_S56x192 (constantI S_ 32 0#32)⟩,
    ⟨S3x192, extractStridedSlice S3x192 ![5, 0] b slices_S8x192_S3x192_5_0⟩,
    ⟨S5x192, extractStridedSlice S5x192 ![0, 0] b slices_S8x192_S5x192_0_0⟩,
    ⟨S56x192, broadcastInDim S56x192 ![] bcast_S_S56x192 (constantI S_ 32 0#32)⟩,
    ⟨S3x192, extractStridedSlice S3x192 ![5, 0] a slices_S8x192_S3x192_5_0⟩] concatenates_S5x192_S56x192_S3x192_S5x192_S56x192_S3x192_S128x192_d0
/-- A row of the eight. -/
def bc1 (a : S128x192.Idx → BitVec 32) : S1x128x192.Idx → BitVec 32 := broadcastInDim S1x128x192 ![1, 2] bcast_S128x192_S1x128x192_1_2 a
/-- The filter's words as the launch reads them. -/
def rowsT (V : S8x8x192.Idx → BitVec 32) : S192x8x128.Idx → BitVec 32 :=
  transpose S192x8x128 [2, 0, 1] (concatenate S8x128x192 0 [⟨S1x128x192, bc1 (lane2 (hrow V ![5, 0, 0] slices_S8x8x192_S1x8x192_5_0_0) (hrow V ![4, 0, 0] slices_S8x8x192_S1x8x192_4_0_0))⟩,
    ⟨S1x128x192, bc1 (lane2 (hrow V ![3, 0, 0] slices_S8x8x192_S1x8x192_3_0_0) (hrow V ![2, 0, 0] slices_S8x8x192_S1x8x192_2_0_0))⟩,
    ⟨S1x128x192, bc1 (lane2 (hrow V ![1, 0, 0] slices_S8x8x192_S1x8x192_1_0_0) (hrow V ![0, 0, 0] slices_S8x8x192_S1x8x192_0_0_0))⟩,
    ⟨S1x128x192, bc1 (lane2 (hrow V ![7, 0, 0] slices_S8x8x192_S1x8x192_7_0_0) (hrow V ![6, 0, 0] slices_S8x8x192_S1x8x192_6_0_0))⟩,
    ⟨S1x128x192, bc1 (lane2 (hrow V ![6, 0, 0] slices_S8x8x192_S1x8x192_6_0_0) (hrow V ![5, 0, 0] slices_S8x8x192_S1x8x192_5_0_0))⟩,
    ⟨S1x128x192, bc1 (lane2 (hrow V ![4, 0, 0] slices_S8x8x192_S1x8x192_4_0_0) (hrow V ![3, 0, 0] slices_S8x8x192_S1x8x192_3_0_0))⟩,
    ⟨S1x128x192, bc1 (lane2 (hrow V ![2, 0, 0] slices_S8x8x192_S1x8x192_2_0_0) (hrow V ![1, 0, 0] slices_S8x8x192_S1x8x192_1_0_0))⟩,
    ⟨S1x128x192, bc1 (lane2 (hrow V ![0, 0, 0] slices_S8x8x192_S1x8x192_0_0_0) (hrow V ![7, 0, 0] slices_S8x8x192_S1x8x192_7_0_0))⟩]
    concatenates_S1x128x192_S1x128x192_S1x128x192_S1x128x192_S1x128x192_S1x128x192_S1x128x192_S1x128x192_S8x128x192_d0)
    transposes_S8x128x192_S192x8x128_2_0_1

variable (m : (ℓ : Loc nD τ sig) → Buf (Elt F) ℓ)

/-- Part 0 of the host lines. -/
abbrev sg0 : List (HloOp τ sig (Elt F)) :=
  [StableHlo.nullary main_c_2 (constantI S_ 32 0#32),
   StableHlo.unary main_c_2 main_v3 (broadcastInDim S8 ![] bcast_S_S8 : (⟨S_, .i32⟩ : BufTy).Contents (Elt F) → (⟨S8, .i32⟩ : BufTy).Contents (Elt F)),
   StableHlo.binary main_c main_v3 main_v4 (cmpi .slt : (⟨S8, .i32⟩ : BufTy).Contents (Elt F) → (⟨S8, .i32⟩ : BufTy).Contents (Elt F) → (⟨S8, .i1⟩ : BufTy).Contents (Elt F)),
   StableHlo.nullary main_c_3 (constantI S_ 32 8#32),
   StableHlo.unary main_c_3 main_v5 (broadcastInDim S8 ![] bcast_S_S8 : (⟨S_, .i32⟩ : BufTy).Contents (Elt F) → (⟨S8, .i32⟩ : BufTy).Contents (Elt F)),
   StableHlo.binary main_c main_v5 main_v6 (addi : (⟨S8, .i32⟩ : BufTy).Contents (Elt F) → (⟨S8, .i32⟩ : BufTy).Contents (Elt F) → (⟨S8, .i32⟩ : BufTy).Contents (Elt F)),
   StableHlo.ternary main_v4 main_v6 main_c main_v7 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
   StableHlo.unary main_v7 main_v8 (broadcastInDim S8x1 ![0] bcast_S8_S8x1_0 : (⟨S8, .i32⟩ : BufTy).Contents (Elt F) → (⟨S8x1, .i32⟩ : BufTy).Contents (Elt F)),
   StableHlo.binary main_v2 main_v8 main_v9 ((fun x i => Host.gather gather_S8x8x192_S8x1_S8x8x192_02_1_n_n_1_1_81192 x i) : (⟨S8x8x192, .i16⟩ : BufTy).Contents (Elt F) → (⟨S8x1, .i32⟩ : BufTy).Contents (Elt F) → (⟨S8x8x192, .i16⟩ : BufTy).Contents (Elt F)),
   StableHlo.nullary main_c_4 (constantI S_ 32 0#32),
   StableHlo.unary main_c_4 main_v10 (broadcastInDim S8 ![] bcast_S_S8 : (⟨S_, .i32⟩ : BufTy).Contents (Elt F) → (⟨S8, .i32⟩ : BufTy).Contents (Elt F)),
   StableHlo.binary main_c_0 main_v10 main_v11 (cmpi .slt : (⟨S8, .i32⟩ : BufTy).Contents (Elt F) → (⟨S8, .i32⟩ : BufTy).Contents (Elt F) → (⟨S8, .i1⟩ : BufTy).Contents (Elt F)),
   StableHlo.nullary main_c_5 (constantI S_ 32 8#32),
   StableHlo.unary main_c_5 main_v12 (broadcastInDim S8 ![] bcast_S_S8 : (⟨S_, .i32⟩ : BufTy).Contents (Elt F) → (⟨S8, .i32⟩ : BufTy).Contents (Elt F)),
   StableHlo.binary main_c_0 main_v12 main_v13 (addi : (⟨S8, .i32⟩ : BufTy).Contents (Elt F) → (⟨S8, .i32⟩ : BufTy).Contents (Elt F) → (⟨S8, .i32⟩ : BufTy).Contents (Elt F)),
   StableHlo.ternary main_v11 main_v13 main_c_0 main_v14 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
   StableHlo.unary main_v14 main_v15 (broadcastInDim S8x1 ![0] bcast_S8_S8x1_0 : (⟨S8, .i32⟩ : BufTy).Contents (Elt F) → (⟨S8x1, .i32⟩ : BufTy).Contents (Elt F)),
   StableHlo.binary main_v2 main_v15 main_v16 ((fun x i => Host.gather gather_S8x8x192_S8x1_S8x8x192_02_1_n_n_1_1_81192 x i) : (⟨S8x8x192, .i16⟩ : BufTy).Contents (Elt F) → (⟨S8x1, .i32⟩ : BufTy).Contents (Elt F) → (⟨S8x8x192, .i16⟩ : BufTy).Contents (Elt F)),
   StableHlo.unary main_v9 main_v17 (broadcastInDim S8x8x192x1 ![0, 1, 2] bcast_S8x8x192_S8x8x192x1_0_1_2 : (⟨S8x8x192, .i16⟩ : BufTy).Contents (Elt F) → (⟨S8x8x192x1, .i16⟩ : BufTy).Contents (Elt F)),
   StableHlo.unary main_v16 main_v18 (broadcastInDim S8x8x192x1 ![0, 1, 2] bcast_S8x8x192_S8x8x192x1_0_1_2 : (⟨S8x8x192, .i16⟩ : BufTy).Contents (Elt F) → (⟨S8x8x192x1, .i16⟩ : BufTy).Contents (Elt F)),
   StableHlo.binary main_v17 main_v18 main_v19 ((fun a b => concatenate S8x8x192x2 3 [⟨S8x8x192x1, a⟩, ⟨S8x8x192x1, b⟩] concatenates_S8x8x192x1_S8x8x192x1_S8x8x192x2_d3) : (⟨S8x8x192x1, .i16⟩ : BufTy).Contents (Elt F) → (⟨S8x8x192x1, .i16⟩ : BufTy).Contents (Elt F) → (⟨S8x8x192x2, .i16⟩ : BufTy).Contents (Elt F)),
   StableHlo.unary main_v19 main_v20 ((fun x => Host.bitcastConvertWiden S8x8x192 32 x splits_S8x8x192_w32_S8x8x192x2_w16) : (⟨S8x8x192x2, .i16⟩ : BufTy).Contents (Elt F) → (⟨S8x8x192, .i32⟩ : BufTy).Contents (Elt F))]
/-- What it writes. -/
abbrev sw0 : List (Ref sig .tc) := [main_c_2, main_v3, main_v4, main_c_3, main_v5, main_v6, main_v7, main_v8, main_v9, main_c_4, main_v10, main_v11, main_c_5, main_v12, main_v13, main_v14, main_v15, main_v16, main_v17, main_v18, main_v19, main_v20]
theorem keep0 (V : Valuation τ sig (Elt F)) (r : Ref sig .tc) (h : r ∉ sw0) : StableHlo.after (sg0 : List (HloOp τ sig (Elt F))) V (Proc.devRef .tc r) = V (Proc.devRef .tc r) :=
  StableHlo.after_of_writes_sub _ V (StableHlo.forall_writes_sub_of_map (W := sw0) rfl) h
/-- Part 1 of the host lines. -/
abbrev sg1 : List (HloOp τ sig (Elt F)) :=
  [StableHlo.unary main_v20 main_v21 ((extractStridedSlice S1x8x192 ![5, 0, 0] · slices_S8x8x192_S1x8x192_5_0_0) : (⟨S8x8x192, .i32⟩ : BufTy).Contents (Elt F) → (⟨S1x8x192, .i32⟩ : BufTy).Contents (Elt F)),
   StableHlo.reshape main_v21 main_v22 (rfl : (.i32 : EltTy) = .i32) shapeCasts_S1x8x192_S8x192,
   StableHlo.unary main_v20 main_v23 ((extractStridedSlice S1x8x192 ![4, 0, 0] · slices_S8x8x192_S1x8x192_4_0_0) : (⟨S8x8x192, .i32⟩ : BufTy).Contents (Elt F) → (⟨S1x8x192, .i32⟩ : BufTy).Contents (Elt F)),
   StableHlo.reshape main_v23 main_v24 (rfl : (.i32 : EltTy) = .i32) shapeCasts_S1x8x192_S8x192,
   StableHlo.nullary main_c_6 (constantI S_ 32 0#32),
   StableHlo.unary main_c_6 main_v25 (broadcastInDim S56x192 ![] bcast_S_S56x192 : (⟨S_, .i32⟩ : BufTy).Contents (Elt F) → (⟨S56x192, .i32⟩ : BufTy).Contents (Elt F)),
   StableHlo.unary main_v22 main_v26 ((extractStridedSlice S5x192 ![0, 0] · slices_S8x192_S5x192_0_0) : (⟨S8x192, .i32⟩ : BufTy).Contents (Elt F) → (⟨S5x192, .i32⟩ : BufTy).Contents (Elt F)),
   StableHlo.unary main_v24 main_v27 ((extractStridedSlice S3x192 ![5, 0] · slices_S8x192_S3x192_5_0) : (⟨S8x192, .i32⟩ : BufTy).Contents (Elt F) → (⟨S3x192, .i32⟩ : BufTy).Contents (Elt F)),
   StableHlo.unary main_v24 main_v28 ((extractStridedSlice S5x192 ![0, 0] · slices_S8x192_S5x192_0_0) : (⟨S8x192, .i32⟩ : BufTy).Contents (Elt F) → (⟨S5x192, .i32⟩ : BufTy).Contents (Elt F)),
   StableHlo.unary main_v22 main_v29 ((extractStridedSlice S3x192 ![5, 0] · slices_S8x192_S3x192_5_0) : (⟨S8x192, .i32⟩ : BufTy).Contents (Elt F) → (⟨S3x192, .i32⟩ : BufTy).Contents (Elt F)),
   StableHlo.nary ![main_v26, main_v25, main_v27, main_v28, main_v25, main_v29] main_v30 (fun u => (concatenate S128x192 0 [⟨S5x192, (u 0 : (⟨S5x192, .i32⟩ : BufTy).Contents (Elt F))⟩, ⟨S56x192, (u 1 : (⟨S56x192, .i32⟩ : BufTy).Contents (Elt F))⟩, ⟨S3x192, (u 2 : (⟨S3x192, .i32⟩ : BufTy).Contents (Elt F))⟩, ⟨S5x192, (u 3 : (⟨S5x192, .i32⟩ : BufTy).Contents (Elt F))⟩, ⟨S56x192, (u 4 : (⟨S56x192, .i32⟩ : BufTy).Contents (Elt F))⟩, ⟨S3x192, (u 5 : (⟨S3x192, .i32⟩ : BufTy).Contents (Elt F))⟩] concatenates_S5x192_S56x192_S3x192_S5x192_S56x192_S3x192_S128x192_d0 : (⟨S128x192, .i32⟩ : BufTy).Contents (Elt F)))]
/-- What it writes. -/
abbrev sw1 : List (Ref sig .tc) := [main_v21, main_v22, main_v23, main_v24, main_c_6, main_v25, main_v26, main_v27, main_v28, main_v29, main_v30]
theorem keep1 (V : Valuation τ sig (Elt F)) (r : Ref sig .tc) (h : r ∉ sw1) : StableHlo.after (sg1 : List (HloOp τ sig (Elt F))) V (Proc.devRef .tc r) = V (Proc.devRef .tc r) :=
  StableHlo.after_of_writes_sub _ V (StableHlo.forall_writes_sub_of_map (W := sw1) rfl) h
/-- Part 2 of the host lines. -/
abbrev sg2 : List (HloOp τ sig (Elt F)) :=
  [StableHlo.unary main_v20 main_v31 ((extractStridedSlice S1x8x192 ![3, 0, 0] · slices_S8x8x192_S1x8x192_3_0_0) : (⟨S8x8x192, .i32⟩ : BufTy).Contents (Elt F) → (⟨S1x8x192, .i32⟩ : BufTy).Contents (Elt F)),
   StableHlo.reshape main_v31 main_v32 (rfl : (.i32 : EltTy) = .i32) shapeCasts_S1x8x192_S8x192,
   StableHlo.unary main_v20 main_v33 ((extractStridedSlice S1x8x192 ![2, 0, 0] · slices_S8x8x192_S1x8x192_2_0_0) : (⟨S8x8x192, .i32⟩ : BufTy).Contents (Elt F) → (⟨S1x8x192, .i32⟩ : BufTy).Contents (Elt F)),
   StableHlo.reshape main_v33 main_v34 (rfl : (.i32 : EltTy) = .i32) shapeCasts_S1x8x192_S8x192,
   StableHlo.nullary main_c_7 (constantI S_ 32 0#32),
   StableHlo.unary main_c_7 main_v35 (broadcastInDim S56x192 ![] bcast_S_S56x192 : (⟨S_, .i32⟩ : BufTy).Contents (Elt F) → (⟨S56x192, .i32⟩ : BufTy).Contents (Elt F)),
   StableHlo.unary main_v32 main_v36 ((extractStridedSlice S5x192 ![0, 0] · slices_S8x192_S5x192_0_0) : (⟨S8x192, .i32⟩ : BufTy).Contents (Elt F) → (⟨S5x192, .i32⟩ : BufTy).Contents (Elt F)),
   StableHlo.unary main_v34 main_v37 ((extractStridedSlice S3x192 ![5, 0] · slices_S8x192_S3x192_5_0) : (⟨S8x192, .i32⟩ : BufTy).Contents (Elt F) → (⟨S3x192, .i32⟩ : BufTy).Contents (Elt F)),
   StableHlo.unary main_v34 main_v38 ((extractStridedSlice S5x192 ![0, 0] · slices_S8x192_S5x192_0_0) : (⟨S8x192, .i32⟩ : BufTy).Contents (Elt F) → (⟨S5x192, .i32⟩ : BufTy).Contents (Elt F)),
   StableHlo.unary main_v32 main_v39 ((extractStridedSlice S3x192 ![5, 0] · slices_S8x192_S3x192_5_0) : (⟨S8x192, .i32⟩ : BufTy).Contents (Elt F) → (⟨S3x192, .i32⟩ : BufTy).Contents (Elt F)),
   StableHlo.nary ![main_v36, main_v35, main_v37, main_v38, main_v35, main_v39] main_v40 (fun u => (concatenate S128x192 0 [⟨S5x192, (u 0 : (⟨S5x192, .i32⟩ : BufTy).Contents (Elt F))⟩, ⟨S56x192, (u 1 : (⟨S56x192, .i32⟩ : BufTy).Contents (Elt F))⟩, ⟨S3x192, (u 2 : (⟨S3x192, .i32⟩ : BufTy).Contents (Elt F))⟩, ⟨S5x192, (u 3 : (⟨S5x192, .i32⟩ : BufTy).Contents (Elt F))⟩, ⟨S56x192, (u 4 : (⟨S56x192, .i32⟩ : BufTy).Contents (Elt F))⟩, ⟨S3x192, (u 5 : (⟨S3x192, .i32⟩ : BufTy).Contents (Elt F))⟩] concatenates_S5x192_S56x192_S3x192_S5x192_S56x192_S3x192_S128x192_d0 : (⟨S128x192, .i32⟩ : BufTy).Contents (Elt F)))]
/-- What it writes. -/
abbrev sw2 : List (Ref sig .tc) := [main_v31, main_v32, main_v33, main_v34, main_c_7, main_v35, main_v36, main_v37, main_v38, main_v39, main_v40]
theorem keep2 (V : Valuation τ sig (Elt F)) (r : Ref sig .tc) (h : r ∉ sw2) : StableHlo.after (sg2 : List (HloOp τ sig (Elt F))) V (Proc.devRef .tc r) = V (Proc.devRef .tc r) :=
  StableHlo.after_of_writes_sub _ V (StableHlo.forall_writes_sub_of_map (W := sw2) rfl) h
/-- Part 3 of the host lines. -/
abbrev sg3 : List (HloOp τ sig (Elt F)) :=
  [StableHlo.unary main_v20 main_v41 ((extractStridedSlice S1x8x192 ![1, 0, 0] · slices_S8x8x192_S1x8x192_1_0_0) : (⟨S8x8x192, .i32⟩ : BufTy).Contents (Elt F) → (⟨S1x8x192, .i32⟩ : BufTy).Contents (Elt F)),
   StableHlo.reshape main_v41 main_v42 (rfl : (.i32 : EltTy) = .i32) shapeCasts_S1x8x192_S8x192,
   StableHlo.unary main_v20 main_v43 ((extractStridedSlice S1x8x192 ![0, 0, 0] · slices_S8x8x192_S1x8x192_0_0_0) : (⟨S8x8x192, .i32⟩ : BufTy).Contents (Elt F) → (⟨S1x8x192, .i32⟩ : BufTy).Contents (Elt F)),
   StableHlo.reshape main_v43 main_v44 (rfl : (.i32 : EltTy) = .i32) shapeCasts_S1x8x192_S8x192,
   StableHlo.nullary main_c_8 (constantI S_ 32 0#32),
   StableHlo.unary main_c_8 main_v45 (broadcastInDim S56x192 ![] bcast_S_S56x192 : (⟨S_, .i32⟩ : BufTy).Contents (Elt F) → (⟨S56x192, .i32⟩ : BufTy).Contents (Elt F)),
   StableHlo.unary main_v42 main_v46 ((extractStridedSlice S5x192 ![0, 0] · slices_S8x192_S5x192_0_0) : (⟨S8x192, .i32⟩ : BufTy).Contents (Elt F) → (⟨S5x192, .i32⟩ : BufTy).Contents (Elt F)),
   StableHlo.unary main_v44 main_v47 ((extractStridedSlice S3x192 ![5, 0] · slices_S8x192_S3x192_5_0) : (⟨S8x192, .i32⟩ : BufTy).Contents (Elt F) → (⟨S3x192, .i32⟩ : BufTy).Contents (Elt F)),
   StableHlo.unary main_v44 main_v48 ((extractStridedSlice S5x192 ![0, 0] · slices_S8x192_S5x192_0_0) : (⟨S8x192, .i32⟩ : BufTy).Contents (Elt F) → (⟨S5x192, .i32⟩ : BufTy).Contents (Elt F)),
   StableHlo.unary main_v42 main_v49 ((extractStridedSlice S3x192 ![5, 0] · slices_S8x192_S3x192_5_0) : (⟨S8x192, .i32⟩ : BufTy).Contents (Elt F) → (⟨S3x192, .i32⟩ : BufTy).Contents (Elt F)),
   StableHlo.nary ![main_v46, main_v45, main_v47, main_v48, main_v45, main_v49] main_v50 (fun u => (concatenate S128x192 0 [⟨S5x192, (u 0 : (⟨S5x192, .i32⟩ : BufTy).Contents (Elt F))⟩, ⟨S56x192, (u 1 : (⟨S56x192, .i32⟩ : BufTy).Contents (Elt F))⟩, ⟨S3x192, (u 2 : (⟨S3x192, .i32⟩ : BufTy).Contents (Elt F))⟩, ⟨S5x192, (u 3 : (⟨S5x192, .i32⟩ : BufTy).Contents (Elt F))⟩, ⟨S56x192, (u 4 : (⟨S56x192, .i32⟩ : BufTy).Contents (Elt F))⟩, ⟨S3x192, (u 5 : (⟨S3x192, .i32⟩ : BufTy).Contents (Elt F))⟩] concatenates_S5x192_S56x192_S3x192_S5x192_S56x192_S3x192_S128x192_d0 : (⟨S128x192, .i32⟩ : BufTy).Contents (Elt F)))]
/-- What it writes. -/
abbrev sw3 : List (Ref sig .tc) := [main_v41, main_v42, main_v43, main_v44, main_c_8, main_v45, main_v46, main_v47, main_v48, main_v49, main_v50]
theorem keep3 (V : Valuation τ sig (Elt F)) (r : Ref sig .tc) (h : r ∉ sw3) : StableHlo.after (sg3 : List (HloOp τ sig (Elt F))) V (Proc.devRef .tc r) = V (Proc.devRef .tc r) :=
  StableHlo.after_of_writes_sub _ V (StableHlo.forall_writes_sub_of_map (W := sw3) rfl) h
/-- Part 4 of the host lines. -/
abbrev sg4 : List (HloOp τ sig (Elt F)) :=
  [StableHlo.unary main_v20 main_v51 ((extractStridedSlice S1x8x192 ![7, 0, 0] · slices_S8x8x192_S1x8x192_7_0_0) : (⟨S8x8x192, .i32⟩ : BufTy).Contents (Elt F) → (⟨S1x8x192, .i32⟩ : BufTy).Contents (Elt F)),
   StableHlo.reshape main_v51 main_v52 (rfl : (.i32 : EltTy) = .i32) shapeCasts_S1x8x192_S8x192,
   StableHlo.unary main_v20 main_v53 ((extractStridedSlice S1x8x192 ![6, 0, 0] · slices_S8x8x192_S1x8x192_6_0_0) : (⟨S8x8x192, .i32⟩ : BufTy).Contents (Elt F) → (⟨S1x8x192, .i32⟩ : BufTy).Contents (Elt F)),
   StableHlo.reshape main_v53 main_v54 (rfl : (.i32 : EltTy) = .i32) shapeCasts_S1x8x192_S8x192,
   StableHlo.nullary main_c_9 (constantI S_ 32 0#32),
   StableHlo.unary main_c_9 main_v55 (broadcastInDim S56x192 ![] bcast_S_S56x192 : (⟨S_, .i32⟩ : BufTy).Contents (Elt F) → (⟨S56x192, .i32⟩ : BufTy).Contents (Elt F)),
   StableHlo.unary main_v52 main_v56 ((extractStridedSlice S5x192 ![0, 0] · slices_S8x192_S5x192_0_0) : (⟨S8x192, .i32⟩ : BufTy).Contents (Elt F) → (⟨S5x192, .i32⟩ : BufTy).Contents (Elt F)),
   StableHlo.unary main_v54 main_v57 ((extractStridedSlice S3x192 ![5, 0] · slices_S8x192_S3x192_5_0) : (⟨S8x192, .i32⟩ : BufTy).Contents (Elt F) → (⟨S3x192, .i32⟩ : BufTy).Contents (Elt F)),
   StableHlo.unary main_v54 main_v58 ((extractStridedSlice S5x192 ![0, 0] · slices_S8x192_S5x192_0_0) : (⟨S8x192, .i32⟩ : BufTy).Contents (Elt F) → (⟨S5x192, .i32⟩ : BufTy).Contents (Elt F)),
   StableHlo.unary main_v52 main_v59 ((extractStridedSlice S3x192 ![5, 0] · slices_S8x192_S3x192_5_0) : (⟨S8x192, .i32⟩ : BufTy).Contents (Elt F) → (⟨S3x192, .i32⟩ : BufTy).Contents (Elt F)),
   StableHlo.nary ![main_v56, main_v55, main_v57, main_v58, main_v55, main_v59] main_v60 (fun u => (concatenate S128x192 0 [⟨S5x192, (u 0 : (⟨S5x192, .i32⟩ : BufTy).Contents (Elt F))⟩, ⟨S56x192, (u 1 : (⟨S56x192, .i32⟩ : BufTy).Contents (Elt F))⟩, ⟨S3x192, (u 2 : (⟨S3x192, .i32⟩ : BufTy).Contents (Elt F))⟩, ⟨S5x192, (u 3 : (⟨S5x192, .i32⟩ : BufTy).Contents (Elt F))⟩, ⟨S56x192, (u 4 : (⟨S56x192, .i32⟩ : BufTy).Contents (Elt F))⟩, ⟨S3x192, (u 5 : (⟨S3x192, .i32⟩ : BufTy).Contents (Elt F))⟩] concatenates_S5x192_S56x192_S3x192_S5x192_S56x192_S3x192_S128x192_d0 : (⟨S128x192, .i32⟩ : BufTy).Contents (Elt F)))]
/-- What it writes. -/
abbrev sw4 : List (Ref sig .tc) := [main_v51, main_v52, main_v53, main_v54, main_c_9, main_v55, main_v56, main_v57, main_v58, main_v59, main_v60]
theorem keep4 (V : Valuation τ sig (Elt F)) (r : Ref sig .tc) (h : r ∉ sw4) : StableHlo.after (sg4 : List (HloOp τ sig (Elt F))) V (Proc.devRef .tc r) = V (Proc.devRef .tc r) :=
  StableHlo.after_of_writes_sub _ V (StableHlo.forall_writes_sub_of_map (W := sw4) rfl) h
/-- Part 5 of the host lines. -/
abbrev sg5 : List (HloOp τ sig (Elt F)) :=
  [StableHlo.unary main_v20 main_v61 ((extractStridedSlice S1x8x192 ![6, 0, 0] · slices_S8x8x192_S1x8x192_6_0_0) : (⟨S8x8x192, .i32⟩ : BufTy).Contents (Elt F) → (⟨S1x8x192, .i32⟩ : BufTy).Contents (Elt F)),
   StableHlo.reshape main_v61 main_v62 (rfl : (.i32 : EltTy) = .i32) shapeCasts_S1x8x192_S8x192,
   StableHlo.unary main_v20 main_v63 ((extractStridedSlice S1x8x192 ![5, 0, 0] · slices_S8x8x192_S1x8x192_5_0_0) : (⟨S8x8x192, .i32⟩ : BufTy).Contents (Elt F) → (⟨S1x8x192, .i32⟩ : BufTy).Contents (Elt F)),
   StableHlo.reshape main_v63 main_v64 (rfl : (.i32 : EltTy) = .i32) shapeCasts_S1x8x192_S8x192,
   StableHlo.nullary main_c_10 (constantI S_ 32 0#32),
   StableHlo.unary main_c_10 main_v65 (broadcastInDim S56x192 ![] bcast_S_S56x192 : (⟨S_, .i32⟩ : BufTy).Contents (Elt F) → (⟨S56x192, .i32⟩ : BufTy).Contents (Elt F)),
   StableHlo.unary main_v62 main_v66 ((extractStridedSlice S5x192 ![0, 0] · slices_S8x192_S5x192_0_0) : (⟨S8x192, .i32⟩ : BufTy).Contents (Elt F) → (⟨S5x192, .i32⟩ : BufTy).Contents (Elt F)),
   StableHlo.unary main_v64 main_v67 ((extractStridedSlice S3x192 ![5, 0] · slices_S8x192_S3x192_5_0) : (⟨S8x192, .i32⟩ : BufTy).Contents (Elt F) → (⟨S3x192, .i32⟩ : BufTy).Contents (Elt F)),
   StableHlo.unary main_v64 main_v68 ((extractStridedSlice S5x192 ![0, 0] · slices_S8x192_S5x192_0_0) : (⟨S8x192, .i32⟩ : BufTy).Contents (Elt F) → (⟨S5x192, .i32⟩ : BufTy).Contents (Elt F)),
   StableHlo.unary main_v62 main_v69 ((extractStridedSlice S3x192 ![5, 0] · slices_S8x192_S3x192_5_0) : (⟨S8x192, .i32⟩ : BufTy).Contents (Elt F) → (⟨S3x192, .i32⟩ : BufTy).Contents (Elt F)),
   StableHlo.nary ![main_v66, main_v65, main_v67, main_v68, main_v65, main_v69] main_v70 (fun u => (concatenate S128x192 0 [⟨S5x192, (u 0 : (⟨S5x192, .i32⟩ : BufTy).Contents (Elt F))⟩, ⟨S56x192, (u 1 : (⟨S56x192, .i32⟩ : BufTy).Contents (Elt F))⟩, ⟨S3x192, (u 2 : (⟨S3x192, .i32⟩ : BufTy).Contents (Elt F))⟩, ⟨S5x192, (u 3 : (⟨S5x192, .i32⟩ : BufTy).Contents (Elt F))⟩, ⟨S56x192, (u 4 : (⟨S56x192, .i32⟩ : BufTy).Contents (Elt F))⟩, ⟨S3x192, (u 5 : (⟨S3x192, .i32⟩ : BufTy).Contents (Elt F))⟩] concatenates_S5x192_S56x192_S3x192_S5x192_S56x192_S3x192_S128x192_d0 : (⟨S128x192, .i32⟩ : BufTy).Contents (Elt F)))]
/-- What it writes. -/
abbrev sw5 : List (Ref sig .tc) := [main_v61, main_v62, main_v63, main_v64, main_c_10, main_v65, main_v66, main_v67, main_v68, main_v69, main_v70]
theorem keep5 (V : Valuation τ sig (Elt F)) (r : Ref sig .tc) (h : r ∉ sw5) : StableHlo.after (sg5 : List (HloOp τ sig (Elt F))) V (Proc.devRef .tc r) = V (Proc.devRef .tc r) :=
  StableHlo.after_of_writes_sub _ V (StableHlo.forall_writes_sub_of_map (W := sw5) rfl) h
/-- Part 6 of the host lines. -/
abbrev sg6 : List (HloOp τ sig (Elt F)) :=
  [StableHlo.unary main_v20 main_v71 ((extractStridedSlice S1x8x192 ![4, 0, 0] · slices_S8x8x192_S1x8x192_4_0_0) : (⟨S8x8x192, .i32⟩ : BufTy).Contents (Elt F) → (⟨S1x8x192, .i32⟩ : BufTy).Contents (Elt F)),
   StableHlo.reshape main_v71 main_v72 (rfl : (.i32 : EltTy) = .i32) shapeCasts_S1x8x192_S8x192,
   StableHlo.unary main_v20 main_v73 ((extractStridedSlice S1x8x192 ![3, 0, 0] · slices_S8x8x192_S1x8x192_3_0_0) : (⟨S8x8x192, .i32⟩ : BufTy).Contents (Elt F) → (⟨S1x8x192, .i32⟩ : BufTy).Contents (Elt F)),
   StableHlo.reshape main_v73 main_v74 (rfl : (.i32 : EltTy) = .i32) shapeCasts_S1x8x192_S8x192,
   StableHlo.nullary main_c_11 (constantI S_ 32 0#32),
   StableHlo.unary main_c_11 main_v75 (broadcastInDim S56x192 ![] bcast_S_S56x192 : (⟨S_, .i32⟩ : BufTy).Contents (Elt F) → (⟨S56x192, .i32⟩ : BufTy).Contents (Elt F)),
   StableHlo.unary main_v72 main_v76 ((extractStridedSlice S5x192 ![0, 0] · slices_S8x192_S5x192_0_0) : (⟨S8x192, .i32⟩ : BufTy).Contents (Elt F) → (⟨S5x192, .i32⟩ : BufTy).Contents (Elt F)),
   StableHlo.unary main_v74 main_v77 ((extractStridedSlice S3x192 ![5, 0] · slices_S8x192_S3x192_5_0) : (⟨S8x192, .i32⟩ : BufTy).Contents (Elt F) → (⟨S3x192, .i32⟩ : BufTy).Contents (Elt F)),
   StableHlo.unary main_v74 main_v78 ((extractStridedSlice S5x192 ![0, 0] · slices_S8x192_S5x192_0_0) : (⟨S8x192, .i32⟩ : BufTy).Contents (Elt F) → (⟨S5x192, .i32⟩ : BufTy).Contents (Elt F)),
   StableHlo.unary main_v72 main_v79 ((extractStridedSlice S3x192 ![5, 0] · slices_S8x192_S3x192_5_0) : (⟨S8x192, .i32⟩ : BufTy).Contents (Elt F) → (⟨S3x192, .i32⟩ : BufTy).Contents (Elt F)),
   StableHlo.nary ![main_v76, main_v75, main_v77, main_v78, main_v75, main_v79] main_v80 (fun u => (concatenate S128x192 0 [⟨S5x192, (u 0 : (⟨S5x192, .i32⟩ : BufTy).Contents (Elt F))⟩, ⟨S56x192, (u 1 : (⟨S56x192, .i32⟩ : BufTy).Contents (Elt F))⟩, ⟨S3x192, (u 2 : (⟨S3x192, .i32⟩ : BufTy).Contents (Elt F))⟩, ⟨S5x192, (u 3 : (⟨S5x192, .i32⟩ : BufTy).Contents (Elt F))⟩, ⟨S56x192, (u 4 : (⟨S56x192, .i32⟩ : BufTy).Contents (Elt F))⟩, ⟨S3x192, (u 5 : (⟨S3x192, .i32⟩ : BufTy).Contents (Elt F))⟩] concatenates_S5x192_S56x192_S3x192_S5x192_S56x192_S3x192_S128x192_d0 : (⟨S128x192, .i32⟩ : BufTy).Contents (Elt F)))]
/-- What it writes. -/
abbrev sw6 : List (Ref sig .tc) := [main_v71, main_v72, main_v73, main_v74, main_c_11, main_v75, main_v76, main_v77, main_v78, main_v79, main_v80]
theorem keep6 (V : Valuation τ sig (Elt F)) (r : Ref sig .tc) (h : r ∉ sw6) : StableHlo.after (sg6 : List (HloOp τ sig (Elt F))) V (Proc.devRef .tc r) = V (Proc.devRef .tc r) :=
  StableHlo.after_of_writes_sub _ V (StableHlo.forall_writes_sub_of_map (W := sw6) rfl) h
/-- Part 7 of the host lines. -/
abbrev sg7 : List (HloOp τ sig (Elt F)) :=
  [StableHlo.unary main_v20 main_v81 ((extractStridedSlice S1x8x192 ![2, 0, 0] · slices_S8x8x192_S1x8x192_2_0_0) : (⟨S8x8x192, .i32⟩ : BufTy).Contents (Elt F) → (⟨S1x8x192, .i32⟩ : BufTy).Contents (Elt F)),
   StableHlo.reshape main_v81 main_v82 (rfl : (.i32 : EltTy) = .i32) shapeCasts_S1x8x192_S8x192,
   StableHlo.unary main_v20 main_v83 ((extractStridedSlice S1x8x192 ![1, 0, 0] · slices_S8x8x192_S1x8x192_1_0_0) : (⟨S8x8x192, .i32⟩ : BufTy).Contents (Elt F) → (⟨S1x8x192, .i32⟩ : BufTy).Contents (Elt F)),
   StableHlo.reshape main_v83 main_v84 (rfl : (.i32 : EltTy) = .i32) shapeCasts_S1x8x192_S8x192,
   StableHlo.nullary main_c_12 (constantI S_ 32 0#32),
   StableHlo.unary main_c_12 main_v85 (broadcastInDim S56x192 ![] bcast_S_S56x192 : (⟨S_, .i32⟩ : BufTy).Contents (Elt F) → (⟨S56x192, .i32⟩ : BufTy).Contents (Elt F)),
   StableHlo.unary main_v82 main_v86 ((extractStridedSlice S5x192 ![0, 0] · slices_S8x192_S5x192_0_0) : (⟨S8x192, .i32⟩ : BufTy).Contents (Elt F) → (⟨S5x192, .i32⟩ : BufTy).Contents (Elt F)),
   StableHlo.unary main_v84 main_v87 ((extractStridedSlice S3x192 ![5, 0] · slices_S8x192_S3x192_5_0) : (⟨S8x192, .i32⟩ : BufTy).Contents (Elt F) → (⟨S3x192, .i32⟩ : BufTy).Contents (Elt F)),
   StableHlo.unary main_v84 main_v88 ((extractStridedSlice S5x192 ![0, 0] · slices_S8x192_S5x192_0_0) : (⟨S8x192, .i32⟩ : BufTy).Contents (Elt F) → (⟨S5x192, .i32⟩ : BufTy).Contents (Elt F)),
   StableHlo.unary main_v82 main_v89 ((extractStridedSlice S3x192 ![5, 0] · slices_S8x192_S3x192_5_0) : (⟨S8x192, .i32⟩ : BufTy).Contents (Elt F) → (⟨S3x192, .i32⟩ : BufTy).Contents (Elt F)),
   StableHlo.nary ![main_v86, main_v85, main_v87, main_v88, main_v85, main_v89] main_v90 (fun u => (concatenate S128x192 0 [⟨S5x192, (u 0 : (⟨S5x192, .i32⟩ : BufTy).Contents (Elt F))⟩, ⟨S56x192, (u 1 : (⟨S56x192, .i32⟩ : BufTy).Contents (Elt F))⟩, ⟨S3x192, (u 2 : (⟨S3x192, .i32⟩ : BufTy).Contents (Elt F))⟩, ⟨S5x192, (u 3 : (⟨S5x192, .i32⟩ : BufTy).Contents (Elt F))⟩, ⟨S56x192, (u 4 : (⟨S56x192, .i32⟩ : BufTy).Contents (Elt F))⟩, ⟨S3x192, (u 5 : (⟨S3x192, .i32⟩ : BufTy).Contents (Elt F))⟩] concatenates_S5x192_S56x192_S3x192_S5x192_S56x192_S3x192_S128x192_d0 : (⟨S128x192, .i32⟩ : BufTy).Contents (Elt F)))]
/-- What it writes. -/
abbrev sw7 : List (Ref sig .tc) := [main_v81, main_v82, main_v83, main_v84, main_c_12, main_v85, main_v86, main_v87, main_v88, main_v89, main_v90]
theorem keep7 (V : Valuation τ sig (Elt F)) (r : Ref sig .tc) (h : r ∉ sw7) : StableHlo.after (sg7 : List (HloOp τ sig (Elt F))) V (Proc.devRef .tc r) = V (Proc.devRef .tc r) :=
  StableHlo.after_of_writes_sub _ V (StableHlo.forall_writes_sub_of_map (W := sw7) rfl) h
/-- Part 8 of the host lines. -/
abbrev sg8 : List (HloOp τ sig (Elt F)) :=
  [StableHlo.unary main_v20 main_v91 ((extractStridedSlice S1x8x192 ![0, 0, 0] · slices_S8x8x192_S1x8x192_0_0_0) : (⟨S8x8x192, .i32⟩ : BufTy).Contents (Elt F) → (⟨S1x8x192, .i32⟩ : BufTy).Contents (Elt F)),
   StableHlo.reshape main_v91 main_v92 (rfl : (.i32 : EltTy) = .i32) shapeCasts_S1x8x192_S8x192,
   StableHlo.unary main_v20 main_v93 ((extractStridedSlice S1x8x192 ![7, 0, 0] · slices_S8x8x192_S1x8x192_7_0_0) : (⟨S8x8x192, .i32⟩ : BufTy).Contents (Elt F) → (⟨S1x8x192, .i32⟩ : BufTy).Contents (Elt F)),
   StableHlo.reshape main_v93 main_v94 (rfl : (.i32 : EltTy) = .i32) shapeCasts_S1x8x192_S8x192,
   StableHlo.nullary main_c_13 (constantI S_ 32 0#32),
   StableHlo.unary main_c_13 main_v95 (broadcastInDim S56x192 ![] bcast_S_S56x192 : (⟨S_, .i32⟩ : BufTy).Contents (Elt F) → (⟨S56x192, .i32⟩ : BufTy).Contents (Elt F)),
   StableHlo.unary main_v92 main_v96 ((extractStridedSlice S5x192 ![0, 0] · slices_S8x192_S5x192_0_0) : (⟨S8x192, .i32⟩ : BufTy).Contents (Elt F) → (⟨S5x192, .i32⟩ : BufTy).Contents (Elt F)),
   StableHlo.unary main_v94 main_v97 ((extractStridedSlice S3x192 ![5, 0] · slices_S8x192_S3x192_5_0) : (⟨S8x192, .i32⟩ : BufTy).Contents (Elt F) → (⟨S3x192, .i32⟩ : BufTy).Contents (Elt F)),
   StableHlo.unary main_v94 main_v98 ((extractStridedSlice S5x192 ![0, 0] · slices_S8x192_S5x192_0_0) : (⟨S8x192, .i32⟩ : BufTy).Contents (Elt F) → (⟨S5x192, .i32⟩ : BufTy).Contents (Elt F)),
   StableHlo.unary main_v92 main_v99 ((extractStridedSlice S3x192 ![5, 0] · slices_S8x192_S3x192_5_0) : (⟨S8x192, .i32⟩ : BufTy).Contents (Elt F) → (⟨S3x192, .i32⟩ : BufTy).Contents (Elt F)),
   StableHlo.nary ![main_v96, main_v95, main_v97, main_v98, main_v95, main_v99] main_v100 (fun u => (concatenate S128x192 0 [⟨S5x192, (u 0 : (⟨S5x192, .i32⟩ : BufTy).Contents (Elt F))⟩, ⟨S56x192, (u 1 : (⟨S56x192, .i32⟩ : BufTy).Contents (Elt F))⟩, ⟨S3x192, (u 2 : (⟨S3x192, .i32⟩ : BufTy).Contents (Elt F))⟩, ⟨S5x192, (u 3 : (⟨S5x192, .i32⟩ : BufTy).Contents (Elt F))⟩, ⟨S56x192, (u 4 : (⟨S56x192, .i32⟩ : BufTy).Contents (Elt F))⟩, ⟨S3x192, (u 5 : (⟨S3x192, .i32⟩ : BufTy).Contents (Elt F))⟩] concatenates_S5x192_S56x192_S3x192_S5x192_S56x192_S3x192_S128x192_d0 : (⟨S128x192, .i32⟩ : BufTy).Contents (Elt F)))]
/-- What it writes. -/
abbrev sw8 : List (Ref sig .tc) := [main_v91, main_v92, main_v93, main_v94, main_c_13, main_v95, main_v96, main_v97, main_v98, main_v99, main_v100]
theorem keep8 (V : Valuation τ sig (Elt F)) (r : Ref sig .tc) (h : r ∉ sw8) : StableHlo.after (sg8 : List (HloOp τ sig (Elt F))) V (Proc.devRef .tc r) = V (Proc.devRef .tc r) :=
  StableHlo.after_of_writes_sub _ V (StableHlo.forall_writes_sub_of_map (W := sw8) rfl) h
/-- Part 9 of the host lines. -/
abbrev sg9 : List (HloOp τ sig (Elt F)) :=
  [StableHlo.unary main_v30 main_v101 (broadcastInDim S1x128x192 ![1, 2] bcast_S128x192_S1x128x192_1_2 : (⟨S128x192, .i32⟩ : BufTy).Contents (Elt F) → (⟨S1x128x192, .i32⟩ : BufTy).Contents (Elt F)),
   StableHlo.unary main_v40 main_v102 (broadcastInDim S1x128x192 ![1, 2] bcast_S128x192_S1x128x192_1_2 : (⟨S128x192, .i32⟩ : BufTy).Contents (Elt F) → (⟨S1x128x192, .i32⟩ : BufTy).Contents (Elt F)),
   StableHlo.unary main_v50 main_v103 (broadcastInDim S1x128x192 ![1, 2] bcast_S128x192_S1x128x192_1_2 : (⟨S128x192, .i32⟩ : BufTy).Contents (Elt F) → (⟨S1x128x192, .i32⟩ : BufTy).Contents (Elt F)),
   StableHlo.unary main_v60 main_v104 (broadcastInDim S1x128x192 ![1, 2] bcast_S128x192_S1x128x192_1_2 : (⟨S128x192, .i32⟩ : BufTy).Contents (Elt F) → (⟨S1x128x192, .i32⟩ : BufTy).Contents (Elt F)),
   StableHlo.unary main_v70 main_v105 (broadcastInDim S1x128x192 ![1, 2] bcast_S128x192_S1x128x192_1_2 : (⟨S128x192, .i32⟩ : BufTy).Contents (Elt F) → (⟨S1x128x192, .i32⟩ : BufTy).Contents (Elt F)),
   StableHlo.unary main_v80 main_v106 (broadcastInDim S1x128x192 ![1, 2] bcast_S128x192_S1x128x192_1_2 : (⟨S128x192, .i32⟩ : BufTy).Contents (Elt F) → (⟨S1x128x192, .i32⟩ : BufTy).Contents (Elt F)),
   StableHlo.unary main_v90 main_v107 (broadcastInDim S1x128x192 ![1, 2] bcast_S128x192_S1x128x192_1_2 : (⟨S128x192, .i32⟩ : BufTy).Contents (Elt F) → (⟨S1x128x192, .i32⟩ : BufTy).Contents (Elt F)),
   StableHlo.unary main_v100 main_v108 (broadcastInDim S1x128x192 ![1, 2] bcast_S128x192_S1x128x192_1_2 : (⟨S128x192, .i32⟩ : BufTy).Contents (Elt F) → (⟨S1x128x192, .i32⟩ : BufTy).Contents (Elt F)),
   StableHlo.nary ![main_v101, main_v102, main_v103, main_v104, main_v105, main_v106, main_v107, main_v108] main_v109 (fun u => (concatenate S8x128x192 0 [⟨S1x128x192, (u 0 : (⟨S1x128x192, .i32⟩ : BufTy).Contents (Elt F))⟩, ⟨S1x128x192, (u 1 : (⟨S1x128x192, .i32⟩ : BufTy).Contents (Elt F))⟩, ⟨S1x128x192, (u 2 : (⟨S1x128x192, .i32⟩ : BufTy).Contents (Elt F))⟩, ⟨S1x128x192, (u 3 : (⟨S1x128x192, .i32⟩ : BufTy).Contents (Elt F))⟩, ⟨S1x128x192, (u 4 : (⟨S1x128x192, .i32⟩ : BufTy).Contents (Elt F))⟩, ⟨S1x128x192, (u 5 : (⟨S1x128x192, .i32⟩ : BufTy).Contents (Elt F))⟩, ⟨S1x128x192, (u 6 : (⟨S1x128x192, .i32⟩ : BufTy).Contents (Elt F))⟩, ⟨S1x128x192, (u 7 : (⟨S1x128x192, .i32⟩ : BufTy).Contents (Elt F))⟩] concatenates_S1x128x192_S1x128x192_S1x128x192_S1x128x192_S1x128x192_S1x128x192_S1x128x192_S1x128x192_S8x128x192_d0 : (⟨S8x128x192, .i32⟩ : BufTy).Contents (Elt F))),
   StableHlo.unary main_v109 main_v110 ((transpose S192x8x128 [2, 0, 1] · transposes_S8x128x192_S192x8x128_2_0_1) : (⟨S8x128x192, .i32⟩ : BufTy).Contents (Elt F) → (⟨S192x8x128, .i32⟩ : BufTy).Contents (Elt F)),
   StableHlo.unary main_arg1 main_v111 (broadcastInDim S1 ![] bcast_S_S1 : (⟨S_, .f32⟩ : BufTy).Contents (Elt F) → (⟨S1, .f32⟩ : BufTy).Contents (Elt F)),
   StableHlo.unary main_arg4 main_v112 (broadcastInDim S1 ![] bcast_S_S1 : (⟨S_, .f32⟩ : BufTy).Contents (Elt F) → (⟨S1, .f32⟩ : BufTy).Contents (Elt F)),
   StableHlo.binary main_v111 main_v112 main_v113 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F))]
/-- What it writes. -/
abbrev sw9 : List (Ref sig .tc) := [main_v101, main_v102, main_v103, main_v104, main_v105, main_v106, main_v107, main_v108, main_v109, main_v110, main_v111, main_v112, main_v113]
theorem keep9 (V : Valuation τ sig (Elt F)) (r : Ref sig .tc) (h : r ∉ sw9) : StableHlo.after (sg9 : List (HloOp τ sig (Elt F))) V (Proc.devRef .tc r) = V (Proc.devRef .tc r) :=
  StableHlo.after_of_writes_sub _ V (StableHlo.forall_writes_sub_of_map (W := sw9) rfl) h
theorem row0 (V : Valuation τ sig (Elt F)) : StableHlo.after (sg1 : List (HloOp τ sig (Elt F))) V (Proc.devRef .tc main_v30)
    = lane2 (hrow (V (Proc.devRef .tc main_v20)) ![5, 0, 0] slices_S8x8x192_S1x8x192_5_0_0) (hrow (V (Proc.devRef .tc main_v20)) ![4, 0, 0] slices_S8x8x192_S1x8x192_4_0_0) := by
  unfold sg1
  after_results_simp
  rfl
theorem row1 (V : Valuation τ sig (Elt F)) : StableHlo.after (sg2 : List (HloOp τ sig (Elt F))) V (Proc.devRef .tc main_v40)
    = lane2 (hrow (V (Proc.devRef .tc main_v20)) ![3, 0, 0] slices_S8x8x192_S1x8x192_3_0_0) (hrow (V (Proc.devRef .tc main_v20)) ![2, 0, 0] slices_S8x8x192_S1x8x192_2_0_0) := by
  unfold sg2
  after_results_simp
  rfl
theorem row2 (V : Valuation τ sig (Elt F)) : StableHlo.after (sg3 : List (HloOp τ sig (Elt F))) V (Proc.devRef .tc main_v50)
    = lane2 (hrow (V (Proc.devRef .tc main_v20)) ![1, 0, 0] slices_S8x8x192_S1x8x192_1_0_0) (hrow (V (Proc.devRef .tc main_v20)) ![0, 0, 0] slices_S8x8x192_S1x8x192_0_0_0) := by
  unfold sg3
  after_results_simp
  rfl
theorem row3 (V : Valuation τ sig (Elt F)) : StableHlo.after (sg4 : List (HloOp τ sig (Elt F))) V (Proc.devRef .tc main_v60)
    = lane2 (hrow (V (Proc.devRef .tc main_v20)) ![7, 0, 0] slices_S8x8x192_S1x8x192_7_0_0) (hrow (V (Proc.devRef .tc main_v20)) ![6, 0, 0] slices_S8x8x192_S1x8x192_6_0_0) := by
  unfold sg4
  after_results_simp
  rfl
theorem row4 (V : Valuation τ sig (Elt F)) : StableHlo.after (sg5 : List (HloOp τ sig (Elt F))) V (Proc.devRef .tc main_v70)
    = lane2 (hrow (V (Proc.devRef .tc main_v20)) ![6, 0, 0] slices_S8x8x192_S1x8x192_6_0_0) (hrow (V (Proc.devRef .tc main_v20)) ![5, 0, 0] slices_S8x8x192_S1x8x192_5_0_0) := by
  unfold sg5
  after_results_simp
  rfl
theorem row5 (V : Valuation τ sig (Elt F)) : StableHlo.after (sg6 : List (HloOp τ sig (Elt F))) V (Proc.devRef .tc main_v80)
    = lane2 (hrow (V (Proc.devRef .tc main_v20)) ![4, 0, 0] slices_S8x8x192_S1x8x192_4_0_0) (hrow (V (Proc.devRef .tc main_v20)) ![3, 0, 0] slices_S8x8x192_S1x8x192_3_0_0) := by
  unfold sg6
  after_results_simp
  rfl
theorem row6 (V : Valuation τ sig (Elt F)) : StableHlo.after (sg7 : List (HloOp τ sig (Elt F))) V (Proc.devRef .tc main_v90)
    = lane2 (hrow (V (Proc.devRef .tc main_v20)) ![2, 0, 0] slices_S8x8x192_S1x8x192_2_0_0) (hrow (V (Proc.devRef .tc main_v20)) ![1, 0, 0] slices_S8x8x192_S1x8x192_1_0_0) := by
  unfold sg7
  after_results_simp
  rfl
theorem row7 (V : Valuation τ sig (Elt F)) : StableHlo.after (sg8 : List (HloOp τ sig (Elt F))) V (Proc.devRef .tc main_v100)
    = lane2 (hrow (V (Proc.devRef .tc main_v20)) ![0, 0, 0] slices_S8x8x192_S1x8x192_0_0_0) (hrow (V (Proc.devRef .tc main_v20)) ![7, 0, 0] slices_S8x8x192_S1x8x192_7_0_0) := by
  unfold sg8
  after_results_simp
  rfl
theorem lastv (V : Valuation τ sig (Elt F)) : StableHlo.after (sg9 : List (HloOp τ sig (Elt F))) V (Proc.devRef .tc main_v110)
    = transpose S192x8x128 [2, 0, 1] (concatenate S8x128x192 0 [⟨S1x128x192, bc1 (V (Proc.devRef .tc main_v30))⟩,
    ⟨S1x128x192, bc1 (V (Proc.devRef .tc main_v40))⟩,
    ⟨S1x128x192, bc1 (V (Proc.devRef .tc main_v50))⟩,
    ⟨S1x128x192, bc1 (V (Proc.devRef .tc main_v60))⟩,
    ⟨S1x128x192, bc1 (V (Proc.devRef .tc main_v70))⟩,
    ⟨S1x128x192, bc1 (V (Proc.devRef .tc main_v80))⟩,
    ⟨S1x128x192, bc1 (V (Proc.devRef .tc main_v90))⟩,
    ⟨S1x128x192, bc1 (V (Proc.devRef .tc main_v100))⟩]
    concatenates_S1x128x192_S1x128x192_S1x128x192_S1x128x192_S1x128x192_S1x128x192_S1x128x192_S1x128x192_S8x128x192_d0)
    transposes_S8x128x192_S192x8x128_2_0_1 := by
  unfold sg9
  after_results_simp
  rfl
theorem wordsv (c : Dev nD) : StableHlo.after (hostOps0 ++ (hostOps0_1 ++ (sg0 : List (HloOp τ sig (Elt F))))) (fun b => m (c, b)) (Proc.devRef .tc main_v20)
    = words (m ((c.tc : Thread nD τ).loc main_arg2)) := by
  simp only [hostOps0, hostOps0_1, sg0, List.append_nil, List.cons_append, List.nil_append]
  after_results_simp
  rfl

theorem aft (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem ops_cut : (List.flatten [hostOps0, hostOps0_1, hostOps0_2] : List (HloOp τ sig (Elt F)))
    = (hostOps0 ++ (hostOps0_1 ++ sg0)) ++ (sg1 ++ (sg2 ++ (sg3 ++ (sg4 ++ (sg5 ++ (sg6 ++ (sg7 ++ (sg8 ++ sg9)))))))) := rfl

theorem v110_eq (c : Dev nD) : V m c main_v110 = rowsT (words (m ((c.tc : Thread nD τ).loc main_arg2))) := by
  unfold V V0
  rw [ops_cut]
  simp only [aft]
  rw [lastv]
  rw [← wordsv m c]
  unfold rowsT
  generalize hv : StableHlo.after (hostOps0 ++ (hostOps0_1 ++ (sg0 : List (HloOp τ sig (Elt F))))) (fun b => m (c, b)) = U
  simp only [aft] at hv
  rw [hv]
  have r0 : (StableHlo.after (sg8 : List (HloOp τ sig (Elt F))) (StableHlo.after (sg7 : List (HloOp τ sig (Elt F))) (StableHlo.after (sg6 : List (HloOp τ sig (Elt F))) (StableHlo.after (sg5 : List (HloOp τ sig (Elt F))) (StableHlo.after (sg4 : List (HloOp τ sig (Elt F))) (StableHlo.after (sg3 : List (HloOp τ sig (Elt F))) (StableHlo.after (sg2 : List (HloOp τ sig (Elt F))) (StableHlo.after (sg1 : List (HloOp τ sig (Elt F))) U)))))))) (Proc.devRef .tc main_v30)
      = lane2 (hrow (U (Proc.devRef .tc main_v20)) ![5, 0, 0] slices_S8x8x192_S1x8x192_5_0_0) (hrow (U (Proc.devRef .tc main_v20)) ![4, 0, 0] slices_S8x8x192_S1x8x192_4_0_0) := by
    rw [keep8 _ main_v30 (by decide), keep7 _ main_v30 (by decide), keep6 _ main_v30 (by decide), keep5 _ main_v30 (by decide), keep4 _ main_v30 (by decide), keep3 _ main_v30 (by decide), keep2 _ main_v30 (by decide), row0]
  have r1 : (StableHlo.after (sg8 : List (HloOp τ sig (Elt F))) (StableHlo.after (sg7 : List (HloOp τ sig (Elt F))) (StableHlo.after (sg6 : List (HloOp τ sig (Elt F))) (StableHlo.after (sg5 : List (HloOp τ sig (Elt F))) (StableHlo.after (sg4 : List (HloOp τ sig (Elt F))) (StableHlo.after (sg3 : List (HloOp τ sig (Elt F))) (StableHlo.after (sg2 : List (HloOp τ sig (Elt F))) (StableHlo.after (sg1 : List (HloOp τ sig (Elt F))) U)))))))) (Proc.devRef .tc main_v40)
      = lane2 (hrow (U (Proc.devRef .tc main_v20)) ![3, 0, 0] slices_S8x8x192_S1x8x192_3_0_0) (hrow (U (Proc.devRef .tc main_v20)) ![2, 0, 0] slices_S8x8x192_S1x8x192_2_0_0) := by
    rw [keep8 _ main_v40 (by decide), keep7 _ main_v40 (by decide), keep6 _ main_v40 (by decide), keep5 _ main_v40 (by decide), keep4 _ main_v40 (by decide), keep3 _ main_v40 (by decide), row1, keep1 _ main_v20 (by decide)]
  have r2 : (StableHlo.after (sg8 : List (HloOp τ sig (Elt F))) (StableHlo.after (sg7 : List (HloOp τ sig (Elt F))) (StableHlo.after (sg6 : List (HloOp τ sig (Elt F))) (StableHlo.after (sg5 : List (HloOp τ sig (Elt F))) (StableHlo.after (sg4 : List (HloOp τ sig (Elt F))) (StableHlo.after (sg3 : List (HloOp τ sig (Elt F))) (StableHlo.after (sg2 : List (HloOp τ sig (Elt F))) (StableHlo.after (sg1 : List (HloOp τ sig (Elt F))) U)))))))) (Proc.devRef .tc main_v50)
      = lane2 (hrow (U (Proc.devRef .tc main_v20)) ![1, 0, 0] slices_S8x8x192_S1x8x192_1_0_0) (hrow (U (Proc.devRef .tc main_v20)) ![0, 0, 0] slices_S8x8x192_S1x8x192_0_0_0) := by
    rw [keep8 _ main_v50 (by decide), keep7 _ main_v50 (by decide), keep6 _ main_v50 (by decide), keep5 _ main_v50 (by decide), keep4 _ main_v50 (by decide), row2, keep2 _ main_v20 (by decide), keep1 _ main_v20 (by decide)]
  have r3 : (StableHlo.after (sg8 : List (HloOp τ sig (Elt F))) (StableHlo.after (sg7 : List (HloOp τ sig (Elt F))) (StableHlo.after (sg6 : List (HloOp τ sig (Elt F))) (StableHlo.after (sg5 : List (HloOp τ sig (Elt F))) (StableHlo.after (sg4 : List (HloOp τ sig (Elt F))) (StableHlo.after (sg3 : List (HloOp τ sig (Elt F))) (StableHlo.after (sg2 : List (HloOp τ sig (Elt F))) (StableHlo.after (sg1 : List (HloOp τ sig (Elt F))) U)))))))) (Proc.devRef .tc main_v60)
      = lane2 (hrow (U (Proc.devRef .tc main_v20)) ![7, 0, 0] slices_S8x8x192_S1x8x192_7_0_0) (hrow (U (Proc.devRef .tc main_v20)) ![6, 0, 0] slices_S8x8x192_S1x8x192_6_0_0) := by
    rw [keep8 _ main_v60 (by decide), keep7 _ main_v60 (by decide), keep6 _ main_v60 (by decide), keep5 _ main_v60 (by decide), row3, keep3 _ main_v20 (by decide), keep2 _ main_v20 (by decide), keep1 _ main_v20 (by decide)]
  have r4 : (StableHlo.after (sg8 : List (HloOp τ sig (Elt F))) (StableHlo.after (sg7 : List (HloOp τ sig (Elt F))) (StableHlo.after (sg6 : List (HloOp τ sig (Elt F))) (StableHlo.after (sg5 : List (HloOp τ sig (Elt F))) (StableHlo.after (sg4 : List (HloOp τ sig (Elt F))) (StableHlo.after (sg3 : List (HloOp τ sig (Elt F))) (StableHlo.after (sg2 : List (HloOp τ sig (Elt F))) (StableHlo.after (sg1 : List (HloOp τ sig (Elt F))) U)))))))) (Proc.devRef .tc main_v70)
      = lane2 (hrow (U (Proc.devRef .tc main_v20)) ![6, 0, 0] slices_S8x8x192_S1x8x192_6_0_0) (hrow (U (Proc.devRef .tc main_v20)) ![5, 0, 0] slices_S8x8x192_S1x8x192_5_0_0) := by
    rw [keep8 _ main_v70 (by decide), keep7 _ main_v70 (by decide), keep6 _ main_v70 (by decide), row4, keep4 _ main_v20 (by decide), keep3 _ main_v20 (by decide), keep2 _ main_v20 (by decide), keep1 _ main_v20 (by decide)]
  have r5 : (StableHlo.after (sg8 : List (HloOp τ sig (Elt F))) (StableHlo.after (sg7 : List (HloOp τ sig (Elt F))) (StableHlo.after (sg6 : List (HloOp τ sig (Elt F))) (StableHlo.after (sg5 : List (HloOp τ sig (Elt F))) (StableHlo.after (sg4 : List (HloOp τ sig (Elt F))) (StableHlo.after (sg3 : List (HloOp τ sig (Elt F))) (StableHlo.after (sg2 : List (HloOp τ sig (Elt F))) (StableHlo.after (sg1 : List (HloOp τ sig (Elt F))) U)))))))) (Proc.devRef .tc main_v80)
      = lane2 (hrow (U (Proc.devRef .tc main_v20)) ![4, 0, 0] slices_S8x8x192_S1x8x192_4_0_0) (hrow (U (Proc.devRef .tc main_v20)) ![3, 0, 0] slices_S8x8x192_S1x8x192_3_0_0) := by
    rw [keep8 _ main_v80 (by decide), keep7 _ main_v80 (by decide), row5, keep5 _ main_v20 (by decide), keep4 _ main_v20 (by decide), keep3 _ main_v20 (by decide), keep2 _ main_v20 (by decide), keep1 _ main_v20 (by decide)]
  have r6 : (StableHlo.after (sg8 : List (HloOp τ sig (Elt F))) (StableHlo.after (sg7 : List (HloOp τ sig (Elt F))) (StableHlo.after (sg6 : List (HloOp τ sig (Elt F))) (StableHlo.after (sg5 : List (HloOp τ sig (Elt F))) (StableHlo.after (sg4 : List (HloOp τ sig (Elt F))) (StableHlo.after (sg3 : List (HloOp τ sig (Elt F))) (StableHlo.after (sg2 : List (HloOp τ sig (Elt F))) (StableHlo.after (sg1 : List (HloOp τ sig (Elt F))) U)))))))) (Proc.devRef .tc main_v90)
      = lane2 (hrow (U (Proc.devRef .tc main_v20)) ![2, 0, 0] slices_S8x8x192_S1x8x192_2_0_0) (hrow (U (Proc.devRef .tc main_v20)) ![1, 0, 0] slices_S8x8x192_S1x8x192_1_0_0) := by
    rw [keep8 _ main_v90 (by decide), row6, keep6 _ main_v20 (by decide), keep5 _ main_v20 (by decide), keep4 _ main_v20 (by decide), keep3 _ main_v20 (by decide), keep2 _ main_v20 (by decide), keep1 _ main_v20 (by decide)]
  have r7 : (StableHlo.after (sg8 : List (HloOp τ sig (Elt F))) (StableHlo.after (sg7 : List (HloOp τ sig (Elt F))) (StableHlo.after (sg6 : List (HloOp τ sig (Elt F))) (StableHlo.after (sg5 : List (HloOp τ sig (Elt F))) (StableHlo.after (sg4 : List (HloOp τ sig (Elt F))) (StableHlo.after (sg3 : List (HloOp τ sig (Elt F))) (StableHlo.after (sg2 : List (HloOp τ sig (Elt F))) (StableHlo.after (sg1 : List (HloOp τ sig (Elt F))) U)))))))) (Proc.devRef .tc main_v100)
      = lane2 (hrow (U (Proc.devRef .tc main_v20)) ![0, 0, 0] slices_S8x8x192_S1x8x192_0_0_0) (hrow (U (Proc.devRef .tc main_v20)) ![7, 0, 0] slices_S8x8x192_S1x8x192_7_0_0) := by
    rw [row7, keep7 _ main_v20 (by decide), keep6 _ main_v20 (by decide), keep5 _ main_v20 (by decide), keep4 _ main_v20 (by decide), keep3 _ main_v20 (by decide), keep2 _ main_v20 (by decide), keep1 _ main_v20 (by decide)]
  rw [r0, r1, r2, r3, r4, r5, r6, r7]
theorem v0_eq (c : Dev nD) : V m c main_v0 = transpose S24x192x8192 [0, 2, 1] (m ((c.tc : Thread nD τ).loc main_arg0) : S24x8192x192.Idx → BitVec 8) transposes_S24x8192x192_S24x192x8192_0_2_1 := by
  entry_read
  rfl
theorem v1_eq (c : Dev nD) : V m c main_v1 = transpose S24x192x8192 [0, 2, 1] (m ((c.tc : Thread nD τ).loc main_arg3) : S24x8192x192.Idx → BitVec 8) transposes_S24x8192x192_S24x192x8192_0_2_1 := by
  entry_read
  rfl
theorem v113_eq (c : Dev nD) : V m c main_v113 = concatenate S2 0 [⟨S1, broadcastInDim S1 ![] bcast_S_S1 (m ((c.tc : Thread nD τ).loc main_arg1) : S_.Idx → F .f32)⟩, ⟨S1, broadcastInDim S1 ![] bcast_S_S1 (m ((c.tc : Thread nD τ).loc main_arg4) : S_.Idx → F .f32)⟩] concatenates_S1_S1_S2_d0 := by
  entry_read
  rfl

end Cert.KernelIdeal.Val
-- ==== Proof.HostW.lean ====
/-
  The filter's words at an index: which codes the two halves of a word hold.
-/
module

public import proofs.«01_k».proof.Proof.HostV

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem

/-- The filter's code at row `i`, column `j`, zero outside. -/
def wat (W : S7x7x192.Idx → BitVec 16) (i j : ℕ) (c : Fin 192) : BitVec 16 :=
  if h : i < 7 ∧ j < 7 then W (ValueIdx.ix3 (⟨i, h.1⟩ : Fin 7) (⟨j, h.2⟩ : Fin 7) c) else 0#16

theorem wpad_apply (W : S7x7x192.Idx → BitVec 16) (i j : Fin 8) (c : Fin 192) : wpad W (ValueIdx.ix3 i j c) = wat W i.val j.val c := by
  unfold wat
  by_cases h : i.val < 7 ∧ j.val < 7
  · rw [dif_pos h]
    pointwise [wpad]
    exact dif_pos h
  · rw [dif_neg h]
    pointwise [wpad]
    exact dif_neg h

theorem gath (x : S8x8x192.Idx → BitVec 16) (idx : S8x1.Idx → BitVec 32) (i j : Fin 8) (c : Fin 192) (r : Fin 8)
    (hr : (idx (ValueIdx.ix2 j (0 : Fin 1))).toInt.toNat = r.val) :
    Host.gather gather_S8x8x192_S8x1_S8x8x192_02_1_n_n_1_1_81192 x idx (ValueIdx.ix3 i j c) = x (ValueIdx.ix3 i r c) := by
  unfold Host.gather
  congr 1
  funext a
  refine Fin.ext ?_
  generalize hd : gather_S8x8x192_S8x1_S8x8x192_02_1_n_n_1_1_81192 = d
  show d.start _ idx a + d.batchCoord _ a + d.offCoord _ a = _
  subst hd
  match a with
  | ⟨0, _⟩ => exact (show 0 + 0 + i.val = i.val by omega)
  | ⟨1, _⟩ =>
    show min (idx _).toInt.toNat 7 + 0 + 0 = r.val
    have e : (idx (ValueIdx.ix2 j (0 : Fin 1))).toInt.toNat = r.val := hr
    have : r.val ≤ 7 := by omega
    refine Eq.trans (congrArg (fun z => min z 7 + 0 + 0) (Eq.trans (congrArg (fun z => (idx z).toInt.toNat) ?_) e)) (by omega)
    funext b
    match b with
    | ⟨0, _⟩ => rfl
    | ⟨1, _⟩ => rfl
  | ⟨2, _⟩ => exact (show 0 + 0 + c.val = c.val by omega)

/-- The two lists of columns. -/
def colN (hh : Fin 2) (x : Fin 8) : Fin 8 := ⟨(11 + hh.val - x.val) % 8, by omega⟩

theorem col0 : ∀ x : Fin 8, (colIx (fun i => lit0 (S8.rowMajor i)) (ValueIdx.ix2 x (0 : Fin 1))).toInt.toNat = (colN 0 x).val := by decide +kernel
theorem col1 : ∀ x : Fin 8, (colIx (fun i => lit1 (S8.rowMajor i)) (ValueIdx.ix2 x (0 : Fin 1))).toInt.toNat = (colN 1 x).val := by decide +kernel

theorem words_apply (W : S7x7x192.Idx → BitVec 16) (i x : Fin 8) (c : Fin 192) :
    words W (ValueIdx.ix3 i x c) = wcol W (fun i => lit1 (S8.rowMajor i)) (ValueIdx.ix3 i x c) ++ wcol W (fun i => lit0 (S8.rowMajor i)) (ValueIdx.ix3 i x c) := by
  pointwise [words]
  exact congrArg₂ (· ++ ·) ((dif_neg (show ¬ (1 : ℕ) < 1 by decide)).trans rfl) ((dif_pos (show (0 : ℕ) < 1 by decide)).trans rfl)

theorem words_half (W : S7x7x192.Idx → BitVec 16) (i x : Fin 8) (c : Fin 192) (hh : Fin 2) :
    (words W (ValueIdx.ix3 i x c)).extractLsb' (16 * hh.val) 16 = wat W i.val (colN hh x).val c := by
  rw [words_apply]
  unfold wcol
  rw [gath (wpad W) _ i x c (colN 0 x) (col0 x), gath (wpad W) _ i x c (colN 1 x) (col1 x), wpad_apply, wpad_apply]
  fin_cases hh
  · ext k hk
    have := BitVec.getLsbD_append (x := wat W i.val (colN 1 x).val c) (y := wat W i.val (colN 0 x).val c) (i := k)
    rw [← BitVec.getLsbD_eq_getElem, ← BitVec.getLsbD_eq_getElem, BitVec.getLsbD_extractLsb']
    simp [hk, BitVec.getLsbD_append]
    exact this.trans (by simp [hk])
  · ext k hk
    have := BitVec.getLsbD_append (x := wat W i.val (colN 1 x).val c) (y := wat W i.val (colN 0 x).val c) (i := 16 + k)
    rw [← BitVec.getLsbD_eq_getElem, ← BitVec.getLsbD_eq_getElem, BitVec.getLsbD_extractLsb']
    exact (by simp [hk] : _ = (wat W i.val (colN 1 x).val c ++ wat W i.val (colN 0 x).val c).getLsbD (16 + k)).trans (this.trans (by simp))

theorem lane2_apply (a b : S8x192.Idx → BitVec 32) (u : Fin 128) (c : Fin 192) :
    lane2 a b (ValueIdx.ix2 u c) = if u.val < 5 ∨ 125 ≤ u.val then a (ValueIdx.ix2 (⟨u.val % 8, by omega⟩ : Fin 8) c)
      else if 61 ≤ u.val ∧ u.val < 69 then b (ValueIdx.ix2 (⟨u.val % 8, by omega⟩ : Fin 8) c) else 0#32 := by
  have e : ∀ (w : S8x192.Idx → BitVec 32) (x y : ℕ) (hx : x < 8) (hy : y < 8), x = y → w (ValueIdx.ix2 (⟨x, hx⟩ : Fin 8) c) = w (ValueIdx.ix2 (⟨y, hy⟩ : Fin 8) c) := by
    intro w x y hx hy h; subst h; rfl
  pointwise [lane2]
  by_cases h0 : u.val < 5
  · exact ((dif_pos h0).trans (e a _ _ _ _ (by show u.val = u.val % 8; omega))).trans (if_pos (Or.inl h0)).symm
  refine (dif_neg h0).trans ?_
  by_cases h1 : u.val < 61
  · exact (dif_pos (show u.val - 5 < 56 by omega)).trans ((if_neg (by omega)).trans (if_neg (by omega))).symm
  refine (dif_neg (show ¬ u.val - 5 < 56 by omega)).trans ?_
  by_cases h2 : u.val < 64
  · exact ((dif_pos (show u.val - 5 - 56 < 3 by omega)).trans (e b _ _ _ _ (by show 5 + (u.val - 5 - 56) = u.val % 8; omega))).trans ((if_neg (by omega)).trans (if_pos (by omega))).symm
  refine (dif_neg (show ¬ u.val - 5 - 56 < 3 by omega)).trans ?_
  by_cases h3 : u.val < 69
  · exact ((dif_pos (show u.val - 5 - 56 - 3 < 5 by omega)).trans (e b _ _ _ _ (by show u.val - 5 - 56 - 3 = u.val % 8; omega))).trans ((if_neg (by omega)).trans (if_pos (by omega))).symm
  refine (dif_neg (show ¬ u.val - 5 - 56 - 3 < 5 by omega)).trans ?_
  by_cases h4 : u.val < 125
  · exact (dif_pos (show u.val - 5 - 56 - 3 - 5 < 56 by omega)).trans ((if_neg (by omega)).trans (if_neg (by omega))).symm
  refine (dif_neg (show ¬ u.val - 5 - 56 - 3 - 5 < 56 by omega)).trans ?_
  exact (e a _ _ _ _ (by show 5 + (u.val - 5 - 56 - 3 - 5 - 56) = u.val % 8; omega)).trans (if_pos (by omega)).symm

theorem hrow_apply (V : S8x8x192.Idx → BitVec 32) (o : Fin 3 → ℕ) (h : S8x8x192.Slices o S1x8x192) (i : Fin 8) (ho : o = ![i.val, 0, 0]) (x : Fin 8) (c : Fin 192) :
    hrow V o h (ValueIdx.ix2 x c) = V (ValueIdx.ix3 i x c) := by
  subst ho
  pointwise [hrow]
  rfl

/-- The filter row of tap pair `p`'s half `h`; seven for none. -/
def tapR (p : Fin 8) (h : Fin 2) : Fin 8 := if h = 0 then ![5, 3, 1, 7, 6, 4, 2, 0] p else ![4, 2, 0, 6, 5, 3, 1, 7] p

theorem rowsT_0 (V : S8x8x192.Idx → BitVec 32) (c : Fin 192) (u : Fin 128) :
    rowsT V (ValueIdx.ix3 c (0 : Fin 8) u) = if u.val < 5 ∨ 125 ≤ u.val then V (ValueIdx.ix3 (5 : Fin 8) (⟨u.val % 8, by omega⟩ : Fin 8) c)
      else if 61 ≤ u.val ∧ u.val < 69 then V (ValueIdx.ix3 (4 : Fin 8) (⟨u.val % 8, by omega⟩ : Fin 8) c) else 0#32 := by
  pointwise [rowsT, bc1]
  refine (lane2_apply _ _ u c).trans ?_
  rw [hrow_apply V ![5, 0, 0] slices_S8x8x192_S1x8x192_5_0_0 (5 : Fin 8) rfl, hrow_apply V ![4, 0, 0] slices_S8x8x192_S1x8x192_4_0_0 (4 : Fin 8) rfl]
theorem rowsT_1 (V : S8x8x192.Idx → BitVec 32) (c : Fin 192) (u : Fin 128) :
    rowsT V (ValueIdx.ix3 c (1 : Fin 8) u) = if u.val < 5 ∨ 125 ≤ u.val then V (ValueIdx.ix3 (3 : Fin 8) (⟨u.val % 8, by omega⟩ : Fin 8) c)
      else if 61 ≤ u.val ∧ u.val < 69 then V (ValueIdx.ix3 (2 : Fin 8) (⟨u.val % 8, by omega⟩ : Fin 8) c) else 0#32 := by
  pointwise [rowsT, bc1]
  refine (lane2_apply _ _ u c).trans ?_
  rw [hrow_apply V ![3, 0, 0] slices_S8x8x192_S1x8x192_3_0_0 (3 : Fin 8) rfl, hrow_apply V ![2, 0, 0] slices_S8x8x192_S1x8x192_2_0_0 (2 : Fin 8) rfl]
theorem rowsT_2 (V : S8x8x192.Idx → BitVec 32) (c : Fin 192) (u : Fin 128) :
    rowsT V (ValueIdx.ix3 c (2 : Fin 8) u) = if u.val < 5 ∨ 125 ≤ u.val then V (ValueIdx.ix3 (1 : Fin 8) (⟨u.val % 8, by omega⟩ : Fin 8) c)
      else if 61 ≤ u.val ∧ u.val < 69 then V (ValueIdx.ix3 (0 : Fin 8) (⟨u.val % 8, by omega⟩ : Fin 8) c) else 0#32 := by
  pointwise [rowsT, bc1]
  refine (lane2_apply _ _ u c).trans ?_
  rw [hrow_apply V ![1, 0, 0] slices_S8x8x192_S1x8x192_1_0_0 (1 : Fin 8) rfl, hrow_apply V ![0, 0, 0] slices_S8x8x192_S1x8x192_0_0_0 (0 : Fin 8) rfl]
theorem rowsT_3 (V : S8x8x192.Idx → BitVec 32) (c : Fin 192) (u : Fin 128) :
    rowsT V (ValueIdx.ix3 c (3 : Fin 8) u) = if u.val < 5 ∨ 125 ≤ u.val then V (ValueIdx.ix3 (7 : Fin 8) (⟨u.val % 8, by omega⟩ : Fin 8) c)
      else if 61 ≤ u.val ∧ u.val < 69 then V (ValueIdx.ix3 (6 : Fin 8) (⟨u.val % 8, by omega⟩ : Fin 8) c) else 0#32 := by
  pointwise [rowsT, bc1]
  refine (lane2_apply _ _ u c).trans ?_
  rw [hrow_apply V ![7, 0, 0] slices_S8x8x192_S1x8x192_7_0_0 (7 : Fin 8) rfl, hrow_apply V ![6, 0, 0] slices_S8x8x192_S1x8x192_6_0_0 (6 : Fin 8) rfl]
theorem rowsT_4 (V : S8x8x192.Idx → BitVec 32) (c : Fin 192) (u : Fin 128) :
    rowsT V (ValueIdx.ix3 c (4 : Fin 8) u) = if u.val < 5 ∨ 125 ≤ u.val then V (ValueIdx.ix3 (6 : Fin 8) (⟨u.val % 8, by omega⟩ : Fin 8) c)
      else if 61 ≤ u.val ∧ u.val < 69 then V (ValueIdx.ix3 (5 : Fin 8) (⟨u.val % 8, by omega⟩ : Fin 8) c) else 0#32 := by
  pointwise [rowsT, bc1]
  refine (lane2_apply _ _ u c).trans ?_
  rw [hrow_apply V ![6, 0, 0] slices_S8x8x192_S1x8x192_6_0_0 (6 : Fin 8) rfl, hrow_apply V ![5, 0, 0] slices_S8x8x192_S1x8x192_5_0_0 (5 : Fin 8) rfl]
theorem rowsT_5 (V : S8x8x192.Idx → BitVec 32) (c : Fin 192) (u : Fin 128) :
    rowsT V (ValueIdx.ix3 c (5 : Fin 8) u) = if u.val < 5 ∨ 125 ≤ u.val then V (ValueIdx.ix3 (4 : Fin 8) (⟨u.val % 8, by omega⟩ : Fin 8) c)
      else if 61 ≤ u.val ∧ u.val < 69 then V (ValueIdx.ix3 (3 : Fin 8) (⟨u.val % 8, by omega⟩ : Fin 8) c) else 0#32 := by
  pointwise [rowsT, bc1]
  refine (lane2_apply _ _ u c).trans ?_
  rw [hrow_apply V ![4, 0, 0] slices_S8x8x192_S1x8x192_4_0_0 (4 : Fin 8) rfl, hrow_apply V ![3, 0, 0] slices_S8x8x192_S1x8x192_3_0_0 (3 : Fin 8) rfl]
theorem rowsT_6 (V : S8x8x192.Idx → BitVec 32) (c : Fin 192) (u : Fin 128) :
    rowsT V (ValueIdx.ix3 c (6 : Fin 8) u) = if u.val < 5 ∨ 125 ≤ u.val then V (ValueIdx.ix3 (2 : Fin 8) (⟨u.val % 8, by omega⟩ : Fin 8) c)
      else if 61 ≤ u.val ∧ u.val < 69 then V (ValueIdx.ix3 (1 : Fin 8) (⟨u.val % 8, by omega⟩ : Fin 8) c) else 0#32 := by
  pointwise [rowsT, bc1]
  refine (lane2_apply _ _ u c).trans ?_
  rw [hrow_apply V ![2, 0, 0] slices_S8x8x192_S1x8x192_2_0_0 (2 : Fin 8) rfl, hrow_apply V ![1, 0, 0] slices_S8x8x192_S1x8x192_1_0_0 (1 : Fin 8) rfl]
theorem rowsT_7 (V : S8x8x192.Idx → BitVec 32) (c : Fin 192) (u : Fin 128) :
    rowsT V (ValueIdx.ix3 c (7 : Fin 8) u) = if u.val < 5 ∨ 125 ≤ u.val then V (ValueIdx.ix3 (0 : Fin 8) (⟨u.val % 8, by omega⟩ : Fin 8) c)
      else if 61 ≤ u.val ∧ u.val < 69 then V (ValueIdx.ix3 (7 : Fin 8) (⟨u.val % 8, by omega⟩ : Fin 8) c) else 0#32 := by
  pointwise [rowsT, bc1]
  refine (lane2_apply _ _ u c).trans ?_
  rw [hrow_apply V ![0, 0, 0] slices_S8x8x192_S1x8x192_0_0_0 (0 : Fin 8) rfl, hrow_apply V ![7, 0, 0] slices_S8x8x192_S1x8x192_7_0_0 (7 : Fin 8) rfl]

theorem rowsT_apply (V : S8x8x192.Idx → BitVec 32) (c : Fin 192) (p : Fin 8) (u : Fin 128) :
    rowsT V (ValueIdx.ix3 c p u) = if u.val < 5 ∨ 125 ≤ u.val then V (ValueIdx.ix3 (tapR p 0) (⟨u.val % 8, by omega⟩ : Fin 8) c)
      else if 61 ≤ u.val ∧ u.val < 69 then V (ValueIdx.ix3 (tapR p 1) (⟨u.val % 8, by omega⟩ : Fin 8) c) else 0#32 := by
  match p with
  | ⟨0, _⟩ => exact rowsT_0 V c u
  | ⟨1, _⟩ => exact rowsT_1 V c u
  | ⟨2, _⟩ => exact rowsT_2 V c u
  | ⟨3, _⟩ => exact rowsT_3 V c u
  | ⟨4, _⟩ => exact rowsT_4 V c u
  | ⟨5, _⟩ => exact rowsT_5 V c u
  | ⟨6, _⟩ => exact rowsT_6 V c u
  | ⟨7, _⟩ => exact rowsT_7 V c u

/-- The code that meets column `b` for the pixel column `a - 3`. -/
def wq (W : S7x7x192.Idx → BitVec 16) (i a b : ℕ) (c : Fin 192) : BitVec 16 := if b ≤ a then wat W i (a - b) c else 0#16

theorem tval_half (W : S7x7x192.Idx → BitVec 16) (X : S32x8x128.Idx → BitVec 32) (c' : Fin 32) (c : Fin 192)
    (hX : ∀ p u, X (ValueIdx.ix3 c' p u) = rowsT (words W) (ValueIdx.ix3 c p u)) (p : Fin 8) (s : Fin 32) (l : Fin 128) (hh : Fin 2) :
    (tval X c' p s l).extractLsb' (16 * hh.val) 16 = wq W (tapR p ⟨l.val / 64, by omega⟩).val (3 + (2 * s.val + hh.val)) (l.val % 64) c := by
  have z : (0#32).extractLsb' (16 * hh.val) 16 = 0#16 := by simp
  unfold tval
  by_cases hb : bandB s l
  · rw [if_pos hb, hX, rowsT_apply]
    obtain ⟨b1, b2⟩ := hb
    have hu : (rotL s l).val = (l.val + 128 - (2 * s.val) % 128) % 128 := rfl
    have key : ∀ i : Fin 8, (words W (ValueIdx.ix3 i (⟨(rotL s l).val % 8, by omega⟩ : Fin 8) c)).extractLsb' (16 * hh.val) 16
        = wq W i.val (3 + (2 * s.val + hh.val)) (l.val % 64) c := by
      intro i
      rw [words_half]
      have e : (colN hh (⟨(rotL s l).val % 8, by omega⟩ : Fin 8)).val = (11 + hh.val - (rotL s l).val % 8) % 8 := rfl
      rw [e]
      have hl := l.isLt; have hs := s.isLt; have h2 := hh.isLt
      by_cases hle : l.val % 64 ≤ 3 + (2 * s.val + hh.val)
      · unfold wq; rw [if_pos hle]; congr 1; omega
      · unfold wq wat; rw [if_neg hle, dif_neg]; omega
    have hl := l.isLt; have hs := s.isLt
    by_cases hx : l.val < 64
    · rw [if_pos (by omega), key]
      have : (⟨l.val / 64, by omega⟩ : Fin 2) = 0 := Fin.ext (by show l.val / 64 = 0; omega)
      rw [this]
    · rw [if_neg (by omega), if_pos (by omega), key]
      have : (⟨l.val / 64, by omega⟩ : Fin 2) = 1 := Fin.ext (by show l.val / 64 = 1; omega)
      rw [this]
  · rw [if_neg hb, z]
    have h2 := hh.isLt
    unfold wq wat
    by_cases hle : l.val % 64 ≤ 3 + (2 * s.val + hh.val)
    · rw [if_pos hle, dif_neg]
      unfold bandB at hb
      omega
    · rw [if_neg hle]

end Cert.KernelIdeal.Val
-- ==== Proof.KDx.lean ====
/-
  The windows, the filter matrices and the products of one channel, read at an index.
-/
module

public import proofs.«01_k».proof.Proof.Canon
public import Idealize.ShloMosaic.PureOps.Ideal
public import Idealize.ShloMosaic.Lib.Pipeline.ValueKit
public import Idealize.ShloMosaic.Lib.BitcastFour
public import Idealize.ShloMosaic.Lib.Pointwise
public import Idealize.ShloMosaic.Lib.Claim
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem

/-- Two blocks side by side. -/
theorem side_word (a b : S64x128.Idx → BitVec 32) (i : Fin 64) (l : Fin 256) :
    concatenate S64x256 1 [⟨S64x128, a⟩, ⟨S64x128, b⟩] concatenates_S64x128_S64x128_S64x256_d1 (ValueIdx.ix2 i l)
      = if h : l.val < 128 then a (ValueIdx.ix2 i (⟨l.val, h⟩ : Fin 128)) else b (ValueIdx.ix2 i (⟨l.val - 128, by omega⟩ : Fin 128)) := by
  pointwise
  rfl

/-- Row `4 j + q` of the bytes is byte `q` of word row `j`. -/
theorem side_byte (x : S64x256.Idx → BitVec 32) (i : Fin 256) (l : Fin 256) :
    bitcast S256x256 8 x bitcasts_S64x256_w32_S256x256_w8 (ValueIdx.ix2 i l)
      = byt (x (ValueIdx.ix2 (⟨i.val / 4, by omega⟩ : Fin 64) l)) (i.val % 4) := by
  apply BitVec.eq_of_getLsbD_eq
  intro k hk
  rw [bitcast_getLsbD x _ _ k hk (by decide), byt_getLsbD _ _ _ hk]
  have ep : (S256x256.row (ValueIdx.ix2 i l) * 8 + k) / 32 = i.val / 4 := by show (i.val * 8 + k) / 32 = i.val / 4; omega
  have eq : (S256x256.row (ValueIdx.ix2 i l) * 8 + k) % 32 = 8 * (i.val % 4) + k := by show (i.val * 8 + k) % 32 = _; omega
  rw [eq]
  congr 2
  funext c
  match c with
  | ⟨0, _⟩ => exact Fin.ext ((Shape.Bitcasts.srcIdx_row _ _ _ _ ⟨0, Nat.zero_lt_two⟩ rfl).trans ep)
  | ⟨1, _⟩ => rfl

/-- Row `2 s + h` of the halves is half `h` of word row `s`. -/
theorem side_half (x : S64x256.Idx → BitVec 32) (i : Fin 128) (l : Fin 256) :
    bitcast S128x256 16 x bitcasts_S64x256_w32_S128x256_w16 (ValueIdx.ix2 i l)
      = (x (ValueIdx.ix2 (⟨i.val / 2, by omega⟩ : Fin 64) l)).extractLsb' (16 * (i.val % 2)) 16 := by
  rw [bitcast_32_16]
  refine congrArg (fun z => BitVec.extractLsb' (16 * (i.val % 2)) 16 (x z)) ?_
  funext c
  match c with
  | ⟨0, _⟩ => exact Fin.ext (Shape.Bitcasts.srcIdx_row _ _ _ _ ⟨0, Nat.zero_lt_two⟩ rfl)
  | ⟨1, _⟩ => rfl

theorem da_apply (x4 : S4x32x8192.Idx → BitVec 8) (c : Fin 32) (j : Fin 64) (q : Fin 4) (n : Fin 256) (hn : n.val = 4 * j.val + q.val) (L : Fin 256) :
    (chanDA (F := Ideal) (D8 x4) c) (ValueIdx.ix2 n L) = Ideal.ofBits .fp8e5m2 (dpad x4 q c (128 * (j.val + 1) + L.val)) := by
  unfold chanDA k0_pay37
  show Ideal.ofBits .fp8e5m2 (bitcast S256x256 8 _ _ (ValueIdx.ix2 n L)) = _
  rw [side_byte, side_word]
  have e1 : (⟨n.val / 4, by omega⟩ : Fin 64) = j := Fin.ext (by show n.val / 4 = j.val; omega)
  have e2 : n.val % 4 = q.val := by omega
  rw [e1, e2]
  by_cases h : L.val < 128
  · rw [dif_pos h]
    refine congrArg _ ((D8_byt x4 c (1 + j.val) (by omega) _ (by show c.val * 69 + 1 + j.val = _; omega) _ q).trans (congrArg _ ?_))
    show 128 * (1 + j.val) + L.val = _; omega
  · rw [dif_neg h]
    refine congrArg _ ((D8_byt x4 c (2 + j.val) (by omega) _ (by show c.val * 69 + 2 + j.val = _; omega) _ q).trans (congrArg _ ?_))
    show 128 * (2 + j.val) + (L.val - 128) = _; omega

theorem lane_lt : ∀ (j : Fin 64) (l : Fin 128), k0_pay316 (ValueIdx.ix2 j l) = if l.val < 64 then 1#1 else 0#1 := by decide +kernel

theorem db_apply (x4 : S4x32x8192.Idx → BitVec 8) (c : Fin 32) (j : Fin 64) (q : Fin 4) (n : Fin 256) (hn : n.val = 4 * j.val + q.val) (L : Fin 256) :
    (chanDB (F := Ideal) k0_pay316 (D8 x4) c) (ValueIdx.ix2 n L)
      = Ideal.ofBits .fp8e5m2 (dpad x4 q c (if L.val < 192 then 128 * (j.val + 3) + L.val else 128 * j.val + (L.val - 128))) := by
  unfold chanDB k0_pay38
  show Ideal.ofBits .fp8e5m2 (bitcast S256x256 8 _ _ (ValueIdx.ix2 n L)) = _
  rw [side_byte, side_word]
  have e1 : (⟨n.val / 4, by omega⟩ : Fin 64) = j := Fin.ext (by show n.val / 4 = j.val; omega)
  have e2 : n.val % 4 = q.val := by omega
  rw [e1, e2]
  by_cases h : L.val < 128
  · rw [dif_pos h, if_pos (by omega)]
    refine congrArg _ ((D8_byt x4 c (3 + j.val) (by omega) _ (by show c.val * 69 + 3 + j.val = _; omega) _ q).trans (congrArg _ ?_))
    show 128 * (3 + j.val) + L.val = _; omega
  · rw [dif_neg h, ValueIdx.select_apply, lane_lt]
    by_cases h2 : L.val < 192
    · rw [if_pos (show L.val - 128 < 64 by omega), if_pos h2, ValueIdx.select_one]
      refine congrArg _ ((D8_byt x4 c (4 + j.val) (by omega) _ (by show c.val * 69 + 4 + j.val = _; omega) _ q).trans (congrArg _ ?_))
      show 128 * (4 + j.val) + (L.val - 128) = _; omega
    · rw [if_neg (show ¬ L.val - 128 < 64 by omega), if_neg h2, ValueIdx.select_zero]
      refine congrArg _ ((D8_byt x4 c (0 + j.val) (by omega) _ (by show c.val * 69 + 0 + j.val = _; omega) _ q).trans (congrArg _ ?_))
      show 128 * (0 + j.val) + (L.val - 128) = _; omega

theorem tt_apply (x5 : S32x8x128.Idx → BitVec 32) (c : Fin 32) (k : Fin 2) (r : Fin 2) (s : Fin 32) (hh : Fin 2) (a : Fin 128)
    (ha : a.val = 64 * r.val + 2 * s.val + hh.val) (L : Fin 256) (k0 k1 : Fin 4) (h0 : k0.val = 2 * k.val) (h1 : k1.val = 2 * k.val + 1) :
    bitcast S128x256 16 (concatenate S64x256 1 [⟨S64x128, tblk (TC x5) c k0⟩, ⟨S64x128, tblk (TC x5) c k1⟩] concatenates_S64x128_S64x128_S64x256_d1)
      bitcasts_S64x256_w32_S128x256_w16 (ValueIdx.ix2 a L)
      = (tval x5 c ⟨4 * r.val + 2 * k.val + L.val / 128, by omega⟩ s ⟨L.val % 128, by omega⟩).extractLsb' (16 * hh.val) 16 := by
  rw [side_half, side_word]
  have e2 : a.val % 2 = hh.val := by omega
  rw [e2]
  have key : ∀ (k' : Fin 4) (l : Fin 128), k'.val = 2 * k.val + L.val / 128 → l.val = L.val % 128 →
      tblk (TC x5) c k' (ValueIdx.ix2 (⟨a.val / 2, by omega⟩ : Fin 64) l)
        = tval x5 c ⟨4 * r.val + 2 * k.val + L.val / 128, by omega⟩ s ⟨L.val % 128, by omega⟩ := by
    intro k' l hk hl
    show tval x5 _ _ _ _ = _
    congr 1
    · exact Fin.ext (by show (c.val * 256 + 64 * k'.val + a.val / 2) / 256 = c.val; omega)
    · exact Fin.ext (by show (c.val * 256 + 64 * k'.val + a.val / 2) % 64 / 32 * 4 + (c.val * 256 + 64 * k'.val + a.val / 2) % 256 / 64 = 4 * r.val + 2 * k.val + L.val / 128; omega)
    · exact Fin.ext (by show (c.val * 256 + 64 * k'.val + a.val / 2) % 32 = s.val; omega)
    · exact Fin.ext hl
  by_cases h : L.val < 128
  · rw [dif_pos h, key k0 _ (by omega) (by show L.val = _; omega)]
  · rw [dif_neg h, key k1 _ (by omega) (by show L.val - 128 = _; omega)]

theorem y_apply (v0 : EReal) (da db : FVec Ideal S256x256 .fp8e5m2) (t0 t1 t2 t3 : S64x128.Idx → BitVec 32) (a : Fin 128) (n : Fin 256) :
    k0_pay40 (F := Ideal) v0 da db t0 t1 t2 t3 (ValueIdx.ix2 a n)
      = ((∑ L : Fin 256, Ideal.ofBits .bf16 (bitcast S128x256 16 (concatenate S64x256 1 [⟨S64x128, t0⟩, ⟨S64x128, t1⟩] concatenates_S64x128_S64x128_S64x256_d1) bitcasts_S64x256_w32_S128x256_w16 (ValueIdx.ix2 a L)) * da (ValueIdx.ix2 n L) : EReal)
        + (∑ L : Fin 256, Ideal.ofBits .bf16 (bitcast S128x256 16 (concatenate S64x256 1 [⟨S64x128, t2⟩, ⟨S64x128, t3⟩] concatenates_S64x128_S64x128_S64x256_d1) bitcasts_S64x256_w32_S128x256_w16 (ValueIdx.ix2 a L)) * db (ValueIdx.ix2 n L) : EReal)) * v0 := by
  pointwise [k0_pay40]
  rfl

theorem g_apply (d : FVec Ideal S256x256 .fp8e5m2) (x : FVec Ideal S256x128 .fp8e4m3) (a : Fin 128) (l : Fin 256) :
    k0_pay41 (F := Ideal) d x (ValueIdx.ix2 a l) = (∑ k : Fin 256, x (ValueIdx.ix2 k a) * d (ValueIdx.ix2 k l) : EReal) := by
  pointwise [k0_pay41]
  rfl

/-- One result of the pixel gradients, as the two products of the windows. -/
theorem dxOut_apply (v0 : EReal) (x4 : S4x32x8192.Idx → BitVec 8) (x5 : S32x8x128.Idx → BitVec 32) (q : Fin 4) (c : Fin 32) (n : Fin 8192)
    (j : Fin 64) (r : Fin 2) (s : Fin 32) (hh : Fin 2) (hn : n.val = 128 * j.val + 64 * r.val + 2 * s.val + hh.val) :
    dxOut (F := Ideal) v0 x4 x5 (ValueIdx.ix3 q c n)
      = ((∑ L : Fin 256, Ideal.ofBits .bf16 ((tval x5 c ⟨4 * r.val + 2 * 0 + L.val / 128, by omega⟩ s ⟨L.val % 128, by omega⟩).extractLsb' (16 * hh.val) 16)
            * Ideal.ofBits .fp8e5m2 (dpad x4 q c (128 * (j.val + 1) + L.val)) : EReal)
        + (∑ L : Fin 256, Ideal.ofBits .bf16 ((tval x5 c ⟨4 * r.val + 2 * 1 + L.val / 128, by omega⟩ s ⟨L.val % 128, by omega⟩).extractLsb' (16 * hh.val) 16)
            * Ideal.ofBits .fp8e5m2 (dpad x4 q c (if L.val < 192 then 128 * (j.val + 3) + L.val else 128 * j.val + (L.val - 128))) : EReal)) * v0 := by
  unfold dxOut tb16
  show chanY (F := Ideal) v0 k0_pay316 (D8 x4) (TC x5) c (ValueIdx.ix2 _ _) = _
  unfold chanY
  rw [y_apply]
  have ha : (n.val % 128) = 64 * r.val + 2 * s.val + hh.val := by omega
  congr 2
  · refine Finset.sum_congr rfl fun L _ => ?_
    rw [tt_apply x5 c 0 r s hh _ ha L 0 1 rfl rfl, da_apply x4 c j q _ (by show 4 * (n.val / 128) + q.val = _; omega) L]
    rfl
  · refine Finset.sum_congr rfl fun L _ => ?_
    rw [tt_apply x5 c 1 r s hh _ ha L 2 3 rfl rfl, db_apply x4 c j q _ (by show 4 * (n.val / 128) + q.val = _; omega) L]
    rfl

end Cert.KernelIdeal.Val
-- ==== Proof.Decode.lean ====
/-
  The codes' numbers by integer arithmetic on their bits.
-/
module

public import Idealize.ShloMosaic.PureOps.Ideal
public import Idealize.ShloMosaic.PureOps.IdealRules
import Idealize.ShloMosaic.Lib.IdealHost

@[expose] public section

namespace Cert.Decode

open Idealize.ShloMosaic

/-- A word's exponent and fraction rebiased: a code with a two-bit fraction. -/
theorem norm5 (b : BitVec 8) (N : BitVec 32) (h1 : N.extractLsb' 31 1 = b.extractLsb' 7 1)
    (h2 : (N.extractLsb' 23 8).toNat = if (b.extractLsb' 2 5).toNat = 31 then 255 else (b.extractLsb' 2 5).toNat + 112)
    (h3 : (N.extractLsb' 0 23).toNat = (b.extractLsb' 0 2).toNat * 2097152) (h0 : (b.extractLsb' 2 5).toNat ≠ 0) :
    Ideal.ofBits .f32 N = (Ideal.ofBits .fp8e5m2 b : EReal) := by
  show Ideal.ieee 8 23 N = Ideal.ieee 5 2 b
  have hl : (b.extractLsb' 2 5).toNat < 32 := (b.extractLsb' 2 5).isLt
  unfold Ideal.ieee
  simp only [Nat.reduceAdd, h1, h2, h3]
  generalize (b.extractLsb' 2 5).toNat = ex at *
  generalize (b.extractLsb' 0 2).toNat = fr at *
  by_cases h : ex = 31
  · subst h
    by_cases hf : fr = 0
    · subst hf; simp
    · have : ¬ fr * 2097152 = 0 := by omega
      simp [hf, this]
  · have e0 : (if ex = 31 then 255 else ex + 112) = ex + 112 := if_neg h
    rw [e0, if_neg (show ¬ ex + 112 = 2 ^ 8 - 1 by omega), if_neg (show ¬ ex + 112 = 0 by omega), if_neg (show ¬ ex = 2 ^ 5 - 1 by omega), if_neg h0]
    refine congrArg (fun z : ℝ => (z : EReal)) ?_
    have e : (2 : ℝ) ^ (((ex + 112 : ℕ) : ℤ) - (2 ^ (8 - 1) - 1) - ((23 : ℕ) : ℤ)) = (2 : ℝ) ^ ((ex : ℤ) - (2 ^ (5 - 1) - 1) - ((2 : ℕ) : ℤ)) * (2 : ℝ) ^ (-21 : ℤ) := by
      rw [← zpow_add₀ (by norm_num)]
      congr 1
      push_cast
      ring
    rw [e]
    push_cast
    have e2 : (2 : ℝ) ^ (-21 : ℤ) = 1 / 2097152 := by norm_num
    rw [e2]
    ring

/-- The same of a code with a three-bit fraction. -/
theorem norm4 (b : BitVec 8) (N : BitVec 32) (h1 : N.extractLsb' 31 1 = b.extractLsb' 7 1)
    (h2 : (N.extractLsb' 23 8).toNat = if (b.extractLsb' 3 4).toNat = 15 ∧ (b.extractLsb' 0 3).toNat = 7 then 255 else (b.extractLsb' 3 4).toNat + 120)
    (h3 : (N.extractLsb' 0 23).toNat = if (b.extractLsb' 3 4).toNat = 15 ∧ (b.extractLsb' 0 3).toNat = 7 then 4194304 else (b.extractLsb' 0 3).toNat * 1048576)
    (h0 : (b.extractLsb' 3 4).toNat ≠ 0) :
    Ideal.ofBits .f32 N = (Ideal.ofBits .fp8e4m3 b : EReal) := by
  show Ideal.ieee 8 23 N = Ideal.e4m3fn b
  have hl : (b.extractLsb' 3 4).toNat < 16 := (b.extractLsb' 3 4).isLt
  unfold Ideal.ieee Ideal.e4m3fn
  simp only [Nat.reduceAdd, h1, h2, h3]
  generalize (b.extractLsb' 3 4).toNat = ex at *
  generalize (b.extractLsb' 0 3).toNat = fr at *
  by_cases h : ex = 15 ∧ fr = 7
  · simp [h]
  · have e0 : (if ex = 15 ∧ fr = 7 then 255 else ex + 120) = ex + 120 := if_neg h
    have e1 : (if ex = 15 ∧ fr = 7 then 4194304 else fr * 1048576) = fr * 1048576 := if_neg h
    rw [e0, e1, if_neg (show ¬ ex + 120 = 2 ^ 8 - 1 by omega), if_neg (show ¬ ex + 120 = 0 by omega), if_neg h, if_neg h0]
    refine congrArg (fun z : ℝ => (z : EReal)) ?_
    have e : (2 : ℝ) ^ (((ex + 120 : ℕ) : ℤ) - (2 ^ (8 - 1) - 1) - ((23 : ℕ) : ℤ)) = (2 : ℝ) ^ ((ex : ℤ) - 10) * (2 : ℝ) ^ (-20 : ℤ) := by
      rw [← zpow_add₀ (by norm_num)]
      congr 1
      push_cast
      ring
    rw [e]
    push_cast
    have e2 : (2 : ℝ) ^ (-20 : ℤ) = 1 / 1048576 := by norm_num
    rw [e2]
    ring

theorem sub5 (b : BitVec 8) (m : BitVec 32) (h0 : (b.extractLsb' 2 5).toNat = 0) (hm : m.toInt = (b.extractLsb' 0 2).toNat) (z : BitVec 1)
    (hz : z = if b.extractLsb' 7 1 = 1#1 then 0#1 else 1#1) :
    Scalar.select z ((FloatOps.sitofp (F := Ideal) .f32 m : EReal) * Ideal.ofBits .f32 931135488#32)
      (-((FloatOps.sitofp (F := Ideal) .f32 m : EReal) * Ideal.ofBits .f32 931135488#32)) = (Ideal.ofBits .fp8e5m2 b : EReal) := by
  have e1 : (Ideal.ofBits .f32 931135488#32 : EReal) = (((2 : ℝ) ^ (-16 : ℤ) : ℝ) : EReal) := by
    simp [Ideal.ofBits, Ideal.ieee, -EReal.coe_mul]; norm_num
  have e2 : (FloatOps.sitofp (F := Ideal) .f32 m : EReal) = (((b.extractLsb' 0 2).toNat : ℝ) : EReal) := by
    show ((m.toInt : ℝ) : EReal) = _
    rw [hm]; norm_cast
  rw [e1, e2, ← EReal.coe_mul, ← EReal.coe_neg]
  show _ = Ideal.ieee 5 2 b
  unfold Ideal.ieee
  simp only [Nat.reduceAdd, h0]
  generalize (b.extractLsb' 0 2).toNat = fr at *
  have e3 : (2 : ℝ) ^ ((1 : ℤ) - (2 ^ (5 - 1) - 1) - ((2 : ℕ) : ℤ)) = (2 : ℝ) ^ (-16 : ℤ) := by norm_num
  by_cases h : b.extractLsb' 7 1 = 1#1
  · rw [if_pos h] at hz
    subst hz
    refine (if_neg (by decide)).trans ?_
    have hb : (b.extractLsb' 7 1 == 1#1) = true := by simp [h]
    rw [if_neg (show ¬ (0 : ℕ) = 2 ^ 5 - 1 by decide), if_pos trivial]
    refine congrArg (fun z : ℝ => (z : EReal)) ?_
    rw [e3]
    simp only [hb, if_true]
    ring
  · rw [if_neg h] at hz
    subst hz
    refine (if_pos (by decide)).trans ?_
    have hb : (b.extractLsb' 7 1 == 1#1) = false := by simp [h]
    rw [if_neg (show ¬ (0 : ℕ) = 2 ^ 5 - 1 by decide), if_pos trivial]
    refine congrArg (fun z : ℝ => (z : EReal)) ?_
    rw [e3]
    simp only [hb, Bool.false_eq_true, if_false]
    ring

theorem sub4 (b : BitVec 8) (m : BitVec 32) (h0 : (b.extractLsb' 3 4).toNat = 0) (hm : m.toInt = (b.extractLsb' 0 3).toNat) (z : BitVec 1)
    (hz : z = if b.extractLsb' 7 1 = 1#1 then 0#1 else 1#1) :
    Scalar.select z ((FloatOps.sitofp (F := Ideal) .f32 m : EReal) * Ideal.ofBits .f32 989855744#32)
      (-((FloatOps.sitofp (F := Ideal) .f32 m : EReal) * Ideal.ofBits .f32 989855744#32)) = (Ideal.ofBits .fp8e4m3 b : EReal) := by
  have e1 : (Ideal.ofBits .f32 989855744#32 : EReal) = (((2 : ℝ) ^ (-9 : ℤ) : ℝ) : EReal) := by
    simp [Ideal.ofBits, Ideal.ieee, -EReal.coe_mul]; norm_num
  have e2 : (FloatOps.sitofp (F := Ideal) .f32 m : EReal) = (((b.extractLsb' 0 3).toNat : ℝ) : EReal) := by
    show ((m.toInt : ℝ) : EReal) = _
    rw [hm]; norm_cast
  rw [e1, e2, ← EReal.coe_mul, ← EReal.coe_neg]
  show _ = Ideal.e4m3fn b
  unfold Ideal.e4m3fn
  simp only [Nat.reduceAdd, h0]
  generalize (b.extractLsb' 0 3).toNat = fr at *
  by_cases h : b.extractLsb' 7 1 = 1#1
  · rw [if_pos h] at hz
    subst hz
    refine (if_neg (by decide)).trans ?_
    have hb : (b.extractLsb' 7 1 == 1#1) = true := by simp [h]
    rw [if_neg (show ¬ ((0 : ℕ) = 15 ∧ fr = 7) by omega), if_pos trivial]
    refine congrArg (fun z : ℝ => (z : EReal)) ?_
    simp only [hb, if_true]
    ring
  · rw [if_neg h] at hz
    subst hz
    refine (if_pos (by decide)).trans ?_
    have hb : (b.extractLsb' 7 1 == 1#1) = false := by simp [h]
    rw [if_neg (show ¬ ((0 : ℕ) = 15 ∧ fr = 7) by omega), if_pos trivial]
    refine congrArg (fun z : ℝ => (z : EReal)) ?_
    simp only [hb, Bool.false_eq_true, if_false]
    ring

/-- The bit facts of a gradient code. -/
theorem bits5 (b : BitVec 8) :
    let c := BitVec.setWidth 32 b
    let e := IntOp.andi (IntOp.shrsi ArithUnit.host c 2#32) 31#32
    let s := IntOp.shli ArithUnit.host (IntOp.andi c 128#32) 24#32
    let N := IntOp.ori (IntOp.ori s (IntOp.shli ArithUnit.host (Scalar.select (IntOp.cmpi CmpIPredicate.eq e 31#32) 255#32 (IntOp.addi e 112#32)) 23#32))
      (IntOp.shli ArithUnit.host (IntOp.andi c 3#32) 21#32)
    IntOp.cmpi CmpIPredicate.eq e 0#32 = (if (b.extractLsb' 2 5).toNat = 0 then 1#1 else 0#1)
    ∧ IntOp.cmpi CmpIPredicate.eq s 0#32 = (if b.extractLsb' 7 1 = 1#1 then 0#1 else 1#1)
    ∧ (IntOp.andi c 3#32).toInt = (b.extractLsb' 0 2).toNat
    ∧ N.extractLsb' 31 1 = b.extractLsb' 7 1
    ∧ (N.extractLsb' 23 8).toNat = (if (b.extractLsb' 2 5).toNat = 31 then 255 else (b.extractLsb' 2 5).toNat + 112)
    ∧ (N.extractLsb' 0 23).toNat = (b.extractLsb' 0 2).toNat * 2097152 := by
  obtain ⟨b⟩ := b
  revert b
  decide +kernel

/-- The bit facts of an input code. -/
theorem bits4 (b : BitVec 8) :
    let c := BitVec.setWidth 32 b
    let e := IntOp.andi (IntOp.shrsi ArithUnit.host c 3#32) 15#32
    let s := IntOp.shli ArithUnit.host (IntOp.andi c 128#32) 24#32
    let N := IntOp.ori s (Scalar.select (IntOp.cmpi CmpIPredicate.eq (IntOp.andi c 127#32) 127#32) 2143289344#32
      (IntOp.ori (IntOp.shli ArithUnit.host (IntOp.addi e 120#32) 23#32) (IntOp.shli ArithUnit.host (IntOp.andi c 7#32) 20#32)))
    IntOp.cmpi CmpIPredicate.eq e 0#32 = (if (b.extractLsb' 3 4).toNat = 0 then 1#1 else 0#1)
    ∧ IntOp.cmpi CmpIPredicate.eq s 0#32 = (if b.extractLsb' 7 1 = 1#1 then 0#1 else 1#1)
    ∧ (IntOp.andi c 7#32).toInt = (b.extractLsb' 0 3).toNat
    ∧ N.extractLsb' 31 1 = b.extractLsb' 7 1
    ∧ (N.extractLsb' 23 8).toNat = (if (b.extractLsb' 3 4).toNat = 15 ∧ (b.extractLsb' 0 3).toNat = 7 then 255 else (b.extractLsb' 3 4).toNat + 120)
    ∧ (N.extractLsb' 0 23).toNat = (if (b.extractLsb' 3 4).toNat = 15 ∧ (b.extractLsb' 0 3).toNat = 7 then 4194304 else (b.extractLsb' 0 3).toNat * 1048576) := by
  obtain ⟨b⟩ := b
  revert b
  decide +kernel

end Cert.Decode
-- ==== Proof.RefV.lean ====
/-
  The reference's arrays, read at an index.
-/
module

public import proofs.«01_k».proof.Proof.Gen.ReferenceIdeal.Run
public import Idealize.ShloMosaic.PureOps.Ideal
public import Idealize.ShloMosaic.Lib.ValueIdxCore
public import Idealize.ShloMosaic.Lib.ValueIdxRank6
import Idealize.ShloMosaic.Lib.Pointwise
import Idealize.ShloMosaic.Lib.IdealHost
import proofs.«01_k».proof.Proof.Decode

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem

/-- The numbers of an array of gradient codes. -/
def d5T (X : S24x8192x192.Idx → BitVec 8) : FVec Ideal S24x8192x192 .f32 :=
  (select (cmpi .eq (andi (Host.shrsi (extui 32 X natLt_8_32) (broadcastInDim S24x8192x192 ![] bcast_S_S24x8192x192 (constantI S_ 32 2#32))) (broadcastInDim S24x8192x192 ![] bcast_S_S24x8192x192 (constantI S_ 32 31#32))) (broadcastInDim S24x8192x192 ![] bcast_S_S24x8192x192 (constantI S_ 32 0#32))) (select (cmpi .eq (Host.shli (andi (extui 32 X natLt_8_32) (broadcastInDim S24x8192x192 ![] bcast_S_S24x8192x192 (constantI S_ 32 128#32))) (broadcastInDim S24x8192x192 ![] bcast_S_S24x8192x192 (constantI S_ 32 24#32))) (broadcastInDim S24x8192x192 ![] bcast_S_S24x8192x192 (constantI S_ 32 0#32))) (mulf (sitofp .f32 (andi (extui 32 X natLt_8_32) (broadcastInDim S24x8192x192 ![] bcast_S_S24x8192x192 (constantI S_ 32 3#32)))) (broadcastInDim S24x8192x192 ![] bcast_S_S24x8192x192 (constant (F := Ideal) S_ .f32 0x37800000#32))) (Host.negf (mulf (sitofp .f32 (andi (extui 32 X natLt_8_32) (broadcastInDim S24x8192x192 ![] bcast_S_S24x8192x192 (constantI S_ 32 3#32)))) (broadcastInDim S24x8192x192 ![] bcast_S_S24x8192x192 (constant (F := Ideal) S_ .f32 0x37800000#32))))) (bitcastToFloat (F := Ideal) .f32 (ori (ori (Host.shli (andi (extui 32 X natLt_8_32) (broadcastInDim S24x8192x192 ![] bcast_S_S24x8192x192 (constantI S_ 32 128#32))) (broadcastInDim S24x8192x192 ![] bcast_S_S24x8192x192 (constantI S_ 32 24#32))) (Host.shli (select (cmpi .eq (andi (Host.shrsi (extui 32 X natLt_8_32) (broadcastInDim S24x8192x192 ![] bcast_S_S24x8192x192 (constantI S_ 32 2#32))) (broadcastInDim S24x8192x192 ![] bcast_S_S24x8192x192 (constantI S_ 32 31#32))) (broadcastInDim S24x8192x192 ![] bcast_S_S24x8192x192 (constantI S_ 32 31#32))) (broadcastInDim S24x8192x192 ![] bcast_S_S24x8192x192 (id (constantI S_ 32 255#32))) (addi (andi (Host.shrsi (extui 32 X natLt_8_32) (broadcastInDim S24x8192x192 ![] bcast_S_S24x8192x192 (constantI S_ 32 2#32))) (broadcastInDim S24x8192x192 ![] bcast_S_S24x8192x192 (constantI S_ 32 31#32))) (broadcastInDim S24x8192x192 ![] bcast_S_S24x8192x192 (constantI S_ 32 112#32)))) (broadcastInDim S24x8192x192 ![] bcast_S_S24x8192x192 (constantI S_ 32 23#32)))) (Host.shli (andi (extui 32 X natLt_8_32) (broadcastInDim S24x8192x192 ![] bcast_S_S24x8192x192 (constantI S_ 32 3#32))) (broadcastInDim S24x8192x192 ![] bcast_S_S24x8192x192 (constantI S_ 32 21#32))))))

/-- The numbers of an array of input codes. -/
def d4T (X : S24x8192x192.Idx → BitVec 8) : FVec Ideal S24x8192x192 .f32 :=
  (select (cmpi .eq (andi (Host.shrsi (extui 32 X natLt_8_32) (broadcastInDim S24x8192x192 ![] bcast_S_S24x8192x192 (constantI S_ 32 3#32))) (broadcastInDim S24x8192x192 ![] bcast_S_S24x8192x192 (constantI S_ 32 15#32))) (broadcastInDim S24x8192x192 ![] bcast_S_S24x8192x192 (constantI S_ 32 0#32))) (select (cmpi .eq (Host.shli (andi (extui 32 X natLt_8_32) (broadcastInDim S24x8192x192 ![] bcast_S_S24x8192x192 (constantI S_ 32 128#32))) (broadcastInDim S24x8192x192 ![] bcast_S_S24x8192x192 (constantI S_ 32 24#32))) (broadcastInDim S24x8192x192 ![] bcast_S_S24x8192x192 (constantI S_ 32 0#32))) (mulf (sitofp .f32 (andi (extui 32 X natLt_8_32) (broadcastInDim S24x8192x192 ![] bcast_S_S24x8192x192 (constantI S_ 32 7#32)))) (broadcastInDim S24x8192x192 ![] bcast_S_S24x8192x192 (constant (F := Ideal) S_ .f32 0x3B000000#32))) (Host.negf (mulf (sitofp .f32 (andi (extui 32 X natLt_8_32) (broadcastInDim S24x8192x192 ![] bcast_S_S24x8192x192 (constantI S_ 32 7#32)))) (broadcastInDim S24x8192x192 ![] bcast_S_S24x8192x192 (constant (F := Ideal) S_ .f32 0x3B000000#32))))) (bitcastToFloat (F := Ideal) .f32 (ori (Host.shli (andi (extui 32 X natLt_8_32) (broadcastInDim S24x8192x192 ![] bcast_S_S24x8192x192 (constantI S_ 32 128#32))) (broadcastInDim S24x8192x192 ![] bcast_S_S24x8192x192 (constantI S_ 32 24#32))) (select (cmpi .eq (andi (extui 32 X natLt_8_32) (broadcastInDim S24x8192x192 ![] bcast_S_S24x8192x192 (constantI S_ 32 127#32))) (broadcastInDim S24x8192x192 ![] bcast_S_S24x8192x192 (constantI S_ 32 127#32))) (broadcastInDim S24x8192x192 ![] bcast_S_S24x8192x192 (id (constantI S_ 32 2143289344#32))) (ori (Host.shli (addi (andi (Host.shrsi (extui 32 X natLt_8_32) (broadcastInDim S24x8192x192 ![] bcast_S_S24x8192x192 (constantI S_ 32 3#32))) (broadcastInDim S24x8192x192 ![] bcast_S_S24x8192x192 (constantI S_ 32 15#32))) (broadcastInDim S24x8192x192 ![] bcast_S_S24x8192x192 (constantI S_ 32 120#32))) (broadcastInDim S24x8192x192 ![] bcast_S_S24x8192x192 (constantI S_ 32 23#32))) (Host.shli (andi (extui 32 X natLt_8_32) (broadcastInDim S24x8192x192 ![] bcast_S_S24x8192x192 (constantI S_ 32 7#32))) (broadcastInDim S24x8192x192 ![] bcast_S_S24x8192x192 (constantI S_ 32 20#32))))))))

/-- The gradient image. -/
def dyT (X : S24x8192x192.Idx → BitVec 8) (s : FVec Ideal S_ .f32) : FVec Ideal S24x128x64x192 .f32 :=
  shapeCast S24x128x64x192 (mulf (d5T X) (broadcastInDim S24x8192x192 ![] bcast_S_S24x8192x192 s)) shapeCasts_S24x8192x192_S24x128x64x192

/-- The input image. -/
def xT (X : S24x8192x192.Idx → BitVec 8) (s : FVec Ideal S_ .f32) : FVec Ideal S24x128x64x192 .f32 :=
  shapeCast S24x128x64x192 (mulf (d4T X) (broadcastInDim S24x8192x192 ![] bcast_S_S24x8192x192 s)) shapeCasts_S24x8192x192_S24x128x64x192

/-- The windows of an image. -/
def winT (A : FVec Ideal S24x128x64x192 .f32) : FVec Ideal S24x128x7x64x7x192 .f32 :=
  (Host.gather gather_S24x128x7x70x192_S64x7x1_S24x128x7x64x7x192_0125_3_n_n_3_2_2412871192 (Host.gather gather_S24x134x70x192_S128x7x1_S24x128x7x70x192_034_1_n_n_1_2_24170192 (pad S24x134x70x192 ![0, 3, 3, 0] ![0, 3, 3, 0] ![0, 0, 0, 0] A (sitofp (F := Ideal) .f32 (constantI S_ 32 0#32)) pads_S24x128x64x192_S24x134x70x192_000_330_330_000 h_S_) (broadcastInDim S128x7x1 ![0, 1] bcast_S128x7_S128x7x1_0_1 (addi (broadcastInDim S128x7 ![0, 1] bcast_S128x1_S128x7_0_1 (broadcastInDim S128x1 ![0] bcast_S128_S128x1_0 (iotaInDim S128 32 0))) (broadcastInDim S128x7 ![0, 1] bcast_S1x7_S128x7_0_1 (broadcastInDim S1x7 ![1] bcast_S7_S1x7_1 (iotaInDim S7 32 0)))))) (broadcastInDim S64x7x1 ![0, 1] bcast_S64x7_S64x7x1_0_1 (addi (broadcastInDim S64x7 ![0, 1] bcast_S64x1_S64x7_0_1 (broadcastInDim S64x1 ![0] bcast_S64_S64x1_0 (iotaInDim S64 32 0))) (broadcastInDim S64x7 ![0, 1] bcast_S1x7_S64x7_0_1 (broadcastInDim S1x7 ![1] bcast_S7_S1x7_1 (iotaInDim S7 32 0))))))

/-- The pixel gradients. -/
def dxT (W : S7x7x192.Idx → BitVec 16) (A : FVec Ideal S24x128x64x192 .f32) : FVec Ideal S24x8192x192 .bf16 :=
  truncf .bf16 (shapeCast S24x8192x192 (Host.reduceAdd (mulf (winT A) (broadcastInDim S24x128x7x64x7x192 ![0, 1, 2, 3, 4, 5] bcast_S1x1x7x1x7x192_S24x128x7x64x7x192_0_1_2_3_4_5 (broadcastInDim S1x1x7x1x7x192 ![2, 4, 5] bcast_S7x7x192_S1x1x7x1x7x192_2_4_5 (Host.reverse [0, 1] (extf .f32 (bitcastToFloat (F := Ideal) .bf16 W) bitsLt_bf16_f32))))) (constant (F := Ideal) S_ .f32 0x00000000#32) reducesTo_S24x128x7x64x7x192_S24x128x64x192_d2_4 h_S_) shapeCasts_S24x128x64x192_S24x8192x192) bitsLt_bf16_f32

/-- The filter gradients. -/
def dwT (B A : FVec Ideal S24x128x64x192 .f32) : FVec Ideal S7x7x192 .f32 :=
  Host.reduceAdd (mulf (winT B) (broadcastInDim S24x128x7x64x7x192 ![0, 1, 2, 3, 4, 5] bcast_S24x128x1x64x1x192_S24x128x7x64x7x192_0_1_2_3_4_5 (broadcastInDim S24x128x1x64x1x192 ![0, 1, 3, 5] bcast_S24x128x64x192_S24x128x1x64x1x192_0_1_3_5 A))) (constant (F := Ideal) S_ .f32 0x00000000#32) reducesTo_S24x128x7x64x7x192_S7x7x192_d0_1_3 h_S_

theorem out0_eq (m : (ℓ : Loc nD τ sig) → Buf (Elt Ideal) ℓ) (c : Dev nD) :
    res_out0 m c = dxT (m ((c.tc : Thread nD τ).loc main_arg2)) (dyT (m ((c.tc : Thread nD τ).loc main_arg3)) (m ((c.tc : Thread nD τ).loc main_arg4))) := rfl

theorem out1_eq (m : (ℓ : Loc nD τ sig) → Buf (Elt Ideal) ℓ) (c : Dev nD) :
    res_out1 m c = dwT (xT (m ((c.tc : Thread nD τ).loc main_arg0)) (m ((c.tc : Thread nD τ).loc main_arg1))) (dyT (m ((c.tc : Thread nD τ).loc main_arg3)) (m ((c.tc : Thread nD τ).loc main_arg4))) := rfl

/-! ### The windows -/

theorem gr (x : FVec Ideal S24x134x70x192 .f32) (idx : IVec S128x7x1 32) (b : Fin 24) (p : Fin 128) (i : Fin 7) (q : Fin 70) (c : Fin 192) (r : Fin 134)
    (hr : (idx (ValueIdx.ix3 p i (0 : Fin 1))).toInt.toNat = r.val) :
    Host.gather gather_S24x134x70x192_S128x7x1_S24x128x7x70x192_034_1_n_n_1_2_24170192 x idx (ValueIdx.ix5 b p i q c) = x (ValueIdx.ix4 b r q c) := by
  unfold Host.gather
  congr 1
  funext a
  refine Fin.ext ?_
  generalize hd : gather_S24x134x70x192_S128x7x1_S24x128x7x70x192_034_1_n_n_1_2_24170192 = d
  show d.start _ idx a + d.batchCoord _ a + d.offCoord _ a = _
  subst hd
  match a with
  | ⟨0, _⟩ => exact (show 0 + 0 + b.val = b.val by omega)
  | ⟨1, _⟩ =>
    show min (idx _).toInt.toNat 133 + 0 + 0 = r.val
    have e : (idx (ValueIdx.ix3 p i (0 : Fin 1))).toInt.toNat = r.val := hr
    have : r.val ≤ 133 := by omega
    refine Eq.trans (congrArg (fun z => min z 133 + 0 + 0) (Eq.trans (congrArg (fun z => (idx z).toInt.toNat) ?_) e)) (by omega)
    funext b
    match b with
    | ⟨0, _⟩ => rfl
    | ⟨1, _⟩ => rfl
    | ⟨2, _⟩ => rfl
  | ⟨2, _⟩ => exact (show 0 + 0 + q.val = q.val by omega)
  | ⟨3, _⟩ => exact (show 0 + 0 + c.val = c.val by omega)

theorem gc (x : FVec Ideal S24x128x7x70x192 .f32) (idx : IVec S64x7x1 32) (b : Fin 24) (p : Fin 128) (i : Fin 7) (q : Fin 64) (j : Fin 7) (c : Fin 192) (r : Fin 70)
    (hr : (idx (ValueIdx.ix3 q j (0 : Fin 1))).toInt.toNat = r.val) :
    Host.gather gather_S24x128x7x70x192_S64x7x1_S24x128x7x64x7x192_0125_3_n_n_3_2_2412871192 x idx (ValueIdx.ix6 b p i q j c) = x (ValueIdx.ix5 b p i r c) := by
  unfold Host.gather
  congr 1
  funext a
  refine Fin.ext ?_
  generalize hd : gather_S24x128x7x70x192_S64x7x1_S24x128x7x64x7x192_0125_3_n_n_3_2_2412871192 = d
  show d.start _ idx a + d.batchCoord _ a + d.offCoord _ a = _
  subst hd
  match a with
  | ⟨0, _⟩ => exact (show 0 + 0 + b.val = b.val by omega)
  | ⟨1, _⟩ => exact (show 0 + 0 + p.val = p.val by omega)
  | ⟨2, _⟩ => exact (show 0 + 0 + i.val = i.val by omega)
  | ⟨3, _⟩ =>
    show min (idx _).toInt.toNat 69 + 0 + 0 = r.val
    have e : (idx (ValueIdx.ix3 q j (0 : Fin 1))).toInt.toNat = r.val := hr
    have : r.val ≤ 69 := by omega
    refine Eq.trans (congrArg (fun z => min z 69 + 0 + 0) (Eq.trans (congrArg (fun z => (idx z).toInt.toNat) ?_) e)) (by omega)
    funext b
    match b with
    | ⟨0, _⟩ => rfl
    | ⟨1, _⟩ => rfl
    | ⟨2, _⟩ => rfl
  | ⟨4, _⟩ => exact (show 0 + 0 + c.val = c.val by omega)

theorem word_sum (a b : ℕ) (h : a + b < 1000) : (IntOp.addi (BitVec.ofNat 32 a) (BitVec.ofNat 32 b)).toInt.toNat = a + b := by
  show (BitVec.ofNat 32 a + BitVec.ofNat 32 b).toInt.toNat = a + b
  rw [← BitVec.ofNat_add, BitVec.toInt_ofNat']
  simp only [Int.bmod]
  omega

/-- A window's element: the image's, zero outside it. -/
theorem winT_apply (A : FVec Ideal S24x128x64x192 .f32) (b : Fin 24) (p : Fin 128) (i : Fin 7) (q : Fin 64) (j : Fin 7) (c : Fin 192) :
    winT A (ValueIdx.ix6 b p i q j c)
      = if h : (3 ≤ p.val + i.val ∧ p.val + i.val < 131) ∧ 3 ≤ q.val + j.val ∧ q.val + j.val < 67 then
          A (ValueIdx.ix4 b (⟨p.val + i.val - 3, by omega⟩ : Fin 128) (⟨q.val + j.val - 3, by omega⟩ : Fin 64) c) else (0 : EReal) := by
  unfold winT
  refine (gc _ _ b p i q j c ⟨q.val + j.val, by omega⟩ (word_sum q.val j.val (by omega))).trans ?_
  refine (gr _ _ b p i ⟨q.val + j.val, by omega⟩ c ⟨p.val + i.val, by omega⟩ (word_sum p.val i.val (by omega))).trans ?_
  pointwise []
  have z : (FloatOps.sitofp (F := Ideal) .f32 (0#32 : BitVec 32) : EReal) = 0 := by
    show (((0#32 : BitVec 32).toInt : ℝ) : EReal) = 0
    simp
  by_cases h : (3 ≤ p.val + i.val ∧ p.val + i.val < 131) ∧ 3 ≤ q.val + j.val ∧ q.val + j.val < 67
  · rw [dif_pos h, dif_pos (by omega)]
    rfl
  · rw [dif_neg h, dif_neg (by omega)]
    exact z

/-! ### The sums -/

/-- A pixel gradient: the sum over the taps. -/
theorem dxT_apply (W : S7x7x192.Idx → BitVec 16) (A : FVec Ideal S24x128x64x192 .f32) (b : Fin 24) (n : Fin 8192) (c : Fin 192) :
    (dxT W A (ValueIdx.ix3 b n c) : EReal)
      = ∑ t : Fin 7 × Fin 7, (winT A (ValueIdx.ix6 b (⟨n.val / 64, by omega⟩ : Fin 128) t.1 (⟨n.val % 64, by omega⟩ : Fin 64) t.2 c) : EReal)
          * Ideal.ofBits .bf16 (W (ValueIdx.ix3 (⟨6 - t.1.val, by omega⟩ : Fin 7) (⟨6 - t.2.val, by omega⟩ : Fin 7) c)) := by
  unfold dxT
  pointwise []
  refine (zero_add _).trans ?_
  refine (Finset.sum_filter_eq_sum_of_fiber _ (fun t : Fin 7 × Fin 7 => (ValueIdx.ix6 b (⟨n.val / 64, by omega⟩ : Fin 128) t.1 (⟨n.val % 64, by omega⟩ : Fin 64) t.2 c : S24x128x7x64x7x192.Idx))
    (fun t u e => Prod.ext (congrFun e 2) (congrFun e 4)) (fun i => ⟨fun e => ?_, ?_⟩) _).trans ?_
  · refine ⟨(i 2, i 4), ?_⟩
    funext a
    apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => rfl
    | ⟨3, _⟩ => exact (congrArg Fin.val (congrFun e ⟨2, by decide⟩)).symm
    | ⟨4, _⟩ => rfl
    | ⟨5, _⟩ => exact (congrArg Fin.val (congrFun e ⟨3, by decide⟩)).symm
  · rintro ⟨k, rfl⟩
    funext a
    apply Fin.ext
    match a with
    | ⟨0, _⟩ => rfl
    | ⟨1, _⟩ => rfl
    | ⟨2, _⟩ => rfl
    | ⟨3, _⟩ => rfl
  · refine Finset.sum_congr rfl fun t _ => ?_
    pointwise []
    refine congrArg (fun z => winT A _ * Ideal.ofBits .bf16 (W z)) ?_
    funext a
    apply Fin.ext
    match a with
    | ⟨0, _⟩ => show 7 - (t.1.val + 1) = 6 - t.1.val; omega
    | ⟨1, _⟩ => show 7 - (t.2.val + 1) = 6 - t.2.val; omega
    | ⟨2, _⟩ => rfl

theorem dwT_apply (B A : FVec Ideal S24x128x64x192 .f32) (i j : Fin 7) (c : Fin 192) :
    (dwT B A (ValueIdx.ix3 i j c) : EReal)
      = ∑ t : Fin 24 × Fin 128 × Fin 64, (winT B (ValueIdx.ix6 t.1 t.2.1 i t.2.2 j c) : EReal) * A (ValueIdx.ix4 t.1 t.2.1 t.2.2 c) := by
  unfold dwT
  pointwise []
  refine (zero_add _).trans ?_
  refine (Finset.sum_filter_eq_sum_of_fiber _ (fun t : Fin 24 × Fin 128 × Fin 64 => (ValueIdx.ix6 t.1 t.2.1 i t.2.2 j c : S24x128x7x64x7x192.Idx))
    (fun t u e => Prod.ext (congrFun e 0) (Prod.ext (congrFun e 1) (congrFun e 3))) (fun i => ⟨fun e => ?_, ?_⟩) _).trans ?_
  · refine ⟨(i 0, i 1, i 3), ?_⟩
    funext a
    apply Fin.ext
    match a with
    | ⟨0, _⟩ => rfl
    | ⟨1, _⟩ => rfl
    | ⟨2, _⟩ => exact (congrArg Fin.val (congrFun e ⟨0, by decide⟩)).symm
    | ⟨3, _⟩ => rfl
    | ⟨4, _⟩ => exact (congrArg Fin.val (congrFun e ⟨1, by decide⟩)).symm
    | ⟨5, _⟩ => exact (congrArg Fin.val (congrFun e ⟨2, by decide⟩)).symm
  · rintro ⟨k, rfl⟩
    funext a
    apply Fin.ext
    match a with
    | ⟨0, _⟩ => rfl
    | ⟨1, _⟩ => rfl
    | ⟨2, _⟩ => rfl
  · refine Finset.sum_congr rfl fun t _ => ?_
    pointwise []
    rfl

theorem dyT_apply (X : S24x8192x192.Idx → BitVec 8) (s : FVec Ideal S_ .f32) (b : Fin 24) (p : Fin 128) (q : Fin 64) (c : Fin 192) :
    (dyT X s (ValueIdx.ix4 b p q c) : EReal) = d5T X (ValueIdx.ix3 b (⟨p.val * 64 + q.val, by omega⟩ : Fin 8192) c) * s ValueIdx.ix0 := by
  unfold dyT
  pointwise []
  rfl

theorem xT_apply (X : S24x8192x192.Idx → BitVec 8) (s : FVec Ideal S_ .f32) (b : Fin 24) (p : Fin 128) (q : Fin 64) (c : Fin 192) :
    (xT X s (ValueIdx.ix4 b p q c) : EReal) = d4T X (ValueIdx.ix3 b (⟨p.val * 64 + q.val, by omega⟩ : Fin 8192) c) * s ValueIdx.ix0 := by
  unfold xT
  pointwise []
  rfl

theorem d5T_apply (X : S24x8192x192.Idx → BitVec 8) (y : S24x8192x192.Idx) : (d5T X y : EReal) = Ideal.ofBits .fp8e5m2 (X y) := by
  unfold d5T
  pointwise []
  generalize X y = b
  obtain ⟨h0, h1, h2, h3, h4, h5⟩ := Decode.bits5 b
  rw [h0]
  by_cases h : (b.extractLsb' 2 5).toNat = 0
  · rw [if_pos h]
    refine (if_pos (by decide)).trans ?_
    exact Decode.sub5 b _ h h2 _ h1
  · rw [if_neg h]
    refine (if_neg (by decide)).trans ?_
    exact Decode.norm5 b _ h3 h4 h5 h

theorem d4T_apply (X : S24x8192x192.Idx → BitVec 8) (y : S24x8192x192.Idx) : (d4T X y : EReal) = Ideal.ofBits .fp8e4m3 (X y) := by
  unfold d4T
  pointwise []
  generalize X y = b
  obtain ⟨h0, h1, h2, h3, h4, h5⟩ := Decode.bits4 b
  rw [h0]
  by_cases h : (b.extractLsb' 3 4).toNat = 0
  · rw [if_pos h]
    refine (if_pos (by decide)).trans ?_
    exact Decode.sub4 b _ h h2 _ h1
  · rw [if_neg h]
    refine (if_neg (by decide)).trans ?_
    exact Decode.norm4 b _ h3 h4 h5 h

end Cert.ReferenceIdeal.Val
-- ==== Proof.DxMath.lean ====
/-
  The pixel gradients: the eight blocks of the kernel's two products are the seven filter rows of the reference.
-/
module

public import proofs.«01_k».proof.Proof.HostW
public import proofs.«01_k».proof.Proof.KDx
public import proofs.«01_k».proof.Proof.RefV

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem

/-- A banded row of filter codes against a row of pixels is a row of pixels against the filter's row. -/
theorem conv_row (w : Fin 7 → EReal) (d : Fin 64 → EReal) (col : ℕ) (hcol : col < 64) :
    (∑ l : Fin 64, (if h : l.val ≤ 3 + col ∧ 3 + col - l.val < 7 then w ⟨3 + col - l.val, h.2⟩ else 0) * d l)
      = ∑ j : Fin 7, (if h : 3 ≤ col + j.val ∧ col + j.val < 67 then d ⟨col + j.val - 3, by omega⟩ else 0) * w ⟨6 - j.val, by omega⟩ := by
  have hl : ∀ l : Fin 64, (if h : l.val ≤ 3 + col ∧ 3 + col - l.val < 7 then w ⟨3 + col - l.val, h.2⟩ else 0) * d l
      = ∑ j : Fin 7, if l.val + 3 = col + j.val then d l * w ⟨6 - j.val, by omega⟩ else 0 := by
    intro l
    by_cases h : l.val ≤ 3 + col ∧ 3 + col - l.val < 7
    · rw [dif_pos h]
      by_cases h2 : col ≤ l.val + 3
      · rw [Finset.sum_eq_single (⟨l.val + 3 - col, by omega⟩ : Fin 7)]
        · rw [if_pos (by show l.val + 3 = col + (l.val + 3 - col); omega), mul_comm]
          congr 2
          exact Fin.ext (by show 3 + col - l.val = 6 - (l.val + 3 - col); omega)
        · intro j _ hj
          rw [if_neg]
          intro e
          exact hj (Fin.ext (by show j.val = l.val + 3 - col; omega))
        · intro hx; exact absurd (Finset.mem_univ _) hx
      · exfalso; omega
    · rw [dif_neg h, zero_mul]
      symm
      apply Finset.sum_eq_zero
      intro j _
      rw [if_neg]
      have := j.isLt
      omega
  have hr : ∀ j : Fin 7, (if h : 3 ≤ col + j.val ∧ col + j.val < 67 then d ⟨col + j.val - 3, by omega⟩ else 0) * w ⟨6 - j.val, by omega⟩
      = ∑ l : Fin 64, if l.val + 3 = col + j.val then d l * w ⟨6 - j.val, by omega⟩ else 0 := by
    intro j
    by_cases h : 3 ≤ col + j.val ∧ col + j.val < 67
    · rw [dif_pos h, Finset.sum_eq_single (⟨col + j.val - 3, by omega⟩ : Fin 64)]
      · rw [if_pos (by show col + j.val - 3 + 3 = _; omega)]
      · intro l _ hj
        rw [if_neg]
        intro e
        exact hj (Fin.ext (by show l.val = col + j.val - 3; omega))
      · intro hx; exact absurd (Finset.mem_univ _) hx
    · rw [dif_neg h, zero_mul]
      symm
      apply Finset.sum_eq_zero
      intro l _
      rw [if_neg]
      have := l.isLt
      omega
  rw [Finset.sum_congr rfl fun l _ => hl l, Finset.sum_congr rfl fun j _ => hr j, Finset.sum_comm]

/-- A sum over 256 lanes is four sums over 64. -/
theorem sum_tiles (f : Fin 256 → EReal) : (∑ L, f L) = ∑ e : Fin 4, ∑ l : Fin 64, f ⟨64 * e.val + l.val, by omega⟩ := by
  rw [← Finset.sum_product', ← (finProdFinEquiv (m := 4) (n := 64)).sum_comp f]
  exact Finset.sum_congr rfl fun x _ => congrArg f (Fin.ext (by simp [finProdFinEquiv]; omega))

/-- One filter row's part: sixty-four lanes from pixel `nb` on. -/
def KS (W : S7x7x192.Idx → BitVec 16) (x4 : S4x32x8192.Idx → BitVec 8) (q : Fin 4) (c' : Fin 32) (c : Fin 192) (col : ℕ) (i : Fin 8) (nb : ℕ) : EReal :=
  ∑ l : Fin 64, Ideal.ofBits .bf16 (wq W i.val (3 + col) l.val c) * Ideal.ofBits .fp8e5m2 (dpad x4 q c' (nb + l.val))

theorem bf0 : Ideal.ofBits .bf16 (0#16) = (0 : EReal) := Ideal.ofBits_zero .bf16
theorem e50 : Ideal.ofBits .fp8e5m2 (0#8) = (0 : EReal) := Ideal.ofBits_zero .fp8e5m2

theorem KS_none (W : S7x7x192.Idx → BitVec 16) (x4 : S4x32x8192.Idx → BitVec 8) (q : Fin 4) (c' : Fin 32) (c : Fin 192) (col : ℕ) (nb : ℕ) :
    KS W x4 q c' c col 7 nb = 0 := by
  unfold KS
  apply Finset.sum_eq_zero
  intro l _
  have : wq W (7 : Fin 8).val (3 + col) l.val c = 0#16 := by
    unfold wq wat
    split
    · rw [dif_neg]; intro h; exact absurd h.1 (by decide)
    · rfl
  rw [this, bf0, zero_mul]

open Cert.ReferenceIdeal.Val (winT dxT dyT d5T dyT_apply d5T_apply winT_apply dxT_apply)

/-- One filter row of the reference, before the scale. -/
def RS (W : S7x7x192.Idx → BitVec 16) (X : S24x8192x192.Idx → BitVec 8) (b : Fin 24) (c : Fin 192) (p col : ℕ) (i : Fin 7) : EReal :=
  ∑ j : Fin 7, (if h : (3 ≤ p + i.val ∧ p + i.val < 131) ∧ 3 ≤ col + j.val ∧ col + j.val < 67 then
      Ideal.ofBits .fp8e5m2 (X (ValueIdx.ix3 b (⟨(p + i.val - 3) * 64 + (col + j.val - 3), by omega⟩ : Fin 8192) c)) else 0)
    * Ideal.ofBits .bf16 (W (ValueIdx.ix3 (⟨6 - i.val, by omega⟩ : Fin 7) (⟨6 - j.val, by omega⟩ : Fin 7) c))

theorem KS_row (W : S7x7x192.Idx → BitVec 16) (X : S24x8192x192.Idx → BitVec 8) (x4 : S4x32x8192.Idx → BitVec 8) (q : Fin 4) (c' : Fin 32)
    (b : Fin 24) (c : Fin 192) (hx : ∀ n, x4 (ValueIdx.ix3 q c' n) = X (ValueIdx.ix3 b n c)) (p col : ℕ) (hcol : col < 64) (i : Fin 7) (k : Fin 8)
    (hk : k.val = 6 - i.val) (nb : ℕ) (hnb : nb = 64 * (p + i.val) + 64) :
    KS W x4 q c' c col k nb = RS W X b c p col i := by
  have hi := i.isLt
  unfold KS RS
  have := conv_row (fun t => Ideal.ofBits .bf16 (W (ValueIdx.ix3 (⟨6 - i.val, by omega⟩ : Fin 7) t c)))
    (fun l => Ideal.ofBits .fp8e5m2 (dpad x4 q c' (nb + l.val))) col hcol
  refine Eq.trans (Finset.sum_congr rfl fun l _ => ?_) (this.trans (Finset.sum_congr rfl fun j _ => ?_))
  · congr 1
    unfold wq wat
    by_cases h : l.val ≤ 3 + col
    · rw [if_pos h]
      by_cases h2 : 3 + col - l.val < 7
      · rw [dif_pos ⟨by omega, h2⟩, dif_pos ⟨h, h2⟩]
        congr 4
      · rw [dif_neg (fun z => h2 z.2), dif_neg (fun z => h2 z.2), bf0]
    · rw [if_neg h, dif_neg (fun z => h z.1), bf0]
  · congr 1
    by_cases h : 3 ≤ col + j.val ∧ col + j.val < 67
    · rw [dif_pos h]
      unfold dpad
      by_cases h2 : 3 ≤ p + i.val ∧ p + i.val < 131
      · rw [dif_pos (by show 256 ≤ nb + (col + j.val - 3) ∧ nb + (col + j.val - 3) < 8448; omega), dif_pos ⟨h2, h⟩, hx]
        congr 3
        exact Fin.ext (by show nb + (col + j.val - 3) - 256 = (p + i.val - 3) * 64 + (col + j.val - 3); omega)
      · rw [dif_neg (by show ¬ (256 ≤ nb + (col + j.val - 3) ∧ nb + (col + j.val - 3) < 8448); omega), dif_neg (fun z => h2 z.1)]
        exact e50
    · rw [dif_neg h, dif_neg (fun z => h z.2)]

/-- The reference's result is the seven rows, times the scale. -/
theorem ref_dx (W : S7x7x192.Idx → BitVec 16) (X : S24x8192x192.Idx → BitVec 8) (s : FVec Ideal S_ .f32)
    (h0 : (0 : EReal) ≤ s ValueIdx.ix0) (h1 : (s ValueIdx.ix0 : EReal) ≠ ⊤) (b : Fin 24) (n : Fin 8192) (c : Fin 192) :
    (dxT W (dyT X s) (ValueIdx.ix3 b n c) : EReal) = (∑ i : Fin 7, RS W X b c (n.val / 64) (n.val % 64) i) * (s ValueIdx.ix0 : EReal) := by
  have sm : ∀ {ι : Type} (S : Finset ι) (f : ι → EReal), (∑ t ∈ S, f t) * (s ValueIdx.ix0 : EReal) = ∑ t ∈ S, f t * (s ValueIdx.ix0 : EReal) := by
    intro ι S f
    classical
    induction S using Finset.induction_on with
    | empty => simp
    | insert a S ha ih => rw [Finset.sum_insert ha, Finset.sum_insert ha, ← ih, EReal.right_distrib_of_nonneg_of_ne_top h0 h1]
  rw [dxT_apply, Fintype.sum_prod_type, sm]
  refine Finset.sum_congr rfl fun i _ => ?_
  unfold RS
  rw [sm]
  refine Finset.sum_congr rfl fun j _ => ?_
  rw [winT_apply, mul_right_comm]
  congr 1
  by_cases h : (3 ≤ n.val / 64 + i.val ∧ n.val / 64 + i.val < 131) ∧ 3 ≤ n.val % 64 + j.val ∧ n.val % 64 + j.val < 67
  · rw [dif_pos h, dif_pos h, dyT_apply, d5T_apply]
  · rw [dif_neg h, dif_neg h, zero_mul]

/-- The kernel's result is the reference's. -/
theorem dx_point (W : S7x7x192.Idx → BitVec 16) (X : S24x8192x192.Idx → BitVec 8) (s : FVec Ideal S_ .f32)
    (h0 : (0 : EReal) ≤ s ValueIdx.ix0) (h1 : (s ValueIdx.ix0 : EReal) ≠ ⊤) (v0 : EReal) (hv : v0 = s ValueIdx.ix0)
    (x4 : S4x32x8192.Idx → BitVec 8) (x5 : S32x8x128.Idx → BitVec 32) (q : Fin 4) (c' : Fin 32) (b : Fin 24) (c : Fin 192)
    (hx : ∀ n, x4 (ValueIdx.ix3 q c' n) = X (ValueIdx.ix3 b n c))
    (hX : ∀ p u, x5 (ValueIdx.ix3 c' p u) = rowsT (words W) (ValueIdx.ix3 c p u)) (n : Fin 8192) :
    (dxOut (F := Ideal) v0 x4 x5 (ValueIdx.ix3 q c' n) : EReal) = dxT W (dyT X s) (ValueIdx.ix3 b n c) := by
  obtain ⟨j, r, sp, hh, hn⟩ : ∃ (j : Fin 64) (r : Fin 2) (sp : Fin 32) (hh : Fin 2), n.val = 128 * j.val + 64 * r.val + 2 * sp.val + hh.val :=
    ⟨⟨n.val / 128, by omega⟩, ⟨n.val % 128 / 64, by omega⟩, ⟨n.val % 64 / 2, by omega⟩, ⟨n.val % 2, by omega⟩, by
      show n.val = 128 * (n.val / 128) + 64 * (n.val % 128 / 64) + 2 * (n.val % 64 / 2) + n.val % 2; omega⟩
  rw [dxOut_apply v0 x4 x5 q c' n j r sp hh hn, ref_dx W X s h0 h1 b n c, hv]
  congr 1
  have hcol : n.val % 64 = 2 * sp.val + hh.val := by omega
  have hp : n.val / 64 = 2 * j.val + r.val := by omega
  rw [hcol, hp, sum_tiles, sum_tiles]
  have A : ∀ e : Fin 4, (∑ l : Fin 64, Ideal.ofBits .bf16 ((tval x5 c' ⟨4 * r.val + 2 * 0 + (64 * e.val + l.val) / 128, by omega⟩ sp ⟨(64 * e.val + l.val) % 128, by omega⟩).extractLsb' (16 * hh.val) 16)
            * Ideal.ofBits .fp8e5m2 (dpad x4 q c' (128 * (j.val + 1) + (64 * e.val + l.val))) : EReal)
      = KS W x4 q c' c (2 * sp.val + hh.val) (tapR ⟨4 * r.val + e.val / 2, by omega⟩ ⟨e.val % 2, by omega⟩) (128 * (j.val + 1) + 64 * e.val) := by
    intro e
    refine Finset.sum_congr rfl fun l _ => ?_
    rw [tval_half W x5 c' c hX]
    have e1 : (⟨4 * r.val + 2 * 0 + (64 * e.val + l.val) / 128, by omega⟩ : Fin 8) = ⟨4 * r.val + e.val / 2, by omega⟩ := Fin.ext (by show 4 * r.val + 2 * 0 + (64 * e.val + l.val) / 128 = 4 * r.val + e.val / 2; omega)
    have e2 : (⟨(64 * e.val + l.val) % 128 / 64, by omega⟩ : Fin 2) = ⟨e.val % 2, by omega⟩ := Fin.ext (by show (64 * e.val + l.val) % 128 / 64 = e.val % 2; omega)
    have e3 : (64 * e.val + l.val) % 128 % 64 = l.val := by omega
    have e4 : 128 * (j.val + 1) + (64 * e.val + l.val) = 128 * (j.val + 1) + 64 * e.val + l.val := by omega
    rw [e1]
    show Ideal.ofBits .bf16 (wq W (tapR _ (⟨(64 * e.val + l.val) % 128 / 64, by omega⟩ : Fin 2)).val _ ((64 * e.val + l.val) % 128 % 64) c) * _ = _
    rw [e2, e3, e4]
  have B : ∀ e : Fin 4, (∑ l : Fin 64, Ideal.ofBits .bf16 ((tval x5 c' ⟨4 * r.val + 2 * 1 + (64 * e.val + l.val) / 128, by omega⟩ sp ⟨(64 * e.val + l.val) % 128, by omega⟩).extractLsb' (16 * hh.val) 16)
            * Ideal.ofBits .fp8e5m2 (dpad x4 q c' (if 64 * e.val + l.val < 192 then 128 * (j.val + 3) + (64 * e.val + l.val) else 128 * j.val + (64 * e.val + l.val - 128))) : EReal)
      = KS W x4 q c' c (2 * sp.val + hh.val) (tapR ⟨4 * r.val + 2 + e.val / 2, by omega⟩ ⟨e.val % 2, by omega⟩)
          (if e.val < 3 then 128 * (j.val + 3) + 64 * e.val else 128 * j.val + 64) := by
    intro e
    refine Finset.sum_congr rfl fun l _ => ?_
    rw [tval_half W x5 c' c hX]
    have e1 : (⟨4 * r.val + 2 * 1 + (64 * e.val + l.val) / 128, by omega⟩ : Fin 8) = ⟨4 * r.val + 2 + e.val / 2, by omega⟩ := Fin.ext (by show 4 * r.val + 2 * 1 + (64 * e.val + l.val) / 128 = 4 * r.val + 2 + e.val / 2; omega)
    have e2 : (⟨(64 * e.val + l.val) % 128 / 64, by omega⟩ : Fin 2) = ⟨e.val % 2, by omega⟩ := Fin.ext (by show (64 * e.val + l.val) % 128 / 64 = e.val % 2; omega)
    have e3 : (64 * e.val + l.val) % 128 % 64 = l.val := by omega
    have e4 : (if 64 * e.val + l.val < 192 then 128 * (j.val + 3) + (64 * e.val + l.val) else 128 * j.val + (64 * e.val + l.val - 128))
        = (if e.val < 3 then 128 * (j.val + 3) + 64 * e.val else 128 * j.val + 64) + l.val := by
      by_cases he : e.val < 3
      · rw [if_pos (by omega), if_pos he]; omega
      · rw [if_neg (by omega), if_neg he]; omega
    rw [e1]
    show Ideal.ofBits .bf16 (wq W (tapR _ (⟨(64 * e.val + l.val) % 128 / 64, by omega⟩ : Fin 2)).val _ ((64 * e.val + l.val) % 128 % 64) c) * _ = _
    rw [e2, e3, e4]
  refine (congrArg₂ (· + ·) (Finset.sum_congr rfl fun e _ => A e) (Finset.sum_congr rfl fun e _ => B e)).trans ?_
  have K := fun (i : Fin 7) (k : Fin 8) (hk : k.val = 6 - i.val) (nb : ℕ) hnb =>
    KS_row W X x4 q c' b c hx (2 * j.val + r.val) (2 * sp.val + hh.val) (by omega) i k hk nb hnb
  rw [Fin.sum_univ_four, Fin.sum_univ_four, Fin.sum_univ_seven]
  have hr : r = 0 ∨ r = 1 := by
    rcases (by omega : r.val = 0 ∨ r.val = 1) with h | h
    · exact Or.inl (Fin.ext h)
    · exact Or.inr (Fin.ext h)
  rcases hr with rfl | rfl
  · -- the upper of the two image rows
    have k0 := K 1 5 rfl (128 * (j.val + 1) + 64 * 0) (by show _ = 64 * (2 * j.val + 0 + 1) + 64; omega)
    have k1 := K 2 4 rfl (128 * (j.val + 1) + 64 * 1) (by show _ = 64 * (2 * j.val + 0 + 2) + 64; omega)
    have k2 := K 3 3 rfl (128 * (j.val + 1) + 64 * 2) (by show _ = 64 * (2 * j.val + 0 + 3) + 64; omega)
    have k3 := K 4 2 rfl (128 * (j.val + 1) + 64 * 3) (by show _ = 64 * (2 * j.val + 0 + 4) + 64; omega)
    have k4 := K 5 1 rfl (128 * (j.val + 3) + 64 * 0) (by show _ = 64 * (2 * j.val + 0 + 5) + 64; omega)
    have k5 := K 6 0 rfl (128 * (j.val + 3) + 64 * 1) (by show _ = 64 * (2 * j.val + 0 + 6) + 64; omega)
    have k6 := KS_none W x4 q c' c (2 * sp.val + hh.val) (128 * (j.val + 3) + 64 * 2)
    have k7 := K 0 6 rfl (128 * j.val + 64) (by show _ = 64 * (2 * j.val + 0 + 0) + 64; omega)
    refine Eq.trans (b := (RS W X b c (2 * j.val + (0 : Fin 2).val) (2 * sp.val + hh.val) 1 + RS W X b c (2 * j.val + (0 : Fin 2).val) (2 * sp.val + hh.val) 2
      + RS W X b c (2 * j.val + (0 : Fin 2).val) (2 * sp.val + hh.val) 3 + RS W X b c (2 * j.val + (0 : Fin 2).val) (2 * sp.val + hh.val) 4)
      + (RS W X b c (2 * j.val + (0 : Fin 2).val) (2 * sp.val + hh.val) 5 + RS W X b c (2 * j.val + (0 : Fin 2).val) (2 * sp.val + hh.val) 6 + 0
      + RS W X b c (2 * j.val + (0 : Fin 2).val) (2 * sp.val + hh.val) 0)) ?_ ?_
    · exact congrArg₂ (· + ·) (congrArg₂ (· + ·) (congrArg₂ (· + ·) (congrArg₂ (· + ·) k0 k1) k2) k3)
        (congrArg₂ (· + ·) (congrArg₂ (· + ·) (congrArg₂ (· + ·) k4 k5) k6) k7)
    · abel
  · -- the lower
    have k0 := K 0 6 rfl (128 * (j.val + 1) + 64 * 0) (by show _ = 64 * (2 * j.val + 1 + 0) + 64; omega)
    have k1 := K 1 5 rfl (128 * (j.val + 1) + 64 * 1) (by show _ = 64 * (2 * j.val + 1 + 1) + 64; omega)
    have k2 := K 2 4 rfl (128 * (j.val + 1) + 64 * 2) (by show _ = 64 * (2 * j.val + 1 + 2) + 64; omega)
    have k3 := K 3 3 rfl (128 * (j.val + 1) + 64 * 3) (by show _ = 64 * (2 * j.val + 1 + 3) + 64; omega)
    have k4 := K 4 2 rfl (128 * (j.val + 3) + 64 * 0) (by show _ = 64 * (2 * j.val + 1 + 4) + 64; omega)
    have k5 := K 5 1 rfl (128 * (j.val + 3) + 64 * 1) (by show _ = 64 * (2 * j.val + 1 + 5) + 64; omega)
    have k6 := K 6 0 rfl (128 * (j.val + 3) + 64 * 2) (by show _ = 64 * (2 * j.val + 1 + 6) + 64; omega)
    have k7 := KS_none W x4 q c' c (2 * sp.val + hh.val) (128 * j.val + 64)
    refine Eq.trans (b := (RS W X b c (2 * j.val + (1 : Fin 2).val) (2 * sp.val + hh.val) 0 + RS W X b c (2 * j.val + (1 : Fin 2).val) (2 * sp.val + hh.val) 1
      + RS W X b c (2 * j.val + (1 : Fin 2).val) (2 * sp.val + hh.val) 2 + RS W X b c (2 * j.val + (1 : Fin 2).val) (2 * sp.val + hh.val) 3)
      + (RS W X b c (2 * j.val + (1 : Fin 2).val) (2 * sp.val + hh.val) 4 + RS W X b c (2 * j.val + (1 : Fin 2).val) (2 * sp.val + hh.val) 5
      + RS W X b c (2 * j.val + (1 : Fin 2).val) (2 * sp.val + hh.val) 6 + 0)) ?_ ?_
    · exact congrArg₂ (· + ·) (congrArg₂ (· + ·) (congrArg₂ (· + ·) (congrArg₂ (· + ·) k0 k1) k2) k3)
        (congrArg₂ (· + ·) (congrArg₂ (· + ·) (congrArg₂ (· + ·) k4 k5) k6) k7)
    · abel

end Cert.KernelIdeal.Val
-- ==== Proof.DwMath.lean ====
/-
  The arithmetic of the filter gradients: the sum over the kernel's pixels of one image row pair and tap, rearranged
  to the sum that defines the gradient.
-/
module

public import proofs.«01_k».proof.Proof.DxMath

@[expose] public section

set_option maxRecDepth 16384

noncomputable section

namespace Cert.KernelIdeal.Val

open Idealize.ShloMosaic

/-- A finite sum times a factor that is not negative and not infinite. -/
theorem sum_mul_fin {ι : Type} (S : Finset ι) (f : ι → EReal) (c : EReal) (h0 : 0 ≤ c) (h1 : c ≠ ⊤) : (∑ i ∈ S, f i) * c = ∑ i ∈ S, f i * c := by
  classical
  induction S using Finset.induction_on with
  | empty => simp
  | insert a S ha ih => rw [Finset.sum_insert ha, Finset.sum_insert ha, EReal.right_distrib_of_nonneg_of_ne_top h0 h1, ih]

/-- A sum with at most one term that counts, over two indices. -/
theorem sum_pick {n : ℕ} (P : Fin n → Prop) [DecidablePred P] (f : Fin n → EReal) (a : Fin n) (ha : P a) (hu : ∀ b, P b → b = a) :
    (∑ b, if P b then f b else 0) = f a := by
  rw [Finset.sum_eq_single a]
  · rw [if_pos ha]
  · intro b _ hb; rw [if_neg fun h => hb (hu b h)]
  · intro h; exact absurd (Finset.mem_univ a) h

theorem sum_none {n : ℕ} (P : Fin n → Prop) [DecidablePred P] (f : Fin n → EReal) (hu : ∀ b, ¬ P b) :
    (∑ b, if P b then f b else 0) = 0 :=
  Finset.sum_eq_zero fun b _ => if_neg (hu b)

/-- One pixel of the incoming gradient against the window's pixel. -/
theorem ref_term (x : Fin 128 → Fin 64 → EReal) (d : EReal) (i j : Fin 7) (P : Fin 128) (Q : Fin 64) :
    (if h : (3 ≤ P.val + i.val ∧ P.val + i.val < 131) ∧ 3 ≤ Q.val + j.val ∧ Q.val + j.val < 67 then
        x (⟨P.val + i.val - 3, by omega⟩ : Fin 128) (⟨Q.val + j.val - 3, by omega⟩ : Fin 64) else 0) * d
      = ∑ p : Fin 128, ∑ c : Fin 64, if p.val + 3 = P.val + i.val ∧ c.val + 3 = Q.val + j.val then x p c * d else 0 := by
  have e : ∀ p : Fin 128, (∑ c : Fin 64, if p.val + 3 = P.val + i.val ∧ c.val + 3 = Q.val + j.val then x p c * d else 0)
      = if p.val + 3 = P.val + i.val then (∑ c : Fin 64, if c.val + 3 = Q.val + j.val then x p c * d else 0) else 0 := by
    intro p
    by_cases h : p.val + 3 = P.val + i.val
    · simp only [h, true_and, if_true]
    · simp only [h, false_and, if_false, Finset.sum_const_zero]
  simp only [e]
  by_cases h : (3 ≤ P.val + i.val ∧ P.val + i.val < 131) ∧ 3 ≤ Q.val + j.val ∧ Q.val + j.val < 67
  · rw [dif_pos h, sum_pick _ _ (⟨P.val + i.val - 3, by omega⟩ : Fin 128) (by show P.val + i.val - 3 + 3 = _; omega) (fun b hb => Fin.ext (by show b.val = P.val + i.val - 3; omega)),
      sum_pick _ _ (⟨Q.val + j.val - 3, by omega⟩ : Fin 64) (by show Q.val + j.val - 3 + 3 = _; omega) (fun b hb => Fin.ext (by show b.val = Q.val + j.val - 3; omega))]
  · rw [dif_neg h, zero_mul]
    refine (Finset.sum_eq_zero fun p _ => ?_).symm
    split_ifs with hp
    · exact sum_none _ _ fun b hb => h ⟨⟨by omega, by omega⟩, by omega, by omega⟩
    · rfl

/-- One pixel of the input against the incoming gradient's padded image. -/
theorem ker_term (x : EReal) (D : ℕ → EReal) (d : Fin 128 → Fin 64 → EReal)
    (hD : ∀ (P : Fin 128) (Q : Fin 64), D (256 + 64 * P.val + Q.val) = d P Q) (hD0 : ∀ n, n < 256 ∨ 8448 ≤ n → D n = 0)
    (i j : Fin 7) (p : Fin 128) (c l : Fin 64) :
    (if l.val + j.val = c.val + 3 then x * D (64 * (p.val + 6 - i.val) + 64 + l.val) else 0)
      = ∑ P : Fin 128, if p.val + 3 = P.val + i.val ∧ c.val + 3 = l.val + j.val then x * d P l else 0 := by
  by_cases h : l.val + j.val = c.val + 3
  · rw [if_pos h]
    by_cases hp : i.val ≤ p.val + 3 ∧ p.val + 3 < 128 + i.val
    · rw [sum_pick _ _ (⟨p.val + 3 - i.val, by omega⟩ : Fin 128) ⟨by show _ = p.val + 3 - i.val + i.val; omega, h.symm⟩
        (fun b hb => Fin.ext (by show b.val = p.val + 3 - i.val; omega)), ← hD]
      congr 2
      show _ = 256 + 64 * (p.val + 3 - i.val) + l.val
      omega
    · rw [hD0 _ (by omega), mul_zero]
      exact (sum_none _ _ fun b hb => hp ⟨by omega, by omega⟩).symm
  · rw [if_neg h]
    exact (sum_none _ _ fun b hb => h hb.2.symm).symm

/-- One image: the two arrangements of the sum. -/
theorem image_sum (x : Fin 128 → Fin 64 → EReal) (D : ℕ → EReal) (d : Fin 128 → Fin 64 → EReal)
    (hD : ∀ (P : Fin 128) (Q : Fin 64), D (256 + 64 * P.val + Q.val) = d P Q) (hD0 : ∀ n, n < 256 ∨ 8448 ≤ n → D n = 0) (i j : Fin 7) :
    (∑ P : Fin 128, ∑ Q : Fin 64, (if h : (3 ≤ P.val + i.val ∧ P.val + i.val < 131) ∧ 3 ≤ Q.val + j.val ∧ Q.val + j.val < 67 then
        x (⟨P.val + i.val - 3, by omega⟩ : Fin 128) (⟨Q.val + j.val - 3, by omega⟩ : Fin 64) else 0) * d P Q)
      = ∑ p : Fin 128, ∑ c : Fin 64, ∑ l : Fin 64, if l.val + j.val = c.val + 3 then x p c * D (64 * (p.val + 6 - i.val) + 64 + l.val) else 0 := by
  simp only [ref_term, ker_term _ D d hD hD0 i j]
  have s1 : ∀ P : Fin 128, (∑ Q : Fin 64, ∑ p : Fin 128, ∑ c : Fin 64, if p.val + 3 = P.val + i.val ∧ c.val + 3 = Q.val + j.val then x p c * d P Q else 0)
      = ∑ p : Fin 128, ∑ c : Fin 64, ∑ Q : Fin 64, if p.val + 3 = P.val + i.val ∧ c.val + 3 = Q.val + j.val then x p c * d P Q else 0 := by
    intro P
    rw [Finset.sum_comm]
    exact Finset.sum_congr rfl fun p _ => Finset.sum_comm
  simp only [s1]
  rw [Finset.sum_comm]
  refine Finset.sum_congr rfl fun p _ => ?_
  rw [Finset.sum_comm]
  refine Finset.sum_congr rfl fun c _ => ?_
  rw [Finset.sum_comm]

/-- Splitting a sum over a product of extents. -/
theorem sum_split (a b n : ℕ) (hn : n = a * b) (f : Fin n → EReal) :
    (∑ k, f k) = ∑ u : Fin a, ∑ v : Fin b, f ⟨b * u.val + v.val, by
      subst hn; have := u.isLt; have := v.isLt
      calc b * u.val + v.val < b * u.val + b := by omega
        _ = b * (u.val + 1) := by ring
        _ ≤ b * a := Nat.mul_le_mul_left _ u.isLt
        _ = a * b := Nat.mul_comm _ _⟩ := by
  subst hn
  rw [← Finset.sum_product', ← (finProdFinEquiv (m := a) (n := b)).sum_comp f]
  exact Finset.sum_congr rfl fun x _ => congrArg f (Fin.ext (by simp [finProdFinEquiv]; ring))

/-- The band of a correlation: eight row groups of eight rows are its sixty-four rows. -/
theorem band_rows (g : Fin 64 → Fin 64 → EReal) (j : Fin 7) :
    (∑ s : Fin 8, ∑ l : Fin 64, ∑ kk : Fin 8, if l.val + j.val = 8 * kk.val + s.val + 3 then g ⟨8 * kk.val + s.val, by omega⟩ l else 0)
      = ∑ c : Fin 64, ∑ l : Fin 64, if l.val + j.val = c.val + 3 then g c l else 0 := by
  rw [sum_split 8 8 64 rfl (fun c : Fin 64 => ∑ l : Fin 64, if l.val + j.val = c.val + 3 then g c l else 0)]
  rw [Finset.sum_comm]
  have s1 : ∀ l : Fin 64, (∑ s : Fin 8, ∑ kk : Fin 8, if l.val + j.val = 8 * kk.val + s.val + 3 then g ⟨8 * kk.val + s.val, by omega⟩ l else 0)
      = ∑ kk : Fin 8, ∑ s : Fin 8, if l.val + j.val = 8 * kk.val + s.val + 3 then g ⟨8 * kk.val + s.val, by omega⟩ l else 0 := fun l => Finset.sum_comm
  simp only [s1]
  rw [Finset.sum_comm]
  refine Finset.sum_congr rfl fun c _ => ?_
  rw [Finset.sum_comm]

/-- The tap row of a row parity, a half of the windows and a half of the lanes; seven for none. -/
def tapI (p : Fin 8) (h : Fin 2) : ℕ := ![![5, 4], ![3, 2], ![1, 0], ![7, 6], ![6, 5], ![4, 3], ![2, 1], ![0, 7]] p h

/-- Each row parity meets each tap row once. -/
theorem tap_once (i : Fin 7) (E : Fin 2 → EReal) :
    (∑ p : Fin 8, ∑ h : Fin 2, if tapI p h = i.val then E ⟨p.val / 4, by omega⟩ else 0) = ∑ r, E r := by
  fin_cases i <;> simp [Fin.sum_univ_eight, Fin.sum_univ_two, tapI]

end Cert.KernelIdeal.Val

end
-- ==== Proof.DwSel.lean ====
/-
  The filter gradients of the kernel: the gathering matrices, the masks of the band and the accumulator, element by
  element.
-/
module

public import proofs.«01_k».proof.Proof.Run
public import proofs.«01_k».proof.Proof.DwMath

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem

/-- The constant by which the kernel writes a tap row; minus one hundred for none. -/
def tapC (i : Fin 8) : BitVec 32 := ![0#32, 1#32, 2#32, 3#32, 4#32, 5#32, 6#32, 4294967196#32] i

theorem tapJ_val : ∀ (s : Fin 8) (l : Fin 128), tapJ (BitVec.ofNat 32 s.val) (ValueIdx.ix2 l 0) = BitVec.ofInt 32 (6 - (((l.val % 64 + 11 - s.val) % 8 : ℕ) : ℤ)) := by
  decide +kernel

theorem low_val : ∀ l : Fin 128, cmpi .slt (iota .tc S128x128 32 [0] iota_S128x128_d0_w32) (broadcast S128x128 64#32) (ValueIdx.ix2 l 0) = if l.val < 64 then 1#1 else 0#1 := by
  decide +kernel

/-- One bit of a gathering matrix, from the tap row, the tap column and the output lane. -/
def selB (i t o : BitVec 32) : BitVec 1 :=
  IntOp.andi (IntOp.cmpi .eq (IntOp.addi (IntOp.muli i 7#32) t) o) (IntOp.cmpi .sge t 0#32)

theorem selB_val : ∀ (ii : Fin 8) (d : Fin 8) (i j : Fin 7), selB (tapC ii) (BitVec.ofInt 32 (6 - (d.val : ℤ))) (BitVec.ofNat 32 (7 * i.val + j.val))
    = if ii.val = i.val ∧ j.val + d.val = 6 then 1#1 else 0#1 := by
  decide +kernel

theorem iota0_val : ∀ l o : Fin 128, iota .tc S128x128 32 [0] iota_S128x128_d0_w32 (ValueIdx.ix2 l o) = BitVec.ofNat 32 l.val := by
  decide +kernel
theorem iota1_val : ∀ l o : Fin 128, iota .tc S128x128 32 [1] iota_S128x128_d1_w32 (ValueIdx.ix2 l o) = BitVec.ofNat 32 o.val := by
  decide +kernel

theorem pmod_congr (x y : IVec S128x128 32) (M : BitVec 32) (j j' : S128x128.Idx) (h : x j = y j') : pmod x M j = pmod y M j' := by
  unfold pmod
  simp only [Idealize.ShloMosaic.select, andi, xori, cmpi, addi, remsi, broadcast, broadcastTo, h]

theorem tapJ_row (s : BitVec 32) (l o : Fin 128) : tapJ s (ValueIdx.ix2 l o) = tapJ s (ValueIdx.ix2 l 0) := by
  unfold tapJ
  refine congrArg (fun z => IntOp.subi 3#32 (IntOp.subi z 3#32)) ?_
  refine pmod_congr _ _ _ _ _ ?_
  refine congrArg (fun z => IntOp.addi (IntOp.subi z s) 3#32) ?_
  refine pmod_congr _ _ _ _ _ ?_
  rw [iota0_val, iota0_val]

theorem selV_eq (s i0 i1 : BitVec 32) (l o : Fin 128) :
    selV s i0 i1 (ValueIdx.ix2 l o) = selB (if l.val < 64 then i0 else i1) (tapJ s (ValueIdx.ix2 l 0)) (BitVec.ofNat 32 o.val) := by
  have h : selV s i0 i1 (ValueIdx.ix2 l o) = selB (Scalar.select (cmpi .slt (iota .tc S128x128 32 [0] iota_S128x128_d0_w32) (broadcast S128x128 64#32) (ValueIdx.ix2 l o)) i0 i1)
      (tapJ s (ValueIdx.ix2 l o)) (iota .tc S128x128 32 [1] iota_S128x128_d1_w32 (ValueIdx.ix2 l o)) := by
    unfold selV
    generalize tapJ s = T
    rfl
  have h2 : cmpi .slt (iota .tc S128x128 32 [0] iota_S128x128_d0_w32) (broadcast S128x128 64#32) (ValueIdx.ix2 l o)
      = cmpi .slt (iota .tc S128x128 32 [0] iota_S128x128_d0_w32) (broadcast S128x128 64#32) (ValueIdx.ix2 l 0) := by
    show IntOp.cmpi .slt _ _ = IntOp.cmpi .slt _ _
    rw [iota0_val, iota0_val]
    rfl
  rw [h, h2, low_val, tapJ_row, iota1_val]
  split_ifs <;> rfl

theorem selM_apply (s : Fin 8) (ii0 ii1 : Fin 8) (l o : Fin 128) (i j : Fin 7) (ho : o.val = 7 * i.val + j.val) :
    (selM (F := Ideal) (BitVec.ofNat 32 s.val) (tapC ii0) (tapC ii1) (ValueIdx.ix2 l o) : EReal)
      = if (if l.val < 64 then ii0.val else ii1.val) = i.val ∧ j.val + (l.val % 64 + 11 - s.val) % 8 = 6 then 1 else 0 := by
  have h : (selM (F := Ideal) (BitVec.ofNat 32 s.val) (tapC ii0) (tapC ii1) (ValueIdx.ix2 l o) : EReal)
      = (((BitVec.setWidth 32 (selV (BitVec.ofNat 32 s.val) (tapC ii0) (tapC ii1) (ValueIdx.ix2 l o))).toInt : ℝ) : EReal) := rfl
  have e : (if l.val < 64 then tapC ii0 else tapC ii1) = tapC (if l.val < 64 then ii0 else ii1) := by split_ifs <;> rfl
  have e2 : (if l.val < 64 then ii0 else ii1).val = (if l.val < 64 then ii0.val else ii1.val) := by split_ifs <;> rfl
  rw [h, selV_eq, tapJ_val, e, ho, selB_val _ (⟨(l.val % 64 + 11 - s.val) % 8, by omega⟩ : Fin 8) i j, e2]
  split_ifs <;> simp

theorem totS_apply (T a : FVec Ideal S32x128 .f32) (s i0 i1 : BitVec 32) (c : Fin 32) (o : Fin 128) :
    (totS T a s i0 i1 (ValueIdx.ix2 c o) : EReal) = T (ValueIdx.ix2 c o) + (∑ l : Fin 128, a (ValueIdx.ix2 c l) * selM (F := Ideal) s i0 i1 (ValueIdx.ix2 l o) : EReal) := by
  unfold totS
  generalize selM (F := Ideal) s i0 i1 = M
  pointwise []
  rfl

theorem totG0_apply (L : Fin 64 → FVec Ideal S32x128 .f32) (T : FVec Ideal S32x128 .f32) (c : Fin 32) (o : Fin 128) :
    (totG0 L T (ValueIdx.ix2 c o) : EReal) = T (ValueIdx.ix2 c o) + (∑ s : Fin 8, ∑ l : Fin 128, L ⟨8 * 0 + s.val, by omega⟩ (ValueIdx.ix2 c l)
      * selM (F := Ideal) (BitVec.ofNat 32 s.val) (tapC 5) (tapC 4) (ValueIdx.ix2 l o) : EReal) := by
  unfold totG0
  simp only [totS_apply, Fin.sum_univ_eight, ← add_assoc]
  rfl

theorem totG1_apply (L : Fin 64 → FVec Ideal S32x128 .f32) (T : FVec Ideal S32x128 .f32) (c : Fin 32) (o : Fin 128) :
    (totG1 L T (ValueIdx.ix2 c o) : EReal) = T (ValueIdx.ix2 c o) + (∑ s : Fin 8, ∑ l : Fin 128, L ⟨8 * 1 + s.val, by omega⟩ (ValueIdx.ix2 c l)
      * selM (F := Ideal) (BitVec.ofNat 32 s.val) (tapC 3) (tapC 2) (ValueIdx.ix2 l o) : EReal) := by
  unfold totG1
  simp only [totS_apply, Fin.sum_univ_eight, ← add_assoc]
  rfl

theorem totG2_apply (L : Fin 64 → FVec Ideal S32x128 .f32) (T : FVec Ideal S32x128 .f32) (c : Fin 32) (o : Fin 128) :
    (totG2 L T (ValueIdx.ix2 c o) : EReal) = T (ValueIdx.ix2 c o) + (∑ s : Fin 8, ∑ l : Fin 128, L ⟨8 * 2 + s.val, by omega⟩ (ValueIdx.ix2 c l)
      * selM (F := Ideal) (BitVec.ofNat 32 s.val) (tapC 1) (tapC 0) (ValueIdx.ix2 l o) : EReal) := by
  unfold totG2
  simp only [totS_apply, Fin.sum_univ_eight, ← add_assoc]
  rfl

theorem totG3_apply (L : Fin 64 → FVec Ideal S32x128 .f32) (T : FVec Ideal S32x128 .f32) (c : Fin 32) (o : Fin 128) :
    (totG3 L T (ValueIdx.ix2 c o) : EReal) = T (ValueIdx.ix2 c o) + (∑ s : Fin 8, ∑ l : Fin 128, L ⟨8 * 3 + s.val, by omega⟩ (ValueIdx.ix2 c l)
      * selM (F := Ideal) (BitVec.ofNat 32 s.val) (tapC 7) (tapC 6) (ValueIdx.ix2 l o) : EReal) := by
  unfold totG3
  simp only [totS_apply, Fin.sum_univ_eight, ← add_assoc]
  rfl

theorem totG4_apply (L : Fin 64 → FVec Ideal S32x128 .f32) (T : FVec Ideal S32x128 .f32) (c : Fin 32) (o : Fin 128) :
    (totG4 L T (ValueIdx.ix2 c o) : EReal) = T (ValueIdx.ix2 c o) + (∑ s : Fin 8, ∑ l : Fin 128, L ⟨8 * 4 + s.val, by omega⟩ (ValueIdx.ix2 c l)
      * selM (F := Ideal) (BitVec.ofNat 32 s.val) (tapC 6) (tapC 5) (ValueIdx.ix2 l o) : EReal) := by
  unfold totG4
  simp only [totS_apply, Fin.sum_univ_eight, ← add_assoc]
  rfl

theorem totG5_apply (L : Fin 64 → FVec Ideal S32x128 .f32) (T : FVec Ideal S32x128 .f32) (c : Fin 32) (o : Fin 128) :
    (totG5 L T (ValueIdx.ix2 c o) : EReal) = T (ValueIdx.ix2 c o) + (∑ s : Fin 8, ∑ l : Fin 128, L ⟨8 * 5 + s.val, by omega⟩ (ValueIdx.ix2 c l)
      * selM (F := Ideal) (BitVec.ofNat 32 s.val) (tapC 4) (tapC 3) (ValueIdx.ix2 l o) : EReal) := by
  unfold totG5
  simp only [totS_apply, Fin.sum_univ_eight, ← add_assoc]
  rfl

theorem totG6_apply (L : Fin 64 → FVec Ideal S32x128 .f32) (T : FVec Ideal S32x128 .f32) (c : Fin 32) (o : Fin 128) :
    (totG6 L T (ValueIdx.ix2 c o) : EReal) = T (ValueIdx.ix2 c o) + (∑ s : Fin 8, ∑ l : Fin 128, L ⟨8 * 6 + s.val, by omega⟩ (ValueIdx.ix2 c l)
      * selM (F := Ideal) (BitVec.ofNat 32 s.val) (tapC 2) (tapC 1) (ValueIdx.ix2 l o) : EReal) := by
  unfold totG6
  simp only [totS_apply, Fin.sum_univ_eight, ← add_assoc]
  rfl

theorem totG7_apply (L : Fin 64 → FVec Ideal S32x128 .f32) (T : FVec Ideal S32x128 .f32) (c : Fin 32) (o : Fin 128) :
    (totG7 L T (ValueIdx.ix2 c o) : EReal) = T (ValueIdx.ix2 c o) + (∑ s : Fin 8, ∑ l : Fin 128, L ⟨8 * 7 + s.val, by omega⟩ (ValueIdx.ix2 c l)
      * selM (F := Ideal) (BitVec.ofNat 32 s.val) (tapC 0) (tapC 7) (ValueIdx.ix2 l o) : EReal) := by
  unfold totG7
  simp only [totS_apply, Fin.sum_univ_eight, ← add_assoc]
  rfl

/-- The tap rows of the eight groups. -/
def rowA (p : Fin 8) : Fin 8 := ![5, 3, 1, 7, 6, 4, 2, 0] p
def rowB (p : Fin 8) : Fin 8 := ![4, 2, 0, 6, 5, 3, 1, 7] p

theorem totAll_apply (L : Fin 64 → FVec Ideal S32x128 .f32) (c : Fin 32) (o : Fin 128) :
    (totAll L (ValueIdx.ix2 c o) : EReal) = (∑ p : Fin 8, ∑ s : Fin 8, ∑ l : Fin 128, L ⟨8 * p.val + s.val, by omega⟩ (ValueIdx.ix2 c l)
      * selM (F := Ideal) (BitVec.ofNat 32 s.val) (tapC (rowA p)) (tapC (rowB p)) (ValueIdx.ix2 l o) : EReal) := by
  unfold totAll
  rw [totG7_apply, totG6_apply, totG5_apply, totG4_apply, totG3_apply, totG2_apply, totG1_apply, totG0_apply]
  have z : (tot0 (F := Ideal) (ValueIdx.ix2 c o) : EReal) = 0 := Ideal.ofBits_zero .f32
  rw [z, zero_add]
  refine Eq.trans ?_ (Fin.sum_univ_eight _).symm
  rfl

theorem rowAB (p : Fin 8) (l : Fin 128) : (if l.val < 64 then (rowA p).val else (rowB p).val) = tapI p ⟨l.val / 64, by omega⟩ := by
  by_cases h : l.val < 64
  · rw [if_pos h, show (⟨l.val / 64, by omega⟩ : Fin 2) = 0 from Fin.ext (by show l.val / 64 = 0; omega)]
    fin_cases p <;> rfl
  · rw [if_neg h, show (⟨l.val / 64, by omega⟩ : Fin 2) = 1 from Fin.ext (by show l.val / 64 = 1; omega)]
    fin_cases p <;> rfl

theorem masks_val : ∀ (kk s : Fin 8) (l : Fin 128), masks kk (ValueIdx.ix2 s l) = if 8 * kk.val + s.val ≤ l.val % 64 + 3 ∧ l.val % 64 ≤ 8 * kk.val + s.val + 3 then 1#1 else 0#1 := by
  decide +kernel

/-- One element of the band, as a choice among eight. -/
theorem diagP_eq (g : FVec Ideal S128x256 .f32) (r k : Fin 2) (s : Fin 8) (l : Fin 128) (G : Fin 8 → EReal)
    (hG : ∀ kk : Fin 8, G kk = g (ValueIdx.ix2 (⟨64 * r.val + 8 * kk.val + s.val, by omega⟩ : Fin 128) (⟨128 * k.val + l.val, by omega⟩ : Fin 256)))
    (P : Fin 8 → Prop) [DecidablePred P] (hP : ∀ kk : Fin 8, P kk ↔ (8 * kk.val + s.val ≤ l.val % 64 + 3 ∧ l.val % 64 ≤ 8 * kk.val + s.val + 3)) :
    (diagP (F := Ideal) masks g r k s l : EReal)
      = if P 7 then G 7 else if P 6 then G 6 else if P 5 then G 5 else if P 4 then G 4 else if P 3 then G 3 else if P 2 then G 2 else if P 1 then G 1 else if P 0 then G 0 else 0 := by
  have e : (diagP (F := Ideal) masks g r k s l : EReal)
      = Scalar.select (masks 7 (ValueIdx.ix2 s l)) (G 7) (Scalar.select (masks 6 (ValueIdx.ix2 s l)) (G 6) (Scalar.select (masks 5 (ValueIdx.ix2 s l)) (G 5)
        (Scalar.select (masks 4 (ValueIdx.ix2 s l)) (G 4) (Scalar.select (masks 3 (ValueIdx.ix2 s l)) (G 3) (Scalar.select (masks 2 (ValueIdx.ix2 s l)) (G 2)
        (Scalar.select (masks 1 (ValueIdx.ix2 s l)) (G 1) (Scalar.select (masks 0 (ValueIdx.ix2 s l)) (G 0) (Ideal.ofBits .f32 0#32)))))))) := by
    simp only [hG]
    rfl
  have h : ∀ (kk : Fin 8) (a b : EReal), Scalar.select (masks kk (ValueIdx.ix2 s l)) a b = if P kk then a else b := by
    intro kk a b
    rw [masks_val]
    by_cases hp : P kk
    · rw [if_pos hp, if_pos ((hP kk).1 hp)]; rfl
    · rw [if_neg hp, if_neg fun q => hp ((hP kk).2 q)]; rfl
  rw [e]
  simp only [h]
  rw [show Ideal.ofBits .f32 0#32 = (0 : EReal) from Ideal.ofBits_zero .f32]

/-- The band's element met by a tap column: the sum over the row groups of what lies on the column's diagonal. -/
theorem diagP_sel (g : FVec Ideal S128x256 .f32) (r k : Fin 2) (s : Fin 8) (l : Fin 128) (j : Fin 7) :
    (if j.val + (l.val % 64 + 11 - s.val) % 8 = 6 then (diagP (F := Ideal) masks g r k s l : EReal) else 0)
      = ∑ kk : Fin 8, if l.val % 64 + j.val = 8 * kk.val + s.val + 3 then
          (g (ValueIdx.ix2 (⟨64 * r.val + 8 * kk.val + s.val, by omega⟩ : Fin 128) (⟨128 * k.val + l.val, by omega⟩ : Fin 256)) : EReal) else 0 := by
  rw [diagP_eq g r k s l (fun kk => g (ValueIdx.ix2 (⟨64 * r.val + 8 * kk.val + s.val, by omega⟩ : Fin 128) (⟨128 * k.val + l.val, by omega⟩ : Fin 256))) (fun _ => rfl)
    (fun kk => 8 * kk.val + s.val ≤ l.val % 64 + 3 ∧ l.val % 64 ≤ 8 * kk.val + s.val + 3) (fun _ => Iff.rfl)]
  generalize hGe : (fun kk : Fin 8 => (g (ValueIdx.ix2 (⟨64 * r.val + 8 * kk.val + s.val, by omega⟩ : Fin 128) (⟨128 * k.val + l.val, by omega⟩ : Fin 256)) : EReal)) = G
  have hg : ∀ kk : Fin 8, (g (ValueIdx.ix2 (⟨64 * r.val + 8 * kk.val + s.val, by omega⟩ : Fin 128) (⟨128 * k.val + l.val, by omega⟩ : Fin 256)) : EReal) = G kk := fun kk => congrFun hGe kk
  simp only [hg]
  clear hg hGe
  have hs := s.isLt
  have hj := j.isLt
  by_cases hd : j.val + (l.val % 64 + 11 - s.val) % 8 = 6
  · rw [if_pos hd]
    by_cases hk : ∃ kk : Fin 8, l.val % 64 + j.val = 8 * kk.val + s.val + 3
    · obtain ⟨kk, hkk⟩ := hk
      rw [sum_pick _ _ kk hkk fun b hb => Fin.ext (by omega)]
      obtain ⟨n, hn⟩ := kk
      simp only at hkk
      have q : ∀ b : Fin 8, (8 * b.val + s.val ≤ l.val % 64 + 3 ∧ l.val % 64 ≤ 8 * b.val + s.val + 3) ↔ b.val = n := fun b => ⟨fun h => by omega, fun h => by omega⟩
      simp only [q]
      clear q hkk
      interval_cases n <;> rfl
    · rw [sum_none _ _ fun b hb => hk ⟨b, hb⟩]
      have q : ∀ b : Fin 8, ¬ (8 * b.val + s.val ≤ l.val % 64 + 3 ∧ l.val % 64 ≤ 8 * b.val + s.val + 3) := fun b h => hk ⟨b, by omega⟩
      simp only [q, if_false]
  · rw [if_neg hd]
    exact (sum_none _ _ fun b hb => hd (by omega)).symm

end Cert.KernelIdeal.Val

end
-- ==== Proof.DwAcc.lean ====
/-
  The filter gradients of the kernel as one sum over images, rows and pixels.
-/
module

public import proofs.«01_k».proof.Proof.DwSel

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem

theorem swap22 {a b c d : ℕ} (f : Fin a → Fin b → Fin c → Fin d → EReal) :
    (∑ i, ∑ j, ∑ k, ∑ l, f i j k l) = ∑ k, ∑ l, ∑ i, ∑ j, f i j k l := by
  have s1 : ∀ i, (∑ j, ∑ k, ∑ l, f i j k l) = ∑ k, ∑ j, ∑ l, f i j k l := fun i => Finset.sum_comm
  simp only [s1]
  rw [Finset.sum_comm]
  refine Finset.sum_congr rfl fun k _ => ?_
  have s2 : ∀ i, (∑ j, ∑ l, f i j k l) = ∑ l, ∑ j, f i j k l := fun i => Finset.sum_comm
  simp only [s2]
  exact Finset.sum_comm

theorem swap4 {a b c d : ℕ} (f : Fin a → Fin b → Fin c → Fin d → EReal) :
    (∑ r, ∑ v, ∑ j, ∑ q, f r v j q) = ∑ v, ∑ q, ∑ j, ∑ r, f r v j q := by
  rw [Finset.sum_comm]
  refine Finset.sum_congr rfl fun v _ => ?_
  rw [Finset.sum_comm]
  have s1 : ∀ j, (∑ r, ∑ q, f r v j q) = ∑ q, ∑ r, f r v j q := fun j => Finset.sum_comm
  simp only [s1]
  exact Finset.sum_comm

theorem ite_sum2 {a b : ℕ} (P : Prop) [Decidable P] (f : Fin a → Fin b → EReal) :
    (if P then (∑ j, ∑ q, f j q) else 0) = ∑ j, ∑ q, if P then f j q else 0 := by
  by_cases h : P
  · simp only [if_pos h]
  · simp only [if_neg h, Finset.sum_const_zero]

/-- One product of the last stage. -/
theorem ker_lane (i j : Fin 7) (o : Fin 128) (ho : o.val = 7 * i.val + j.val) (G : Fin 6 → FVec Ideal S128x256 .f32) (p s : Fin 8) (h : Fin 2) (lc : Fin 64)
    (E : Fin 6 → Fin 64 → EReal)
    (hE : tapI p h = i.val → ∀ v (col : Fin 64), (G v (ValueIdx.ix2 (⟨64 * (p.val / 4) + col.val, by omega⟩ : Fin 128) (⟨128 * (p.val % 2) + (64 * h.val + lc.val), by omega⟩ : Fin 256)) : EReal) = E v col) :
    (∑ v, (diagP (F := Ideal) masks (G v) ⟨p.val / 4, by omega⟩ ⟨p.val % 2, by omega⟩ s (⟨64 * h.val + lc.val, by omega⟩ : Fin 128) : EReal))
        * selM (F := Ideal) (BitVec.ofNat 32 s.val) (tapC (rowA p)) (tapC (rowB p)) (ValueIdx.ix2 (⟨64 * h.val + lc.val, by omega⟩ : Fin 128) o)
      = if tapI p h = i.val then ∑ v, ∑ kk : Fin 8, (if lc.val + j.val = 8 * kk.val + s.val + 3 then E v ⟨8 * kk.val + s.val, by omega⟩ else 0) else 0 := by
  rw [selM_apply s _ _ _ o i j ho, rowAB]
  have e1 : (⟨(64 * h.val + lc.val) / 64, by omega⟩ : Fin 2) = h := Fin.ext (by show (64 * h.val + lc.val) / 64 = h.val; omega)
  have e2 : (64 * h.val + lc.val) % 64 = lc.val := by omega
  rw [e1]
  by_cases hi : tapI p h = i.val
  · rw [if_pos hi]
    have hl : ∀ v, (if j.val + (lc.val + 11 - s.val) % 8 = 6 then (diagP (F := Ideal) masks (G v) ⟨p.val / 4, by omega⟩ ⟨p.val % 2, by omega⟩ s (⟨64 * h.val + lc.val, by omega⟩ : Fin 128) : EReal) else 0)
        = ∑ kk : Fin 8, if lc.val + j.val = 8 * kk.val + s.val + 3 then E v ⟨8 * kk.val + s.val, by omega⟩ else 0 := by
      intro v
      have k := diagP_sel (G v) ⟨p.val / 4, by omega⟩ ⟨p.val % 2, by omega⟩ s (⟨64 * h.val + lc.val, by omega⟩ : Fin 128) j
      simp only [e2] at k
      rw [k]
      refine Finset.sum_congr rfl fun kk _ => ?_
      by_cases hk : lc.val + j.val = 8 * kk.val + s.val + 3
      · rw [if_pos hk, if_pos hk, ← hE hi]
        congr 2
        exact Fin.ext (Nat.add_assoc _ _ _)
      · rw [if_neg hk, if_neg hk]
    simp only [hi, true_and, e2, ← hl]
    by_cases hj : j.val + (lc.val + 11 - s.val) % 8 = 6
    · simp only [if_pos hj, mul_one]
    · simp only [if_neg hj, mul_zero, Finset.sum_const_zero]
  · simp only [hi, false_and, if_false, mul_zero]

/-- What the rows of one parity give. -/
def rowE (i j : Fin 7) (x : Fin 24 → Fin 128 → Fin 64 → EReal) (D : Fin 24 → ℕ → EReal) (r : Fin 2) : EReal :=
  ∑ s : Fin 8, ∑ lc : Fin 64, ∑ v : Fin 6, ∑ kk : Fin 8, if lc.val + j.val = 8 * kk.val + s.val + 3 then
          (∑ jj : Fin 64, ∑ q : Fin 4, x ⟨4 * v.val + q.val, by omega⟩ ⟨2 * jj.val + r.val, by omega⟩ ⟨8 * kk.val + s.val, by omega⟩
            * D ⟨4 * v.val + q.val, by omega⟩ (64 * ((2 * jj.val + r.val) + 6 - i.val) + 64 + lc.val)) else 0

/-- The whole sum of the last stage, rearranged. -/
theorem ker_total (i j : Fin 7) (o : Fin 128) (ho : o.val = 7 * i.val + j.val) (x : Fin 24 → Fin 128 → Fin 64 → EReal) (D : Fin 24 → ℕ → EReal)
    (G : Fin 6 → Fin 8 → FVec Ideal S128x256 .f32)
    (hG : ∀ v (p : Fin 8) (h : Fin 2), tapI p h = i.val → ∀ col lc : Fin 64,
      (G v p (ValueIdx.ix2 (⟨64 * (p.val / 4) + col.val, by omega⟩ : Fin 128) (⟨128 * (p.val % 2) + (64 * h.val + lc.val), by omega⟩ : Fin 256)) : EReal)
        = ∑ jj : Fin 64, ∑ q : Fin 4, x ⟨4 * v.val + q.val, by omega⟩ ⟨2 * jj.val + p.val / 4, by omega⟩ col
            * D ⟨4 * v.val + q.val, by omega⟩ (64 * ((2 * jj.val + p.val / 4) + 6 - i.val) + 64 + lc.val)) :
    (∑ p : Fin 8, ∑ s : Fin 8, ∑ l : Fin 128, (∑ v, (diagP (F := Ideal) masks (G v p) ⟨p.val / 4, by omega⟩ ⟨p.val % 2, by omega⟩ s l : EReal))
        * selM (F := Ideal) (BitVec.ofNat 32 s.val) (tapC (rowA p)) (tapC (rowB p)) (ValueIdx.ix2 l o))
      = ∑ b : Fin 24, ∑ p : Fin 128, ∑ c : Fin 64, ∑ l : Fin 64, if l.val + j.val = c.val + 3 then x b p c * D b (64 * (p.val + 6 - i.val) + 64 + l.val) else 0 := by
  have a1 : ∀ (p s : Fin 8), (∑ l : Fin 128, (∑ v, (diagP (F := Ideal) masks (G v p) ⟨p.val / 4, by omega⟩ ⟨p.val % 2, by omega⟩ s l : EReal))
        * selM (F := Ideal) (BitVec.ofNat 32 s.val) (tapC (rowA p)) (tapC (rowB p)) (ValueIdx.ix2 l o))
      = ∑ h : Fin 2, if tapI p h = i.val then (∑ lc : Fin 64, ∑ v : Fin 6, ∑ kk : Fin 8, if lc.val + j.val = 8 * kk.val + s.val + 3 then
          (∑ jj : Fin 64, ∑ q : Fin 4, x ⟨4 * v.val + q.val, by omega⟩ ⟨2 * jj.val + p.val / 4, by omega⟩ ⟨8 * kk.val + s.val, by omega⟩
            * D ⟨4 * v.val + q.val, by omega⟩ (64 * ((2 * jj.val + p.val / 4) + 6 - i.val) + 64 + lc.val)) else 0) else 0 := by
    intro p s
    rw [sum_split 2 64 128 rfl]
    refine Finset.sum_congr rfl fun h _ => ?_
    refine (Finset.sum_congr rfl fun lc _ => ker_lane i j o ho (fun v => G v p) p s h lc
      (fun v col => ∑ jj : Fin 64, ∑ q : Fin 4, x ⟨4 * v.val + q.val, by omega⟩ ⟨2 * jj.val + p.val / 4, by omega⟩ col
            * D ⟨4 * v.val + q.val, by omega⟩ (64 * ((2 * jj.val + p.val / 4) + 6 - i.val) + 64 + lc.val))
      (fun hi v col => hG v p h hi col lc)).trans ?_
    by_cases hi : tapI p h = i.val
    · simp only [if_pos hi]
    · simp only [if_neg hi, Finset.sum_const_zero]
  simp only [a1]
  have a2 : ∀ p : Fin 8, (∑ s : Fin 8, ∑ h : Fin 2, if tapI p h = i.val then (∑ lc : Fin 64, ∑ v : Fin 6, ∑ kk : Fin 8, if lc.val + j.val = 8 * kk.val + s.val + 3 then
          (∑ jj : Fin 64, ∑ q : Fin 4, x ⟨4 * v.val + q.val, by omega⟩ ⟨2 * jj.val + p.val / 4, by omega⟩ ⟨8 * kk.val + s.val, by omega⟩
            * D ⟨4 * v.val + q.val, by omega⟩ (64 * ((2 * jj.val + p.val / 4) + 6 - i.val) + 64 + lc.val)) else 0) else 0)
      = ∑ h : Fin 2, if tapI p h = i.val then rowE i j x D ⟨p.val / 4, by omega⟩ else 0 := by
    intro p
    rw [Finset.sum_comm]
    refine Finset.sum_congr rfl fun h _ => ?_
    by_cases hi : tapI p h = i.val
    · simp only [if_pos hi]; rfl
    · simp only [if_neg hi, Finset.sum_const_zero]
  refine (Finset.sum_congr rfl fun p _ => a2 p).trans ?_
  refine (tap_once i (rowE i j x D)).trans ?_
  have a3 : ∀ r : Fin 2, rowE i j x D r
      = ∑ v : Fin 6, ∑ jj : Fin 64, ∑ q : Fin 4, ∑ c : Fin 64, ∑ lc : Fin 64, if lc.val + j.val = c.val + 3 then
          x ⟨4 * v.val + q.val, by omega⟩ ⟨2 * jj.val + r.val, by omega⟩ c
            * D ⟨4 * v.val + q.val, by omega⟩ (64 * ((2 * jj.val + r.val) + 6 - i.val) + 64 + lc.val) else 0 := by
    intro r
    unfold rowE
    have b1 : ∀ s : Fin 8, (∑ lc : Fin 64, ∑ v : Fin 6, ∑ kk : Fin 8, if lc.val + j.val = 8 * kk.val + s.val + 3 then
          (∑ jj : Fin 64, ∑ q : Fin 4, x ⟨4 * v.val + q.val, by omega⟩ ⟨2 * jj.val + r.val, by omega⟩ ⟨8 * kk.val + s.val, by omega⟩
            * D ⟨4 * v.val + q.val, by omega⟩ (64 * ((2 * jj.val + r.val) + 6 - i.val) + 64 + lc.val)) else 0)
        = ∑ v : Fin 6, ∑ lc : Fin 64, ∑ kk : Fin 8, if lc.val + j.val = 8 * kk.val + s.val + 3 then
          (∑ jj : Fin 64, ∑ q : Fin 4, x ⟨4 * v.val + q.val, by omega⟩ ⟨2 * jj.val + r.val, by omega⟩ ⟨8 * kk.val + s.val, by omega⟩
            * D ⟨4 * v.val + q.val, by omega⟩ (64 * ((2 * jj.val + r.val) + 6 - i.val) + 64 + lc.val)) else 0 := fun s => Finset.sum_comm
    simp only [b1]
    rw [Finset.sum_comm]
    refine Finset.sum_congr rfl fun v _ => ?_
    refine (band_rows (fun c lc => ∑ jj : Fin 64, ∑ q : Fin 4, x ⟨4 * v.val + q.val, by omega⟩ ⟨2 * jj.val + r.val, by omega⟩ c
            * D ⟨4 * v.val + q.val, by omega⟩ (64 * ((2 * jj.val + r.val) + 6 - i.val) + 64 + lc.val)) j).trans ?_
    simp only [ite_sum2]
    exact swap22 _
  refine (Finset.sum_congr rfl fun r _ => a3 r).trans ?_
  refine (swap4 _).trans ?_
  rw [sum_split 6 4 24 rfl]
  refine Finset.sum_congr rfl fun v _ => Finset.sum_congr rfl fun q _ => ?_
  rw [sum_split 64 2 128 rfl]

end Cert.KernelIdeal.Val

end
-- ==== Proof.FinalV.lean ====
/-
  The blocks of the launch's inputs in terms of the arguments, and the arrays after the launch and the lines after it.
-/
module

public import proofs.«01_k».proof.Proof.Run
public import proofs.«01_k».proof.Proof.DxMath

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open Idealize.ShloMosaic.Pipeline (Dat)

theorem t_lt (t : Fin cfg0.N) : t.val < 36 := lt_of_lt_of_eq t.isLt (by decide +kernel)

section Any

variable {F : FTy → Type} [FloatOps F] [∀ e, Nonempty (Elt F e)]
variable (m : (ℓ : Loc nD τ sig) → Buf (Elt F) ℓ)

theorem xb2_apply (c : Dev nD) (t : Fin cfg0.N) (q : Fin 4) (c' : Fin 32) (n : Fin 8192) (b : Fin 24) (cc : Fin 192)
    (hb : b.val = 4 * (t.val % 6) + q.val) (hc : cc.val = 32 * (t.val / 6) + c'.val) :
    xb2 m c t (ValueIdx.ix3 q c' n) = (m ((c.tc : Thread nD τ).loc main_arg3) : S24x8192x192.Idx → BitVec 8) (ValueIdx.ix3 b n cc) := by
  unfold xb2 iblk
  refine Eq.trans (b := V m c main_v1 (ValueIdx.ix3 b cc n)) (congrArg (V m c main_v1) ?_) ?_
  · funext a
    apply Fin.ext
    blk_simp [idx2]
    obtain ⟨i, hi⟩ := a
    have hi' : i < 3 := hi
    interval_cases i
    · show t.val % 6 * 4 + q.val = b.val; omega
    · show t.val / 6 * 32 + c'.val = cc.val; omega
    · show 0 * 8192 + n.val = n.val; omega
  · rw [v1_eq]
    pointwise
    rfl

theorem xb3_apply (c : Dev nD) (t : Fin cfg0.N) (c' : Fin 32) (p : Fin 8) (u : Fin 128) (cc : Fin 192) (hc : cc.val = 32 * (t.val / 6) + c'.val) :
    xb3 m c t (ValueIdx.ix3 c' p u) = rowsT (words (m ((c.tc : Thread nD τ).loc main_arg2))) (ValueIdx.ix3 cc p u) := by
  unfold xb3 iblk
  refine Eq.trans (b := V m c main_v110 (ValueIdx.ix3 cc p u)) (congrArg (V m c main_v110) ?_) ?_
  · funext a
    apply Fin.ext
    blk_simp [idx3]
    obtain ⟨i, hi⟩ := a
    have hi' : i < 3 := hi
    interval_cases i
    · show t.val / 6 * 32 + c'.val = cc.val; omega
    · show 0 * 8 + p.val = p.val; omega
    · show 0 * 128 + u.val = u.val; omega
  · rw [v110_eq]

theorem xb0_1 (c : Dev nD) (t : Fin cfg0.N) : xb0 m c t (ValueIdx.ix1 1) = (m ((c.tc : Thread nD τ).loc main_arg4) : S_.Idx → F .f32) ValueIdx.ix0 := by
  unfold xb0 iblk
  refine Eq.trans (b := V m c main_v113 (ValueIdx.ix1 1)) (congrArg (V m c main_v113) ?_) ?_
  · funext a
    apply Fin.ext
    blk_simp [idx0]
    obtain ⟨i, hi⟩ := a
    have hi' : i < 1 := hi
    interval_cases i
    · rfl
  · rw [v113_eq]
    pointwise
    rfl

/-- The two results after the last lines, from the launch's two arrays. -/
theorem tail_dx (c : Dev nD) : Pipeline.afterTail₀ cfgs (dats m) 0 (V0 m) [hostOps1] c main_v118
    = transpose S24x8192x192 [0, 2, 1] ((dats m 0 c).arrAt 4 cfg0.N : S24x192x8192.Idx → F .bf16) transposes_S24x192x8192_S24x8192x192_0_2_1 := by
  unfold Pipeline.afterTail₀
  show StableHlo.after hostOps1 _ _ = _
  after_results_simp
  have e : Pipeline.withArrays (cfgs 0).spec c (V0 m c) (fun w => (dats m 0 c).arrAt w (cfgs 0).N) (Proc.tc.devRef main_v114_0) = (dats m 0 c).arrAt 4 cfg0.N :=
    Pipeline.withArrays_arr (cfgs 0).spec (by decide) c (V0 m c) (fun w => (dats m 0 c).arrAt w (cfgs 0).N) 4
  rw [e]

theorem tail_dw (c : Dev nD) : Pipeline.afterTail₀ cfgs (dats m) 0 (V0 m) [hostOps1] c main_v117
    = shapeCast S7x7x192 (transpose S49x192 [1, 0] (extractStridedSlice S192x49 ![0, 0] ((dats m 0 c).arrAt 5 cfg0.N : S192x128.Idx → F .f32) slices_S192x128_S192x49_0_0) transposes_S192x49_S49x192_1_0) shapeCasts_S49x192_S7x7x192 := by
  unfold Pipeline.afterTail₀
  show StableHlo.after hostOps1 _ _ = _
  after_results_simp
  have e : Pipeline.withArrays (cfgs 0).spec c (V0 m c) (fun w => (dats m 0 c).arrAt w (cfgs 0).N) (Proc.tc.devRef main_v114_1) = (dats m 0 c).arrAt 5 cfg0.N :=
    Pipeline.withArrays_arr (cfgs 0).spec (by decide) c (V0 m c) (fun w => (dats m 0 c).arrAt w (cfgs 0).N) 5
  rw [e]
  rfl

end Any

variable (m : (ℓ : Loc nD τ sig) → Buf (Elt Ideal) ℓ)

theorem arr4 (c : Dev nD) (h0 : (0 : EReal) ≤ (m ((c.tc : Thread nD τ).loc main_arg4) : S_.Idx → EReal) ValueIdx.ix0)
    (h1 : @Ne EReal ((m ((c.tc : Thread nD τ).loc main_arg4) : S_.Idx → EReal) ValueIdx.ix0) ⊤) :
    (dats m 0 c).arrAt 4 cfg0.N = fun i : S24x192x8192.Idx => (Cert.ReferenceIdeal.Val.dxT (m ((c.tc : Thread nD τ).loc main_arg2))
      (Cert.ReferenceIdeal.Val.dyT (m ((c.tc : Thread nD τ).loc main_arg3)) (m ((c.tc : Thread nD τ).loc main_arg4))) (ValueIdx.ix3 (i 0) (i 2) (i 1)) : EReal) := by
  refine (dats m 0 c).arrAt_eq_of_covers 4 _ (by decide +kernel) fun t hf y => ?_
  have hq : ((y 0 : Fin 4)).val < 4 := (y 0 : Fin 4).isLt
  have hc : ((y 1 : Fin 32)).val < 32 := (y 1 : Fin 32).isLt
  have ht := t_lt t
  have key := dx_point (m ((c.tc : Thread nD τ).loc main_arg2)) (m ((c.tc : Thread nD τ).loc main_arg3)) (m ((c.tc : Thread nD τ).loc main_arg4)) h0 h1
    (xb0 m c t (ValueIdx.ix1 1)) (xb0_1 m c t) (xb2 m c t) (xb3 m c t) (y 0 : Fin 4) (y 1 : Fin 32)
    (⟨4 * (t.val % 6) + (y 0 : Fin 4).val, by omega⟩ : Fin 24) (⟨32 * (t.val / 6) + (y 1 : Fin 32).val, by omega⟩ : Fin 192)
    (fun n => xb2_apply m c t _ _ n _ _ rfl rfl) (fun p u => xb3_apply m c t _ p u _ rfl) (y 2 : Fin 8192)
  blk_simp [idx4]
  have ey : y = ValueIdx.ix3 (y 0 : Fin 4) (y 1 : Fin 32) (y 2 : Fin 8192) := by
    funext a
    obtain ⟨i, hi⟩ := a
    have hi' : i < 3 := hi
    interval_cases i <;> rfl
  have e0 : (win0_4.blk t).view.emb y 0 = (⟨4 * (t.val % 6) + (y 0 : Fin 4).val, by omega⟩ : Fin 24) := by
    apply Fin.ext
    blk_simp [idx4]
    show t.val % 6 * 4 + (y 0 : Fin 4).val = 4 * (t.val % 6) + (y 0 : Fin 4).val
    omega
  have e1 : (win0_4.blk t).view.emb y 1 = (⟨32 * (t.val / 6) + (y 1 : Fin 32).val, by omega⟩ : Fin 192) := by
    apply Fin.ext
    blk_simp [idx4]
    show t.val / 6 * 32 + (y 1 : Fin 32).val = 32 * (t.val / 6) + (y 1 : Fin 32).val
    omega
  have e2 : (win0_4.blk t).view.emb y 2 = (y 2 : Fin 8192) := by
    apply Fin.ext
    blk_simp [idx4]
  rw [e0, e1, e2]
  refine Eq.trans ?_ key
  conv_lhs => rw [ey]
  rfl

end Cert.KernelIdeal.Val
-- ==== Proof.DwV.lean ====
/-
  The filter gradients: the launch's second array is the reference's sum.
-/
module

public import proofs.«01_k».proof.Proof.DwAcc
public import proofs.«01_k».proof.Proof.FinalV

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open Idealize.ShloMosaic.Pipeline (Dat)

/-- Row `4 j + q` of the bytes is byte `q` of word row `j`. -/
theorem one_byte (x : S64x128.Idx → BitVec 32) (i : Fin 256) (l : Fin 128) :
    bitcast S256x128 8 x bitcasts_S64x128_w32_S256x128_w8 (ValueIdx.ix2 i l)
      = byt (x (ValueIdx.ix2 (⟨i.val / 4, by omega⟩ : Fin 64) l)) (i.val % 4) := by
  apply BitVec.eq_of_getLsbD_eq
  intro k hk
  rw [bitcast_getLsbD x _ _ k hk (by decide), byt_getLsbD _ _ _ hk]
  have ep : (S256x128.row (ValueIdx.ix2 i l) * 8 + k) / 32 = i.val / 4 := by show (i.val * 8 + k) / 32 = i.val / 4; omega
  have eq : (S256x128.row (ValueIdx.ix2 i l) * 8 + k) % 32 = 8 * (i.val % 4) + k := by show (i.val * 8 + k) % 32 = _; omega
  rw [eq]
  congr 2
  funext c
  match c with
  | ⟨0, _⟩ => exact Fin.ext ((Shape.Bitcasts.srcIdx_row _ _ _ _ ⟨0, Nat.zero_lt_two⟩ rfl).trans ep)
  | ⟨1, _⟩ => rfl

theorem xa_apply (x3 : S4x32x8192.Idx → BitVec 8) (c : Fin 32) (j : Fin 64) (q : Fin 4) (n : Fin 256) (hn : n.val = 4 * j.val + q.val) (L : Fin 128) :
    (chanX (F := Ideal) (D8 x3) c) (ValueIdx.ix2 n L) = Ideal.ofBits .fp8e4m3 (dpad x3 q c (128 * (j.val + 2) + L.val)) := by
  unfold chanX k0_pay39
  show Ideal.ofBits .fp8e4m3 (bitcast S256x128 8 _ _ (ValueIdx.ix2 n L)) = _
  rw [one_byte]
  have e1 : (⟨n.val / 4, by omega⟩ : Fin 64) = j := Fin.ext (by show n.val / 4 = j.val; omega)
  have e2 : n.val % 4 = q.val := by omega
  rw [e1, e2]
  refine congrArg _ ((D8_byt x3 c (2 + j.val) (by omega) _ (by show c.val * 69 + 2 + j.val = _; omega) _ q).trans (congrArg _ ?_))
  show 128 * (2 + j.val) + L.val = _; omega

theorem g2_apply (d : FVec Ideal S256x256 .fp8e5m2) (x : FVec Ideal S256x128 .fp8e4m3) (a : Fin 128) (l : Fin 256) :
    k0_pay42 (F := Ideal) d x (ValueIdx.ix2 a l) = (∑ k : Fin 256, x (ValueIdx.ix2 k a) * d (ValueIdx.ix2 k l) : EReal) := by
  pointwise [k0_pay42]
  rfl

/-- Which block of the windows meets a tap row. -/
theorem tapI_row : ∀ (p : Fin 8) (h : Fin 2) (i : Fin 7), tapI p h = i.val →
    (p.val < 4 ∧ p.val * 2 + h.val + i.val = 5) ∨ (p.val = 3 ∧ h.val = 1 ∧ i.val = 6) ∨ (4 ≤ p.val ∧ (p.val - 4) * 2 + h.val + i.val = 6 ∧ ¬ (p.val = 7 ∧ h.val = 1)) := by
  decide

theorem row_lo (p h i jj lc : ℕ) (hp : p < 8) (hh : h < 2)
    (hr : (p < 4 ∧ p * 2 + h + i = 5) ∨ (p = 3 ∧ h = 1 ∧ i = 6) ∨ (4 ≤ p ∧ (p - 4) * 2 + h + i = 6 ∧ ¬ (p = 7 ∧ h = 1))) (hq : p % 4 / 2 = 0) :
    128 * (jj + 1) + (128 * (p % 2) + (64 * h + lc)) = 64 * ((2 * jj + p / 4) + 6 - i) + 64 + lc := by
  interval_cases p <;> omega

theorem row_hi (p h i jj lc : ℕ) (hp : p < 8) (hh : h < 2) (hl : lc < 64)
    (hr : (p < 4 ∧ p * 2 + h + i = 5) ∨ (p = 3 ∧ h = 1 ∧ i = 6) ∨ (4 ≤ p ∧ (p - 4) * 2 + h + i = 6 ∧ ¬ (p = 7 ∧ h = 1))) (hq : ¬ p % 4 / 2 = 0) :
    (if 128 * (p % 2) + (64 * h + lc) < 192 then 128 * (jj + 3) + (128 * (p % 2) + (64 * h + lc)) else 128 * jj + (128 * (p % 2) + (64 * h + lc) - 128))
      = 64 * ((2 * jj + p / 4) + 6 - i) + 64 + lc := by
  interval_cases p <;> split_ifs <;> omega

/-- One product of the correlations. -/
theorem chan_val (x3 x4 : S4x32x8192.Idx → BitVec 8) (c : Fin 32) (i : Fin 7) (p : Fin 8) (h : Fin 2) (hi : tapI p h = i.val) (col lc : Fin 64) :
    (chanG (F := Ideal) k0_pay316 (D8 x4) (D8 x3) c ⟨p.val % 4 / 2, by omega⟩ (ValueIdx.ix2 (⟨64 * (p.val / 4) + col.val, by omega⟩ : Fin 128) (⟨128 * (p.val % 2) + (64 * h.val + lc.val), by omega⟩ : Fin 256)) : EReal)
      = ∑ jj : Fin 64, ∑ q : Fin 4, Ideal.ofBits .fp8e4m3 (x3 (ValueIdx.ix3 q c (⟨(2 * jj.val + p.val / 4) * 64 + col.val, by omega⟩ : Fin 8192)))
          * Ideal.ofBits .fp8e5m2 (dpad x4 q c (64 * ((2 * jj.val + p.val / 4) + 6 - i.val) + 64 + lc.val)) := by
  have hr := tapI_row p h i hi
  have hx : ∀ (jj : Fin 64) (q : Fin 4), dpad x3 q c (128 * (jj.val + 2) + (64 * (p.val / 4) + col.val)) = x3 (ValueIdx.ix3 q c (⟨(2 * jj.val + p.val / 4) * 64 + col.val, by omega⟩ : Fin 8192)) := by
    intro jj q
    unfold dpad
    rw [dif_pos ⟨by omega, by omega⟩]
    exact congrArg (fun z => x3 (ValueIdx.ix3 q c z)) (Fin.ext (by show 128 * (jj.val + 2) + (64 * (p.val / 4) + col.val) - 256 = (2 * jj.val + p.val / 4) * 64 + col.val; omega))
  unfold chanG
  by_cases hq : p.val % 4 / 2 = 0
  · rw [if_pos hq, g_apply, sum_split 64 4 256 rfl]
    refine Finset.sum_congr rfl fun jj _ => Finset.sum_congr rfl fun q _ => ?_
    rw [xa_apply x3 c jj q _ rfl, da_apply x4 c jj q _ rfl, hx]
    congr 3
    exact row_lo p.val h.val i.val jj.val lc.val p.isLt h.isLt hr hq
  · rw [if_neg hq, g2_apply, sum_split 64 4 256 rfl]
    refine Finset.sum_congr rfl fun jj _ => Finset.sum_congr rfl fun q _ => ?_
    rw [xa_apply x3 c jj q _ rfl, db_apply x4 c jj q _ rfl, hx]
    congr 3
    exact row_hi p.val h.val i.val jj.val lc.val p.isLt h.isLt lc.isLt hr hq

variable (m : (ℓ : Loc nD τ sig) → Buf (Elt Ideal) ℓ)

theorem xb1_apply (c : Dev nD) (t : Fin cfg0.N) (q : Fin 4) (c' : Fin 32) (n : Fin 8192) (b : Fin 24) (cc : Fin 192)
    (hb : b.val = 4 * (t.val % 6) + q.val) (hc : cc.val = 32 * (t.val / 6) + c'.val) :
    xb1 m c t (ValueIdx.ix3 q c' n) = (m ((c.tc : Thread nD τ).loc main_arg0) : S24x8192x192.Idx → BitVec 8) (ValueIdx.ix3 b n cc) := by
  unfold xb1 iblk
  refine Eq.trans (b := V m c main_v0 (ValueIdx.ix3 b cc n)) (congrArg (V m c main_v0) ?_) ?_
  · funext a
    apply Fin.ext
    blk_simp [idx1]
    obtain ⟨i, hi⟩ := a
    have hi' : i < 3 := hi
    interval_cases i
    · show t.val % 6 * 4 + q.val = b.val; omega
    · show t.val / 6 * 32 + c'.val = cc.val; omega
    · show 0 * 8192 + n.val = n.val; omega
  · rw [v0_eq]
    pointwise
    rfl

theorem xb0_0 (c : Dev nD) (t : Fin cfg0.N) : xb0 m c t (ValueIdx.ix1 0) = (m ((c.tc : Thread nD τ).loc main_arg1) : S_.Idx → EReal) ValueIdx.ix0 := by
  unfold xb0 iblk
  refine Eq.trans (b := V m c main_v113 (ValueIdx.ix1 0)) (congrArg (V m c main_v113) ?_) ?_
  · funext a
    apply Fin.ext
    blk_simp [idx0]
    obtain ⟨i, hi⟩ := a
    have hi' : i < 1 := hi
    interval_cases i
    · rfl
  · rw [v113_eq]
    pointwise
    rfl

/-- What point `n` adds to the accumulator. -/
def addT (c : Dev nD) (n : ℕ) (j : S2048x128.Idx) : EReal :=
  if h : n < cfg0.N then chanT (F := Ideal) masks k0_pay316 (D8 (xb2 m c ⟨n, h⟩)) (D8 (xb1 m c ⟨n, h⟩)) ⟨(j 0).val / 64, by have : (j 0).val < 2048 := (j 0).isLt; omega⟩
    ⟨(j 0).val % 64 / 8, by omega⟩ ⟨(j 0).val % 8, by omega⟩ (j 1) else 0

theorem accum_step (c : Dev nD) (n : ℕ) (h : n < cfg0.N) (j : S2048x128.Idx) :
    (accS m c (n + 1) j : EReal) = (if n % 6 = 0 then 0 else accS m c n j) + addT m c n j := by
  rw [accS_succ m c ⟨n, h⟩]
  unfold accAt accNext addT
  rw [dif_pos h]
  by_cases h6 : n % 6 = 0
  · rw [if_pos h6, if_pos ((cond1_iff ⟨n, h⟩).2 h6)]
    refine congrArg (fun z : EReal => z + _) ?_
    exact Ideal.ofBits_zero .f32
  · rw [if_neg h6, if_neg fun e => h6 ((cond1_iff ⟨n, h⟩).1 e)]
    rfl

theorem accum_sum (c : Dev nD) (g : ℕ) (hg : g < 6) (j : S2048x128.Idx) : (accS m c (6 * g + 5 + 1) j : EReal) = ∑ v : Fin 6, addT m c (6 * g + v.val) j := by
  have hN : cfg0.N = 36 := by decide +kernel
  have k : ∀ v : ℕ, v < 6 → (accS m c (6 * g + v + 1) j : EReal) = (if v = 0 then 0 else accS m c (6 * g + v) j) + addT m c (6 * g + v) j := by
    intro v hv
    rw [accum_step m c (6 * g + v) (by omega) j]
    have : (6 * g + v) % 6 = v := by omega
    rw [this]
  rw [k 5 (by omega), if_neg (by omega), k 4 (by omega), if_neg (by omega), k 3 (by omega), if_neg (by omega), k 2 (by omega), if_neg (by omega),
    k 1 (by omega), if_neg (by omega), k 0 (by omega), if_pos rfl, zero_add, Fin.sum_univ_six]
  rfl

/-- The element of the launch's second array at the last point of a channel group. -/
theorem dw_point (c : Dev nD) (h0 : (0 : EReal) ≤ (m ((c.tc : Thread nD τ).loc main_arg1) : S_.Idx → EReal) ValueIdx.ix0)
    (h1 : @Ne EReal ((m ((c.tc : Thread nD τ).loc main_arg1) : S_.Idx → EReal) ValueIdx.ix0) ⊤)
    (h0' : (0 : EReal) ≤ (m ((c.tc : Thread nD τ).loc main_arg4) : S_.Idx → EReal) ValueIdx.ix0)
    (h1' : @Ne EReal ((m ((c.tc : Thread nD τ).loc main_arg4) : S_.Idx → EReal) ValueIdx.ix0) ⊤)
    (t : Fin cfg0.N) (ht : t.val % 6 = 5) (c' : Fin 32) (o : Fin 128) (i j : Fin 7) (ho : o.val = 7 * i.val + j.val) (cc : Fin 192) (hc : cc.val = 32 * (t.val / 6) + c'.val) :
    (finL (F := Ideal) (acol (accS m c (t.val + 1))) (xb0 m c t (ValueIdx.ix1 0)) (xb0 m c t (ValueIdx.ix1 1)) (ValueIdx.ix2 c' o) : EReal)
      = Cert.ReferenceIdeal.Val.dwT (Cert.ReferenceIdeal.Val.xT (m ((c.tc : Thread nD τ).loc main_arg0)) (m ((c.tc : Thread nD τ).loc main_arg1)))
          (Cert.ReferenceIdeal.Val.dyT (m ((c.tc : Thread nD τ).loc main_arg3)) (m ((c.tc : Thread nD τ).loc main_arg4))) (ValueIdx.ix3 i j cc) := by
  have hN : cfg0.N = 36 := by decide +kernel
  have ht36 := t_lt t
  have htg : t.val = 6 * (t.val / 6) + 5 := by omega
  have hg : t.val / 6 < 6 := by omega
  rw [xb0_0, xb0_1]
  generalize hX : (m ((c.tc : Thread nD τ).loc main_arg0) : S24x8192x192.Idx → BitVec 8) = X
  generalize hY : (m ((c.tc : Thread nD τ).loc main_arg3) : S24x8192x192.Idx → BitVec 8) = Y
  generalize hs : (m ((c.tc : Thread nD τ).loc main_arg1) : S_.Idx → EReal) = xs at *
  generalize hs' : (m ((c.tc : Thread nD τ).loc main_arg4) : S_.Idx → EReal) = ds at *
  -- the pixels and the padded gradient, image by image
  let x : Fin 24 → Fin 128 → Fin 64 → EReal := fun b p q => Ideal.ofBits .fp8e4m3 (X (ValueIdx.ix3 b (⟨p.val * 64 + q.val, by omega⟩ : Fin 8192) cc))
  let d : Fin 24 → Fin 128 → Fin 64 → EReal := fun b p q => Ideal.ofBits .fp8e5m2 (Y (ValueIdx.ix3 b (⟨p.val * 64 + q.val, by omega⟩ : Fin 8192) cc))
  let T : Fin 6 → Fin cfg0.N := fun v => ⟨6 * (t.val / 6) + v.val, by omega⟩
  let D : Fin 24 → ℕ → EReal := fun b n => Ideal.ofBits .fp8e5m2 (dpad (xb2 m c (T ⟨b.val / 4, by omega⟩)) ⟨b.val % 4, by omega⟩ c' n)
  have hD : ∀ b (P : Fin 128) (Q : Fin 64), D b (256 + 64 * P.val + Q.val) = d b P Q := by
    intro b P Q
    show Ideal.ofBits .fp8e5m2 (dpad _ _ _ _) = Ideal.ofBits .fp8e5m2 _
    unfold dpad
    rw [dif_pos ⟨by omega, by omega⟩, xb2_apply m c (T ⟨b.val / 4, by omega⟩) _ c' _ b cc (by show b.val = 4 * ((6 * (t.val / 6) + b.val / 4) % 6) + b.val % 4; omega)
      (by show cc.val = 32 * ((6 * (t.val / 6) + b.val / 4) / 6) + c'.val; omega), hY]
    exact congrArg (fun z => Ideal.ofBits .fp8e5m2 (Y (ValueIdx.ix3 b z cc))) (Fin.ext (by show 256 + 64 * P.val + Q.val - 256 = P.val * 64 + Q.val; omega))
  have hD0 : ∀ b n, n < 256 ∨ 8448 ≤ n → D b n = 0 := by
    intro b n hn
    show Ideal.ofBits .fp8e5m2 (dpad _ _ _ _) = 0
    unfold dpad
    rw [dif_neg (by omega)]
    exact e50
  let G : Fin 6 → Fin 8 → FVec Ideal S128x256 .f32 := fun v p => chanG (F := Ideal) k0_pay316 (D8 (xb2 m c (T v))) (D8 (xb1 m c (T v))) c' ⟨p.val % 4 / 2, by omega⟩
  have hG : ∀ v (p : Fin 8) (h : Fin 2), tapI p h = i.val → ∀ col lc : Fin 64,
      (G v p (ValueIdx.ix2 (⟨64 * (p.val / 4) + col.val, by omega⟩ : Fin 128) (⟨128 * (p.val % 2) + (64 * h.val + lc.val), by omega⟩ : Fin 256)) : EReal)
        = ∑ jj : Fin 64, ∑ q : Fin 4, x ⟨4 * v.val + q.val, by omega⟩ ⟨2 * jj.val + p.val / 4, by omega⟩ col
            * D ⟨4 * v.val + q.val, by omega⟩ (64 * ((2 * jj.val + p.val / 4) + 6 - i.val) + 64 + lc.val) := by
    intro v p h hi col lc
    refine (chan_val (xb1 m c (T v)) (xb2 m c (T v)) c' i p h hi col lc).trans ?_
    refine Finset.sum_congr rfl fun jj _ => Finset.sum_congr rfl fun q _ => ?_
    rw [xb1_apply m c (T v) q c' _ (⟨4 * v.val + q.val, by omega⟩ : Fin 24) cc (by show 4 * v.val + q.val = 4 * ((6 * (t.val / 6) + v.val) % 6) + q.val; omega)
      (by show cc.val = 32 * ((6 * (t.val / 6) + v.val) / 6) + c'.val; omega), hX]
    have e1 : (⟨(4 * v.val + q.val) / 4, by omega⟩ : Fin 6) = v := Fin.ext (by show (4 * v.val + q.val) / 4 = v.val; omega)
    have e2 : (⟨(4 * v.val + q.val) % 4, by omega⟩ : Fin 4) = q := Fin.ext (by show (4 * v.val + q.val) % 4 = q.val; omega)
    show _ = Ideal.ofBits .fp8e4m3 _ * Ideal.ofBits .fp8e5m2 (dpad (xb2 m c (T ⟨(4 * v.val + q.val) / 4, by omega⟩)) ⟨(4 * v.val + q.val) % 4, by omega⟩ c' _)
    rw [e1, e2]
  have hK := ker_total i j o ho x D G hG
  have hL : (totAll (F := Ideal) (acol (accS m c (t.val + 1))) (ValueIdx.ix2 c' o) : EReal)
      = ∑ b : Fin 24, ∑ p : Fin 128, ∑ c : Fin 64, ∑ l : Fin 64, if l.val + j.val = c.val + 3 then x b p c * D b (64 * (p.val + 6 - i.val) + 64 + l.val) else 0 := by
    rw [← hK, totAll_apply]
    refine Finset.sum_congr rfl fun p _ => Finset.sum_congr rfl fun s _ => Finset.sum_congr rfl fun l _ => congrArg (fun z : EReal => z * _) ?_
    have ea : (acol (accS m c (t.val + 1)) ⟨8 * p.val + s.val, by omega⟩ (ValueIdx.ix2 c' l) : EReal)
        = accS m c (6 * (t.val / 6) + 5 + 1) (ValueIdx.ix2 (⟨8 * p.val + s.val + 64 * c'.val, by omega⟩ : Fin 2048) l) := by
      rw [← htg]; rfl
    rw [ea, accum_sum m c _ hg]
    refine Finset.sum_congr rfl fun v _ => ?_
    unfold addT
    rw [dif_pos (by omega : 6 * (t.val / 6) + v.val < cfg0.N)]
    have f1 : (⟨(8 * p.val + s.val + 64 * c'.val) / 64, by omega⟩ : Fin 32) = c' := Fin.ext (by show (8 * p.val + s.val + 64 * c'.val) / 64 = c'.val; omega)
    have f2 : (⟨(8 * p.val + s.val + 64 * c'.val) % 64 / 8, by omega⟩ : Fin 8) = p := Fin.ext (by show (8 * p.val + s.val + 64 * c'.val) % 64 / 8 = p.val; omega)
    have f3 : (⟨(8 * p.val + s.val + 64 * c'.val) % 8, by omega⟩ : Fin 8) = s := Fin.ext (by show (8 * p.val + s.val + 64 * c'.val) % 8 = s.val; omega)
    show chanT (F := Ideal) masks k0_pay316 (D8 (xb2 m c (T v))) (D8 (xb1 m c (T v))) ⟨(8 * p.val + s.val + 64 * c'.val) / 64, by omega⟩
      ⟨(8 * p.val + s.val + 64 * c'.val) % 64 / 8, by omega⟩ ⟨(8 * p.val + s.val + 64 * c'.val) % 8, by omega⟩ l = _
    rw [f1, f2, f3]
    rfl
  have hR : (Cert.ReferenceIdeal.Val.dwT (Cert.ReferenceIdeal.Val.xT X xs) (Cert.ReferenceIdeal.Val.dyT Y ds) (ValueIdx.ix3 i j cc) : EReal)
      = (∑ b : Fin 24, ∑ P : Fin 128, ∑ Q : Fin 64, (if h : (3 ≤ P.val + i.val ∧ P.val + i.val < 131) ∧ 3 ≤ Q.val + j.val ∧ Q.val + j.val < 67 then
        x b (⟨P.val + i.val - 3, by omega⟩ : Fin 128) (⟨Q.val + j.val - 3, by omega⟩ : Fin 64) else 0) * d b P Q) * xs ValueIdx.ix0 * ds ValueIdx.ix0 := by
    rw [Cert.ReferenceIdeal.Val.dwT_apply]
    have e3 : ∀ f : Fin 24 → Fin 128 → Fin 64 → EReal, (∑ b, ∑ P, ∑ Q, f b P Q) = ∑ u : Fin 24 × Fin 128 × Fin 64, f u.1 u.2.1 u.2.2 := by
      intro f
      rw [Fintype.sum_prod_type]
      exact Finset.sum_congr rfl fun b _ => (Fintype.sum_prod_type (f := fun u : Fin 128 × Fin 64 => f b u.1 u.2)).symm
    rw [e3, sum_mul_fin _ _ _ h0 h1, sum_mul_fin _ _ _ h0' h1']
    refine Finset.sum_congr rfl fun u _ => ?_
    obtain ⟨b, P, Q⟩ := u
    rw [Cert.ReferenceIdeal.Val.winT_apply, Cert.ReferenceIdeal.Val.dyT_apply, Cert.ReferenceIdeal.Val.d5T_apply]
    by_cases h : (3 ≤ P.val + i.val ∧ P.val + i.val < 131) ∧ 3 ≤ Q.val + j.val ∧ Q.val + j.val < 67
    · rw [dif_pos h, dif_pos h, Cert.ReferenceIdeal.Val.xT_apply, Cert.ReferenceIdeal.Val.d4T_apply]
      show (_ : EReal) * _ * (_ * _) = _ * _ * _ * _
      rw [mul_mul_mul_comm, mul_assoc (_ * _)]
    · rw [dif_neg h, dif_neg h, zero_mul, zero_mul, zero_mul, zero_mul]
  refine Eq.trans ?_ hR.symm
  show (totAll (F := Ideal) (acol (accS m c (t.val + 1))) (ValueIdx.ix2 c' o) : EReal) * _ * _ = _
  exact congrArg (fun z : EReal => z * xs ValueIdx.ix0 * ds ValueIdx.ix0)
    (hL.trans (Finset.sum_congr rfl fun b _ => (image_sum (x b) (D b) (d b) (hD b) (hD0 b) i j).symm))

/-- The last point of the channel group of a channel. -/
def lastT (n : Fin 192) : Fin cfg0.N := ⟨6 * (n.val / 32) + 5, lt_of_lt_of_eq (by omega : 6 * (n.val / 32) + 5 < 36) (by decide +kernel)⟩

/-- An element of the launch's second array: each channel's row as the last point of its group leaves it. -/
def arr5F (c : Dev nD) (n : Fin 192) (o : Fin 128) : EReal :=
  finL (F := Ideal) (acol (accS m c ((lastT n).val + 1))) (xb0 m c (lastT n) (ValueIdx.ix1 0)) (xb0 m c (lastT n) (ValueIdx.ix1 1))
    (ValueIdx.ix2 (⟨n.val % 32, by omega⟩ : Fin 32) o)

theorem arr5F_eq (c : Dev nD) (t : Fin cfg0.N) (ht6 : t.val % 6 = 5) (r : Fin 32) (o : Fin 128) (n : Fin 192) (hn : n.val = 32 * (t.val / 6) + r.val) :
    arr5F m c n o = finL (F := Ideal) (acol (accS m c (t.val + 1))) (xb0 m c t (ValueIdx.ix1 0)) (xb0 m c t (ValueIdx.ix1 1)) (ValueIdx.ix2 r o) := by
  have el : lastT n = t := Fin.ext (by show 6 * (n.val / 32) + 5 = t.val; omega)
  have ec : (⟨n.val % 32, by omega⟩ : Fin 32) = r := Fin.ext (by show n.val % 32 = r.val; omega)
  unfold arr5F
  rw [el, ec]

/-- The launch's second array. -/
theorem arr5 (c : Dev nD) : (dats m 0 c).arrAt 5 cfg0.N = fun i : S192x128.Idx => (arr5F m c (i 0) (i 1) : EReal) := by
  refine (dats m 0 c).arrAt_eq_of_covers 5 _ (by decide +kernel) fun t hf y => ?_
  have ht6 := (flush0_5 t).1 hf
  have ht := t_lt t
  have hy0 : ((y 0 : Fin 32)).val < 32 := (y 0 : Fin 32).isLt
  blk_simp [idx5]
  have ey : y = ValueIdx.ix2 (y 0 : Fin 32) (y 1 : Fin 128) := by
    funext a
    obtain ⟨i, hi⟩ := a
    have hi' : i < 2 := hi
    interval_cases i <;> rfl
  have e0 : (win0_5.blk t).view.emb y 0 = (⟨32 * (t.val / 6) + (y 0 : Fin 32).val, by omega⟩ : Fin 192) := by
    apply Fin.ext
    blk_simp [idx5]
    show t.val / 6 * 32 + (y 0 : Fin 32).val = 32 * (t.val / 6) + (y 0 : Fin 32).val
    omega
  have e1 : (win0_5.blk t).view.emb y 1 = (y 1 : Fin 128) := by
    apply Fin.ext
    blk_simp [idx5]
  refine Eq.trans ?_ (congrArg₂ (arr5F m c) e0 e1).symm
  rw [arr5F_eq m c t ht6 (y 0 : Fin 32) (y 1 : Fin 128) _ rfl]
  conv_lhs => rw [ey]
  rfl

/-- The filter gradients after the last lines. -/
theorem res_dw (c : Dev nD) (h0 : (0 : EReal) ≤ (m ((c.tc : Thread nD τ).loc main_arg1) : S_.Idx → EReal) ValueIdx.ix0)
    (h1 : @Ne EReal ((m ((c.tc : Thread nD τ).loc main_arg1) : S_.Idx → EReal) ValueIdx.ix0) ⊤)
    (h0' : (0 : EReal) ≤ (m ((c.tc : Thread nD τ).loc main_arg4) : S_.Idx → EReal) ValueIdx.ix0)
    (h1' : @Ne EReal ((m ((c.tc : Thread nD τ).loc main_arg4) : S_.Idx → EReal) ValueIdx.ix0) ⊤) :
    Pipeline.afterTail₀ cfgs (dats m) 0 (V0 m) [hostOps1] c main_v117
      = Cert.ReferenceIdeal.Val.dwT (Cert.ReferenceIdeal.Val.xT (m ((c.tc : Thread nD τ).loc main_arg0)) (m ((c.tc : Thread nD τ).loc main_arg1)))
          (Cert.ReferenceIdeal.Val.dyT (m ((c.tc : Thread nD τ).loc main_arg3)) (m ((c.tc : Thread nD τ).loc main_arg4))) := by
  rw [tail_dw, arr5]
  funext y
  have ey : y = ValueIdx.ix3 (y 0 : Fin 7) (y 1 : Fin 7) (y 2 : Fin 192) := by
    funext a
    obtain ⟨i, hi⟩ := a
    have hi' : i < 3 := hi
    interval_cases i <;> rfl
  rw [ey]
  have key : ∀ (i j : Fin 7) (n : Fin 192), arr5F m c n (⟨7 * i.val + j.val, by omega⟩ : Fin 128)
      = Cert.ReferenceIdeal.Val.dwT (Cert.ReferenceIdeal.Val.xT (m ((c.tc : Thread nD τ).loc main_arg0)) (m ((c.tc : Thread nD τ).loc main_arg1)))
          (Cert.ReferenceIdeal.Val.dyT (m ((c.tc : Thread nD τ).loc main_arg3)) (m ((c.tc : Thread nD τ).loc main_arg4))) (ValueIdx.ix3 i j n) := fun i j n =>
    dw_point m c h0 h1 h0' h1' (lastT n) (by show (6 * (n.val / 32) + 5) % 6 = 5; omega) (⟨n.val % 32, by omega⟩ : Fin 32) (⟨7 * i.val + j.val, by omega⟩ : Fin 128) i j rfl n
      (by show n.val = 32 * ((6 * (n.val / 32) + 5) / 6) + n.val % 32; omega)
  refine Eq.trans ?_ (key (y 0 : Fin 7) (y 1 : Fin 7) (y 2 : Fin 192))
  clear key ey
  generalize arr5F m c = A
  pointwise []
  exact congrArg (A (y 2 : Fin 192)) (Fin.ext (by show (y 0 : Fin 7).val * 7 + (y 1 : Fin 7).val = 7 * (y 0 : Fin 7).val + (y 1 : Fin 7).val; omega))

/-- The pixel gradients after the last lines. -/
theorem res_dx (c : Dev nD) (h0 : (0 : EReal) ≤ (m ((c.tc : Thread nD τ).loc main_arg4) : S_.Idx → EReal) ValueIdx.ix0)
    (h1 : @Ne EReal ((m ((c.tc : Thread nD τ).loc main_arg4) : S_.Idx → EReal) ValueIdx.ix0) ⊤) :
    Pipeline.afterTail₀ cfgs (dats m) 0 (V0 m) [hostOps1] c main_v118
      = Cert.ReferenceIdeal.Val.dxT (m ((c.tc : Thread nD τ).loc main_arg2))
          (Cert.ReferenceIdeal.Val.dyT (m ((c.tc : Thread nD τ).loc main_arg3)) (m ((c.tc : Thread nD τ).loc main_arg4))) := by
  rw [tail_dx, arr4 m c h0 h1]
  funext y
  have ey : y = ValueIdx.ix3 (y 0 : Fin 24) (y 1 : Fin 8192) (y 2 : Fin 192) := by
    funext a
    obtain ⟨i, hi⟩ := a
    have hi' : i < 3 := hi
    interval_cases i <;> rfl
  rw [ey]
  pointwise []

end Cert.KernelIdeal.Val

end
-- ==== Proof.lean ====
module

public import proofs.«01_k».proof.Defs
public import proofs.«01_k».proof.Proof.KernelFrame
public import proofs.«01_k».proof.Proof.Gen.ReferenceIdeal
public import proofs.«01_k».proof.Proof.Gen.ReferenceIdeal.Run
public import Idealize.ShloMosaic.Lib.Bf16Pair
public import Idealize.ShloMosaic.Lib.Bf16PairInverse
public import Idealize.ShloMosaic.Adequacy
public import Idealize.ShloMosaic.Init
public import proofs.«01_k».proof.Proof.DwV

@[expose] public section

noncomputable section

namespace Cert.Proof

open Idealize.ShloMosaic Idealize.SL.Sem

/-- The kernel runs, leaves its arguments alone and ends with every counter at zero. -/
theorem frame_kernel : Cert.quiescent_Kernel := fun m g _ => Cert.Kernel.Hand.frame_quiescent (F := Bits) m g

/-- The same of the idealized kernel. -/
theorem frame_kernel_ideal : Cert.quiescent_KernelIdeal := fun m g _ =>
  (θ_run Cert.KernelIdeal.defs _ _).mono (fun _ h => ⟨fun c => ⟨((h.1 c).2 Cert.KernelIdeal.main_arg0 (Pipeline.mem_restRefs_of Cert.KernelIdeal.main_arg0 (by decide) (by decide))).trans (Cert.KernelIdeal.Gen.W_main_arg0 m (Cert.KernelIdeal.Val.dats m) c),
      ((h.1 c).2 Cert.KernelIdeal.main_arg1 (Pipeline.mem_restRefs_of Cert.KernelIdeal.main_arg1 (by decide) (by decide))).trans (Cert.KernelIdeal.Gen.W_main_arg1 m (Cert.KernelIdeal.Val.dats m) c),
      ((h.1 c).2 Cert.KernelIdeal.main_arg2 (Pipeline.mem_restRefs_of Cert.KernelIdeal.main_arg2 (by decide) (by decide))).trans (Cert.KernelIdeal.Gen.W_main_arg2 m (Cert.KernelIdeal.Val.dats m) c),
      ((h.1 c).2 Cert.KernelIdeal.main_arg3 (Pipeline.mem_restRefs_of Cert.KernelIdeal.main_arg3 (by decide) (by decide))).trans (Cert.KernelIdeal.Gen.W_main_arg3 m (Cert.KernelIdeal.Val.dats m) c),
      ((h.1 c).2 Cert.KernelIdeal.main_arg4 (Pipeline.mem_restRefs_of Cert.KernelIdeal.main_arg4 (by decide) (by decide))).trans (Cert.KernelIdeal.Gen.W_main_arg4 m (Cert.KernelIdeal.Val.dats m) c)⟩, h.2⟩)
    (Cert.KernelIdeal.Val.run_main m g)

/-- The same of the idealized reference, which declares no counter. -/
theorem frame_reference_ideal : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- Every rewrite of the ideal pass is its rule's statement. -/
theorem rewrites : Cert.preserves_Kernel_KernelIdeal :=
  ⟨IdealRules.bf16_pair.bufferStatement _ _, IdealRules.bf16_pair.packStatement _,
    IdealRules.bf16_pair.statement _ _ (by decide), IdealRules.bf16_pair.statement _ _ (by decide),
    IdealRules.bf16_pair.statement _ _ (by decide)⟩

/-- A conjunction of two bits that is one has both one. -/
theorem both : ∀ a b : BitVec 1, IntOp.andi a b = 1#1 → a = 1#1 ∧ b = 1#1 := by decide

/-- A float comparison that came out true. -/
theorem oge_zero (a : EReal) (h : FloatOps.cmpf (F := Ideal) (φ := .f32) .oge a (Ideal.ofBits .f32 0x00000000#32) = 1#1) : (0 : EReal) ≤ a := by
  rw [Ideal.ofBits_zero .f32] at h
  by_contra hn
  have e : FloatOps.cmpf (F := Ideal) (φ := .f32) .oge a (0 : EReal) = BitVec.ofBool (decide ((0 : EReal) ≤ a)) := rfl
  rw [e, decide_eq_false hn] at h
  exact absurd h (by decide)

theorem olt_inf (a : EReal) (h : FloatOps.cmpf (F := Ideal) (φ := .f32) .olt a (Ideal.ofBits .f32 0x7F800000#32) = 1#1) : a ≠ ⊤ := by
  by_contra hn
  have e : FloatOps.cmpf (F := Ideal) (φ := .f32) .olt a (Ideal.ofBits .f32 0x7F800000#32) = BitVec.ofBool (decide (a < Ideal.ofBits .f32 0x7F800000#32)) := rfl
  rw [e, decide_eq_false (by rw [hn]; exact not_top_lt)] at h
  exact absurd h (by decide)

/-- The precondition: neither scale is negative and neither is infinite. -/
theorem scales (a0 : IVec Cert.Pre_scales_ok.S24x8192x192 8) (a1 : FVec Ideal Cert.Pre_scales_ok.S_ .f32) (a2 : IVec Cert.Pre_scales_ok.S7x7x192 16)
    (a3 : IVec Cert.Pre_scales_ok.S24x8192x192 8) (a4 : FVec Ideal Cert.Pre_scales_ok.S_ .f32) [Cert.Pre_scales_ok.Facts]
    (h : Cert.Pre_scales_ok.fn (F := Ideal) a0 a1 a2 a3 a4 = fun _ => 1#1) :
    ((0 : EReal) ≤ a1 ValueIdx.ix0 ∧ @Ne EReal (a1 ValueIdx.ix0) ⊤) ∧ (0 : EReal) ≤ a4 ValueIdx.ix0 ∧ @Ne EReal (a4 ValueIdx.ix0) ⊤ := by
  have h1 := both _ _ (congrFun h ValueIdx.ix0)
  have h2 := both _ _ h1.1
  have h3 := both _ _ h2.1
  exact ⟨⟨oge_zero _ h3.1, olt_inf _ h3.2⟩, oge_zero _ h2.2, olt_inf _ h1.2⟩

/-- The kernel's run with its two results: the gradients by the reference's formulas. -/
theorem kernel_values (m : (ℓ : Loc Cert.KernelIdeal.nD Cert.KernelIdeal.τ Cert.KernelIdeal.sig) → Buf (Elt Ideal) ℓ) (g : Dev Cert.KernelIdeal.nD → PrngReg)
    (hm : ∀ c : Dev Cert.KernelIdeal.nD,
      ((0 : EReal) ≤ (m ((c.tc : Thread Cert.KernelIdeal.nD Cert.KernelIdeal.τ).loc Cert.KernelIdeal.main_arg1) : Cert.KernelIdeal.S_.Idx → EReal) ValueIdx.ix0
        ∧ @Ne EReal ((m ((c.tc : Thread Cert.KernelIdeal.nD Cert.KernelIdeal.τ).loc Cert.KernelIdeal.main_arg1) : Cert.KernelIdeal.S_.Idx → EReal) ValueIdx.ix0) ⊤)
      ∧ (0 : EReal) ≤ (m ((c.tc : Thread Cert.KernelIdeal.nD Cert.KernelIdeal.τ).loc Cert.KernelIdeal.main_arg4) : Cert.KernelIdeal.S_.Idx → EReal) ValueIdx.ix0
        ∧ @Ne EReal ((m ((c.tc : Thread Cert.KernelIdeal.nD Cert.KernelIdeal.τ).loc Cert.KernelIdeal.main_arg4) : Cert.KernelIdeal.S_.Idx → EReal) ValueIdx.ix0) ⊤) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v118)
          = Cert.ReferenceIdeal.Val.dxT (m ((c.tc : Thread Cert.KernelIdeal.nD Cert.KernelIdeal.τ).loc Cert.KernelIdeal.main_arg2))
              (Cert.ReferenceIdeal.Val.dyT (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      ∧ r.2.mem ((c.tc : Thread Cert.KernelIdeal.nD Cert.KernelIdeal.τ).loc Cert.KernelIdeal.main_v117)
          = Cert.ReferenceIdeal.Val.dwT (Cert.ReferenceIdeal.Val.xT (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
              (Cert.ReferenceIdeal.Val.dyT (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun _ h c =>
    ⟨((h.1 c).2 Cert.KernelIdeal.main_v118 (Pipeline.mem_restRefs_of Cert.KernelIdeal.main_v118 (by decide) (by decide))).trans (Cert.KernelIdeal.Val.res_dx m c (hm c).2.1 (hm c).2.2),
      ((h.1 c).2 Cert.KernelIdeal.main_v117 (Pipeline.mem_restRefs_of Cert.KernelIdeal.main_v117 (by decide) (by decide))).trans
        (Cert.KernelIdeal.Val.res_dw m c (hm c).1.1 (hm c).1.2 (hm c).2.1 (hm c).2.2),
      ((h.1 c).2 Cert.KernelIdeal.main_arg0 (Pipeline.mem_restRefs_of Cert.KernelIdeal.main_arg0 (by decide) (by decide))).trans (Cert.KernelIdeal.Gen.W_main_arg0 m (Cert.KernelIdeal.Val.dats m) c),
      ((h.1 c).2 Cert.KernelIdeal.main_arg1 (Pipeline.mem_restRefs_of Cert.KernelIdeal.main_arg1 (by decide) (by decide))).trans (Cert.KernelIdeal.Gen.W_main_arg1 m (Cert.KernelIdeal.Val.dats m) c),
      ((h.1 c).2 Cert.KernelIdeal.main_arg2 (Pipeline.mem_restRefs_of Cert.KernelIdeal.main_arg2 (by decide) (by decide))).trans (Cert.KernelIdeal.Gen.W_main_arg2 m (Cert.KernelIdeal.Val.dats m) c),
      ((h.1 c).2 Cert.KernelIdeal.main_arg3 (Pipeline.mem_restRefs_of Cert.KernelIdeal.main_arg3 (by decide) (by decide))).trans (Cert.KernelIdeal.Gen.W_main_arg3 m (Cert.KernelIdeal.Val.dats m) c),
      ((h.1 c).2 Cert.KernelIdeal.main_arg4 (Pipeline.mem_restRefs_of Cert.KernelIdeal.main_arg4 (by decide) (by decide))).trans (Cert.KernelIdeal.Gen.W_main_arg4 m (Cert.KernelIdeal.Val.dats m) c)⟩)
    (Cert.KernelIdeal.Val.run_main m g)

/-- The idealized kernel and the idealized reference have the same two results. -/
theorem values [Cert.Pre_scales_ok.Facts] : Cert.algebraic_KernelIdeal_ReferenceIdeal_pre_scales_ok := by
  intro m g m' g' hp ha
  refine ⟨_, _, kernel_values m g fun c => scales _ _ _ _ _ (hp c), ?_⟩
  refine (θ_run Cert.ReferenceIdeal.defs _ _).mono (fun r h c => ?_) (Cert.ReferenceIdeal.Value.run (F := Ideal) m' g')
  obtain ⟨e0, e1, e2, e3, e4⟩ := ha c
  refine ⟨(h c).1.trans ?_, (h c).2.1.trans ?_, (h c).2.2⟩
  · refine (Cert.ReferenceIdeal.Val.out0_eq m' c).trans ?_
    rw [e2, e3, e4]
  · refine (Cert.ReferenceIdeal.Val.out1_eq m' c).trans ?_
    rw [e0, e1, e3, e4]

theorem claim : Cert.Claim :=
  ⟨Cert.Kernel.Gen.facts, Cert.KernelIdeal.Gen.facts, Cert.ReferenceIdeal.Gen.facts, ⟨⟩,
    frame_kernel, frame_kernel_ideal, fun m g _ => frame_kernel_ideal m g trivial, frame_reference_ideal,
    fun m g _ => frame_reference_ideal m g trivial, rewrites, @values ⟨⟩⟩

end Cert.Proof

end
